-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Kernel24Ideal_finite24 [hPre_finite24 : Cert.Pre_finite24.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5)) (m ((c.tc : Thread Cert.Kernel24Ideal.nD Cert.Kernel24Ideal.τ).loc Cert.Kernel24Ideal.main_arg6)) (m ((c.tc : Thread Cert.Kernel24Ideal.nD Cert.Kernel24Ideal.τ).loc Cert.Kernel24Ideal.main_arg7)) (m ((c.tc : Thread Cert.Kernel24Ideal.nD Cert.Kernel24Ideal.τ).loc Cert.Kernel24Ideal.main_arg8)) (m ((c.tc : Thread Cert.Kernel24Ideal.nD Cert.Kernel24Ideal.τ).loc Cert.Kernel24Ideal.main_arg9))).1 = (fun _ => 1#1)
    ∧ (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5)) (m ((c.tc : Thread Cert.Kernel24Ideal.nD Cert.Kernel24Ideal.τ).loc Cert.Kernel24Ideal.main_arg6)) (m ((c.tc : Thread Cert.Kernel24Ideal.nD Cert.Kernel24Ideal.τ).loc Cert.Kernel24Ideal.main_arg7)) (m ((c.tc : Thread Cert.Kernel24Ideal.nD Cert.Kernel24Ideal.τ).loc Cert.Kernel24Ideal.main_arg8)) (m ((c.tc : Thread Cert.Kernel24Ideal.nD Cert.Kernel24Ideal.τ).loc Cert.Kernel24Ideal.main_arg9))).2.1 = (fun _ => 1#1)
    ∧ (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5)) (m ((c.tc : Thread Cert.Kernel24Ideal.nD Cert.Kernel24Ideal.τ).loc Cert.Kernel24Ideal.main_arg6)) (m ((c.tc : Thread Cert.Kernel24Ideal.nD Cert.Kernel24Ideal.τ).loc Cert.Kernel24Ideal.main_arg7)) (m ((c.tc : Thread Cert.Kernel24Ideal.nD Cert.Kernel24Ideal.τ).loc Cert.Kernel24Ideal.main_arg8)) (m ((c.tc : Thread Cert.Kernel24Ideal.nD Cert.Kernel24Ideal.τ).loc Cert.Kernel24Ideal.main_arg9))).2.2.1 = (fun _ => 1#1)
    ∧ (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5)) (m ((c.tc : Thread Cert.Kernel24Ideal.nD Cert.Kernel24Ideal.τ).loc Cert.Kernel24Ideal.main_arg6)) (m ((c.tc : Thread Cert.Kernel24Ideal.nD Cert.Kernel24Ideal.τ).loc Cert.Kernel24Ideal.main_arg7)) (m ((c.tc : Thread Cert.Kernel24Ideal.nD Cert.Kernel24Ideal.τ).loc Cert.Kernel24Ideal.main_arg8)) (m ((c.tc : Thread Cert.Kernel24Ideal.nD Cert.Kernel24Ideal.τ).loc Cert.Kernel24Ideal.main_arg9))).2.2.2 = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_finite24 [hPre_finite24 : Cert.Pre_finite24.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4)) (m ((c.tc : Thread Cert.Reference24Ideal.nD Cert.Reference24Ideal.τ).loc Cert.Reference24Ideal.main_arg5)) (m ((c.tc : Thread Cert.Reference24Ideal.nD Cert.Reference24Ideal.τ).loc Cert.Reference24Ideal.main_arg6)) (m ((c.tc : Thread Cert.Reference24Ideal.nD Cert.Reference24Ideal.τ).loc Cert.Reference24Ideal.main_arg7)) (m ((c.tc : Thread Cert.Reference24Ideal.nD Cert.Reference24Ideal.τ).loc Cert.Reference24Ideal.main_arg8)) (m ((c.tc : Thread Cert.Reference24Ideal.nD Cert.Reference24Ideal.τ).loc Cert.Reference24Ideal.main_arg9))).1 = (fun _ => 1#1)
    ∧ (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4)) (m ((c.tc : Thread Cert.Reference24Ideal.nD Cert.Reference24Ideal.τ).loc Cert.Reference24Ideal.main_arg5)) (m ((c.tc : Thread Cert.Reference24Ideal.nD Cert.Reference24Ideal.τ).loc Cert.Reference24Ideal.main_arg6)) (m ((c.tc : Thread Cert.Reference24Ideal.nD Cert.Reference24Ideal.τ).loc Cert.Reference24Ideal.main_arg7)) (m ((c.tc : Thread Cert.Reference24Ideal.nD Cert.Reference24Ideal.τ).loc Cert.Reference24Ideal.main_arg8)) (m ((c.tc : Thread Cert.Reference24Ideal.nD Cert.Reference24Ideal.τ).loc Cert.Reference24Ideal.main_arg9))).2.1 = (fun _ => 1#1)
    ∧ (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4)) (m ((c.tc : Thread Cert.Reference24Ideal.nD Cert.Reference24Ideal.τ).loc Cert.Reference24Ideal.main_arg5)) (m ((c.tc : Thread Cert.Reference24Ideal.nD Cert.Reference24Ideal.τ).loc Cert.Reference24Ideal.main_arg6)) (m ((c.tc : Thread Cert.Reference24Ideal.nD Cert.Reference24Ideal.τ).loc Cert.Reference24Ideal.main_arg7)) (m ((c.tc : Thread Cert.Reference24Ideal.nD Cert.Reference24Ideal.τ).loc Cert.Reference24Ideal.main_arg8)) (m ((c.tc : Thread Cert.Reference24Ideal.nD Cert.Reference24Ideal.τ).loc Cert.Reference24Ideal.main_arg9))).2.2.1 = (fun _ => 1#1)
    ∧ (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4)) (m ((c.tc : Thread Cert.Reference24Ideal.nD Cert.Reference24Ideal.τ).loc Cert.Reference24Ideal.main_arg5)) (m ((c.tc : Thread Cert.Reference24Ideal.nD Cert.Reference24Ideal.τ).loc Cert.Reference24Ideal.main_arg6)) (m ((c.tc : Thread Cert.Reference24Ideal.nD Cert.Reference24Ideal.τ).loc Cert.Reference24Ideal.main_arg7)) (m ((c.tc : Thread Cert.Reference24Ideal.nD Cert.Reference24Ideal.τ).loc Cert.Reference24Ideal.main_arg8)) (m ((c.tc : Thread Cert.Reference24Ideal.nD Cert.Reference24Ideal.τ).loc Cert.Reference24Ideal.main_arg9))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7)
      ∧ r.2.mem ((c.tc : Thread Cert.Kernel24.nD Cert.Kernel24.τ).loc Cert.Kernel24.main_arg8) = m ((c.tc : Thread Cert.Kernel24.nD Cert.Kernel24.τ).loc Cert.Kernel24.main_arg8)
      ∧ r.2.mem ((c.tc : Thread Cert.Kernel24.nD Cert.Kernel24.τ).loc Cert.Kernel24.main_arg9) = m ((c.tc : Thread Cert.Kernel24.nD Cert.Kernel24.τ).loc Cert.Kernel24.main_arg9))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
      ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
      ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9))
      ∧ r.2.sem = fun _ => 0)

def quiescent_Kernel24Ideal_pre_finite24 [hKernel24Ideal : Cert.Kernel24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal_finite24 m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
      ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
      ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9))
      ∧ r.2.sem = fun _ => 0)

def quiescent_Reference24Ideal_pre_finite24 [hReference24Ideal : Cert.Reference24Ideal.Facts] [hPre_finite24 : Cert.Pre_finite24.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_finite24 m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v48_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v48_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "mask" .f32 0xF149F2CA#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v7) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v7) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_v11) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v21) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v47) = v0 c
          ∧ r.2.mem ((c.tc : Thread Cert.Reference22Ideal.nD Cert.Reference22Ideal.τ).loc Cert.Reference22Ideal.main_v21) = v1 c
          ∧ r.2.mem ((c.tc : Thread Cert.Reference22Ideal.nD Cert.Reference22Ideal.τ).loc Cert.Reference22Ideal.main_v46) = v2 c
          ∧ r.2.mem ((c.tc : Thread Cert.Reference22Ideal.nD Cert.Reference22Ideal.τ).loc Cert.Reference22Ideal.main_v48) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v20) = v0 c
          ∧ r.2.mem ((c.tc : Thread Cert.Reference23Ideal.nD Cert.Reference23Ideal.τ).loc Cert.Reference23Ideal.main_v23) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal_pre_finite24 [hKernel24Ideal : Cert.Kernel24Ideal.Facts] [hReference24Ideal : Cert.Reference24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal_finite24 m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)
      ∧ m' ((c.tc : Thread Cert.Reference24Ideal.nD Cert.Reference24Ideal.τ).loc Cert.Reference24Ideal.main_arg8) = m ((c.tc : Thread Cert.Kernel24Ideal.nD Cert.Kernel24Ideal.τ).loc Cert.Kernel24Ideal.main_arg8)
      ∧ m' ((c.tc : Thread Cert.Reference24Ideal.nD Cert.Reference24Ideal.τ).loc Cert.Reference24Ideal.main_arg9) = m ((c.tc : Thread Cert.Kernel24Ideal.nD Cert.Kernel24Ideal.τ).loc Cert.Kernel24Ideal.main_arg9)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)) (v4 : (c : Dev Cert.Kernel24Ideal.nD) → Buf (Elt Ideal) ((c.tc : Thread Cert.Kernel24Ideal.nD Cert.Kernel24Ideal.τ).loc Cert.Kernel24Ideal.main_v0_4)) (v5 : (c : Dev Cert.Kernel24Ideal.nD) → Buf (Elt Ideal) ((c.tc : Thread Cert.Kernel24Ideal.nD Cert.Kernel24Ideal.τ).loc Cert.Kernel24Ideal.main_v0_5)) (v6 : (c : Dev Cert.Kernel24Ideal.nD) → Buf (Elt Ideal) ((c.tc : Thread Cert.Kernel24Ideal.nD Cert.Kernel24Ideal.τ).loc Cert.Kernel24Ideal.main_v0_6)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_v0_4) = v4 c
          ∧ r.2.mem ((c.tc : Thread Cert.Kernel24Ideal.nD Cert.Kernel24Ideal.τ).loc Cert.Kernel24Ideal.main_v0_5) = v5 c
          ∧ r.2.mem ((c.tc : Thread Cert.Kernel24Ideal.nD Cert.Kernel24Ideal.τ).loc Cert.Kernel24Ideal.main_v0_6) = v6 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
          ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
          ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v106) = v0 c
          ∧ r.2.mem ((c.tc : Thread Cert.Reference24Ideal.nD Cert.Reference24Ideal.τ).loc Cert.Reference24Ideal.main_v67) = v1 c
          ∧ r.2.mem ((c.tc : Thread Cert.Reference24Ideal.nD Cert.Reference24Ideal.τ).loc Cert.Reference24Ideal.main_v105) = v2 c
          ∧ r.2.mem ((c.tc : Thread Cert.Reference24Ideal.nD Cert.Reference24Ideal.τ).loc Cert.Reference24Ideal.main_v103) = v3 c
          ∧ r.2.mem ((c.tc : Thread Cert.Reference24Ideal.nD Cert.Reference24Ideal.τ).loc Cert.Reference24Ideal.main_v104) = v4 c
          ∧ r.2.mem ((c.tc : Thread Cert.Reference24Ideal.nD Cert.Reference24Ideal.τ).loc Cert.Reference24Ideal.main_v39) = v5 c
          ∧ r.2.mem ((c.tc : Thread Cert.Reference24Ideal.nD Cert.Reference24Ideal.τ).loc Cert.Reference24Ideal.main_v36) = v6 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7)
          ∧ r.2.mem ((c.tc : Thread Cert.Reference24Ideal.nD Cert.Reference24Ideal.τ).loc Cert.Reference24Ideal.main_arg8) = m' ((c.tc : Thread Cert.Reference24Ideal.nD Cert.Reference24Ideal.τ).loc Cert.Reference24Ideal.main_arg8)
          ∧ r.2.mem ((c.tc : Thread Cert.Reference24Ideal.nD Cert.Reference24Ideal.τ).loc Cert.Reference24Ideal.main_arg9) = m' ((c.tc : Thread Cert.Reference24Ideal.nD Cert.Reference24Ideal.τ).loc Cert.Reference24Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts) (hPre_finite2 : Cert.Pre_finite2.Facts) (hPre_finite3 : Cert.Pre_finite3.Facts) (hPre_finite24 : Cert.Pre_finite24.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Kernel24Ideal_pre_finite24 (hKernel24Ideal := hKernel24Ideal) (hPre_finite24 := hPre_finite24)
    ∧ quiescent_Reference24Ideal (hReference24Ideal := hReference24Ideal)
    ∧ quiescent_Reference24Ideal_pre_finite24 (hReference24Ideal := hReference24Ideal) (hPre_finite24 := hPre_finite24)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal_pre_finite24 (hKernel24Ideal := hKernel24Ideal) (hReference24Ideal := hReference24Ideal) (hPre_finite24 := hPre_finite24)
-- ==== Pre_finite.lean ====
abbrev S4096x2048 : Shape := ⟨2, ![4096, 2048]⟩
abbrev S4096x1024 : Shape := ⟨2, ![4096, 1024]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S4096x1024 : S_.BroadcastsInDim S4096x1024 (![] : Fin 0 → Fin S4096x1024.rank)

variable [Facts]

def fn {F : FTy → Type} [FloatOps F] (main_arg0 : FVec F S4096x2048 .bf16) (main_arg1 : FVec F S4096x2048 .bf16) (main_arg2 : FVec F S4096x1024 .bf16) (main_arg3 : FVec F S4096x1024 .bf16) : IVec S4096x2048 1 × IVec S4096x2048 1 × IVec S4096x1024 1 × IVec S4096x1024 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S4096x2048 .f32 := (extf .f32 · bitsLt_bf16_f32) main_arg1
  let main_v5 : FVec F S4096x2048 .f32 := Host.absf main_v4
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  let main_v12 : FVec F S4096x1024 .f32 := (extf .f32 · bitsLt_bf16_f32) main_arg3
  let main_v13 : FVec F S4096x1024 .f32 := Host.absf main_v12
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  (main_v3, main_v7, main_v11, main_v15)
-- ==== Pre_finite2.lean ====
abbrev S4096x2048 : Shape := ⟨2, ![4096, 2048]⟩
abbrev S4096x1024 : Shape := ⟨2, ![4096, 1024]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)

variable [Facts]

def fn {F : FTy → Type} [FloatOps F] (main_arg0 : FVec F S4096x2048 .bf16) (main_arg1 : FVec F S4096x2048 .bf16) (main_arg2 : FVec F S4096x1024 .bf16) : IVec S4096x2048 1 × IVec S4096x2048 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S4096x2048 .f32 := (extf .f32 · bitsLt_bf16_f32) main_arg1
  let main_v5 : FVec F S4096x2048 .f32 := Host.absf main_v4
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  (main_v3, main_v7)
-- ==== Pre_finite24.lean ====
abbrev S4096x1024 : Shape := ⟨2, ![4096, 1024]⟩
abbrev S4096x2048 : Shape := ⟨2, ![4096, 2048]⟩
abbrev S1x1024 : Shape := ⟨2, ![1, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S1x1024 : S_.BroadcastsInDim S1x1024 (![] : Fin 0 → Fin S1x1024.rank)
  bcast_S_S1024x1024 : S_.BroadcastsInDim S1024x1024 (![] : Fin 0 → Fin S1024x1024.rank)

variable [Facts]

def fn {F : FTy → Type} [FloatOps F] (main_arg0 : FVec F S4096x1024 .f32) (main_arg1 : FVec F S4096x1024 .f32) (main_arg2 : FVec F S4096x1024 .f32) (main_arg3 : FVec F S4096x1024 .bf16) (main_arg4 : FVec F S4096x1024 .bf16) (main_arg5 : FVec F S4096x1024 .bf16) (main_arg6 : FVec F S4096x2048 .bf16) (main_arg7 : FVec F S1x1024 .f32) (main_arg8 : FVec F S1024x1024 .bf16) (main_arg9 : FVec F S1024x1024 .bf16) : IVec S4096x1024 1 × IVec S4096x1024 1 × IVec S1x1024 1 × IVec S1024x1024 1 :=
  let main_v0 : FVec F S4096x1024 .f32 := Host.absf main_arg2
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := (extf .f32 · bitsLt_bf16_f32) main_arg3
  let main_v4 : FVec F S4096x1024 .f32 := Host.absf main_v3
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : FVec F S1x1024 .f32 := Host.absf main_arg7
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S1024x1024 .f32 := (extf .f32 · bitsLt_bf16_f32) main_arg9
  let main_v11 : FVec F S1024x1024 .f32 := Host.absf main_v10
  let main_cst_2 : FVec F S_ .f32 := constant S_ .f32 0x7F800000#32
  let main_v12 : FVec F S1024x1024 .f32 := broadcastInDim S1024x1024 ![] bcast_S_S1024x1024 main_cst_2
  let main_v13 : IVec S1024x1024 1 := cmpf .olt main_v11 main_v12
  (main_v2, main_v6, main_v9, main_v13)
-- ==== Pre_finite3.lean ====
abbrev S4096x2816 : Shape := ⟨2, ![4096, 2816]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)

variable [Facts]

def fn {F : FTy → Type} [FloatOps F] (main_arg0 : FVec F S4096x2816 .bf16) (main_arg1 : FVec F S4096x2816 .bf16) (main_arg2 : FVec F S4096x2816 .bf16) : IVec S4096x2816 1 × IVec S4096x2816 1 :=
  let main_v0 : FVec F S4096x2816 .f32 := (extf .f32 · bitsLt_bf16_f32) main_arg1
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_v4 : FVec F S4096x2816 .f32 := (extf .f32 · bitsLt_bf16_f32) main_arg2
  let main_v5 : FVec F S4096x2816 .f32 := Host.absf main_v4
  let main_cst_0 : FVec F S_ .f32 := constant S_ .f32 0x7F800000#32
  let main_v6 : FVec F S4096x2816 .f32 := broadcastInDim S4096x2816 ![] bcast_S_S4096x2816 main_cst_0
  let main_v7 : IVec S4096x2816 1 := cmpf .olt main_v5 main_v6
  (main_v3, main_v7)
-- ==== Kernel.lean ====
abbrev S4096x2048 : Shape := ⟨2, ![4096, 2048]⟩
abbrev S4096x1024 : Shape := ⟨2, ![4096, 1024]⟩
abbrev S4096x8x256 : Shape := ⟨3, ![4096, 8, 256]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S2048x4096 : Shape := ⟨2, ![2048, 4096]⟩
abbrev S4096x8x128 : Shape := ⟨3, ![4096, 8, 128]⟩
abbrev S8x128x4096 : Shape := ⟨3, ![8, 128, 4096]⟩
abbrev S8x1x4096 : Shape := ⟨3, ![8, 1, 4096]⟩
abbrev S1024x256 : Shape := ⟨2, ![1024, 256]⟩
abbrev S4096x256 : Shape := ⟨2, ![4096, 256]⟩
abbrev S256x4096 : Shape := ⟨2, ![256, 4096]⟩
abbrev S4096x128 : Shape := ⟨2, ![4096, 128]⟩
abbrev S1024x128 : Shape := ⟨2, ![1024, 128]⟩
abbrev S1x1x1024 : Shape := ⟨3, ![1, 1, 1024]⟩
abbrev S256x1024 : Shape := ⟨2, ![256, 1024]⟩
abbrev S1x1024 : Shape := ⟨2, ![1, 1024]⟩
abbrev S8x128 : Shape := ⟨2, ![8, 128]⟩
abbrev S8x1024 : Shape := ⟨2, ![8, 1024]⟩
abbrev S512x256 : Shape := ⟨2, ![512, 256]⟩
abbrev S512x128 : Shape := ⟨2, ![512, 128]⟩
abbrev S256x512 : Shape := ⟨2, ![256, 512]⟩
abbrev S512x512 : Shape := ⟨2, ![512, 512]⟩
abbrev S1x512 : Shape := ⟨2, ![1, 512]⟩
abbrev S512x1024 : Shape := ⟨2, ![512, 1024]⟩

abbrev nBuf : Space → Nat
  | .hbm => 68
  | .vmem => 22
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x1024, .bf16⟩
  | .hbm, ⟨3, _⟩ => ⟨S4096x1024, .bf16⟩
  | .hbm, ⟨4, _⟩ => ⟨S4096x2048, .f32⟩
  | .hbm, ⟨5, _⟩ => ⟨S4096x2048, .f32⟩
  | .hbm, ⟨6, _⟩ => ⟨S4096x1024, .f32⟩
  | .hbm, ⟨7, _⟩ => ⟨S4096x8x256, .f32⟩
  | .hbm, ⟨8, _⟩ => ⟨S4096x8x256, .f32⟩
  | .hbm, ⟨9, _⟩ => ⟨S8x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S8x4096x4096, .i1⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S8x4096, .f32⟩
  | .hbm, ⟨30, _⟩ => ⟨S8x4096, .f32⟩
  | .hbm, ⟨31, _⟩ => ⟨S2048x4096, .bf16⟩
  | .hbm, ⟨32, _⟩ => ⟨S4096x8x256, .f32⟩
  | .hbm, ⟨33, _⟩ => ⟨S4096x8x256, .f32⟩
  | .hbm, ⟨34, _⟩ => ⟨S8x4096x4096, .f32⟩
  | .hbm, ⟨35, _⟩ => ⟨S4096, .i32⟩
  | .hbm, ⟨36, _⟩ => ⟨S1x4096, .i32⟩
  | .hbm, ⟨37, _⟩ => ⟨S4096x1, .i32⟩
  | .hbm, ⟨38, _⟩ => ⟨S4096x4096, .i32⟩
  | .hbm, ⟨39, _⟩ => ⟨S4096x4096, .i32⟩
  | .hbm, ⟨40, _⟩ => ⟨S4096x4096, .i1⟩
  | .hbm, ⟨41, _⟩ => ⟨S_, .f32⟩
  | .hbm, ⟨42, _⟩ => ⟨S_, .f32⟩
  | .hbm, ⟨43, _⟩ => ⟨S8x4096x4096, .i1⟩
  | .hbm, ⟨44, _⟩ => ⟨S8x4096x4096, .f32⟩
  | .hbm, ⟨45, _⟩ => ⟨S8x4096x4096, .f32⟩
  | .hbm, ⟨46, _⟩ => ⟨S_, .f32⟩
  | .hbm, ⟨47, _⟩ => ⟨S8x4096, .f32⟩
  | .hbm, ⟨48, _⟩ => ⟨S_, .f32⟩
  | .hbm, ⟨49, _⟩ => ⟨S8x4096, .f32⟩
  | .hbm, ⟨50, _⟩ => ⟨S8x4096, .f32⟩
  | .hbm, ⟨51, _⟩ => ⟨S8x4096x1, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S8x4096x4096, .f32⟩
  | .hbm, ⟨59, _⟩ => ⟨S8x4096x4096, .f32⟩
  | .hbm, ⟨60, _⟩ => ⟨S4096x8x128, .f32⟩
  | .hbm, ⟨61, _⟩ => ⟨S8x128x4096, .f32⟩
  | .hbm, ⟨62, _⟩ => ⟨S4096x8x128, .f32⟩
  | .hbm, ⟨63, _⟩ => ⟨S4096x1024, .f32⟩
  | .hbm, ⟨64, _⟩ => ⟨S8x1x4096, .f32⟩
  | .hbm, ⟨65, _⟩ => ⟨S4096x2048, .f32⟩
  | .hbm, ⟨66, _⟩ => ⟨S4096x2048, .f32⟩
  | .hbm, ⟨67, _⟩ => ⟨S4096x1024, .bf16⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S256x4096, .bf16⟩
  | .local _ .vmem, ⟨5, _⟩ => ⟨S256x4096, .bf16⟩
  | .local _ .vmem, ⟨6, _⟩ => ⟨S4096x128, .bf16⟩
  | .local _ .vmem, ⟨7, _⟩ => ⟨S4096x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S1x1x1024, .f32⟩
  | .local _ .vmem, ⟨13, _⟩ => ⟨S1x1x1024, .f32⟩
  | .local _ .vmem, ⟨14, _⟩ => ⟨S1024x256, .f32⟩
  | .local _ .vmem, ⟨15, _⟩ => ⟨S1024x256, .f32⟩
  | .local _ .vmem, ⟨16, _⟩ => ⟨S4096x256, .f32⟩
  | .local _ .vmem, ⟨17, _⟩ => ⟨S4096x256, .f32⟩
  | .local _ .vmem, ⟨18, _⟩ => ⟨S4096x128, .bf16⟩
  | .local _ .vmem, ⟨19, _⟩ => ⟨S4096x128, .bf16⟩
  | .local _ .vmem, ⟨20, _⟩ => ⟨S256x1024, .f32⟩
  | .local _ .vmem, ⟨21, _⟩ => ⟨S4096x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48_0 : Ref sig .tc := ⟨.hbm, 65, rfl⟩
abbrev main_v48_1 : Ref sig .tc := ⟨.hbm, 66, rfl⟩
abbrev main_v48_2 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_16 : BitVec 32 := 0#32
  let arg1 : BitVec 32 := BitVec.ofNat 32 (i 1).val
  let c2_i32 : BitVec 32 := 2#32
  let v30 : BitVec 32 := Scalar.muli arg1 c2_i32
  let v31 : BitVec 32 := Scalar.subi v30 c0_i32_16
  let c1_i32 : BitVec 32 := 1#32
  let v33 : BitVec 32 := Scalar.divsi v31 c1_i32
  let v34 : BitVec 32 := Scalar.muli v33 c1_i32
  let v35 : BitVec 32 := Scalar.addi c0_i32_16 v34
  let c1_i32_17 : BitVec 32 := 1#32
  ⟨c0_i32_16, v35, c1_i32_17⟩
def k0_mult1 (i : grid0.Coords) (k0_t1 : Fin (k0_t1_loop i).trips) : BitVec 32 :=
  let c0_i32_16 : BitVec 32 := 0#32
  let c1_i32_17 : BitVec 32 := 1#32
  let arg14 : BitVec 32 := Scf.iv c0_i32_16 c1_i32_17 k0_t1
  let c512_i32_72 : BitVec 32 := 512#32
  let v180 : BitVec 32 := Scalar.muli arg14 c512_i32_72
  v180
def k0_off1 (i : grid0.Coords) (k0_t1 : Fin (k0_t1_loop i).trips) : Fin 2 → Nat :=
  let c0_i32_16 : BitVec 32 := 0#32
  let c1_i32_17 : BitVec 32 := 1#32
  let arg14 : BitVec 32 := Scf.iv c0_i32_16 c1_i32_17 k0_t1
  let c512_i32_72 : BitVec 32 := 512#32
  let v180 : BitVec 32 := Scalar.muli arg14 c512_i32_72
  let v181 : BitVec 32 := v180
  let v182 : Index := Scalar.indexCast v181
  let c0_73 : Index := 0#32
  ![v182.toNat, 0]
def k0_off2 (i : grid0.Coords) (k0_t1 : Fin (k0_t1_loop i).trips) : Fin 2 → Nat :=
  let c0_i32_16 : BitVec 32 := 0#32
  let c1_i32_17 : BitVec 32 := 1#32
  let arg14 : BitVec 32 := Scf.iv c0_i32_16 c1_i32_17 k0_t1
  let c512_i32_72 : BitVec 32 := 512#32
  let v180 : BitVec 32 := Scalar.muli arg14 c512_i32_72
  let v181 : BitVec 32 := v180
  let v184 : Index := Scalar.indexCast v181
  let c0_74 : Index := 0#32
  ![v184.toNat, 0]
def k0_off3 (i : grid0.Coords) (k0_t1 : Fin (k0_t1_loop i).trips) : Fin 2 → Nat :=
  let c0_75 : Index := 0#32
  let c0_i32_16 : BitVec 32 := 0#32
  let c1_i32_17 : BitVec 32 := 1#32
  let arg14 : BitVec 32 := Scf.iv c0_i32_16 c1_i32_17 k0_t1
  let c512_i32_72 : BitVec 32 := 512#32
  let v180 : BitVec 32 := Scalar.muli arg14 c512_i32_72
  let v181 : BitVec 32 := v180
  let v186 : Index := Scalar.indexCast v181
  ![0, v186.toNat]
@[reducible] def k0_t2_loop (i : grid0.Coords) : Scf.Loop 32 :=
  let c0_i32_16 : BitVec 32 := 0#32
  let arg1 : BitVec 32 := BitVec.ofNat 32 (i 1).val
  let c2_i32 : BitVec 32 := 2#32
  let v30 : BitVec 32 := Scalar.muli arg1 c2_i32
  let v31 : BitVec 32 := Scalar.subi v30 c0_i32_16
  let c1_i32 : BitVec 32 := 1#32
  let v33 : BitVec 32 := Scalar.divsi v31 c1_i32
  let v34 : BitVec 32 := Scalar.muli v33 c1_i32
  let v35 : BitVec 32 := Scalar.addi c0_i32_16 v34
  let v32 : BitVec 32 := Scalar.addi c0_i32_16 v31
  let c1_i32_18 : BitVec 32 := 1#32
  ⟨v35, v32, c1_i32_18⟩
def k0_mult2 (i : grid0.Coords) (k0_t2 : Fin (k0_t2_loop i).trips) : BitVec 32 :=
  let c0_i32_16 : BitVec 32 := 0#32
  let arg1 : BitVec 32 := BitVec.ofNat 32 (i 1).val
  let c2_i32 : BitVec 32 := 2#32
  let v30 : BitVec 32 := Scalar.muli arg1 c2_i32
  let v31 : BitVec 32 := Scalar.subi v30 c0_i32_16
  let c1_i32 : BitVec 32 := 1#32
  let v33 : BitVec 32 := Scalar.divsi v31 c1_i32
  let v34 : BitVec 32 := Scalar.muli v33 c1_i32
  let v35 : BitVec 32 := Scalar.addi c0_i32_16 v34
  let c1_i32_18 : BitVec 32 := 1#32
  let arg14 : BitVec 32 := Scf.iv v35 c1_i32_18 k0_t2
  let c512_i32_72 : BitVec 32 := 512#32
  let v180 : BitVec 32 := Scalar.muli arg14 c512_i32_72
  v180
def k0_off4 (i : grid0.Coords) (k0_t2 : Fin (k0_t2_loop i).trips) : Fin 2 → Nat :=
  let c0_i32_16 : BitVec 32 := 0#32
  let arg1 : BitVec 32 := BitVec.ofNat 32 (i 1).val
  let c2_i32 : BitVec 32 := 2#32
  let v30 : BitVec 32 := Scalar.muli arg1 c2_i32
  let v31 : BitVec 32 := Scalar.subi v30 c0_i32_16
  let c1_i32 : BitVec 32 := 1#32
  let v33 : BitVec 32 := Scalar.divsi v31 c1_i32
  let v34 : BitVec 32 := Scalar.muli v33 c1_i32
  let v35 : BitVec 32 := Scalar.addi c0_i32_16 v34
  let c1_i32_18 : BitVec 32 := 1#32
  let arg14 : BitVec 32 := Scf.iv v35 c1_i32_18 k0_t2
  let c512_i32_72 : BitVec 32 := 512#32
  let v180 : BitVec 32 := Scalar.muli arg14 c512_i32_72
  let v181 : BitVec 32 := v180
  let v182 : Index := Scalar.indexCast v181
  let c0_73 : Index := 0#32
  ![v182.toNat, 0]
def k0_off5 (i : grid0.Coords) (k0_t2 : Fin (k0_t2_loop i).trips) : Fin 2 → Nat :=
  let c0_i32_16 : BitVec 32 := 0#32
  let arg1 : BitVec 32 := BitVec.ofNat 32 (i 1).val
  let c2_i32 : BitVec 32 := 2#32
  let v30 : BitVec 32 := Scalar.muli arg1 c2_i32
  let v31 : BitVec 32 := Scalar.subi v30 c0_i32_16
  let c1_i32 : BitVec 32 := 1#32
  let v33 : BitVec 32 := Scalar.divsi v31 c1_i32
  let v34 : BitVec 32 := Scalar.muli v33 c1_i32
  let v35 : BitVec 32 := Scalar.addi c0_i32_16 v34
  let c1_i32_18 : BitVec 32 := 1#32
  let arg14 : BitVec 32 := Scf.iv v35 c1_i32_18 k0_t2
  let c512_i32_72 : BitVec 32 := 512#32
  let v180 : BitVec 32 := Scalar.muli arg14 c512_i32_72
  let v181 : BitVec 32 := v180
  let v184 : Index := Scalar.indexCast v181
  let c0_74 : Index := 0#32
  ![v184.toNat, 0]
def k0_off6 (i : grid0.Coords) (k0_t2 : Fin (k0_t2_loop i).trips) : Fin 2 → Nat :=
  let c0_75 : Index := 0#32
  let c0_i32_16 : BitVec 32 := 0#32
  let arg1 : BitVec 32 := BitVec.ofNat 32 (i 1).val
  let c2_i32 : BitVec 32 := 2#32
  let v30 : BitVec 32 := Scalar.muli arg1 c2_i32
  let v31 : BitVec 32 := Scalar.subi v30 c0_i32_16
  let c1_i32 : BitVec 32 := 1#32
  let v33 : BitVec 32 := Scalar.divsi v31 c1_i32
  let v34 : BitVec 32 := Scalar.muli v33 c1_i32
  let v35 : BitVec 32 := Scalar.addi c0_i32_16 v34
  let c1_i32_18 : BitVec 32 := 1#32
  let arg14 : BitVec 32 := Scf.iv v35 c1_i32_18 k0_t2
  let c512_i32_72 : BitVec 32 := 512#32
  let v180 : BitVec 32 := Scalar.muli arg14 c512_i32_72
  let v181 : BitVec 32 := v180
  let v186 : Index := Scalar.indexCast v181
  ![0, v186.toNat]
def k0_mult3 (i : grid0.Coords) : BitVec 32 :=
  let arg1 : BitVec 32 := BitVec.ofNat 32 (i 1).val
  let c2_i32 : BitVec 32 := 2#32
  let v30 : BitVec 32 := Scalar.muli arg1 c2_i32
  let c0_i32_19 : BitVec 32 := 0#32
  let v36 : BitVec 32 := Scalar.addi v30 c0_i32_19
  let c512_i32 : BitVec 32 := 512#32
  let v37 : BitVec 32 := Scalar.muli v36 c512_i32
  v37
def k0_off7 (i : grid0.Coords) (c0_i32_19 : BitVec 32) : Fin 2 → Nat :=
  let arg1 : BitVec 32 := BitVec.ofNat 32 (i 1).val
  let c2_i32 : BitVec 32 := 2#32
  let v30 : BitVec 32 := Scalar.muli arg1 c2_i32
  let v36 : BitVec 32 := Scalar.addi v30 c0_i32_19
  let c512_i32 : BitVec 32 := 512#32
  let v37 : BitVec 32 := Scalar.muli v36 c512_i32
  let v38 : BitVec 32 := v37
  let v39 : Index := Scalar.indexCast v38
  let c0_20 : Index := 0#32
  ![v39.toNat, 0]
def k0_off8 (i : grid0.Coords) (c0_i32_19 : BitVec 32) : Fin 2 → Nat :=
  let arg1 : BitVec 32 := BitVec.ofNat 32 (i 1).val
  let c2_i32 : BitVec 32 := 2#32
  let v30 : BitVec 32 := Scalar.muli arg1 c2_i32
  let v36 : BitVec 32 := Scalar.addi v30 c0_i32_19
  let c512_i32 : BitVec 32 := 512#32
  let v37 : BitVec 32 := Scalar.muli v36 c512_i32
  let v38 : BitVec 32 := v37
  let v41 : Index := Scalar.indexCast v38
  let c0_21 : Index := 0#32
  ![v41.toNat, 0]
def k0_off9 (i : grid0.Coords) (c0_i32_19 : BitVec 32) : Fin 2 → Nat :=
  let c0_22 : Index := 0#32
  let arg1 : BitVec 32 := BitVec.ofNat 32 (i 1).val
  let c2_i32 : BitVec 32 := 2#32
  let v30 : BitVec 32 := Scalar.muli arg1 c2_i32
  let v36 : BitVec 32 := Scalar.addi v30 c0_i32_19
  let c512_i32 : BitVec 32 := 512#32
  let v37 : BitVec 32 := Scalar.muli v36 c512_i32
  let v38 : BitVec 32 := v37
  let v43 : Index := Scalar.indexCast v38
  ![0, v43.toNat]
def k0_mult4 (i : grid0.Coords) : BitVec 32 :=
  let arg1 : BitVec 32 := BitVec.ofNat 32 (i 1).val
  let c2_i32 : BitVec 32 := 2#32
  let v30 : BitVec 32 := Scalar.muli arg1 c2_i32
  let c1_i32_45 : BitVec 32 := 1#32
  let v115 : BitVec 32 := Scalar.addi v30 c1_i32_45
  let c512_i32_46 : BitVec 32 := 512#32
  let v116 : BitVec 32 := Scalar.muli v115 c512_i32_46
  v116
def k0_cond2 (i : grid0.Coords) : BitVec 1 :=
  let arg1 : BitVec 32 := BitVec.ofNat 32 (i 1).val
  let c3_i32 : BitVec 32 := 3#32
  let v177 : BitVec 1 := Scalar.cmpi .eq arg1 c3_i32
  let v178 : BitVec 32 := Scalar.extui v177
  let c0_i32_71 : BitVec 32 := 0#32
  let v179 : BitVec 1 := Scalar.cmpi .ne v178 c0_i32_71
  v179

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x2048 : Shape := ⟨2, ![4096, 2048]⟩
abbrev S4096x1024 : Shape := ⟨2, ![4096, 1024]⟩
abbrev S4096x8x256 : Shape := ⟨3, ![4096, 8, 256]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S4096x8x128 : Shape := ⟨3, ![4096, 8, 128]⟩
abbrev S8x128x4096 : Shape := ⟨3, ![8, 128, 4096]⟩
abbrev S8x4096x256 : Shape := ⟨3, ![8, 4096, 256]⟩

abbrev nBuf : Space → Nat
  | .hbm => 96
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x1024, .bf16⟩
  | .hbm, ⟨3, _⟩ => ⟨S4096x1024, .bf16⟩
  | .hbm, ⟨4, _⟩ => ⟨S4096x2048, .f32⟩
  | .hbm, ⟨5, _⟩ => ⟨S4096x2048, .f32⟩
  | .hbm, ⟨6, _⟩ => ⟨S4096x1024, .f32⟩
  | .hbm, ⟨7, _⟩ => ⟨S4096x8x256, .f32⟩
  | .hbm, ⟨8, _⟩ => ⟨S4096x8x256, .f32⟩
  | .hbm, ⟨9, _⟩ => ⟨S8x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S8x4096x4096, .i1⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S8x4096x4096, .f32⟩
  | .hbm, ⟨27, _⟩ => ⟨S8x4096x4096, .i1⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8x4096, .f32⟩
  | .hbm, ⟨33, _⟩ => ⟨S8x4096, .f32⟩
  | .hbm, ⟨34, _⟩ => ⟨S_, .f32⟩
  | .hbm, ⟨35, _⟩ => ⟨S8x4096, .f32⟩
  | .hbm, ⟨36, _⟩ => ⟨S8x4096, .i1⟩
  | .hbm, ⟨37, _⟩ => ⟨S_, .f32⟩
  | .hbm, ⟨38, _⟩ => ⟨S8x4096, .f32⟩
  | .hbm, ⟨39, _⟩ => ⟨S8x4096, .i1⟩
  | .hbm, ⟨40, _⟩ => ⟨S_, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S_, .f32⟩
  | .hbm, ⟨45, _⟩ => ⟨S8x4096, .f32⟩
  | .hbm, ⟨46, _⟩ => ⟨S8x4096, .f32⟩
  | .hbm, ⟨47, _⟩ => ⟨S8x4096, .f32⟩
  | .hbm, ⟨48, _⟩ => ⟨S8x4096x1, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S_, .f32⟩
  | .hbm, ⟨53, _⟩ => ⟨S8x4096, .f32⟩
  | .hbm, ⟨54, _⟩ => ⟨S8x4096x1, .f32⟩
  | .hbm, ⟨55, _⟩ => ⟨S8x4096x4096, .f32⟩
  | .hbm, ⟨56, _⟩ => ⟨S8x4096x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S4096x8x128, .f32⟩
  | .hbm, ⟨62, _⟩ => ⟨S8x128x4096, .f32⟩
  | .hbm, ⟨63, _⟩ => ⟨S4096x8x128, .f32⟩
  | .hbm, ⟨64, _⟩ => ⟨S4096x1024, .f32⟩
  | .hbm, ⟨65, _⟩ => ⟨S4096x1024, .f32⟩
  | .hbm, ⟨66, _⟩ => ⟨S4096x8x128, .f32⟩
  | .hbm, ⟨67, _⟩ => ⟨S8x128x4096, .f32⟩
  | .hbm, ⟨68, _⟩ => ⟨S8x4096x4096, .f32⟩
  | .hbm, ⟨69, _⟩ => ⟨S8x128x4096, .f32⟩
  | .hbm, ⟨70, _⟩ => ⟨S4096x8x128, .f32⟩
  | .hbm, ⟨71, _⟩ => ⟨S4096x1024, .f32⟩
  | .hbm, ⟨72, _⟩ => ⟨S8x4096x4096, .f32⟩
  | .hbm, ⟨73, _⟩ => ⟨S8x4096x4096, .f32⟩
  | .hbm, ⟨74, _⟩ => ⟨S8x4096x4096, .f32⟩
  | .hbm, ⟨75, _⟩ => ⟨S_, .f32⟩
  | .hbm, ⟨76, _⟩ => ⟨S8x4096, .f32⟩
  | .hbm, ⟨77, _⟩ => ⟨S8x4096x1, .f32⟩
  | .hbm, ⟨78, _⟩ => ⟨S8x4096x1, .f32⟩
  | .hbm, ⟨79, _⟩ => ⟨S8x4096x4096, .f32⟩
  | .hbm, ⟨80, _⟩ => ⟨S8x4096x4096, .f32⟩
  | .hbm, ⟨81, _⟩ => ⟨S_, .f32⟩
  | .hbm, ⟨82, _⟩ => ⟨S8x4096, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S8x4096x4096, .f32⟩
  | .hbm, ⟨88, _⟩ => ⟨S8x4096x4096, .f32⟩
  | .hbm, ⟨89, _⟩ => ⟨S8x4096x256, .f32⟩
  | .hbm, ⟨90, _⟩ => ⟨S4096x8x256, .f32⟩
  | .hbm, ⟨91, _⟩ => ⟨S8x4096x256, .f32⟩
  | .hbm, ⟨92, _⟩ => ⟨S4096x8x256, .f32⟩
  | .hbm, ⟨93, _⟩ => ⟨S4096x2048, .f32⟩
  | .hbm, ⟨94, _⟩ => ⟨S4096x2048, .f32⟩
  | .hbm, ⟨95, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_call0_v0 : Ref sig .tc := ⟨.hbm, 17, rfl⟩
abbrev main_v12_1 : Ref sig .tc := ⟨.hbm, 18, rfl⟩
abbrev main_call0_v2 : Ref sig .tc := ⟨.hbm, 19, rfl⟩
abbrev main_v12_0 : Ref sig .tc := ⟨.hbm, 20, rfl⟩
abbrev main_call0_cst : Ref sig .tc := ⟨.hbm, 21, rfl⟩
abbrev main_v12_2 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_call1_cst : Ref sig .tc := ⟨.hbm, 86, rfl⟩
abbrev main_call1_v0 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Kernel2.lean ====
abbrev S4096x2048 : Shape := ⟨2, ![4096, 2048]⟩
abbrev S4096x1024 : Shape := ⟨2, ![4096, 1024]⟩
abbrev S1024x4096 : Shape := ⟨2, ![1024, 4096]⟩
abbrev S8x1x4096 : Shape := ⟨3, ![8, 1, 4096]⟩
abbrev S1024x256 : Shape := ⟨2, ![1024, 256]⟩
abbrev S4096x256 : Shape := ⟨2, ![4096, 256]⟩
abbrev S128x4096 : Shape := ⟨2, ![128, 4096]⟩
abbrev S1024x128 : Shape := ⟨2, ![1024, 128]⟩
abbrev S1x1x1024 : Shape := ⟨3, ![1, 1, 1024]⟩
abbrev S1x1024 : Shape := ⟨2, ![1, 1024]⟩
abbrev S128x1024 : Shape := ⟨2, ![128, 1024]⟩
abbrev S512x256 : Shape := ⟨2, ![512, 256]⟩
abbrev S128x512 : Shape := ⟨2, ![128, 512]⟩
abbrev S512x512 : Shape := ⟨2, ![512, 512]⟩
abbrev S1x512 : Shape := ⟨2, ![1, 512]⟩
abbrev S512 : Shape := ⟨1, ![512]⟩

abbrev nBuf : Space → Nat
  | .hbm => 6
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x1024, .bf16⟩
  | .hbm, ⟨3, _⟩ => ⟨S1024x4096, .bf16⟩
  | .hbm, ⟨4, _⟩ => ⟨S4096x1024, .f32⟩
  | .hbm, ⟨5, _⟩ => ⟨S8x1x4096, .f32⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S128x4096, .bf16⟩
  | .local _ .vmem, ⟨5, _⟩ => ⟨S128x4096, .bf16⟩
  | .local _ .vmem, ⟨6, _⟩ => ⟨S1024x128, .f32⟩
  | .local _ .vmem, ⟨7, _⟩ => ⟨S1024x128, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S128x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_8 : BitVec 32 := 1#32
  ⟨c0_i32_7, v17, c1_i32_8⟩
def k0_mult1 (i : grid0.Coords) (k0_t1 : Fin (k0_t1_loop i).trips) : BitVec 32 :=
  let c0_i32_7 : BitVec 32 := 0#32
  let c1_i32_8 : BitVec 32 := 1#32
  let arg10 : BitVec 32 := Scf.iv c0_i32_7 c1_i32_8 k0_t1
  let c512_i32_88 : BitVec 32 := 512#32
  let v163 : BitVec 32 := Scalar.muli arg10 c512_i32_88
  v163
def k0_off1 (i : grid0.Coords) (k0_t1 : Fin (k0_t1_loop i).trips) : Fin 2 → Nat :=
  let c0_i32_7 : BitVec 32 := 0#32
  let c1_i32_8 : BitVec 32 := 1#32
  let arg10 : BitVec 32 := Scf.iv c0_i32_7 c1_i32_8 k0_t1
  let c512_i32_88 : BitVec 32 := 512#32
  let v163 : BitVec 32 := Scalar.muli arg10 c512_i32_88
  let v164 : BitVec 32 := v163
  let v165 : Index := Scalar.indexCast v164
  let c0_89 : Index := 0#32
  ![v165.toNat, 0]
def k0_off2 (i : grid0.Coords) (k0_t1 : Fin (k0_t1_loop i).trips) : Fin 2 → Nat :=
  let c0_90 : Index := 0#32
  let c0_i32_7 : BitVec 32 := 0#32
  let c1_i32_8 : BitVec 32 := 1#32
  let arg10 : BitVec 32 := Scf.iv c0_i32_7 c1_i32_8 k0_t1
  let c512_i32_88 : BitVec 32 := 512#32
  let v163 : BitVec 32 := Scalar.muli arg10 c512_i32_88
  let v164 : BitVec 32 := v163
  let v167 : Index := Scalar.indexCast v164
  ![0, v167.toNat]
@[reducible] def k0_t2_loop (i : grid0.Coords) : Scf.Loop 32 :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let v14 : BitVec 32 := Scalar.addi c0_i32_7 v13
  let c1_i32_9 : BitVec 32 := 1#32
  ⟨v17, v14, c1_i32_9⟩
def k0_mult2 (i : grid0.Coords) (k0_t2 : Fin (k0_t2_loop i).trips) : BitVec 32 :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg10 : BitVec 32 := Scf.iv v17 c1_i32_9 k0_t2
  let c512_i32_88 : BitVec 32 := 512#32
  let v163 : BitVec 32 := Scalar.muli arg10 c512_i32_88
  v163
def k0_off3 (i : grid0.Coords) (k0_t2 : Fin (k0_t2_loop i).trips) : Fin 2 → Nat :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg10 : BitVec 32 := Scf.iv v17 c1_i32_9 k0_t2
  let c512_i32_88 : BitVec 32 := 512#32
  let v163 : BitVec 32 := Scalar.muli arg10 c512_i32_88
  let v164 : BitVec 32 := v163
  let v165 : Index := Scalar.indexCast v164
  let c0_89 : Index := 0#32
  ![v165.toNat, 0]
def k0_off4 (i : grid0.Coords) (k0_t2 : Fin (k0_t2_loop i).trips) : Fin 2 → Nat :=
  let c0_90 : Index := 0#32
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg10 : BitVec 32 := Scf.iv v17 c1_i32_9 k0_t2
  let c512_i32_88 : BitVec 32 := 512#32
  let v163 : BitVec 32 := Scalar.muli arg10 c512_i32_88
  let v164 : BitVec 32 := v163
  let v167 : Index := Scalar.indexCast v164
  ![0, v167.toNat]
def k0_mult3 (i : grid0.Coords) : BitVec 32 :=
  let arg1 : BitVec 32 := BitVec.ofNat 32 (i 1).val
  let c2_i32 : BitVec 32 := 2#32
  let v12 : BitVec 32 := Scalar.muli arg1 c2_i32
  let c0_i32_10 : BitVec 32 := 0#32
  let v18 : BitVec 32 := Scalar.addi v12 c0_i32_10
  let c512_i32 : BitVec 32 := 512#32
  let v19 : BitVec 32 := Scalar.muli v18 c512_i32
  v19
def k0_off5 (i : grid0.Coords) (c0_i32_10 : BitVec 32) : Fin 2 → Nat :=
  let arg1 : BitVec 32 := BitVec.ofNat 32 (i 1).val
  let c2_i32 : BitVec 32 := 2#32
  let v12 : BitVec 32 := Scalar.muli arg1 c2_i32
  let v18 : BitVec 32 := Scalar.addi v12 c0_i32_10
  let c512_i32 : BitVec 32 := 512#32
  let v19 : BitVec 32 := Scalar.muli v18 c512_i32
  let v20 : BitVec 32 := v19
  let v21 : Index := Scalar.indexCast v20
  let c0_11 : Index := 0#32
  ![v21.toNat, 0]
def k0_off6 (i : grid0.Coords) (c0_i32_10 : BitVec 32) : Fin 2 → Nat :=
  let c0_12 : Index := 0#32
  let arg1 : BitVec 32 := BitVec.ofNat 32 (i 1).val
  let c2_i32 : BitVec 32 := 2#32
  let v12 : BitVec 32 := Scalar.muli arg1 c2_i32
  let v18 : BitVec 32 := Scalar.addi v12 c0_i32_10
  let c512_i32 : BitVec 32 := 512#32
  let v19 : BitVec 32 := Scalar.muli v18 c512_i32
  let v20 : BitVec 32 := v19
  let v23 : Index := Scalar.indexCast v20
  ![0, v23.toNat]
def k0_mult4 (i : grid0.Coords) : BitVec 32 :=
  let arg1 : BitVec 32 := BitVec.ofNat 32 (i 1).val
  let c2_i32 : BitVec 32 := 2#32
  let v12 : BitVec 32 := Scalar.muli arg1 c2_i32
  let c1_i32_51 : BitVec 32 := 1#32
  let v100 : BitVec 32 := Scalar.addi v12 c1_i32_51
  let c512_i32_52 : BitVec 32 := 512#32
  let v101 : BitVec 32 := Scalar.muli v100 c512_i32_52
  v101
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
variable {F : FTy → Type} [FloatOps F] [Named F]
def κ : String → Option EReal := fun
  | "mask" => some ⊥
  | _ => none
-- ==== Reference2Ideal.lean ====
abbrev S4096x2048 : Shape := ⟨2, ![4096, 2048]⟩
abbrev S4096x1024 : Shape := ⟨2, ![4096, 1024]⟩
abbrev S4096x8x256 : Shape := ⟨3, ![4096, 8, 256]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S4096x8x128 : Shape := ⟨3, ![4096, 8, 128]⟩
abbrev S8x128x4096 : Shape := ⟨3, ![8, 128, 4096]⟩
abbrev S8x1x4096 : Shape := ⟨3, ![8, 1, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x1024, .bf16⟩
  | .hbm, ⟨3, _⟩ => ⟨S4096x2048, .f32⟩
  | .hbm, ⟨4, _⟩ => ⟨S4096x2048, .f32⟩
  | .hbm, ⟨5, _⟩ => ⟨S4096x1024, .f32⟩
  | .hbm, ⟨6, _⟩ => ⟨S4096x8x256, .f32⟩
  | .hbm, ⟨7, _⟩ => ⟨S4096x8x256, .f32⟩
  | .hbm, ⟨8, _⟩ => ⟨S8x4096x4096, .f32⟩
  | .hbm, ⟨9, _⟩ => ⟨S4096, .i32⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S8x4096, .f32⟩
  | .hbm, ⟨24, _⟩ => ⟨S8x4096, .f32⟩
  | .hbm, ⟨25, _⟩ => ⟨S8x4096x1, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S4096x8x128, .f32⟩
  | .hbm, ⟨35, _⟩ => ⟨S8x128x4096, .f32⟩
  | .hbm, ⟨36, _⟩ => ⟨S4096x8x128, .f32⟩
  | .hbm, ⟨37, _⟩ => ⟨S4096x1024, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S8x4096, .f32⟩
  | .hbm, ⟨47, _⟩ => ⟨S8x4096, .f32⟩
  | .hbm, ⟨48, _⟩ => ⟨S8x1x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel3.lean ====
abbrev S4096x2816 : Shape := ⟨2, ![4096, 2816]⟩
abbrev S4096x5632 : Shape := ⟨2, ![4096, 5632]⟩
abbrev S256x2816 : Shape := ⟨2, ![256, 2816]⟩
abbrev S256x5632 : Shape := ⟨2, ![256, 5632]⟩

abbrev nBuf : Space → Nat
  | .hbm => 4
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x2816, .bf16⟩
  | .hbm, ⟨3, _⟩ => ⟨S4096x5632, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x5632, .bf16⟩
  | .local _ .vmem, ⟨7, _⟩ => ⟨S256x5632, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S4096x2816 : Shape := ⟨2, ![4096, 2816]⟩
abbrev S_ : Shape := ⟨0, ![]⟩
abbrev S4096x5632 : Shape := ⟨2, ![4096, 5632]⟩

abbrev nBuf : Space → Nat
  | .hbm => 28
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x2816, .bf16⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x5632, .f32⟩
  | .hbm, ⟨27, _⟩ => ⟨S4096x5632, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== Kernel4.lean ====
abbrev S4096x1024 : Shape := ⟨2, ![4096, 1024]⟩
abbrev S5632x1024 : Shape := ⟨2, ![5632, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 5
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4096x1024 : Shape := ⟨2, ![4096, 1024]⟩
abbrev S5632x1024 : Shape := ⟨2, ![5632, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x1024, .f32⟩
  | .hbm, ⟨3, _⟩ => ⟨S5632x1024, .f32⟩
  | .hbm, ⟨4, _⟩ => ⟨S1024x5632, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .bf16⟩
  | .hbm, ⟨9, _⟩ => ⟨S4096x2816, .bf16⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel5.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4096x1024 : Shape := ⟨2, ![4096, 1024]⟩
abbrev S2816x1024 : Shape := ⟨2, ![2816, 1024]⟩
abbrev S4096x2816 : Shape := ⟨2, ![4096, 2816]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2816 : Shape := ⟨2, ![4096, 2816]⟩
abbrev S4096x1024 : Shape := ⟨2, ![4096, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S4096x5632 : Shape := ⟨2, ![4096, 5632]⟩
abbrev S4096x1024 : Shape := ⟨2, ![4096, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x5632 : Shape := ⟨2, ![4096, 5632]⟩
abbrev S4096x1024 : Shape := ⟨2, ![4096, 1024]⟩
abbrev S5632x1024 : Shape := ⟨2, ![5632, 1024]⟩
abbrev S1024x5632 : Shape := ⟨2, ![1024, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S4096x1024, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S5632x1024, .f32⟩
  | .hbm, ⟨7, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S4096x5632 : Shape := ⟨2, ![4096, 5632]⟩
abbrev S5632x1024 : Shape := ⟨2, ![5632, 1024]⟩
abbrev S4096x1024 : Shape := ⟨2, ![4096, 1024]⟩
abbrev S512x5632 : Shape := ⟨2, ![512, 5632]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S4096x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S4096x5632 : Shape := ⟨2, ![4096, 5632]⟩
abbrev S5632x1024 : Shape := ⟨2, ![5632, 1024]⟩
abbrev S4096x1024 : Shape := ⟨2, ![4096, 1024]⟩
abbrev S1024x5632 : Shape := ⟨2, ![1024, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S5632x1024, .f32⟩
  | .hbm, ⟨4, _⟩ => ⟨S1024x5632, .f32⟩
  | .hbm, ⟨5, _⟩ => ⟨S4096x5632, .f32⟩
  | .hbm, ⟨6, _⟩ => ⟨S4096x1024, .f32⟩
  | .hbm, ⟨7, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x1024 : Shape := ⟨2, ![4096, 1024]⟩
abbrev S6864x1024 : Shape := ⟨2, ![6864, 1024]⟩
abbrev S2048x1024 : Shape := ⟨2, ![2048, 1024]⟩
abbrev S1024x1024 : Shape := ⟨2, ![1024, 1024]⟩
abbrev S4096x4096 : Shape := ⟨2, ![4096, 4096]⟩
abbrev S4096x2048 : Shape := ⟨2, ![4096, 2048]⟩
abbrev S512x1024 : Shape := ⟨2, ![512, 1024]⟩
abbrev S512x4096 : Shape := ⟨2, ![512, 4096]⟩
abbrev S512x2048 : Shape := ⟨2, ![512, 2048]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S6864x1024, .bf16⟩
  | .hbm, ⟨2, _⟩ => ⟨S2048x1024, .bf16⟩
  | .hbm, ⟨3, _⟩ => ⟨S1024x1024, .bf16⟩
  | .hbm, ⟨4, _⟩ => ⟨S4096x4096, .f32⟩
  | .hbm, ⟨5, _⟩ => ⟨S4096x2048, .bf16⟩
  | .hbm, ⟨6, _⟩ => ⟨S4096x1024, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S4096x1024, .bf16⟩
  | .local _ .vmem, ⟨3, _⟩ => ⟨S2048x1024, .bf16⟩
  | .local _ .vmem, ⟨4, _⟩ => ⟨S1024x1024, .bf16⟩
  | .local _ .vmem, ⟨5, _⟩ => ⟨S512x4096, .f32⟩
  | .local _ .vmem, ⟨6, _⟩ => ⟨S512x4096, .f32⟩
  | .local _ .vmem, ⟨7, _⟩ => ⟨S512x2048, .bf16⟩
  | .local _ .vmem, ⟨8, _⟩ => ⟨S512x2048, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S4096x1024 : Shape := ⟨2, ![4096, 1024]⟩
abbrev S6864x1024 : Shape := ⟨2, ![6864, 1024]⟩
abbrev S2048x1024 : Shape := ⟨2, ![2048, 1024]⟩
abbrev S1024x1024 : Shape := ⟨2, ![1024, 1024]⟩
abbrev S1024x4096 : Shape := ⟨2, ![1024, 4096]⟩
abbrev S4096x4096 : Shape := ⟨2, ![4096, 4096]⟩
abbrev S1024x2048 : Shape := ⟨2, ![1024, 2048]⟩
abbrev S4096x2048 : Shape := ⟨2, ![4096, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S6864x1024, .bf16⟩
  | .hbm, ⟨2, _⟩ => ⟨S2048x1024, .bf16⟩
  | .hbm, ⟨3, _⟩ => ⟨S1024x1024, .bf16⟩
  | .hbm, ⟨4, _⟩ => ⟨S4096x1024, .bf16⟩
  | .hbm, ⟨5, _⟩ => ⟨S4096x1024, .f32⟩
  | .hbm, ⟨6, _⟩ => ⟨S1024x4096, .f32⟩
  | .hbm, ⟨7, _⟩ => ⟨S4096x4096, .f32⟩
  | .hbm, ⟨8, _⟩ => ⟨S2048x1024, .f32⟩
  | .hbm, ⟨9, _⟩ => ⟨S1024x2048, .f32⟩
  | .hbm, ⟨10, _⟩ => ⟨S4096x2048, .f32⟩
  | .hbm, ⟨11, _⟩ => ⟨S4096x2048, .bf16⟩
  | .hbm, ⟨12, _⟩ => ⟨S1024x1024, .f32⟩
  | .hbm, ⟨13, _⟩ => ⟨S1024x1024, .f32⟩
  | .hbm, ⟨14, _⟩ => ⟨S4096x1024, .f32⟩
  | .hbm, ⟨15, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel11.lean ====
abbrev S4096x3072 : Shape := ⟨2, ![4096, 3072]⟩
abbrev S4096x1024 : Shape := ⟨2, ![4096, 1024]⟩
abbrev S4096x2048 : Shape := ⟨2, ![4096, 2048]⟩
abbrev S6864x1024 : Shape := ⟨2, ![6864, 1024]⟩
abbrev S2048x1024 : Shape := ⟨2, ![2048, 1024]⟩
abbrev S1024x1024 : Shape := ⟨2, ![1024, 1024]⟩
abbrev S512x3072 : Shape := ⟨2, ![512, 3072]⟩
abbrev S512x1024 : Shape := ⟨2, ![512, 1024]⟩
abbrev S512x2048 : Shape := ⟨2, ![512, 2048]⟩
abbrev S3072x1024 : Shape := ⟨2, ![3072, 1024]⟩

abbrev nBuf : Space → Nat
  | .hbm => 9
  | .vmem => 15
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x2048, .bf16⟩
  | .hbm, ⟨3, _⟩ => ⟨S4096x1024, .bf16⟩
  | .hbm, ⟨4, _⟩ => ⟨S6864x1024, .bf16⟩
  | .hbm, ⟨5, _⟩ => ⟨S2048x1024, .bf16⟩
  | .hbm, ⟨6, _⟩ => ⟨S1024x1024, .bf16⟩
  | .hbm, ⟨7, _⟩ => ⟨S4096x1024, .f32⟩
  | .hbm, ⟨8, _⟩ => ⟨S4096x1024, .f32⟩
  | .local _ .vmem, ⟨0, _⟩ => ⟨S512x3072, .bf16⟩
  | .local _ .vmem, ⟨1, _⟩ => ⟨S512x3072, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S4096x1024, .bf16⟩
  | .local _ .vmem, ⟨9, _⟩ => ⟨S2048x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S4096x3072 : Shape := ⟨2, ![4096, 3072]⟩
abbrev S4096x1024 : Shape := ⟨2, ![4096, 1024]⟩
abbrev S4096x2048 : Shape := ⟨2, ![4096, 2048]⟩
abbrev S6864x1024 : Shape := ⟨2, ![6864, 1024]⟩
abbrev S2048x1024 : Shape := ⟨2, ![2048, 1024]⟩
abbrev S1024x1024 : Shape := ⟨2, ![1024, 1024]⟩
abbrev S3072x1024 : Shape := ⟨2, ![3072, 1024]⟩
abbrev S1024x3072 : Shape := ⟨2, ![1024, 3072]⟩
abbrev S1024x2048 : Shape := ⟨2, ![1024, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x2048, .bf16⟩
  | .hbm, ⟨3, _⟩ => ⟨S4096x1024, .bf16⟩
  | .hbm, ⟨4, _⟩ => ⟨S6864x1024, .bf16⟩
  | .hbm, ⟨5, _⟩ => ⟨S2048x1024, .bf16⟩
  | .hbm, ⟨6, _⟩ => ⟨S1024x1024, .bf16⟩
  | .hbm, ⟨7, _⟩ => ⟨S4096x1024, .f32⟩
  | .hbm, ⟨8, _⟩ => ⟨S3072x1024, .bf16⟩
  | .hbm, ⟨9, _⟩ => ⟨S1024x1024, .bf16⟩
  | .hbm, ⟨10, _⟩ => ⟨S3072x1024, .f32⟩
  | .hbm, ⟨11, _⟩ => ⟨S1024x3072, .f32⟩
  | .hbm, ⟨12, _⟩ => ⟨S1024x1024, .f32⟩
  | .hbm, ⟨13, _⟩ => ⟨S1024x1024, .f32⟩
  | .hbm, ⟨14, _⟩ => ⟨S2048x1024, .f32⟩
  | .hbm, ⟨15, _⟩ => ⟨S1024x2048, .f32⟩
  | .hbm, ⟨16, _⟩ => ⟨S1024x1024, .f32⟩
  | .hbm, ⟨17, _⟩ => ⟨S1024x1024, .f32⟩
  | .hbm, ⟨18, _⟩ => ⟨S4096x3072, .f32⟩
  | .hbm, ⟨19, _⟩ => ⟨S4096x1024, .f32⟩
  | .hbm, ⟨20, _⟩ => ⟨S4096x2048, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel12.lean ====
abbrev S4096x3072 : Shape := ⟨2, ![4096, 3072]⟩
abbrev S4096x1024 : Shape := ⟨2, ![4096, 1024]⟩
abbrev S3072x1024 : Shape := ⟨2, ![3072, 1024]⟩
abbrev S1024x1536 : Shape := ⟨2, ![1024, 1536]⟩
abbrev S1024x1024 : Shape := ⟨2, ![1024, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .f32⟩
  | .local _ .vmem, ⟨5, _⟩ => ⟨S1536x1024, .f32⟩
  | .local _ .vmem, ⟨6, _⟩ => ⟨S1536x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x3072 : Shape := ⟨2, ![4096, 3072]⟩
abbrev S4096x1024 : Shape := ⟨2, ![4096, 1024]⟩
abbrev S3072x1024 : Shape := ⟨2, ![3072, 1024]⟩
abbrev S1024x3072 : Shape := ⟨2, ![1024, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x3072, .f32⟩
  | .hbm, ⟨3, _⟩ => ⟨S4096x1024, .f32⟩
  | .hbm, ⟨4, _⟩ => ⟨S3072x1024, .f32⟩
  | .hbm, ⟨5, _⟩ => ⟨S1024x3072, .f32⟩
  | .hbm, ⟨6, _⟩ => ⟨S3072x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S4096x1024 : Shape := ⟨2, ![4096, 1024]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x2048, .f32⟩
  | .hbm, ⟨3, _⟩ => ⟨S4096x1024, .f32⟩
  | .hbm, ⟨4, _⟩ => ⟨S2048x1024, .f32⟩
  | .hbm, ⟨5, _⟩ => ⟨S1024x2048, .f32⟩
  | .hbm, ⟨6, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel16.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S4096x1024, .f32⟩
  | .hbm, ⟨4, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S4096x384 : Shape := ⟨2, ![4096, 384]⟩
abbrev S4096x2048 : Shape := ⟨2, ![4096, 2048]⟩
abbrev S384x2048 : Shape := ⟨2, ![384, 2048]⟩
abbrev S1024x384 : Shape := ⟨2, ![1024, 384]⟩
abbrev S1024x1024 : Shape := ⟨2, ![1024, 1024]⟩
abbrev S384x1024 : Shape := ⟨2, ![384, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x384, .bf16⟩
  | .hbm, ⟨1, _⟩ => ⟨S4096x2048, .bf16⟩
  | .hbm, ⟨2, _⟩ => ⟨S384x2048, .bf16⟩
  | .local _ .vmem, ⟨0, _⟩ => ⟨S1024x384, .bf16⟩
  | .local _ .vmem, ⟨1, _⟩ => ⟨S1024x384, .bf16⟩
  | .local _ .vmem, ⟨2, _⟩ => ⟨S1024x1024, .bf16⟩
  | .local _ .vmem, ⟨3, _⟩ => ⟨S1024x1024, .bf16⟩
  | .local _ .vmem, ⟨4, _⟩ => ⟨S384x1024, .bf16⟩
  | .local _ .vmem, ⟨5, _⟩ => ⟨S384x1024, .bf16⟩
  | .local _ .vmem, ⟨6, _⟩ => ⟨S384x1024, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x384 : Shape := ⟨2, ![4096, 384]⟩
abbrev S4096x2048 : Shape := ⟨2, ![4096, 2048]⟩
abbrev S2048x384 : Shape := ⟨2, ![2048, 384]⟩
abbrev S384x2048 : Shape := ⟨2, ![384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S4096x2048, .bf16⟩
  | .hbm, ⟨2, _⟩ => ⟨S4096x2048, .f32⟩
  | .hbm, ⟨3, _⟩ => ⟨S4096x384, .f32⟩
  | .hbm, ⟨4, _⟩ => ⟨S2048x384, .f32⟩
  | .hbm, ⟨5, _⟩ => ⟨S384x2048, .f32⟩
  | .hbm, ⟨6, _⟩ => ⟨S384x2048, .bf16⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel20.lean ====
abbrev S4096x256 : Shape := ⟨2, ![4096, 256]⟩
abbrev S4096x1024 : Shape := ⟨2, ![4096, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S4096x256 : Shape := ⟨2, ![4096, 256]⟩
abbrev S4096x1024 : Shape := ⟨2, ![4096, 1024]⟩
abbrev S1024x256 : Shape := ⟨2, ![1024, 256]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S4096x1024, .f32⟩
  | .hbm, ⟨3, _⟩ => ⟨S4096x256, .f32⟩
  | .hbm, ⟨4, _⟩ => ⟨S1024x256, .f32⟩
  | .hbm, ⟨5, _⟩ => ⟨S256x1024, .f32⟩
  | .hbm, ⟨6, _⟩ => ⟨S256x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel21.lean ====
abbrev S4096x1024 : Shape := ⟨2, ![4096, 1024]⟩
abbrev S4096x256 : Shape := ⟨2, ![4096, 256]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S4096x1024 : Shape := ⟨2, ![4096, 1024]⟩
abbrev S4096x256 : Shape := ⟨2, ![4096, 256]⟩
abbrev S1024x256 : Shape := ⟨2, ![1024, 256]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x1024, .f32⟩
  | .hbm, ⟨3, _⟩ => ⟨S4096x256, .f32⟩
  | .hbm, ⟨4, _⟩ => ⟨S1024x256, .f32⟩
  | .hbm, ⟨5, _⟩ => ⟨S256x1024, .f32⟩
  | .hbm, ⟨6, _⟩ => ⟨S1024x256, .f32⟩
  | .hbm, ⟨7, _⟩ => ⟨S1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel22.lean ====
abbrev S4096x1024 : Shape := ⟨2, ![4096, 1024]⟩
abbrev S4096x2048 : Shape := ⟨2, ![4096, 2048]⟩
abbrev S1024x1024 : Shape := ⟨2, ![1024, 1024]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 19
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S4096x1024, .f32⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference22Ideal.lean ====
abbrev S4096x1024 : Shape := ⟨2, ![4096, 1024]⟩
abbrev S4096x2048 : Shape := ⟨2, ![4096, 2048]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S4096x1024, .f32⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x2048, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S1024x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .bf16⟩
  | .hbm, ⟨65, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Kernel23.lean ====
abbrev S4096x1024 : Shape := ⟨2, ![4096, 1024]⟩
abbrev S4096x4096 : Shape := ⟨2, ![4096, 4096]⟩
abbrev S1x128 : Shape := ⟨2, ![1, 128]⟩
abbrev S1024x1024 : Shape := ⟨2, ![1024, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1x128, .f32⟩
  | .hbm, ⟨3, _⟩ => ⟨S1024x1024, .bf16⟩
  | .hbm, ⟨4, _⟩ => ⟨S4096x1024, .bf16⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference23Ideal.lean ====
abbrev S4096x1024 : Shape := ⟨2, ![4096, 1024]⟩
abbrev S4096x4096 : Shape := ⟨2, ![4096, 4096]⟩
abbrev S1x128 : Shape := ⟨2, ![1, 128]⟩
abbrev S1024x1024 : Shape := ⟨2, ![1024, 1024]⟩
abbrev S4096x8x128 : Shape := ⟨3, ![4096, 8, 128]⟩
abbrev S128 : Shape := ⟨1, ![128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1x128, .f32⟩
  | .hbm, ⟨3, _⟩ => ⟨S1024x1024, .bf16⟩
  | .hbm, ⟨4, _⟩ => ⟨S4096x8x128, .f32⟩
  | .hbm, ⟨5, _⟩ => ⟨S128, .f32⟩
  | .hbm, ⟨6, _⟩ => ⟨S4096x8x128, .f32⟩
  | .hbm, ⟨7, _⟩ => ⟨S_, .f32⟩
  | .hbm, ⟨8, _⟩ => ⟨S4096x8, .f32⟩
  | .hbm, ⟨9, _⟩ => ⟨S4096x8x1, .f32⟩
  | .hbm, ⟨10, _⟩ => ⟨S_, .f32⟩
  | .hbm, ⟨11, _⟩ => ⟨S4096x8x1, .f32⟩
  | .hbm, ⟨12, _⟩ => ⟨S4096x8x1, .f32⟩
  | .hbm, ⟨13, _⟩ => ⟨S_, .f32⟩
  | .hbm, ⟨14, _⟩ => ⟨S4096x8x1, .f32⟩
  | .hbm, ⟨15, _⟩ => ⟨S4096x8x1, .f32⟩
  | .hbm, ⟨16, _⟩ => ⟨S4096x8x1, .f32⟩
  | .hbm, ⟨17, _⟩ => ⟨S4096x8x128, .f32⟩
  | .hbm, ⟨18, _⟩ => ⟨S4096x8x128, .f32⟩
  | .hbm, ⟨19, _⟩ => ⟨S1x1x128, .f32⟩
  | .hbm, ⟨20, _⟩ => ⟨S4096x8x128, .f32⟩
  | .hbm, ⟨21, _⟩ => ⟨S4096x8x128, .f32⟩
  | .hbm, ⟨22, _⟩ => ⟨S4096x1024, .f32⟩
  | .hbm, ⟨23, _⟩ => ⟨S4096x8x128, .f32⟩
  | .hbm, ⟨24, _⟩ => ⟨S4096x8x128, .f32⟩
  | .hbm, ⟨25, _⟩ => ⟨S4096x8x128, .f32⟩
  | .hbm, ⟨26, _⟩ => ⟨S_, .f32⟩
  | .hbm, ⟨27, _⟩ => ⟨S4096x8x128, .f32⟩
  | .hbm, ⟨28, _⟩ => ⟨S4096x8x128, .f32⟩
  | .hbm, ⟨29, _⟩ => ⟨S_, .f32⟩
  | .hbm, ⟨30, _⟩ => ⟨S4096x8x128, .f32⟩
  | .hbm, ⟨31, _⟩ => ⟨S4096x8x128, .f32⟩
  | .hbm, ⟨32, _⟩ => ⟨S4096x8x128, .f32⟩
  | .hbm, ⟨33, _⟩ => ⟨S4096x8x128, .f32⟩
  | .hbm, ⟨34, _⟩ => ⟨S4096x1024, .f32⟩
  | .hbm, ⟨35, _⟩ => ⟨S4096x1024, .bf16⟩
  | .hbm, ⟨36, _⟩ => ⟨S1024x1024, .f32⟩
  | .hbm, ⟨37, _⟩ => ⟨S4096x1024, .f32⟩
  | .hbm, ⟨38, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== Kernel24.lean ====
abbrev S4096x1024 : Shape := ⟨2, ![4096, 1024]⟩
abbrev S4096x2048 : Shape := ⟨2, ![4096, 2048]⟩
abbrev S1x1024 : Shape := ⟨2, ![1, 1024]⟩
abbrev S1024x1024 : Shape := ⟨2, ![1024, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024 : Shape := ⟨1, ![1024]⟩

abbrev nBuf : Space → Nat
  | .hbm => 17
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x2048, .bf16⟩
  | .hbm, ⟨7, _⟩ => ⟨S1x1024, .f32⟩
  | .hbm, ⟨8, _⟩ => ⟨S1024x1024, .bf16⟩
  | .hbm, ⟨9, _⟩ => ⟨S1024x1024, .bf16⟩
  | .hbm, ⟨10, _⟩ => ⟨S4096x1024, .bf16⟩
  | .hbm, ⟨11, _⟩ => ⟨S4096x1024, .f32⟩
  | .hbm, ⟨12, _⟩ => ⟨S4096x2048, .bf16⟩
  | .hbm, ⟨13, _⟩ => ⟨S4096x1024, .bf16⟩
  | .hbm, ⟨14, _⟩ => ⟨S4096x1024, .bf16⟩
  | .hbm, ⟨15, _⟩ => ⟨S1x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x2048, .bf16⟩
  | .local _ .vmem, ⟨13, _⟩ => ⟨S512x2048, .bf16⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S512x2048, .bf16⟩
  | .local _ .vmem, ⟨22, _⟩ => ⟨S512x2048, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S1x1024, .f32⟩
  | .local _ .vmem, ⟨28, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference24Ideal.lean ====
abbrev S4096x1024 : Shape := ⟨2, ![4096, 1024]⟩
abbrev S4096x2048 : Shape := ⟨2, ![4096, 2048]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 142
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .bf16⟩
  | 4 => ⟨S4096x1024, .bf16⟩
  | 5 => ⟨S4096x1024, .bf16⟩
  | 6 => ⟨S4096x2048, .bf16⟩
  | 7 => ⟨S1x1024, .f32⟩
  | 8 => ⟨S1024x1024, .bf16⟩
  | 9 => ⟨S1024x1024, .bf16⟩
  | 10 => ⟨S4096x1024, .f32⟩
  | 11 => ⟨S1024x1024, .f32⟩
  | 12 => ⟨S4096x1024, .f32⟩
  | 13 => ⟨S4096x1024, .f32⟩
  | 14 => ⟨S_, .f32⟩
  | 15 => ⟨S1x1024, .f32⟩
  | 16 => ⟨S_, .f32⟩
  | 17 => ⟨S4096x1024, .f32⟩
  | 18 => ⟨S4096x1024, .f32⟩
  | 19 => ⟨S4096x1024, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S4096x1024, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S4096x1024, .f32⟩
  | 39 => ⟨S4096x1024, .f32⟩
  | 40 => ⟨S_, .f32⟩
  | 41 => ⟨S4096x1, .f32⟩
  | 42 => ⟨S4096x1, .f32⟩
  | 43 => ⟨S4096x1, .f32⟩
  | 44 => ⟨S4096x1, .f32⟩
  | 45 => ⟨S_, .f32⟩
  | 46 => ⟨S4096x1, .f32⟩
  | 47 => ⟨S4096x1, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S_, .f32⟩
  | 55 => ⟨S1024, .f32⟩
  | 56 => ⟨S1x1024, .f32⟩
  | 57 => ⟨S4096x1024, .f32⟩
  | 58 => ⟨S_, .f32⟩
  | 59 => ⟨S1024, .f32⟩
  | 60 => ⟨S1x1024, .f32⟩
  | 61 => ⟨S4096x1024, .f32⟩
  | 62 => ⟨S4096x1024, .f32⟩
  | 63 => ⟨S4096x1024, .f32⟩
  | 64 => ⟨S_, .f32⟩
  | 65 => ⟨S4096, .f32⟩
  | 66 => ⟨S4096x1, .f32⟩
  | 67 => ⟨S4096x1024, .f32⟩
  | 68 => ⟨S4096x1024, .f32⟩
  | 69 => ⟨S4096x1, .f32⟩
  | 70 => ⟨S4096x1024, .f32⟩
  | 71 => ⟨S_, .f32⟩
  | 72 => ⟨S4096, .f32⟩
  | 73 => ⟨S4096x1, .f32⟩
  | 74 => ⟨S_, .f32⟩
  | 75 => ⟨S4096x1, .f32⟩
  | 76 => ⟨S4096x1, .f32⟩
  | 77 => ⟨S_, .f32⟩
  | 78 => ⟨S4096, .f32⟩
  | 79 => ⟨S4096x1024, .f32⟩
  | 80 => ⟨S4096x1024, .f32⟩
  | 81 => ⟨S4096x1024, .f32⟩
  | 82 => ⟨S_, .f32⟩
  | 83 => ⟨S4096, .f32⟩
  | 84 => ⟨S4096x1, .f32⟩
  | 85 => ⟨S4096x1024, .f32⟩
  | 86 => ⟨S4096x1, .f32⟩
  | 87 => ⟨S_, .f32⟩
  | 88 => ⟨S4096x1, .f32⟩
  | 89 => ⟨S4096x1, .f32⟩
  | 90 => ⟨S_, .f32⟩
  | 91 => ⟨S4096, .f32⟩
  | 92 => ⟨S4096x1024, .f32⟩
  | 93 => ⟨S4096x1024, .f32⟩
  | 94 => ⟨S_, .f32⟩
  | 95 => ⟨S4096x1024, .f32⟩
  | 96 => ⟨S4096x1024, .f32⟩
  | 97 => ⟨S1024x1024, .f32⟩
  | 98 => ⟨S4096x1024, .f32⟩
  | 99 => ⟨S4096x1024, .f32⟩
  | 100 => ⟨S4096x1024, .f32⟩
  | 101 => ⟨S4096x2048, .f32⟩
  | 102 => ⟨S4096x1024, .f32⟩
  | 103 => ⟨S4096x1024, .f32⟩
  | 104 => ⟨S4096x1024, .f32⟩
  | 105 => ⟨S4096x1024, .f32⟩
  | 106 => ⟨S_, .f32⟩
  | 107 => ⟨S4096x1024, .f32⟩
  | 108 => ⟨S4096x1024, .f32⟩
  | 109 => ⟨S_, .f32⟩
  | 110 => ⟨S4096x1024, .f32⟩
  | 111 => ⟨S4096x1024, .f32⟩
  | 112 => ⟨S_, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S_, .f32⟩
  | 120 => ⟨S4096x1024, .f32⟩
  | 121 => ⟨S4096x1024, .f32⟩
  | 122 => ⟨S_, .f32⟩
  | 123 => ⟨S4096x1024, .f32⟩
  | 124 => ⟨S4096x1024, .f32⟩
  | 125 => ⟨S_, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S4096x1024, .f32⟩
  | 9 => ⟨S4096x2048, .f32⟩
  | 10 => ⟨S4096x1024, .bf16⟩
  | 11 => ⟨S4096x1024, .bf16⟩
  | 12 => ⟨S4096x2048, .bf16⟩
  | 13 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_cst_12 : Ref sig .tc := ⟨.hbm, 74, rfl⟩
abbrev main_v51 : Ref sig .tc := ⟨.hbm, 75, rfl⟩
abbrev main_v52 : Ref sig .tc := ⟨.hbm, 76, rfl⟩
abbrev main_cst_13 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_14 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_15 : Ref sig .tc := ⟨.hbm, 87, rfl⟩
abbrev main_v61 : Ref sig .tc := ⟨.hbm, 88, rfl⟩
abbrev main_v62 : Ref sig .tc := ⟨.hbm, 89, rfl⟩
abbrev main_cst_16 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_17 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_18 : Ref sig .tc := ⟨.hbm, 106, rfl⟩
abbrev main_v77 : Ref sig .tc := ⟨.hbm, 107, rfl⟩
abbrev main_v78 : Ref sig .tc := ⟨.hbm, 108, rfl⟩
abbrev main_cst_19 : Ref sig .tc := ⟨.hbm, 109, rfl⟩
abbrev main_v79 : Ref sig .tc := ⟨.hbm, 110, rfl⟩
abbrev main_v80 : Ref sig .tc := ⟨.hbm, 111, rfl⟩
abbrev main_cst_20 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_21 : Ref sig .tc := ⟨.hbm, 119, rfl⟩
abbrev main_v87 : Ref sig .tc := ⟨.hbm, 120, rfl⟩
abbrev main_v88 : Ref sig .tc := ⟨.hbm, 121, rfl⟩
abbrev main_cst_22 : Ref sig .tc := ⟨.hbm, 122, rfl⟩
abbrev main_v89 : Ref sig .tc := ⟨.hbm, 123, rfl⟩
abbrev main_v90 : Ref sig .tc := ⟨.hbm, 124, rfl⟩
abbrev main_cst_23 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩

abbrev nD : Nat := 1
abbrev τ : Topo := Topo.v7x

variable {F : FTy → Type} [FloatOps F]
-- ==== Proof.Attn.Maths.lean ====
/- The attention backward over the real numbers. -/
module

public import Idealize.ShloMosaic.Lib.Claim
public import Idealize.ShloMosaic.PureOps.Ideal

@[expose] public section

noncomputable section

namespace Cert.Attn

open Idealize.ShloMosaic

/-- Query `r` of group `g`; column `d` of head `h` in q and k; column `e` of head `h` in v. -/
def row (g : Fin 4) (r : Fin 1024) : Fin 4096 := ⟨1024 * g.val + r.val, by omega⟩
def cq (h : Fin 8) (d : Fin 256) : Fin 2048 := ⟨256 * h.val + d.val, by omega⟩
def cv (h : Fin 8) (e : Fin 128) : Fin 1024 := ⟨128 * h.val + e.val, by omega⟩

theorem coe_sum {ι : Type} [Fintype ι] (f : ι → ℝ) : ((∑ a, f a : ℝ) : EReal) = ∑ a, (f a : EReal) := by
  classical
  refine Finset.induction_on Finset.univ (by simp) fun a s ha ih => ?_
  rw [Finset.sum_insert ha, Finset.sum_insert ha, EReal.coe_add, ih]

theorem sum_rows {M : Type} [AddCommMonoid M] (f : Fin 4096 → M) : ∑ n, f n = ∑ g : Fin 4, ∑ r : Fin 1024, f (row g r) := by
  rw [← Fintype.sum_prod_type' (f := fun g r => f (row g r))]
  refine (Fintype.sum_equiv (finProdFinEquiv (m := 4) (n := 1024)) _ _ fun x => ?_).symm
  refine congrArg f (Fin.ext ?_)
  simp [row, finProdFinEquiv]
  omega

section Defs

variable (q k : Fin 4096 → Fin 2048 → ℝ) (v dO o : Fin 4096 → Fin 1024 → ℝ) (l M : Fin 8 → Fin 4096 → ℝ)

/-- Head `h`'s score of key `κ` against query `n`. -/
def rS (h : Fin 8) (κ n : Fin 4096) : ℝ := ∑ d : Fin 256, k κ (cq h d) * q n (cq h d)
/-- The product of the key's value and the query's output gradient. -/
def rDP (h : Fin 8) (κ n : Fin 4096) : ℝ := ∑ e : Fin 128, v κ (cv h e) * dO n (cv h e)
/-- The product of the query's output and its gradient. -/
def rD (h : Fin 8) (n : Fin 4096) : ℝ := ∑ e : Fin 128, o n (cv h e) * dO n (cv h e)
/-- The key's probability from the logarithm of the query's sum. -/
def rP (h : Fin 8) (κ n : Fin 4096) : ℝ := if κ.val ≤ n.val then Real.exp (rS q k h κ n - l h n) else 0
/-- The gradient of the score. -/
def rDS (h : Fin 8) (κ n : Fin 4096) : ℝ := rP q k l h κ n * (rDP v dO h κ n - rD dO o h n)
/-- The key's weight with the query's largest score taken off, -/
def rE (h : Fin 8) (κ n : Fin 4096) : ℝ := if κ.val ≤ n.val then Real.exp (rS q k h κ n - M h n) else 0
/-- and the weights' sum. -/
def rZ (h : Fin 8) (n : Fin 4096) : ℝ := ∑ κ : Fin 4096, rE q k M h κ n

theorem rE_nonneg (h : Fin 8) (κ n : Fin 4096) : 0 ≤ rE q k M h κ n := by
  unfold rE; split
  · exact (Real.exp_pos _).le
  · exact le_rfl

theorem rZ_pos (h : Fin 8) (n : Fin 4096) : 0 < rZ q k M h n := by
  refine Finset.sum_pos' (fun κ _ => rE_nonneg q k M h κ n) ⟨n, Finset.mem_univ _, ?_⟩
  unfold rE; rw [if_pos le_rfl]; exact Real.exp_pos _

/-- The probability is the weight over the sum. -/
theorem rP_eq (h : Fin 8) (κ n : Fin 4096) :
    rP q k (fun h n => M h n + Real.log (rZ q k M h n)) h κ n = rE q k M h κ n / rZ q k M h n := by
  unfold rP
  rw [rE]
  split
  · rw [← sub_sub, Real.exp_sub, Real.exp_log (rZ_pos q k M h n)]
  · rw [zero_div]

/-- The query's output. -/
def rO (n : Fin 4096) (h : Fin 8) (e : Fin 128) : ℝ := ∑ κ : Fin 4096, v κ (cv h e) * (rE q k M h κ n / rZ q k M h n)

/-- The output against its gradient is the keys' products weighted by their probabilities. -/
theorem rD_eq (ho : ∀ n h e, o n (cv h e) = rO q k v M n h e) (h : Fin 8) (n : Fin 4096) :
    rD dO o h n = ∑ κ : Fin 4096, rDP v dO h κ n * (rE q k M h κ n / rZ q k M h n) := by
  unfold rD rDP
  simp only [ho, rO, Finset.sum_mul]
  rw [Finset.sum_comm]
  exact Finset.sum_congr rfl fun κ _ => Finset.sum_congr rfl fun e _ => by ring

/-- The reference's gradient of the score is the kernel's. -/
theorem rDS_eq (ho : ∀ n h e, o n (cv h e) = rO q k v M n h e) (h : Fin 8) (κ n : Fin 4096) :
    (rDP v dO h κ n / rZ q k M h n + -∑ j : Fin 4096, rDP v dO h j n * (1 / (rZ q k M h n * rZ q k M h n)) * rE q k M h j n) * rE q k M h κ n =
      rDS q k v dO o (fun h n => M h n + Real.log (rZ q k M h n)) h κ n := by
  have hz := (rZ_pos q k M h n).ne'
  unfold rDS
  rw [rP_eq, rD_eq q k v dO o M ho]
  have e : ∑ j : Fin 4096, rDP v dO h j n * (1 / (rZ q k M h n * rZ q k M h n)) * rE q k M h j n =
      (∑ j : Fin 4096, rDP v dO h j n * (rE q k M h j n / rZ q k M h n)) / rZ q k M h n := by
    rw [Finset.sum_div]
    exact Finset.sum_congr rfl fun j _ => by field_simp
  rw [e]
  field_simp
  ring

end Defs

end Cert.Attn

end
-- ==== Proof.Attn.Softmax.lean ====
/- The scores, their row maxima, exponentials and sums as the host computes them, read at an index over the real numbers. -/
module

public import proofs.«01_k».proof.Proof.Attn.Maths
public import proofs.«01_k».proof.Proof.Gen.KernelIdeal
public import Idealize.ShloMosaic.Lib.Pointwise
public import Idealize.ShloMosaic.Lib.Pipeline.ValueKit
public import Idealize.ShloMosaic.Lib.Claim
public import Idealize.ShloMosaic.Lib.WordCmp

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn

/-- Which keys a query sees. -/
def msk : IVec S8x4096x4096 1 :=
  broadcastInDim S8x4096x4096 ![1, 2] bcast_S4096x4096_S8x4096x4096_1_2 (cmpi .sle
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))

/-- Rows of eight heads, from rows of eight heads side by side. -/
def hq (x : Vec Ideal S4096x2048 .bf16) : FVec Ideal S4096x8x256 .f32 :=
  shapeCast S4096x8x256 (extf .f32 x bitsLt_bf16_f32) shapeCasts_S4096x2048_S4096x8x256

/-- The same, for the narrower heads. -/
def hv (x : Vec Ideal S4096x1024 .bf16) : FVec Ideal S4096x8x128 .f32 :=
  shapeCast S4096x8x128 (extf .f32 x bitsLt_bf16_f32) shapeCasts_S4096x1024_S4096x8x128

/-- The masked scores. -/
def sco (x0 x1 : Vec Ideal S4096x2048 .bf16) : FVec Ideal S8x4096x4096 .f32 :=
  select msk (Host.dotGeneral dot_S4096x8x256_S4096x8x256_S8x4096x4096_2_2_0_0_1_1 none (hq x0) (hq x1))
    (broadcastInDim S8x4096x4096 ![] bcast_S_S8x4096x4096 (id (constant S_ .f32 0xFF800000#32)))

/-- Each row's largest score. -/
def mxr (s : FVec Ideal S8x4096x4096 .f32) : FVec Ideal S8x4096 .f32 :=
  Host.reduce FloatOps.maximumf s (constant S_ .f32 0xFF800000#32) reducesTo_S8x4096x4096_S8x4096_d2 h_S_

/-- The exponentials of the scores less a number per row. -/
def ew (s : FVec Ideal S8x4096x4096 .f32) (x : FVec Ideal S8x4096 .f32) : FVec Ideal S8x4096x4096 .f32 :=
  Host.exp (subf s (broadcastInDim S8x4096x4096 ![0, 1, 2] bcast_S8x4096x1_S8x4096x4096_0_1_2 (broadcastInDim S8x4096x1 ![0, 1] bcast_S8x4096_S8x4096x1_0_1 x)))

/-- Each row's sum. -/
def zw (e : FVec Ideal S8x4096x4096 .f32) : FVec Ideal S8x4096 .f32 :=
  Host.reduceAdd e (constant S_ .f32 0x00000000#32) reducesTo_S8x4096x4096_S8x4096_d2 h_S_

/-- A number per row, over the row. -/
def bc (x : FVec Ideal S8x4096 .f32) : FVec Ideal S8x4096x4096 .f32 :=
  broadcastInDim S8x4096x4096 ![0, 1, 2] bcast_S8x4096x1_S8x4096x4096_0_1_2 (broadcastInDim S8x4096x1 ![0, 1] bcast_S8x4096_S8x4096x1_0_1 x)

theorem msk_at (h : Fin 8) (n κ : Fin 4096) {X : Type} (a b : X) : Scalar.select (msk (ix3 h n κ)) a b = if κ.val ≤ n.val then a else b := by
  pointwise [msk]
  by_cases e : κ.val ≤ n.val
  · rw [if_pos e, (WordCmp.cmpi_sle_ofNat_eq_one_iff (by omega) (by omega)).mpr e]; rfl
  · rw [if_neg e, (WordCmp.cmpi_sle_ofNat_eq_zero_iff (by omega) (by omega)).mpr (by omega)]; rfl

theorem ninf : Ideal.ofBits .f32 0xFF800000#32 = (⊥ : EReal) := by
  simp [Ideal.ofBits, Ideal.ieee]

theorem hq_at (x : Vec Ideal S4096x2048 .bf16) (n : Fin 4096) (h : Fin 8) (d : Fin 256) : hq x (ix3 n h d) = x (ix2 n (cq h d)) := by
  pointwise [hq, cq]
  exact congrArg x (congrArg (ix2 n) (Fin.ext (by simp only; omega)))

theorem hv_at (x : Vec Ideal S4096x1024 .bf16) (n : Fin 4096) (h : Fin 8) (d : Fin 128) : hv x (ix3 n h d) = x (ix2 n (cv h d)) := by
  pointwise [hv, cv]
  exact congrArg x (congrArg (ix2 n) (Fin.ext (by simp only; omega)))

theorem sco_at (x0 x1 : Vec Ideal S4096x2048 .bf16) (h : Fin 8) (n κ : Fin 4096) :
    sco x0 x1 (ix3 h n κ) = if κ.val ≤ n.val then ∑ d : Fin 256, hq x0 (ix3 n h d) * hq x1 (ix3 κ h d) else (⊥ : EReal) := by
  pointwise [sco]
  rw [msk_at, show (id (constant (F := Ideal) S_ FTy.f32 4286578688#32) ix0 : EReal) = ⊥ from ninf]

theorem mxr_at (s : FVec Ideal S8x4096x4096 .f32) (h : Fin 8) (n : Fin 4096) :
    mxr s (ix2 h n) = Finset.univ.fold max (⊥ : EReal) fun κ : Fin 4096 => s (ix3 h n κ) := by
  pointwise [mxr]
  rw [ninf]

theorem ew_at (s : FVec Ideal S8x4096x4096 .f32) (x : FVec Ideal S8x4096 .f32) (h : Fin 8) (n κ : Fin 4096) :
    ew s x (ix3 h n κ) = Ideal.exp (s (ix3 h n κ) - x (ix2 h n)) := by
  pointwise [ew]

theorem zw_at (e : FVec Ideal S8x4096x4096 .f32) (h : Fin 8) (n : Fin 4096) :
    zw e (ix2 h n) = ∑ κ : Fin 4096, e (ix3 h n κ) := by
  pointwise [zw]

theorem bc_at (x : FVec Ideal S8x4096 .f32) (h : Fin 8) (n κ : Fin 4096) : bc x (ix3 h n κ) = x (ix2 h n) := by
  pointwise [bc]

/-- Eight heads laid side by side again. -/
def fv (y : FVec Ideal S4096x8x128 .f32) : FVec Ideal S4096x1024 .f32 := shapeCast S4096x1024 y shapeCasts_S4096x8x128_S4096x1024

theorem fv_at (y : FVec Ideal S4096x8x128 .f32) (n : Fin 4096) (h : Fin 8) (d : Fin 128) : fv y (ix2 n (cv h d)) = y (ix3 n h d) := by
  pointwise [fv, cv]

/-- The values weighted by the probabilities. -/
def ov (y : FVec Ideal S4096x8x128 .f32) (p : FVec Ideal S8x4096x4096 .f32) : FVec Ideal S4096x8x128 .f32 :=
  transpose S4096x8x128 [2, 0, 1] (Host.dotGeneral dot_S4096x8x128_S8x4096x4096_S8x128x4096_0_2_2_1_1_0 none y p) transposes_S8x128x4096_S4096x8x128_2_0_1

theorem ov_at (y : FVec Ideal S4096x8x128 .f32) (p : FVec Ideal S8x4096x4096 .f32) (n : Fin 4096) (h : Fin 8) (e : Fin 128) :
    ov y p (ix3 n h e) = ∑ κ : Fin 4096, y (ix3 κ h e) * p (ix3 h n κ) := by
  pointwise [ov]

section Reals

variable (x0 x1 : Vec Ideal S4096x2048 .bf16) (q k : Fin 4096 → Fin 2048 → ℝ) (M : Fin 8 → Fin 4096 → ℝ)
  (H0 : ∀ n d, x0 (ix2 n d) = (q n d : EReal)) (H1 : ∀ n d, x1 (ix2 n d) = (k n d : EReal))

include H0 H1

theorem sco_real (h : Fin 8) (n κ : Fin 4096) : sco x0 x1 (ix3 h n κ) = if κ.val ≤ n.val then (rS q k h κ n : EReal) else (⊥ : EReal) := by
  rw [sco_at, rS, coe_sum]
  congr 1
  refine Finset.sum_congr rfl fun d _ => ?_
  rw [hq_at, hq_at, H0, H1, EReal.coe_mul, mul_comm]

theorem mxr_real : ∃ M : Fin 8 → Fin 4096 → ℝ, ∀ h n, mxr (sco x0 x1) (ix2 h n) = (M h n : EReal) := by
  refine ⟨fun h n => (mxr (sco x0 x1) (ix2 h n) : EReal).toReal, fun h n => (EReal.coe_toReal ?_ ?_).symm⟩
  · rw [mxr_at]
    refine ((Finset.fold_max_lt (⊤ : EReal)).mpr ⟨bot_lt_top, fun κ _ => ?_⟩).ne
    rw [sco_real x0 x1 q k H0 H1]
    split
    · exact EReal.coe_lt_top _
    · exact bot_lt_top
  · rw [mxr_at]
    refine (lt_of_lt_of_le (EReal.bot_lt_coe (rS q k h n n)) ((Finset.le_fold_max _).mpr (Or.inr ⟨n, Finset.mem_univ _, ?_⟩))).ne'
    rw [sco_real x0 x1 q k H0 H1, if_pos le_rfl]

theorem ew_real (x : FVec Ideal S8x4096 .f32) (hx : ∀ h n, x (ix2 h n) = (M h n : EReal)) (h : Fin 8) (n κ : Fin 4096) :
    ew (sco x0 x1) x (ix3 h n κ) = (rE q k M h κ n : EReal) := by
  rw [ew_at, sco_real x0 x1 q k H0 H1, hx, rE]
  split
  · rfl
  · rfl

theorem zw_real (x : FVec Ideal S8x4096 .f32) (hx : ∀ h n, x (ix2 h n) = (M h n : EReal)) (h : Fin 8) (n : Fin 4096) :
    zw (ew (sco x0 x1) x) (ix2 h n) = (rZ q k M h n : EReal) := by
  rw [zw_at, rZ, coe_sum]
  exact Finset.sum_congr rfl fun κ _ => ew_real x0 x1 q k M H0 H1 x hx h n κ

end Reals

end Cert.KernelIdeal.Attn
-- ==== Proof.Attn.Tile.lean ====
/- The attention backward's tile, read at an index over the extended reals: the scores of 512 keys against 1024 queries,
   the probabilities, the scores' gradients, and what one step adds to the gradients of q, k and v. -/
module

public import proofs.«01_k».proof.Proof.Gen.KernelIdeal.Value
public import Idealize.ShloMosaic.Lib.Pipeline.ValueKit
public import Idealize.ShloMosaic.Lib.VecWindow
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable (g : ℕ) (q : Vec Ideal S1024x256 .bf16) (k : Vec Ideal S4096x256 .bf16) (kt : Vec Ideal S256x4096 .bf16)
  (v : Vec Ideal S4096x128 .bf16) (dO : Vec Ideal S1024x128 .bf16) (l dl : FVec Ideal S1x1024 .f32)

/-- The score of key `κ` against the group's query `r`. -/
def sc (κ : Fin 4096) (r : Fin 1024) : EReal := ∑ d : Fin 256, (k (ix2 κ d) : EReal) * q (ix2 r d)

/-- The product of key `κ`'s value and query `r`'s output gradient. -/
def dp (κ : Fin 4096) (r : Fin 1024) : EReal := ∑ e : Fin 128, (v (ix2 κ e) : EReal) * dO (ix2 r e)

/-- The probability of key `κ` for query `r` of group `g`: zero where the key comes after the query. -/
def pr (κ : Fin 4096) (r : Fin 1024) : EReal :=
  Ideal.exp ((if κ.val ≤ 1024 * g + r.val then sc q k κ r else ⊥) - l (ix2 0 r))

/-- The gradient of the score of key `κ` against query `r`. -/
def ds (κ : Fin 4096) (r : Fin 1024) : EReal := pr g q k l κ r * (dp v dO κ r - dl (ix2 0 r))

theorem pr_zero (κ : Fin 4096) (r : Fin 1024) (h : 1024 * g + r.val < κ.val) : pr g q k l κ r = 0 := by
  unfold pr
  rw [if_neg (by omega), sub_eq_add_neg, EReal.bot_add]
  rfl

theorem ds_zero (κ : Fin 4096) (r : Fin 1024) (h : 1024 * g + r.val < κ.val) : ds g q k v dO l dl κ r = 0 := by
  unfold ds
  rw [pr_zero g q k l κ r h, zero_mul]

theorem pr_full (κ : Fin 4096) (r : Fin 1024) (h : κ.val ≤ 1024 * g + r.val) :
    pr g q k l κ r = Ideal.exp (sc q k κ r - l (ix2 0 r)) := by
  unfold pr
  rw [if_pos h]

/-- Row `a` of key block `j`. -/
def key (j : ℕ) (hj : 512 * j + 512 ≤ 4096) (a : Fin 512) : Fin 4096 := ⟨512 * j + a.val, by omega⟩

/-- Query `c` of the second half of the group. -/
def hi (c : Fin 512) : Fin 1024 := ⟨512 + c.val, by omega⟩
/-- Query `c` of the first half of the group. -/
def lo (c : Fin 512) : Fin 1024 := ⟨c.val, by omega⟩

section Main

variable (j : ℕ) (hj : 512 * j + 512 ≤ 4096) (kb : Vec Ideal S512x256 .bf16) (vb : Vec Ideal S512x128 .bf16) (ktb : Vec Ideal S256x512 .bf16)
  (hk : ∀ a d, kb (ix2 a d) = k (ix2 (key j hj a) d)) (hv : ∀ a e, vb (ix2 a e) = v (ix2 (key j hj a) e))
  (hkt : ∀ d a, ktb (ix2 d a) = kt (ix2 d (key j hj a)))

include hk in
theorem pay6_at (hm : 512 * j + 512 ≤ 1024 * g) (a c : Fin 512) : k0_pay6 (F := Ideal) q l kb (ix2 a c) = pr g q k l (key j hj a) (lo c) := by
  rw [pr_full g q k l _ _ (by show 512 * j + a.val ≤ 1024 * g + c.val; omega)]
  pointwise [k0_pay6, sc]
  simp only [hk, lo]

include hk in
theorem pay7_at (hm : 512 * j + 512 ≤ 1024 * g) (a c : Fin 512) : k0_pay7 (F := Ideal) q l kb (ix2 a c) = pr g q k l (key j hj a) (hi c) := by
  rw [pr_full g q k l _ _ (by show 512 * j + a.val ≤ 1024 * g + (512 + c.val); omega)]
  pointwise [k0_pay7, sc]
  simp only [hk, hi]

include hk hv in
theorem pay8_at (hm : 512 * j + 512 ≤ 1024 * g) (a c : Fin 512) :
    k0_pay8 (F := Ideal) dO q l dl kb vb (ix2 a c) = ds g q k v dO l dl (key j hj a) (lo c) := by
  unfold ds
  rw [← pay6_at g q k l j hj kb hk hm]
  pointwise [k0_pay8, dp]
  simp only [hv, lo]

include hk hv in
theorem pay9_at (hm : 512 * j + 512 ≤ 1024 * g) (a c : Fin 512) :
    k0_pay9 (F := Ideal) dO q l dl kb vb (ix2 a c) = ds g q k v dO l dl (key j hj a) (hi c) := by
  unfold ds
  rw [← pay7_at g q k l j hj kb hk hm]
  pointwise [k0_pay9, dp]
  simp only [hv, hi]

include hk in
theorem pay10_at (hm : 512 * j + 512 ≤ 1024 * g) (a c : Fin 512) : k0_pay10 (F := Ideal) q l kb (ix2 a c) = pr g q k l (key j hj a) (lo c) := by
  rw [← pay6_at g q k l j hj kb hk hm]
  pointwise [k0_pay10]

include hk in
theorem pay11_at (hm : 512 * j + 512 ≤ 1024 * g) (a c : Fin 512) : k0_pay11 (F := Ideal) q l kb (ix2 a c) = pr g q k l (key j hj a) (hi c) := by
  rw [← pay7_at g q k l j hj kb hk hm]
  pointwise [k0_pay11]

end Main

/-- What the group's queries add to key `κ`'s gradient. -/
def gk (κ : Fin 4096) (d : Fin 256) : EReal := ∑ r : Fin 1024, ds g q k v dO l dl κ r * q (ix2 r d)

/-- What the group's queries add to the gradient of key `κ`'s value. -/
def gv (κ : Fin 4096) (e : Fin 128) : EReal := ∑ r : Fin 1024, pr g q k l κ r * dO (ix2 r e)

/-- What key block `j` adds to the gradient of query `r`, column `d`. -/
def gq (j : ℕ) (hj : 512 * j + 512 ≤ 4096) (d : Fin 256) (r : Fin 1024) : EReal :=
  ∑ a : Fin 512, (kt (ix2 d (key j hj a)) : EReal) * ds g q k v dO l dl (key j hj a) r

section Products

variable (j : ℕ) (hj : 512 * j + 512 ≤ 4096) (kb : Vec Ideal S512x256 .bf16) (vb : Vec Ideal S512x128 .bf16) (ktb : Vec Ideal S256x512 .bf16)
  (hkt : ∀ d a, ktb (ix2 d a) = kt (ix2 d (key j hj a)))
  (p0 p1 s0 s1 : FVec Ideal S512x512 .bf16)
  (hp0 : ∀ a c, p0 (ix2 a c) = pr g q k l (key j hj a) (lo c)) (hp1 : ∀ a c, p1 (ix2 a c) = pr g q k l (key j hj a) (hi c))
  (hs0 : ∀ a c, s0 (ix2 a c) = ds g q k v dO l dl (key j hj a) (lo c)) (hs1 : ∀ a c, s1 (ix2 a c) = ds g q k v dO l dl (key j hj a) (hi c))
  (P0 P1 U0 U1 : FVec Ideal S512x512 .f32)
  (hP0 : ∀ a c, P0 (ix2 a c) = pr g q k l (key j hj a) (lo c)) (hP1 : ∀ a c, P1 (ix2 a c) = pr g q k l (key j hj a) (hi c))
  (hU0 : ∀ a c, U0 (ix2 a c) = dp v dO (key j hj a) (lo c) - dl (ix2 0 (lo c))) (hU1 : ∀ a c, U1 (ix2 a c) = dp v dO (key j hj a) (hi c))

/-- A sum over the group's queries is the sum over its first half and the sum over its second half. -/
theorem sum_halves (f : Fin 1024 → EReal) : ∑ r, f r = ∑ c, f (lo c) + ∑ c, f (hi c) :=
  Fin.sum_univ_add (a := 512) (b := 512) f

include hs0 hs1 in
theorem pay29_at (x : Vec Ideal S512x256 .f32) (a : Fin 512) (d : Fin 256) :
    k0_pay29 (F := Ideal) q s0 s1 x (ix2 a d) = x (ix2 a d) + gk g q k v dO l dl (key j hj a) d := by
  pointwise [k0_pay29]
  rw [gk, sum_halves]
  simp only [hs0, hs1, lo, hi]

include hp0 hp1 in
theorem pay30_at (x : Vec Ideal S512x128 .f32) (a : Fin 512) (e : Fin 128) :
    k0_pay30 (F := Ideal) dO p0 p1 x (ix2 a e) = x (ix2 a e) + gv g q k dO l (key j hj a) e := by
  pointwise [k0_pay30]
  rw [gv, sum_halves]
  simp only [hp0, hp1, lo, hi]

include hP0 hU0 in
theorem pay39_at (a c : Fin 512) : k0_pay39 (F := Ideal) P0 U0 (ix2 a c) = ds g q k v dO l dl (key j hj a) (lo c) := by
  pointwise [k0_pay39]
  rw [hP0, hU0, ds]

include hP1 hU1 in
theorem pay40_at (a c : Fin 512) : k0_pay40 (F := Ideal) dl U1 P1 (ix2 a c) = ds g q k v dO l dl (key j hj a) (hi c) := by
  pointwise [k0_pay40]
  rw [hP1, hU1, ds]
  simp only [hi]

include hP0 hU0 hP1 hU1 in
theorem pay43_at (x : Vec Ideal S512x256 .f32) (a : Fin 512) (d : Fin 256) :
    k0_pay43 (F := Ideal) q dl U1 P0 P1 U0 x (ix2 a d) = x (ix2 a d) + gk g q k v dO l dl (key j hj a) d := by
  rw [gk, sum_halves]
  simp only [← pay39_at g q k v dO l dl j hj P0 U0 hP0 hU0, ← pay40_at g q k v dO l dl j hj P1 U1 hP1 hU1]
  pointwise [k0_pay43]
  simp only [lo, hi]

include hP0 hP1 in
theorem pay44_at (x : Vec Ideal S512x128 .f32) (a : Fin 512) (e : Fin 128) :
    k0_pay44 (F := Ideal) dO P0 P1 x (ix2 a e) = x (ix2 a e) + gv g q k dO l (key j hj a) e := by
  pointwise [k0_pay44]
  rw [gv, sum_halves]
  simp only [hP0, hP1, lo, hi]

include hkt hP0 hU0 in
theorem pay41_at (x : Vec Ideal S256x512 .f32) (d : Fin 256) (c : Fin 512) :
    k0_pay41 (F := Ideal) ktb P0 U0 x (ix2 d c) = x (ix2 d c) + gq g q k kt v dO l dl j hj d (lo c) := by
  simp only [gq, ← pay39_at g q k v dO l dl j hj P0 U0 hP0 hU0]
  pointwise [k0_pay41]
  simp only [hkt]

include hkt hP1 hU1 in
theorem pay42_at (x : Vec Ideal S256x512 .f32) (d : Fin 256) (c : Fin 512) :
    k0_pay42 (F := Ideal) dl ktb U1 P1 x (ix2 d c) = x (ix2 d c) + gq g q k kt v dO l dl j hj d (hi c) := by
  simp only [gq, ← pay40_at g q k v dO l dl j hj P1 U1 hP1 hU1]
  pointwise [k0_pay42]
  simp only [hkt]

include hkt in
theorem pay34_at (d : Fin 256) (a : Fin 512) : k0_pay34 (F := Ideal) ktb (ix2 d a) = kt (ix2 d (key j hj a)) := by
  pointwise [k0_pay34]
  simp only [hkt]

/-- Where the block comes after the group's first half, only the second half counts. -/
theorem gk_hi (hm : 1024 * g + 511 < 512 * j) (a : Fin 512) (d : Fin 256) :
    gk g q k v dO l dl (key j hj a) d = ∑ c, ds g q k v dO l dl (key j hj a) (hi c) * q (ix2 (hi c) d) := by
  rw [gk, sum_halves, Finset.sum_eq_zero, zero_add]
  intro c _
  rw [ds_zero _ _ _ _ _ _ _ _ _ (by show 1024 * g + c.val < 512 * j + a.val; omega), zero_mul]

theorem gv_hi (hm : 1024 * g + 511 < 512 * j) (a : Fin 512) (e : Fin 128) :
    gv g q k dO l (key j hj a) e = ∑ c, pr g q k l (key j hj a) (hi c) * dO (ix2 (hi c) e) := by
  rw [gv, sum_halves, Finset.sum_eq_zero, zero_add]
  intro c _
  rw [pr_zero _ _ _ _ _ _ (by show 1024 * g + c.val < 512 * j + a.val; omega), zero_mul]

theorem gq_lo (hm : 1024 * g + 511 < 512 * j) (d : Fin 256) (c : Fin 512) : gq g q k kt v dO l dl j hj d (lo c) = 0 := by
  rw [gq, Finset.sum_eq_zero]
  intro a _
  rw [ds_zero _ _ _ _ _ _ _ _ _ (by show 1024 * g + c.val < 512 * j + a.val; omega), mul_zero]

include hs1 in
theorem pay1_at (hm : 1024 * g + 511 < 512 * j) (x : Vec Ideal S512x256 .f32) (a : Fin 512) (d : Fin 256) :
    k0_pay1 (F := Ideal) q s1 x (ix2 a d) = x (ix2 a d) + gk g q k v dO l dl (key j hj a) d := by
  rw [gk_hi _ _ _ _ _ _ _ _ _ hm]
  pointwise [k0_pay1]
  simp only [hs1, hi]

include hp1 in
theorem pay2_at (hm : 1024 * g + 511 < 512 * j) (x : Vec Ideal S512x128 .f32) (a : Fin 512) (e : Fin 128) :
    k0_pay2 (F := Ideal) dO p1 x (ix2 a e) = x (ix2 a e) + gv g q k dO l (key j hj a) e := by
  rw [gv_hi _ _ _ _ _ _ _ hm]
  pointwise [k0_pay2]
  simp only [hp1, hi]

variable (hk : ∀ a d, kb (ix2 a d) = k (ix2 (key j hj a) d)) (hv : ∀ a e, vb (ix2 a e) = v (ix2 (key j hj a) e))

include hk hv hkt in
theorem pay12_at (hm : 512 * j + 512 ≤ 1024 * g) (d : Fin 256) (c : Fin 512) :
    k0_pay12 (F := Ideal) dO q l dl kb vb ktb (ix2 d c) = gq g q k kt v dO l dl j hj d (hi c) := by
  simp only [gq, ← pay9_at g q k v dO l dl j hj kb vb hk hv hm]
  pointwise [k0_pay12, k0_pay5]
  simp only [hkt]

include hk hv hkt in
theorem pay13_at (hm : 512 * j + 512 ≤ 1024 * g) (x : Vec Ideal S256x512 .f32) (d : Fin 256) (c : Fin 512) :
    k0_pay13 (F := Ideal) dO q l dl kb vb ktb x (ix2 d c) = x (ix2 d c) + gq g q k kt v dO l dl j hj d (lo c) := by
  simp only [gq, ← pay8_at g q k v dO l dl j hj kb vb hk hv hm]
  pointwise [k0_pay13, k0_pay5]
  simp only [hkt]

theorem pay28_at (u x : Vec Ideal S256x512 .f32) (d : Fin 256) (c : Fin 512) :
    k0_pay28 (F := Ideal) u x (ix2 d c) = x (ix2 d c) + u (ix2 d c) := by
  pointwise [k0_pay28]

end Products

section Diag

theorem mask_at (x y : ℕ) (hx : x < 2 ^ 31) (hy : y < 2 ^ 31) (u w : BitVec 32) (hu : u = BitVec.ofNat 32 x) (hw : w = BitVec.ofNat 32 y) (s : EReal) :
    (Scalar.select (IntOp.cmpi .sle u w) s (Named.named (F := Ideal) (φ := .f32) κ "mask" 0xF149F2CA#32) : EReal) = if x ≤ y then s else ⊥ := by
  subst hu hw
  rw [IdealRules.named_const.ideal_named_scalar κ "mask" (φ := .f32) 0xF149F2CA#32 ⊥ rfl]
  by_cases h : x ≤ y
  · rw [if_pos h, (WordCmp.cmpi_sle_ofNat_eq_one_iff hx hy).mpr h]; rfl
  · rw [if_neg h, (WordCmp.cmpi_sle_ofNat_eq_zero_iff hx hy).mpr (by omega)]; rfl

variable (hg : g < 4)
variable (kb : Vec Ideal S512x256 .bf16) (vb : Vec Ideal S512x128 .bf16)

include hg in
theorem pay36_at (hj : 512 * (2 * g) + 512 ≤ 4096) (hk : ∀ a d, kb (ix2 a d) = k (ix2 (key (2 * g) hj a) d)) (a c : Fin 512) :
    k0_pay36 (F := Ideal) (BitVec.ofNat 32 g) q l (Scalar.muli (BitVec.ofNat 32 g) 2#32) kb (ix2 a c) = pr g q k l (key (2 * g) hj a) (lo c) := by
  pointwise [k0_pay36, pr, sc]
  rw [mask_at (512 * (2 * g) + a.val) (1024 * g + c.val) (by omega) (by omega) _ _
    (by simp only [Scalar.muli, Scalar.addi, WordCmp.addi_ofNat, WordCmp.muli_ofNat]; congr 1; omega) (by simp only [Scalar.muli, Scalar.addi, WordCmp.addi_ofNat, WordCmp.muli_ofNat]; congr 1; omega)]
  simp only [hk]
  rfl

include hg in
theorem pay45_at (hj : 512 * (2 * g + 1) + 512 ≤ 4096) (hk : ∀ a d, kb (ix2 a d) = k (ix2 (key (2 * g + 1) hj a) d)) (a c : Fin 512) :
    k0_pay45 (F := Ideal) (BitVec.ofNat 32 g) q l (Scalar.addi (Scalar.muli (BitVec.ofNat 32 g) 2#32) 1#32) kb (ix2 a c) = pr g q k l (key (2 * g + 1) hj a) (hi c) := by
  pointwise [k0_pay45, pr, sc]
  rw [mask_at (512 * (2 * g + 1) + a.val) (1024 * g + (512 + c.val)) (by omega) (by omega) _ _
    (by simp only [Scalar.muli, Scalar.addi, WordCmp.addi_ofNat, WordCmp.muli_ofNat]; congr 1; omega) (by simp only [Scalar.muli, Scalar.addi, WordCmp.addi_ofNat, WordCmp.muli_ofNat]; congr 1; omega)]
  simp only [hk]
  rfl

include hg in
theorem pay37_at (hj : 512 * (2 * g) + 512 ≤ 4096) (hk : ∀ a d, kb (ix2 a d) = k (ix2 (key (2 * g) hj a) d)) (a c : Fin 512) :
    k0_pay37 (F := Ideal) q l kb (ix2 a c) = pr g q k l (key (2 * g) hj a) (hi c) := by
  rw [pr_full g q k l _ _ (by show 512 * (2 * g) + a.val ≤ 1024 * g + (512 + c.val); omega)]
  pointwise [k0_pay37, sc]
  simp only [hk, hi]

variable (j : ℕ) (hj : 512 * j + 512 ≤ 4096) (hv : ∀ a e, vb (ix2 a e) = v (ix2 (key j hj a) e))

include hv in
theorem pay38_at (a c : Fin 512) : k0_pay38 (F := Ideal) dO dl vb (ix2 a c) = dp v dO (key j hj a) (lo c) - dl (ix2 0 (lo c)) := by
  pointwise [k0_pay38, dp]
  simp only [hv, lo]

include hv in
theorem pay35_at (a c : Fin 512) : k0_pay35 (F := Ideal) dO vb (ix2 a c) = dp v dO (key j hj a) (hi c) := by
  pointwise [k0_pay35, dp]
  simp only [hv, hi]

include hg in
theorem pay46_at (hj : 512 * (2 * g + 1) + 512 ≤ 4096) (hk : ∀ a d, kb (ix2 a d) = k (ix2 (key (2 * g + 1) hj a) d))
    (hv : ∀ a e, vb (ix2 a e) = v (ix2 (key (2 * g + 1) hj a) e)) (a c : Fin 512) :
    k0_pay46 (F := Ideal) (BitVec.ofNat 32 g) dO q l dl (Scalar.addi (Scalar.muli (BitVec.ofNat 32 g) 2#32) 1#32) kb vb (ix2 a c) =
      ds g q k v dO l dl (key (2 * g + 1) hj a) (hi c) := by
  unfold ds
  rw [← pay45_at g q k l hg kb hj hk]
  pointwise [k0_pay46, dp]
  simp only [hv, hi]

include hg in
theorem pay47_at (hj : 512 * (2 * g + 1) + 512 ≤ 4096) (hk : ∀ a d, kb (ix2 a d) = k (ix2 (key (2 * g + 1) hj a) d)) (a c : Fin 512) :
    k0_pay47 (F := Ideal) (BitVec.ofNat 32 g) q l (Scalar.addi (Scalar.muli (BitVec.ofNat 32 g) 2#32) 1#32) kb (ix2 a c) =
      pr g q k l (key (2 * g + 1) hj a) (hi c) := by
  rw [← pay45_at g q k l hg kb hj hk]
  pointwise [k0_pay47]

include hg in
theorem pay48_at (ktb x : Vec Ideal S256x512 .bf16) (hj : 512 * (2 * g + 1) + 512 ≤ 4096) (hk : ∀ a d, kb (ix2 a d) = k (ix2 (key (2 * g + 1) hj a) d))
    (hv : ∀ a e, vb (ix2 a e) = v (ix2 (key (2 * g + 1) hj a) e)) (hkt : ∀ d a, ktb (ix2 d a) = kt (ix2 d (key (2 * g + 1) hj a)))
    (x : Vec Ideal S256x512 .f32) (d : Fin 256) (c : Fin 512) :
    k0_pay48 (F := Ideal) (BitVec.ofNat 32 g) dO q l dl (Scalar.addi (Scalar.muli (BitVec.ofNat 32 g) 2#32) 1#32) kb vb ktb x (ix2 d c) =
      x (ix2 d c) + gq g q k kt v dO l dl (2 * g + 1) hj d (hi c) := by
  simp only [gq, ← pay46_at g q k v dO l dl hg kb vb hj hk hv]
  pointwise [k0_pay48]
  simp only [hkt]

end Diag

theorem pay26_at (x : Vec Ideal S1x1x1024 .f32) (r : Fin 1024) : k0_pay26 (F := Ideal) x (ix2 0 r) = x (ix3 0 0 r) := by
  pointwise [k0_pay26]

theorem pay27_at (o : Vec Ideal S1024x128 .f32) (r : Fin 1024) :
    k0_pay27 (F := Ideal) dO o (ix2 0 r) =
      ∑ e : Fin 128, (o (ix2 r e) : EReal) * dO (ix2 r e) + ∑ e : Fin 128, ((o (ix2 r e) : EReal) * dO (ix2 r e) - o (ix2 r e) * dO (ix2 r e)) := by
  pointwise [k0_pay27]
  have h : ∀ x : EReal, (1 - 1) * x = 0 := fun x => by rw [show (1 : EReal) - 1 = 0 from EReal.sub_self (by decide) (by decide), zero_mul]
  simp only [h, Finset.sum_const_zero, add_zero]

theorem pay3_at (x : Vec Ideal S256x1024 .f32) (r : Fin 1024) (d : Fin 256) : k0_pay3 (F := Ideal) x (ix2 r d) = x (ix2 d r) := by
  pointwise [k0_pay3]

theorem pay4_at (x : Vec Ideal S4096x128 .f32) (y : S4096x128.Idx) : k0_pay4 (F := Ideal) x y = x y := by
  pointwise [k0_pay4]

theorem pay23_at (y : S4096x256.Idx) : k0_pay23 (F := Ideal) y = 0 := by
  pointwise [k0_pay23]

theorem pay24_at (y : S4096x128.Idx) : k0_pay24 (F := Ideal) y = 0 := by
  pointwise [k0_pay24]

theorem pay25_at (y : S256x1024.Idx) : k0_pay25 (F := Ideal) y = 0 := by
  pointwise [k0_pay25]

end Cert.KernelIdeal.Attn

end
-- ==== Proof.Attn.Loop.lean ====
/- The attention backward's loop over the key blocks below the group: what it adds to the gradients of q, k and v. -/
module

public import proofs.«01_k».proof.Proof.Attn.Tile
public import Idealize.ShloMosaic.Lib.WritesUnit
public import Idealize.ShloMosaic.Lib.Writes

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- A store into a rectangle of what was read there plus `G`, where `G` vanishes outside the rectangle, adds `G` everywhere. -/
theorem acc_unit {κ : Kind} {sp : Space} {n0 n1 m0 m1 : ℕ} (v : View sig κ sp ⟨2, ![n0, n1]⟩ .f32) (f : v.ty.Contents (Elt Ideal))
    (L : List (View.Piece (Elt Ideal) ⟨2, ![n0, n1]⟩ .f32)) {off : Fin 2 → ℕ} (o0 o1 : ℕ) (heq : off = ![o0, o1])
    (G : Shape.Idx ⟨2, ![n0, n1]⟩ → EReal)
    (inb : ∀ a : Fin 2, off a + (![m0, m1] : Fin 2 → ℕ) a ≤ (![n0, n1] : Fin 2 → ℕ) a)
    (w : Shape.Idx ⟨2, ![m0, m1]⟩ → Elt Ideal .f32)
    (hin : ∀ (a : Fin m0) (b : Fin m1) (h0 : o0 + a.val < n0) (h1 : o1 + b.val < n1),
      w (ix2 a b) = (v.read (Elt Ideal) (v.writes (Elt Ideal) f L) (ix2 ⟨o0 + a.val, h0⟩ ⟨o1 + b.val, h1⟩) + G (ix2 ⟨o0 + a.val, h0⟩ ⟨o1 + b.val, h1⟩) : EReal))
    (hout : ∀ (a : Fin n0) (b : Fin n1), (a.val < o0 ∨ o0 + m0 ≤ a.val) ∨ (b.val < o1 ∨ o1 + m1 ≤ b.val) → G (ix2 a b) = 0) (y : Shape.Idx ⟨2, ![n0, n1]⟩) :
    v.read (Elt Ideal) (v.writes (Elt Ideal) f ((⟨Rect.unit (s := ⟨2, ![n0, n1]⟩) off ![m0, m1] inb, w⟩ : View.Piece (Elt Ideal) ⟨2, ![n0, n1]⟩ .f32) :: L)) y
      = (v.read (Elt Ideal) (v.writes (Elt Ideal) f L) y + G y : EReal) := by
  subst heq
  rw [View.read_writes_cons_unit v f inb w L y rfl]
  by_cases h : ∀ a : Fin 2, (![o0, o1] : Fin 2 → ℕ) a ≤ (y a).val ∧ (y a).val < (![o0, o1] : Fin 2 → ℕ) a + (![m0, m1] : Fin 2 → ℕ) a
  · rw [dif_pos h]
    have b0 : o0 ≤ (y 0).val ∧ (y 0).val < o0 + m0 := h 0
    have b1 : o1 ≤ (y 1).val ∧ (y 1).val < o1 + m1 := h 1
    have e0 : (y 0).val < n0 := (y 0).isLt
    have e1 : (y 1).val < n1 := (y 1).isLt
    have hh := hin ⟨(y 0).val - o0, by omega⟩ ⟨(y 1).val - o1, by omega⟩ (by show o0 + ((y 0).val - o0) < n0; omega) (by show o1 + ((y 1).val - o1) < n1; omega)
    have ey : ix2 (n0 := n0) (n1 := n1) ⟨o0 + ((y 0).val - o0), by omega⟩ ⟨o1 + ((y 1).val - o1), by omega⟩ = y := by
      refine Eq.trans ?_ (eq_ix2 y).symm
      exact congrArg₂ ix2 (Fin.ext (by show o0 + ((y 0).val - o0) = (y 0).val; omega)) (Fin.ext (by show o1 + ((y 1).val - o1) = (y 1).val; omega))
    rw [ey] at hh
    refine Eq.trans ?_ hh
    congr 1
    funext x
    match x with
    | ⟨0, _⟩ => rfl
    | ⟨1, _⟩ => rfl
  · rw [dif_neg h]
    have hz : G y = 0 := by
      rw [eq_ix2 y]
      refine hout _ _ ?_
      by_contra hc
      have e0 : ¬((y 0).val < o0 ∨ o0 + m0 ≤ (y 0).val) := fun h => hc (Or.inl h)
      have e1 : ¬((y 1).val < o1 ∨ o1 + m1 ≤ (y 1).val) := fun h => hc (Or.inr h)
      exact h (Fin.forall_fin_two.mpr ⟨show o0 ≤ (y 0).val ∧ (y 0).val < o0 + m0 from by omega, show o1 ≤ (y 1).val ∧ (y 1).val < o1 + m1 from by omega⟩)
    rw [hz]
    exact (add_zero (M := EReal) _).symm

/-- A read of a rectangle of a rank-2 view, at an index. -/
theorem readAt2 {κ : Kind} {sp : Space} {n0 n1 m0 m1 : ℕ} {e : EltTy} (v : View sig κ sp ⟨2, ![n0, n1]⟩ e) (f : v.ty.Contents (Elt Ideal))
    {off : Fin 2 → ℕ} (o0 o1 : ℕ) (heq : off = ![o0, o1])
    (inb : ∀ a : Fin 2, off a + (![m0, m1] : Fin 2 → ℕ) a ≤ (![n0, n1] : Fin 2 → ℕ) a) (a : Fin m0) (b : Fin m1) (h0 : o0 + a.val < n0) (h1 : o1 + b.val < n1) :
    v.readAt (Elt Ideal) (Rect.unit (s := ⟨2, ![n0, n1]⟩) off ![m0, m1] inb).toLoadRect f (ix2 a b) =
      v.read (Elt Ideal) f (ix2 ⟨o0 + a.val, h0⟩ ⟨o1 + b.val, h1⟩) := by
  subst heq
  rw [View.readAt_unit v f inb rfl inb]
  show v.read (Elt Ideal) f ((Rect.unit (s := ⟨2, ![n0, n1]⟩) ![o0, o1] ![m0, m1] inb).emb (ix2 a b)) = _
  congr 1
  funext x
  apply Fin.ext
  show (![o0, o1] : Fin 2 → ℕ) x + 1 * (ix2 a b x).val = _
  match x with
  | ⟨0, _⟩ => show o0 + 1 * a.val = o0 + a.val; omega
  | ⟨1, _⟩ => show o1 + 1 * b.val = o1 + b.val; omega

theorem trips_eq : ∀ i : grid0.Coords, (k0_t1_loop i).trips = 2 * (i 1).val := by decide +kernel

theorem trips2_eq : ∀ i : grid0.Coords, (k0_t2_loop i).trips = 0 := by decide +kernel

section Sums

variable (g : ℕ) (q : Vec Ideal S1024x256 .bf16) (k : Vec Ideal S4096x256 .bf16) (kt : Vec Ideal S256x4096 .bf16)
  (v : Vec Ideal S4096x128 .bf16) (dO : Vec Ideal S1024x128 .bf16) (l dl : FVec Ideal S1x1024 .f32)

/-- What one key adds to the gradient of query `r`, column `d`. -/
def tq (κ : Fin 4096) (d : Fin 256) (r : Fin 1024) : EReal := (kt (ix2 d κ) : EReal) * ds g q k v dO l dl κ r

theorem gq_eq (j : ℕ) (hj : 512 * j + 512 ≤ 4096) (d : Fin 256) (r : Fin 1024) :
    gq g q k kt v dO l dl j hj d r = ∑ κ : Fin 4096, if 512 * j ≤ κ.val ∧ κ.val < 512 * j + 512 then tq g q k kt v dO l dl κ d r else 0 := by
  rw [← Finset.sum_filter, gq]
  refine Finset.sum_nbij' (fun a => key j hj a) (fun κ => ⟨(κ.val - 512 * j) % 512, Nat.mod_lt _ (by decide)⟩) ?_ ?_ ?_ ?_ ?_
  · intro a _
    rw [Finset.mem_filter]
    exact ⟨Finset.mem_univ _, by show _ ≤ 512 * j + a.val ∧ 512 * j + a.val < _; omega⟩
  · intro κ _; exact Finset.mem_univ _
  · intro a _
    apply Fin.ext
    show (512 * j + a.val - 512 * j) % 512 = a.val
    omega
  · intro κ h
    rw [Finset.mem_filter] at h
    apply Fin.ext
    show 512 * j + (κ.val - 512 * j) % 512 = κ.val
    omega
  · intro a _; rfl

end Sums

section Loop

variable (𝒱 : Variants) (c : Dev nD) (bd : Option 𝒱.V) (i : grid0.Coords)
  (arg2 : Memref sig .tc .vmem S1024x256 .bf16) (harg2 : arg2.IsWhole)
  (arg3 : Memref sig .tc .vmem S4096x256 .bf16) (harg3 : arg3.IsWhole)
  (arg4 : Memref sig .tc .vmem S256x4096 .bf16) (harg4 : arg4.IsWhole)
  (arg5 : Memref sig .tc .vmem S4096x128 .bf16) (harg5 : arg5.IsWhole)
  (arg6 : Memref sig .tc .vmem S1024x128 .f32) (harg6 : arg6.IsWhole)
  (arg7 : Memref sig .tc .vmem S1024x128 .bf16) (harg7 : arg7.IsWhole)
  (arg8 : Memref sig .tc .vmem S1x1x1024 .f32) (harg8 : arg8.IsWhole)
  (arg9 : Memref sig .tc .vmem S1024x256 .f32) (harg9 : arg9.IsWhole)
  (arg10 : Memref sig .tc .vmem S4096x256 .f32) (harg10 : arg10.IsWhole)
  (arg11 : Memref sig .tc .vmem S4096x128 .bf16) (harg11 : arg11.IsWhole)
  (arg12 : Memref sig .tc .vmem S256x1024 .f32) (harg12 : arg12.IsWhole)
  (arg13 : Memref sig .tc .vmem S4096x128 .f32) (harg13 : arg13.IsWhole)
  (arg1 : BitVec 32) (v7 : Vec Ideal S1024x128 .bf16) (v8 : Vec Ideal S1024x256 .bf16) (v10 v29 : FVec Ideal S1x1024 .f32)
  (v30 c0_i32_16 c1_i32 v33 : BitVec 32) (X_arg3 : BufTy.Contents (Elt Ideal) arg3.view.ty) (X_arg4 : BufTy.Contents (Elt Ideal) arg4.view.ty)
  (X_arg5 : BufTy.Contents (Elt Ideal) arg5.view.ty)
  (G10 : BufTy.Contents (Elt Ideal) arg10.view.ty) (G12 : BufTy.Contents (Elt Ideal) arg12.view.ty) (G13 : BufTy.Contents (Elt Ideal) arg13.view.ty)

set_option backward.isDefEq.respectTransparency false in
theorem trip10 (k : Fin (k0_t1_loop i).trips) (y : S4096x256.Idx) :
    arg10.view.read (Elt Ideal) (arg10.view.writes (Elt Ideal) G10 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v7 v8 v10 v29 v30 c0_i32_16 c1_i32 v33 X_arg3 X_arg4 X_arg5 k G10 G12 G13).1) y =
      (arg10.view.read (Elt Ideal) G10 y + (if 512 * k.val ≤ (y 0).val ∧ (y 0).val < 512 * k.val + 512 then
        gk (i 1).val v8 (arg3.view.read (Elt Ideal) X_arg3) (arg5.view.read (Elt Ideal) X_arg5) v7 v10 v29 (y 0) (y 1) else 0) : EReal) := by
  have hk : k.val < 2 * (i 1).val := lt_of_lt_of_eq k.isLt (trips_eq i)
  have hg : (i 1).val < 4 := (i 1).isLt
  unfold tripL_k0_t1 trip_k0_t1
  dsimp only
  refine (acc_unit arg10.view G10 [] (512 * k.val) 0 (k0_off1_eq i k) (fun y => if 512 * k.val ≤ (y 0).val ∧ (y 0).val < 512 * k.val + 512 then
        gk (i 1).val v8 (arg3.view.read (Elt Ideal) X_arg3) (arg5.view.read (Elt Ideal) X_arg5) v7 v10 v29 (y 0) (y 1) else 0) _ _ ?_ ?_ y)
  · intro a b h0 h1
    refine (pay29_at (i 1).val v8 (arg3.view.read (Elt Ideal) X_arg3) (arg5.view.read (Elt Ideal) X_arg5) v7 v10 v29 k.val (by omega) _ _ ?_ ?_ _ a b).trans ?_
    · exact pay8_at _ _ _ _ _ _ _ _ _ _ _ (fun a d => (readAt2 arg3.view X_arg3 _ _ (k0_off1_eq i k) _ a d (by omega) (by omega)).trans (by simp [key]))
        (fun a e => (readAt2 arg5.view X_arg5 _ _ (k0_off2_eq i k) _ a e (by omega) (by omega)).trans (by simp [key])) (by omega)
    · exact pay9_at _ _ _ _ _ _ _ _ _ _ _ (fun a d => (readAt2 arg3.view X_arg3 _ _ (k0_off1_eq i k) _ a d (by omega) (by omega)).trans (by simp [key]))
        (fun a e => (readAt2 arg5.view X_arg5 _ _ (k0_off2_eq i k) _ a e (by omega) (by omega)).trans (by simp [key])) (by omega)
    · refine congrArg₂ (fun x y : EReal => x + y) (readAt2 arg10.view G10 _ _ (k0_off1_eq i k) _ a b h0 h1) ?_
      dsimp only
      rw [if_pos (by simp only [ix2_0]; omega)]
      simp [key]
  · intro a b h
    dsimp only
    rw [if_neg (by simp only [ix2_0]; omega)]

set_option backward.isDefEq.respectTransparency false in
theorem trip13 (k : Fin (k0_t1_loop i).trips) (y : S4096x128.Idx) :
    arg13.view.read (Elt Ideal) (arg13.view.writes (Elt Ideal) G13 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v7 v8 v10 v29 v30 c0_i32_16 c1_i32 v33 X_arg3 X_arg4 X_arg5 k G10 G12 G13).2.2) y =
      (arg13.view.read (Elt Ideal) G13 y + (if 512 * k.val ≤ (y 0).val ∧ (y 0).val < 512 * k.val + 512 then
        gv (i 1).val v8 (arg3.view.read (Elt Ideal) X_arg3) v7 v10 (y 0) (y 1) else 0) : EReal) := by
  have hk : k.val < 2 * (i 1).val := lt_of_lt_of_eq k.isLt (trips_eq i)
  have hg : (i 1).val < 4 := (i 1).isLt
  unfold tripL_k0_t1 trip_k0_t1
  dsimp only
  refine (acc_unit arg13.view G13 [] (512 * k.val) 0 (k0_off2_eq i k) (fun y => if 512 * k.val ≤ (y 0).val ∧ (y 0).val < 512 * k.val + 512 then
        gv (i 1).val v8 (arg3.view.read (Elt Ideal) X_arg3) v7 v10 (y 0) (y 1) else 0) _ _ ?_ ?_ y)
  · intro a b h0 h1
    refine (pay30_at (i 1).val v8 (arg3.view.read (Elt Ideal) X_arg3) v7 v10 k.val (by omega) _ _ ?_ ?_ _ a b).trans ?_
    · exact pay10_at _ _ _ _ _ _ _ (fun a d => (readAt2 arg3.view X_arg3 _ _ (k0_off1_eq i k) _ a d (by omega) (by omega)).trans (by simp [key])) (by omega)
    · exact pay11_at _ _ _ _ _ _ _ (fun a d => (readAt2 arg3.view X_arg3 _ _ (k0_off1_eq i k) _ a d (by omega) (by omega)).trans (by simp [key])) (by omega)
    · refine congrArg₂ (fun x y : EReal => x + y) (readAt2 arg13.view G13 _ _ (k0_off2_eq i k) _ a b h0 h1) ?_
      dsimp only
      rw [if_pos (by simp only [ix2_0]; omega)]
      simp [key]
  · intro a b h
    dsimp only
    rw [if_neg (by simp only [ix2_0]; omega)]

/-- The columns of one half of the group, read at an index of the half. -/
theorem half_lo (f : Fin 1024 → EReal) (c : Fin 512) (h : 0 + c.val < 1024) : (if (⟨0 + c.val, h⟩ : Fin 1024).val < 512 then f ⟨0 + c.val, h⟩ else 0) = f (lo c) := by
  rw [if_pos (by show 0 + c.val < 512; omega)]
  exact congrArg f (Fin.ext (Nat.zero_add _))

set_option backward.isDefEq.respectTransparency false in
theorem trip12 (k : Fin (k0_t1_loop i).trips) (hj : 512 * k.val + 512 ≤ 4096) (a : Fin 256) (b : Fin 1024) :
    arg12.view.read (Elt Ideal) (arg12.view.writes (Elt Ideal) G12 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v7 v8 v10 v29 v30 c0_i32_16 c1_i32 v33 X_arg3 X_arg4 X_arg5 k G10 G12 G13).2.1) (ix2 a b) =
      (arg12.view.read (Elt Ideal) G12 (ix2 a b) + gq (i 1).val v8 (arg3.view.read (Elt Ideal) X_arg3) (arg4.view.read (Elt Ideal) X_arg4) (arg5.view.read (Elt Ideal) X_arg5) v7 v10 v29 k.val hj a b : EReal) := by
  have hk : k.val < 2 * (i 1).val := lt_of_lt_of_eq k.isLt (trips_eq i)
  have hg : (i 1).val < 4 := (i 1).isLt
  unfold tripL_k0_t1 trip_k0_t1
  dsimp only
  refine (acc_unit (n0 := 256) (n1 := 1024) arg12.view G12 _ 0 512 rfl (fun y => if 512 ≤ (y 1).val then
        gq (i 1).val v8 (arg3.view.read (Elt Ideal) X_arg3) (arg4.view.read (Elt Ideal) X_arg4) (arg5.view.read (Elt Ideal) X_arg5) v7 v10 v29 k.val hj (y 0) (y 1) else 0) _ _ ?_ ?_ (ix2 a b)).trans ?_
  · intro a b h0 h1
    refine (pay28_at _ _ a b).trans ?_
    unfold trip_k0_t1.sl.v224
    refine congrArg₂ (fun x y : EReal => x + y) ((readAt2 arg12.view G12 0 512 rfl _ a b h0 h1).trans
      (View.read_writes_cons_unit_of_not_mem (s := S256x1024) (off' := ![0, 0]) (size := ![256, 512]) arg12.view G12 _ _ [] (ix2 ⟨0 + a.val, h0⟩ ⟨512 + b.val, h1⟩) rfl (1 : Fin 2) (Or.inr (show 0 + 512 ≤ 512 + b.val by omega))).symm) ?_
    dsimp only
    rw [if_pos (by simp only [ix2_1]; omega)]
    refine (pay12_at (i 1).val v8 (arg3.view.read (Elt Ideal) X_arg3) (arg4.view.read (Elt Ideal) X_arg4) (arg5.view.read (Elt Ideal) X_arg5) v7 v10 v29 k.val hj _ _ _ ?_ ?_ ?_ (by omega) a b).trans ?_
    · exact (fun d a => (readAt2 arg4.view X_arg4 _ _ (k0_off3_eq i k) _ d a (by omega) (by omega)).trans (by simp [key]))
    · exact (fun a d => (readAt2 arg3.view X_arg3 _ _ (k0_off1_eq i k) _ a d (by omega) (by omega)).trans (by simp [key]))
    · exact (fun a e => (readAt2 arg5.view X_arg5 _ _ (k0_off2_eq i k) _ a e (by omega) (by omega)).trans (by simp [key]))
    · simp [hi]
  · intro a b h
    dsimp only
    have hb : b.val < 1024 := b.isLt
    rw [if_neg (by simp only [ix2_1]; omega)]
  · refine (congrArg (fun x : EReal => x + _) (acc_unit (n0 := 256) (n1 := 1024) arg12.view G12 [] 0 0 rfl (fun y => if (y 1).val < 512 then
        gq (i 1).val v8 (arg3.view.read (Elt Ideal) X_arg3) (arg4.view.read (Elt Ideal) X_arg4) (arg5.view.read (Elt Ideal) X_arg5) v7 v10 v29 k.val hj (y 0) (y 1) else 0) _ _ ?_ ?_ (ix2 a b))).trans ?_
    · intro a b h0 h1
      refine (pay13_at (i 1).val v8 (arg3.view.read (Elt Ideal) X_arg3) (arg4.view.read (Elt Ideal) X_arg4) (arg5.view.read (Elt Ideal) X_arg5) v7 v10 v29 k.val hj _ _ _ ?_ ?_ ?_ (by omega) _ a b).trans ?_
      · exact (fun d a => (readAt2 arg4.view X_arg4 _ _ (k0_off3_eq i k) _ d a (by omega) (by omega)).trans (by simp [key]))
      · exact (fun a d => (readAt2 arg3.view X_arg3 _ _ (k0_off1_eq i k) _ a d (by omega) (by omega)).trans (by simp [key]))
      · exact (fun a e => (readAt2 arg5.view X_arg5 _ _ (k0_off2_eq i k) _ a e (by omega) (by omega)).trans (by simp [key]))
      · refine congrArg₂ (fun x y : EReal => x + y) (readAt2 arg12.view G12 0 0 rfl _ a b h0 h1) ?_
        dsimp only
        rw [if_pos (by simp only [ix2_1]; omega)]
        simp [lo]
    · intro a b h
      dsimp only
      rw [if_neg (by simp only [ix2_1]; omega)]
    · dsimp only
      rw [View.writes_nil, add_assoc]
      congr 1
      simp only [ix2_0, ix2_1]
      by_cases h : b.val < 512
      · rw [if_pos h, if_neg (by omega), add_zero]
      · rw [if_neg h, if_pos (by omega), zero_add]

/-- The gradient of k after the trips below `n`. -/
theorem loop10 (n : ℕ) (hn : n ≤ (k0_t1_loop i).trips) (y : S4096x256.Idx) :
    arg10.view.read (Elt Ideal) (arg10.view.writes (Elt Ideal) G10 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v7 v8 v10 v29 v30 c0_i32_16 c1_i32 v33 X_arg3 X_arg4 X_arg5 G10 G12 G13 n).1) y =
      (arg10.view.read (Elt Ideal) G10 y + (if (y 0).val < 512 * n then
        gk (i 1).val v8 (arg3.view.read (Elt Ideal) X_arg3) (arg5.view.read (Elt Ideal) X_arg5) v7 v10 v29 (y 0) (y 1) else 0) : EReal) := by
  induction n with
  | zero => rw [if_neg (by omega), add_zero]; rfl
  | succ n ih =>
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg1 v7 v8 v10 v29 v30 c0_i32_16 c1_i32 v33 X_arg3 X_arg4 X_arg5 G10 G12 G13 ⟨n, hn⟩]
    dsimp only
    rw [View.writes_append, trip10, ih (by omega), add_assoc]
    congr 1
    dsimp only
    by_cases h : (y 0).val < 512 * n
    · rw [if_pos h, if_neg (by omega), if_pos (by omega), add_zero]
    · by_cases h' : (y 0).val < 512 * (n + 1)
      · rw [if_neg h, if_pos (by omega), if_pos h', zero_add]
      · rw [if_neg h, if_neg (by omega), if_neg h', zero_add]

/-- The gradient of v after the trips below `n`. -/
theorem loop13 (n : ℕ) (hn : n ≤ (k0_t1_loop i).trips) (y : S4096x128.Idx) :
    arg13.view.read (Elt Ideal) (arg13.view.writes (Elt Ideal) G13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v7 v8 v10 v29 v30 c0_i32_16 c1_i32 v33 X_arg3 X_arg4 X_arg5 G10 G12 G13 n).2.2) y =
      (arg13.view.read (Elt Ideal) G13 y + (if (y 0).val < 512 * n then
        gv (i 1).val v8 (arg3.view.read (Elt Ideal) X_arg3) v7 v10 (y 0) (y 1) else 0) : EReal) := by
  induction n with
  | zero => rw [if_neg (by omega), add_zero]; rfl
  | succ n ih =>
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg1 v7 v8 v10 v29 v30 c0_i32_16 c1_i32 v33 X_arg3 X_arg4 X_arg5 G10 G12 G13 ⟨n, hn⟩]
    dsimp only
    rw [View.writes_append, trip13, ih (by omega), add_assoc]
    congr 1
    dsimp only
    by_cases h : (y 0).val < 512 * n
    · rw [if_pos h, if_neg (by omega), if_pos (by omega), add_zero]
    · by_cases h' : (y 0).val < 512 * (n + 1)
      · rw [if_neg h, if_pos (by omega), if_pos h', zero_add]
      · rw [if_neg h, if_neg (by omega), if_neg h', zero_add]

/-- The gradient of q after the trips below `n`. -/
theorem loop12 (n : ℕ) (hn : n ≤ (k0_t1_loop i).trips) (a : Fin 256) (b : Fin 1024) :
    arg12.view.read (Elt Ideal) (arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v7 v8 v10 v29 v30 c0_i32_16 c1_i32 v33 X_arg3 X_arg4 X_arg5 G10 G12 G13 n).2.1) (ix2 a b) =
      (arg12.view.read (Elt Ideal) G12 (ix2 a b) + ∑ κ : Fin 4096, (if κ.val < 512 * n then
        tq (i 1).val v8 (arg3.view.read (Elt Ideal) X_arg3) (arg4.view.read (Elt Ideal) X_arg4) (arg5.view.read (Elt Ideal) X_arg5) v7 v10 v29 κ a b else 0) : EReal) := by
  induction n with
  | zero =>
    rw [Finset.sum_eq_zero (fun κ _ => if_neg (by omega)), add_zero]; rfl
  | succ n ih =>
    have hg : (i 1).val < 4 := (i 1).isLt
    have ht := trips_eq i
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg1 v7 v8 v10 v29 v30 c0_i32_16 c1_i32 v33 X_arg3 X_arg4 X_arg5 G10 G12 G13 ⟨n, hn⟩]
    dsimp only
    rw [View.writes_append, trip12 (hj := by dsimp only; omega), ih (by omega), add_assoc, gq_eq, ← Finset.sum_add_distrib]
    congr 1
    refine Finset.sum_congr rfl fun κ _ => ?_
    dsimp only
    by_cases h : κ.val < 512 * n
    · rw [if_pos h, if_neg (by omega), if_pos (by omega), add_zero]
    · by_cases h' : κ.val < 512 * (n + 1)
      · rw [if_neg h, if_pos (by omega), if_pos h', zero_add]
      · rw [if_neg h, if_neg (by omega), if_neg h', zero_add]

end Loop

end Cert.KernelIdeal.Attn

end
-- ==== Proof.Attn.Tail.lean ====
/- The attention backward's two steps on the diagonal, after the loop: what the whole body adds to the gradients of q, k and v. -/
module

public import proofs.«01_k».proof.Proof.Attn.Loop

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

section Tail

variable (i : grid0.Coords) (q : Vec Ideal S1024x256 .bf16) (k : Vec Ideal S4096x256 .bf16) (kt : Vec Ideal S256x4096 .bf16)
  (v : Vec Ideal S4096x128 .bf16) (dO : Vec Ideal S1024x128 .bf16) (l dl : FVec Ideal S1x1024 .f32)

theorem diag0 (i : grid0.Coords) : 512 * (2 * (i 1).val) + 512 ≤ 4096 := by have : (i 1).val < 4 := (i 1).isLt; omega
theorem diag1 (i : grid0.Coords) : 512 * (2 * (i 1).val + 1) + 512 ≤ 4096 := by have : (i 1).val < 4 := (i 1).isLt; omega

theorem off70 (i : grid0.Coords) : k0_off7 i 0#32 = ![512 * (2 * (i 1).val), 0] := (k0_off7_eq i 0).trans (by congr 1; simp; omega)
theorem off71 (i : grid0.Coords) : k0_off7 i 1#32 = ![512 * (2 * (i 1).val + 1), 0] := (k0_off7_eq i 1).trans (by congr 1; simp; omega)
theorem off80 (i : grid0.Coords) : k0_off8 i 0#32 = ![512 * (2 * (i 1).val), 0] := (k0_off8_eq i 0).trans (by congr 1; simp; omega)
theorem off81 (i : grid0.Coords) : k0_off8 i 1#32 = ![512 * (2 * (i 1).val + 1), 0] := (k0_off8_eq i 1).trans (by congr 1; simp; omega)
theorem off90 (i : grid0.Coords) : k0_off9 i 0#32 = ![0, 512 * (2 * (i 1).val)] := (k0_off9_eq i 0).trans (by congr 2; simp; omega)
theorem off91 (i : grid0.Coords) : k0_off9 i 1#32 = ![0, 512 * (2 * (i 1).val + 1)] := (k0_off9_eq i 1).trans (by congr 2; simp; omega)

variable (P0 P1 U0 U1 : FVec Ideal S512x512 .f32) (s1 p1 : FVec Ideal S512x512 .bf16)
  (hP0 : ∀ a c, P0 (ix2 a c) = pr (i 1).val q k l (key (2 * (i 1).val) (diag0 i) a) (lo c))
  (hP1 : ∀ a c, P1 (ix2 a c) = pr (i 1).val q k l (key (2 * (i 1).val) (diag0 i) a) (hi c))
  (hU0 : ∀ a c, U0 (ix2 a c) = dp v dO (key (2 * (i 1).val) (diag0 i) a) (lo c) - dl (ix2 0 (lo c)))
  (hU1 : ∀ a c, U1 (ix2 a c) = dp v dO (key (2 * (i 1).val) (diag0 i) a) (hi c))
  (hs1 : ∀ a c, s1 (ix2 a c) = ds (i 1).val q k v dO l dl (key (2 * (i 1).val + 1) (diag1 i) a) (hi c))
  (hp1 : ∀ a c, p1 (ix2 a c) = pr (i 1).val q k l (key (2 * (i 1).val + 1) (diag1 i) a) (hi c))

theorem gk_zero (g : ℕ) (κ : Fin 4096) (d : Fin 256) (h : 1024 * g + 1023 < κ.val) : gk g q k v dO l dl κ d = 0 := by
  rw [gk, Finset.sum_eq_zero]
  intro r _
  rw [ds_zero _ _ _ _ _ _ _ _ _ (by omega), zero_mul]

theorem gv_zero (g : ℕ) (κ : Fin 4096) (e : Fin 128) (h : 1024 * g + 1023 < κ.val) : gv g q k dO l κ e = 0 := by
  rw [gv, Finset.sum_eq_zero]
  intro r _
  rw [pr_zero _ _ _ _ _ _ (by omega), zero_mul]

theorem tq_zero (g : ℕ) (κ : Fin 4096) (d : Fin 256) (r : Fin 1024) (h : 1024 * g + 1023 < κ.val) : tq g q k kt v dO l dl κ d r = 0 := by
  rw [tq, ds_zero _ _ _ _ _ _ _ _ _ (by omega), mul_zero]

/-- Two steps, the first of rows from `o`, the second of the next rows, complete a sum that holds the rows before `o`. -/
theorem steps_sum (o n : ℕ) (b G : EReal) (hz : o + 1024 ≤ n → G = 0) :
    b + (if n < o then G else 0) + (if o ≤ n ∧ n < o + 512 then G else 0) + (if o + 512 ≤ n ∧ n < o + 1024 then G else 0) = b + G := by
  rw [add_assoc, add_assoc]
  congr 1
  rcases lt_or_ge n o with h | h
  · rw [if_pos h, if_neg (by omega), if_neg (by omega), add_zero, add_zero]
  · rcases lt_or_ge n (o + 512) with h' | h'
    · rw [if_neg (by omega), if_pos ⟨h, h'⟩, if_neg (by omega), zero_add, add_zero]
    · rcases lt_or_ge n (o + 1024) with h'' | h''
      · rw [if_neg (by omega), if_neg (by omega), if_pos ⟨h', h''⟩, zero_add, zero_add]
      · rw [if_neg (by omega), if_neg (by omega), if_neg (by omega), hz h'', zero_add, zero_add]

variable {κ : Kind} {sp : Space}

include hP0 hP1 hU0 hU1 hs1 in
set_option backward.isDefEq.respectTransparency false in
theorem tail10 (w : View sig κ sp S4096x256 .f32) (f : w.ty.Contents (Elt Ideal)) (L : List (View.Piece (Elt Ideal) S4096x256 .f32))
    (inb0 inb0' : ∀ a, k0_off7 i 0#32 a + S512x256.size a ≤ S4096x256.size a) (inb1 inb1' : ∀ a, k0_off7 i 1#32 a + S512x256.size a ≤ S4096x256.size a)
    (b : Fin 4096 → Fin 256 → EReal)
    (hL : ∀ κ d, w.read (Elt Ideal) (w.writes (Elt Ideal) f L) (ix2 κ d) =
      (b κ d + (if κ.val < 512 * (2 * (i 1).val) then gk (i 1).val q k v dO l dl κ d else 0) : EReal)) (κ : Fin 4096) (d : Fin 256) :
    w.read (Elt Ideal) (w.writes (Elt Ideal) f
      (⟨Rect.unit (s := S4096x256) (k0_off7 i 1#32) S512x256.size inb1, k0_pay1 (F := Ideal) q s1 (w.readAt (Elt Ideal) (Rect.unit (s := S4096x256) (k0_off7 i 1#32) S512x256.size inb1').toLoadRect
        (w.writes (Elt Ideal) f (⟨Rect.unit (s := S4096x256) (k0_off7 i 0#32) S512x256.size inb0, k0_pay43 (F := Ideal) q dl U1 P0 P1 U0
            (w.readAt (Elt Ideal) (Rect.unit (s := S4096x256) (k0_off7 i 0#32) S512x256.size inb0').toLoadRect (w.writes (Elt Ideal) f L))⟩ :: L)))⟩ ::
       ⟨Rect.unit (s := S4096x256) (k0_off7 i 0#32) S512x256.size inb0, k0_pay43 (F := Ideal) q dl U1 P0 P1 U0
            (w.readAt (Elt Ideal) (Rect.unit (s := S4096x256) (k0_off7 i 0#32) S512x256.size inb0').toLoadRect (w.writes (Elt Ideal) f L))⟩ :: L)) (ix2 κ d) =
      (b κ d + gk (i 1).val q k v dO l dl κ d : EReal) := by
  have hg : (i 1).val < 4 := (i 1).isLt
  refine (acc_unit (n0 := 4096) (n1 := 256) w f _ (512 * (2 * (i 1).val + 1)) 0 (off71 i) (fun y => if 512 * (2 * (i 1).val + 1) ≤ (y 0).val ∧ (y 0).val < 512 * (2 * (i 1).val + 1) + 512 then
        gk (i 1).val q k v dO l dl (y 0) (y 1) else 0) _ _ ?_ ?_ (ix2 κ d)).trans ?_
  · intro a c h0 h1
    refine (pay1_at (i 1).val q k v dO l dl _ (diag1 i) s1 hs1 (by omega) _ a c).trans ?_
    refine congrArg₂ (fun x y : EReal => x + y) (readAt2 w _ _ _ (off71 i) _ a c h0 h1) ?_
    dsimp only
    rw [if_pos (by simp only [ix2_0]; omega)]
    simp [key]
  · intro a c h
    have hc : c.val < 256 := c.isLt
    dsimp only
    rw [if_neg (by simp only [ix2_0]; omega)]
  · refine (congrArg (fun x : EReal => x + _) ((acc_unit (n0 := 4096) (n1 := 256) w f L (512 * (2 * (i 1).val)) 0 (off70 i) (fun y => if 512 * (2 * (i 1).val) ≤ (y 0).val ∧ (y 0).val < 512 * (2 * (i 1).val) + 512 then
        gk (i 1).val q k v dO l dl (y 0) (y 1) else 0) _ _ ?_ ?_ (ix2 κ d)).trans (congrArg (fun x : EReal => x + _) (hL κ d)))).trans ?_
    · intro a c h0 h1
      refine (pay43_at (i 1).val q k v dO l dl _ (diag0 i) P0 P1 U0 U1 hP0 hP1 hU0 hU1 _ a c).trans ?_
      refine congrArg₂ (fun x y : EReal => x + y) (readAt2 w _ _ _ (off70 i) _ a c h0 h1) ?_
      dsimp only
      rw [if_pos (by simp only [ix2_0]; omega)]
      simp [key]
    · intro a c h
      have hc : c.val < 256 := c.isLt
      dsimp only
      rw [if_neg (by simp only [ix2_0]; omega)]
    · exact steps_sum _ _ _ _ fun h => gk_zero q k v dO l dl _ _ _ (by omega)

include hP0 hP1 hp1 in
set_option backward.isDefEq.respectTransparency false in
theorem tail13 (w : View sig κ sp S4096x128 .f32) (f : w.ty.Contents (Elt Ideal)) (L : List (View.Piece (Elt Ideal) S4096x128 .f32))
    (inb0 inb0' : ∀ a, k0_off8 i 0#32 a + S512x128.size a ≤ S4096x128.size a) (inb1 inb1' : ∀ a, k0_off8 i 1#32 a + S512x128.size a ≤ S4096x128.size a)
    (b : Fin 4096 → Fin 128 → EReal)
    (hL : ∀ κ d, w.read (Elt Ideal) (w.writes (Elt Ideal) f L) (ix2 κ d) =
      (b κ d + (if κ.val < 512 * (2 * (i 1).val) then gv (i 1).val q k dO l κ d else 0) : EReal)) (κ : Fin 4096) (d : Fin 128) :
    w.read (Elt Ideal) (w.writes (Elt Ideal) f
      (⟨Rect.unit (s := S4096x128) (k0_off8 i 1#32) S512x128.size inb1, k0_pay2 (F := Ideal) dO p1 (w.readAt (Elt Ideal) (Rect.unit (s := S4096x128) (k0_off8 i 1#32) S512x128.size inb1').toLoadRect
        (w.writes (Elt Ideal) f (⟨Rect.unit (s := S4096x128) (k0_off8 i 0#32) S512x128.size inb0, k0_pay44 (F := Ideal) dO P0 P1
            (w.readAt (Elt Ideal) (Rect.unit (s := S4096x128) (k0_off8 i 0#32) S512x128.size inb0').toLoadRect (w.writes (Elt Ideal) f L))⟩ :: L)))⟩ ::
       ⟨Rect.unit (s := S4096x128) (k0_off8 i 0#32) S512x128.size inb0, k0_pay44 (F := Ideal) dO P0 P1
            (w.readAt (Elt Ideal) (Rect.unit (s := S4096x128) (k0_off8 i 0#32) S512x128.size inb0').toLoadRect (w.writes (Elt Ideal) f L))⟩ :: L)) (ix2 κ d) =
      (b κ d + gv (i 1).val q k dO l κ d : EReal) := by
  have hg : (i 1).val < 4 := (i 1).isLt
  refine (acc_unit (n0 := 4096) (n1 := 128) w f _ (512 * (2 * (i 1).val + 1)) 0 (off81 i) (fun y => if 512 * (2 * (i 1).val + 1) ≤ (y 0).val ∧ (y 0).val < 512 * (2 * (i 1).val + 1) + 512 then
        gv (i 1).val q k dO l (y 0) (y 1) else 0) _ _ ?_ ?_ (ix2 κ d)).trans ?_
  · intro a c h0 h1
    refine (pay2_at (i 1).val q k dO l _ (diag1 i) p1 hp1 (by omega) _ a c).trans ?_
    refine congrArg₂ (fun x y : EReal => x + y) (readAt2 w _ _ _ (off81 i) _ a c h0 h1) ?_
    dsimp only
    rw [if_pos (by simp only [ix2_0]; omega)]
    simp [key]
  · intro a c h
    have hc : c.val < 128 := c.isLt
    dsimp only
    rw [if_neg (by simp only [ix2_0]; omega)]
  · refine (congrArg (fun x : EReal => x + _) ((acc_unit (n0 := 4096) (n1 := 128) w f L (512 * (2 * (i 1).val)) 0 (off80 i) (fun y => if 512 * (2 * (i 1).val) ≤ (y 0).val ∧ (y 0).val < 512 * (2 * (i 1).val) + 512 then
        gv (i 1).val q k dO l (y 0) (y 1) else 0) _ _ ?_ ?_ (ix2 κ d)).trans (congrArg (fun x : EReal => x + _) (hL κ d)))).trans ?_
    · intro a c h0 h1
      refine (pay44_at (i 1).val q k dO l _ (diag0 i) P0 P1 hP0 hP1 _ a c).trans ?_
      refine congrArg₂ (fun x y : EReal => x + y) (readAt2 w _ _ _ (off80 i) _ a c h0 h1) ?_
      dsimp only
      rw [if_pos (by simp only [ix2_0]; omega)]
      simp [key]
    · intro a c h
      have hc : c.val < 128 := c.isLt
      dsimp only
      rw [if_neg (by simp only [ix2_0]; omega)]
    · exact steps_sum _ _ _ _ fun h => gv_zero q k dO l _ _ _ (by omega)

variable (kb : Vec Ideal S512x256 .bf16) (vb : Vec Ideal S512x128 .bf16) (ktb0 ktb1 : Vec Ideal S256x512 .bf16)
  (hk : ∀ a d, kb (ix2 a d) = k (ix2 (key (2 * (i 1).val + 1) (diag1 i) a) d)) (hv : ∀ a e, vb (ix2 a e) = v (ix2 (key (2 * (i 1).val + 1) (diag1 i) a) e))
  (hkt0 : ∀ d a, ktb0 (ix2 d a) = kt (ix2 d (key (2 * (i 1).val) (diag0 i) a))) (hkt1 : ∀ d a, ktb1 (ix2 d a) = kt (ix2 d (key (2 * (i 1).val + 1) (diag1 i) a)))

include hP0 hP1 hU0 hU1 hk hv hkt0 hkt1 in
set_option backward.isDefEq.respectTransparency false in
theorem tail12 (w : View sig κ sp S256x1024 .f32) (f : w.ty.Contents (Elt Ideal)) (L : List (View.Piece (Elt Ideal) S256x1024 .f32))
    (inb0 inb0' : ∀ a, (![0, 0] : Fin 2 → ℕ) a + S256x512.size a ≤ S256x1024.size a) (inb1 inb1' : ∀ a, (![0, 512] : Fin 2 → ℕ) a + S256x512.size a ≤ S256x1024.size a)
    (L1 L2 : List (View.Piece (Elt Ideal) S256x1024 .f32))
    (hL1 : L1 = ⟨Rect.unit (s := S256x1024) ![0, 0] S256x512.size inb0, k0_pay41 (F := Ideal) ktb0 P0 U0
            (w.readAt (Elt Ideal) (Rect.unit (s := S256x1024) ![0, 0] S256x512.size inb0').toLoadRect (w.writes (Elt Ideal) f L))⟩ :: L)
    (hL2 : L2 = ⟨Rect.unit (s := S256x1024) ![0, 512] S256x512.size inb1, k0_pay42 (F := Ideal) dl ktb0 U1 P1
            (w.readAt (Elt Ideal) (Rect.unit (s := S256x1024) ![0, 512] S256x512.size inb1').toLoadRect (w.writes (Elt Ideal) f L1))⟩ :: L1)
    (hL : ∀ d r, w.read (Elt Ideal) (w.writes (Elt Ideal) f L) (ix2 d r) =
      (∑ κ : Fin 4096, (if κ.val < 512 * (2 * (i 1).val) then tq (i 1).val q k kt v dO l dl κ d r else 0) : EReal)) (d : Fin 256) (r : Fin 1024) :
    w.read (Elt Ideal) (w.writes (Elt Ideal) f
      (⟨Rect.unit (s := S256x1024) ![0, 512] S256x512.size inb1, k0_pay48 (F := Ideal) (BitVec.ofNat 32 (i 1).val) dO q l dl
          (Scalar.addi (Scalar.muli (BitVec.ofNat 32 (i 1).val) 2#32) 1#32) kb vb ktb1
            (w.readAt (Elt Ideal) (Rect.unit (s := S256x1024) ![0, 512] S256x512.size inb1').toLoadRect (w.writes (Elt Ideal) f L2))⟩ :: L2)) (ix2 d r) =
      (∑ κ : Fin 4096, tq (i 1).val q k kt v dO l dl κ d r : EReal) := by
  have hg : (i 1).val < 4 := (i 1).isLt
  have hr : r.val < 1024 := r.isLt
  have e3 := acc_unit (n0 := 256) (n1 := 1024) w f L2 0 512 rfl (fun y => if 512 ≤ (y 1).val then
        gq (i 1).val q k kt v dO l dl (2 * (i 1).val + 1) (diag1 i) (y 0) (y 1) else 0) inb1 (k0_pay48 (F := Ideal) (BitVec.ofNat 32 (i 1).val) dO q l dl
          (Scalar.addi (Scalar.muli (BitVec.ofNat 32 (i 1).val) 2#32) 1#32) kb vb ktb1
            (w.readAt (Elt Ideal) (Rect.unit (s := S256x1024) ![0, 512] S256x512.size inb1').toLoadRect (w.writes (Elt Ideal) f L2))) (by
    intro a c h0 h1
    refine (pay48_at (i 1).val q k kt v dO l dl hg kb vb ktb1 (fun _ => (0 : EReal)) (diag1 i) hk hv hkt1 _ a c).trans ?_
    refine congrArg₂ (fun x y : EReal => x + y) (readAt2 w _ 0 512 rfl _ a c h0 h1) ?_
    dsimp only
    rw [if_pos (by simp only [ix2_1]; omega)]
    simp [hi]) (by
    intro a c h
    have hc : c.val < 1024 := c.isLt
    dsimp only
    rw [if_neg (by simp only [ix2_1]; omega)]) (ix2 d r)
  have e2 := acc_unit (n0 := 256) (n1 := 1024) w f L1 0 512 rfl (fun y => if 512 ≤ (y 1).val then
        gq (i 1).val q k kt v dO l dl (2 * (i 1).val) (diag0 i) (y 0) (y 1) else 0) inb1 (k0_pay42 (F := Ideal) dl ktb0 U1 P1
            (w.readAt (Elt Ideal) (Rect.unit (s := S256x1024) ![0, 512] S256x512.size inb1').toLoadRect (w.writes (Elt Ideal) f L1))) (by
    intro a c h0 h1
    refine (pay42_at (i 1).val q k kt v dO l dl _ (diag0 i) ktb0 hkt0 P1 U1 hP1 hU1 _ a c).trans ?_
    refine congrArg₂ (fun x y : EReal => x + y) (readAt2 w _ 0 512 rfl _ a c h0 h1) ?_
    dsimp only
    rw [if_pos (by simp only [ix2_1]; omega)]
    simp [hi]) (by
    intro a c h
    have hc : c.val < 1024 := c.isLt
    dsimp only
    rw [if_neg (by simp only [ix2_1]; omega)]) (ix2 d r)
  have e1 := acc_unit (n0 := 256) (n1 := 1024) w f L 0 0 rfl (fun y => if (y 1).val < 512 then
        gq (i 1).val q k kt v dO l dl (2 * (i 1).val) (diag0 i) (y 0) (y 1) else 0) inb0 (k0_pay41 (F := Ideal) ktb0 P0 U0
            (w.readAt (Elt Ideal) (Rect.unit (s := S256x1024) ![0, 0] S256x512.size inb0').toLoadRect (w.writes (Elt Ideal) f L))) (by
    intro a c h0 h1
    refine (pay41_at (i 1).val q k kt v dO l dl _ (diag0 i) ktb0 hkt0 P0 U0 hP0 hU0 _ a c).trans ?_
    refine congrArg₂ (fun x y : EReal => x + y) (readAt2 w _ 0 0 rfl _ a c h0 h1) ?_
    dsimp only
    rw [if_pos (by simp only [ix2_1]; omega)]
    simp [lo]) (by
    intro a c h
    have hc : c.val < 1024 := c.isLt
    dsimp only
    rw [if_neg (by simp only [ix2_1]; omega)]) (ix2 d r)
  refine e3.trans ?_
  subst hL2
  refine (congrArg (fun x : EReal => x + _) e2).trans ?_
  subst hL1
  refine (congrArg (fun x : EReal => x + _ + _) (e1.trans (congrArg (fun x : EReal => x + _) (hL d r)))).trans ?_
  dsimp only
  simp only [ix2_0, ix2_1]
  have hs : ∑ κ : Fin 4096, tq (i 1).val q k kt v dO l dl κ d r =
      ∑ κ : Fin 4096, (if κ.val < 512 * (2 * (i 1).val) then tq (i 1).val q k kt v dO l dl κ d r else 0) +
        gq (i 1).val q k kt v dO l dl (2 * (i 1).val) (diag0 i) d r + gq (i 1).val q k kt v dO l dl (2 * (i 1).val + 1) (diag1 i) d r := by
    rw [gq_eq, gq_eq, ← Finset.sum_add_distrib, ← Finset.sum_add_distrib]
    refine Finset.sum_congr rfl fun κ _ => ?_
    have h := steps_sum (512 * (2 * (i 1).val)) κ.val 0 (tq (i 1).val q k kt v dO l dl κ d r) (fun h => tq_zero q k kt v dO l dl _ _ _ _ (by omega))
    rw [zero_add, zero_add] at h
    exact h.symm
  rw [hs]
  by_cases h : r.val < 512
  · have hz : gq (i 1).val q k kt v dO l dl (2 * (i 1).val + 1) (diag1 i) d r = 0 :=
      gq_lo (i 1).val q k kt v dO l dl _ (diag1 i) (by omega) d ⟨r.val, h⟩
    rw [if_pos h, if_neg (by omega), if_neg (by omega), hz, add_zero, add_zero]
  · rw [if_neg h, if_pos (by omega), if_pos (by omega), add_zero]

end Tail

end Cert.KernelIdeal.Attn

end
-- ==== Proof.Attn.Body.lean ====
/- The attention backward's body as a whole, at one grid point. -/
module

public import proofs.«01_k».proof.Proof.Attn.Tail

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

section Blocks

variable (i : grid0.Coords) (arg3 : Memref sig .tc .vmem S4096x256 .bf16) (arg4 : Memref sig .tc .vmem S256x4096 .bf16) (arg5 : Memref sig .tc .vmem S4096x128 .bf16)
  (X3 : BufTy.Contents (Elt Ideal) arg3.view.ty) (X4 : BufTy.Contents (Elt Ideal) arg4.view.ty) (X5 : BufTy.Contents (Elt Ideal) arg5.view.ty)
  (q : Vec Ideal S1024x256 .bf16) (dO : Vec Ideal S1024x128 .bf16) (l dl : FVec Ideal S1x1024 .f32)
  (b70 : ∀ a, k0_off7 i 0#32 a + S512x256.size a ≤ S4096x256.size a) (b71 : ∀ a, k0_off7 i 1#32 a + S512x256.size a ≤ S4096x256.size a)
  (b80 : ∀ a, k0_off8 i 0#32 a + S512x128.size a ≤ S4096x128.size a) (b81 : ∀ a, k0_off8 i 1#32 a + S512x128.size a ≤ S4096x128.size a)
  (b90 : ∀ a, k0_off9 i 0#32 a + S256x512.size a ≤ S256x4096.size a) (b91 : ∀ a, k0_off9 i 1#32 a + S256x512.size a ≤ S256x4096.size a)

theorem lt4 (i : grid0.Coords) : (i 1).val < 4 := (i 1).isLt

theorem kb0_at (a : Fin 512) (d : Fin 256) : (arg3.view.readAt (Elt Ideal) (Rect.unit (s := S4096x256) (k0_off7 i 0#32) S512x256.size b70).toLoadRect X3) (ix2 a d) = (arg3.view.read (Elt Ideal) X3) (ix2 (key (2 * (i 1).val) (diag0 i) a) d) := by
  have := lt4 i
  exact (readAt2 arg3.view X3 _ _ (off70 i) _ a d (by omega) (by omega)).trans (by simp [key])

theorem kb1_at (a : Fin 512) (d : Fin 256) : (arg3.view.readAt (Elt Ideal) (Rect.unit (s := S4096x256) (k0_off7 i 1#32) S512x256.size b71).toLoadRect X3) (ix2 a d) = (arg3.view.read (Elt Ideal) X3) (ix2 (key (2 * (i 1).val + 1) (diag1 i) a) d) := by
  have := lt4 i
  exact (readAt2 arg3.view X3 _ _ (off71 i) _ a d (by omega) (by omega)).trans (by simp [key])

theorem vb0_at (a : Fin 512) (d : Fin 128) : (arg5.view.readAt (Elt Ideal) (Rect.unit (s := S4096x128) (k0_off8 i 0#32) S512x128.size b80).toLoadRect X5) (ix2 a d) = (arg5.view.read (Elt Ideal) X5) (ix2 (key (2 * (i 1).val) (diag0 i) a) d) := by
  have := lt4 i
  exact (readAt2 arg5.view X5 _ _ (off80 i) _ a d (by omega) (by omega)).trans (by simp [key])

theorem vb1_at (a : Fin 512) (d : Fin 128) : (arg5.view.readAt (Elt Ideal) (Rect.unit (s := S4096x128) (k0_off8 i 1#32) S512x128.size b81).toLoadRect X5) (ix2 a d) = (arg5.view.read (Elt Ideal) X5) (ix2 (key (2 * (i 1).val + 1) (diag1 i) a) d) := by
  have := lt4 i
  exact (readAt2 arg5.view X5 _ _ (off81 i) _ a d (by omega) (by omega)).trans (by simp [key])

theorem ktb0_at (d : Fin 256) (a : Fin 512) : (arg4.view.readAt (Elt Ideal) (Rect.unit (s := S256x4096) (k0_off9 i 0#32) S256x512.size b90).toLoadRect X4) (ix2 d a) = (arg4.view.read (Elt Ideal) X4) (ix2 d (key (2 * (i 1).val) (diag0 i) a)) := by
  have := lt4 i
  exact (readAt2 arg4.view X4 _ _ (off90 i) _ d a (by omega) (by omega)).trans (by simp [key])

theorem ktb1_at (d : Fin 256) (a : Fin 512) : (arg4.view.readAt (Elt Ideal) (Rect.unit (s := S256x4096) (k0_off9 i 1#32) S256x512.size b91).toLoadRect X4) (ix2 d a) = (arg4.view.read (Elt Ideal) X4) (ix2 d (key (2 * (i 1).val + 1) (diag1 i) a)) := by
  have := lt4 i
  exact (readAt2 arg4.view X4 _ _ (off91 i) _ d a (by omega) (by omega)).trans (by simp [key])

variable {κ : Kind} {sp : Space}

/-- What the body leaves in the gradient of k: the contents before, and what the group's queries add. -/
theorem body10 (w : View sig κ sp S4096x256 .f32) (f : w.ty.Contents (Elt Ideal)) (L : List (View.Piece (Elt Ideal) S4096x256 .f32))
    (inb0 inb0' : ∀ a, k0_off7 i 0#32 a + S512x256.size a ≤ S4096x256.size a) (inb1 inb1' : ∀ a, k0_off7 i 1#32 a + S512x256.size a ≤ S4096x256.size a)
    (b : Fin 4096 → Fin 256 → EReal)
    (hL : ∀ κ d, w.read (Elt Ideal) (w.writes (Elt Ideal) f L) (ix2 κ d) =
      (b κ d + (if κ.val < 512 * (2 * (i 1).val) then gk (i 1).val q (arg3.view.read (Elt Ideal) X3) (arg5.view.read (Elt Ideal) X5) dO l dl κ d else 0) : EReal)) (κ : Fin 4096) (d : Fin 256) :
    w.read (Elt Ideal) (w.writes (Elt Ideal) f
      (⟨Rect.unit (s := S4096x256) (k0_off7 i 1#32) S512x256.size inb1, k0_pay1 (F := Ideal) q (k0_pay46 (F := Ideal) (BitVec.ofNat 32 (i 1).val) dO q l dl (Scalar.addi (Scalar.muli (BitVec.ofNat 32 (i 1).val) 2#32) 1#32) (arg3.view.readAt (Elt Ideal) (Rect.unit (s := S4096x256) (k0_off7 i 1#32) S512x256.size b71).toLoadRect X3) (arg5.view.readAt (Elt Ideal) (Rect.unit (s := S4096x128) (k0_off8 i 1#32) S512x128.size b81).toLoadRect X5)) (w.readAt (Elt Ideal) (Rect.unit (s := S4096x256) (k0_off7 i 1#32) S512x256.size inb1').toLoadRect
        (w.writes (Elt Ideal) f (⟨Rect.unit (s := S4096x256) (k0_off7 i 0#32) S512x256.size inb0, k0_pay43 (F := Ideal) q dl (k0_pay35 (F := Ideal) dO (arg5.view.readAt (Elt Ideal) (Rect.unit (s := S4096x128) (k0_off8 i 0#32) S512x128.size b80).toLoadRect X5)) (k0_pay36 (F := Ideal) (BitVec.ofNat 32 (i 1).val) q l (Scalar.muli (BitVec.ofNat 32 (i 1).val) 2#32) (arg3.view.readAt (Elt Ideal) (Rect.unit (s := S4096x256) (k0_off7 i 0#32) S512x256.size b70).toLoadRect X3)) (k0_pay37 (F := Ideal) q l (arg3.view.readAt (Elt Ideal) (Rect.unit (s := S4096x256) (k0_off7 i 0#32) S512x256.size b70).toLoadRect X3)) (k0_pay38 (F := Ideal) dO dl (arg5.view.readAt (Elt Ideal) (Rect.unit (s := S4096x128) (k0_off8 i 0#32) S512x128.size b80).toLoadRect X5))
            (w.readAt (Elt Ideal) (Rect.unit (s := S4096x256) (k0_off7 i 0#32) S512x256.size inb0').toLoadRect (w.writes (Elt Ideal) f L))⟩ :: L)))⟩ ::
       ⟨Rect.unit (s := S4096x256) (k0_off7 i 0#32) S512x256.size inb0, k0_pay43 (F := Ideal) q dl (k0_pay35 (F := Ideal) dO (arg5.view.readAt (Elt Ideal) (Rect.unit (s := S4096x128) (k0_off8 i 0#32) S512x128.size b80).toLoadRect X5)) (k0_pay36 (F := Ideal) (BitVec.ofNat 32 (i 1).val) q l (Scalar.muli (BitVec.ofNat 32 (i 1).val) 2#32) (arg3.view.readAt (Elt Ideal) (Rect.unit (s := S4096x256) (k0_off7 i 0#32) S512x256.size b70).toLoadRect X3)) (k0_pay37 (F := Ideal) q l (arg3.view.readAt (Elt Ideal) (Rect.unit (s := S4096x256) (k0_off7 i 0#32) S512x256.size b70).toLoadRect X3)) (k0_pay38 (F := Ideal) dO dl (arg5.view.readAt (Elt Ideal) (Rect.unit (s := S4096x128) (k0_off8 i 0#32) S512x128.size b80).toLoadRect X5))
            (w.readAt (Elt Ideal) (Rect.unit (s := S4096x256) (k0_off7 i 0#32) S512x256.size inb0').toLoadRect (w.writes (Elt Ideal) f L))⟩ :: L)) (ix2 κ d) =
      (b κ d + gk (i 1).val q (arg3.view.read (Elt Ideal) X3) (arg5.view.read (Elt Ideal) X5) dO l dl κ d : EReal) :=
  tail10 i q (arg3.view.read (Elt Ideal) X3) (arg5.view.read (Elt Ideal) X5) dO l dl _ _ _ _ _
    (pay36_at _ q _ l (lt4 i) _ (diag0 i) (kb0_at i arg3 X3 b70)) (pay37_at _ q _ l (lt4 i) _ (diag0 i) (kb0_at i arg3 X3 b70))
    (pay38_at _ dO dl _ _ (diag0 i) (vb0_at i arg5 X5 b80)) (pay35_at _ dO _ _ (diag0 i) (vb0_at i arg5 X5 b80))
    (pay46_at _ q _ _ dO l dl (lt4 i) _ _ (diag1 i) (kb1_at i arg3 X3 b71) (vb1_at i arg5 X5 b81)) w f L inb0 inb0' inb1 inb1' b hL κ d

/-- What the body leaves in the running gradient of v. -/
theorem body13 (w : View sig κ sp S4096x128 .f32) (f : w.ty.Contents (Elt Ideal)) (L : List (View.Piece (Elt Ideal) S4096x128 .f32))
    (inb0 inb0' : ∀ a, k0_off8 i 0#32 a + S512x128.size a ≤ S4096x128.size a) (inb1 inb1' : ∀ a, k0_off8 i 1#32 a + S512x128.size a ≤ S4096x128.size a)
    (b : Fin 4096 → Fin 128 → EReal)
    (hL : ∀ κ d, w.read (Elt Ideal) (w.writes (Elt Ideal) f L) (ix2 κ d) =
      (b κ d + (if κ.val < 512 * (2 * (i 1).val) then gv (i 1).val q (arg3.view.read (Elt Ideal) X3) dO l κ d else 0) : EReal)) (κ : Fin 4096) (d : Fin 128) :
    w.read (Elt Ideal) (w.writes (Elt Ideal) f
      (⟨Rect.unit (s := S4096x128) (k0_off8 i 1#32) S512x128.size inb1, k0_pay2 (F := Ideal) dO (k0_pay47 (F := Ideal) (BitVec.ofNat 32 (i 1).val) q l (Scalar.addi (Scalar.muli (BitVec.ofNat 32 (i 1).val) 2#32) 1#32) (arg3.view.readAt (Elt Ideal) (Rect.unit (s := S4096x256) (k0_off7 i 1#32) S512x256.size b71).toLoadRect X3)) (w.readAt (Elt Ideal) (Rect.unit (s := S4096x128) (k0_off8 i 1#32) S512x128.size inb1').toLoadRect
        (w.writes (Elt Ideal) f (⟨Rect.unit (s := S4096x128) (k0_off8 i 0#32) S512x128.size inb0, k0_pay44 (F := Ideal) dO (k0_pay36 (F := Ideal) (BitVec.ofNat 32 (i 1).val) q l (Scalar.muli (BitVec.ofNat 32 (i 1).val) 2#32) (arg3.view.readAt (Elt Ideal) (Rect.unit (s := S4096x256) (k0_off7 i 0#32) S512x256.size b70).toLoadRect X3)) (k0_pay37 (F := Ideal) q l (arg3.view.readAt (Elt Ideal) (Rect.unit (s := S4096x256) (k0_off7 i 0#32) S512x256.size b70).toLoadRect X3))
            (w.readAt (Elt Ideal) (Rect.unit (s := S4096x128) (k0_off8 i 0#32) S512x128.size inb0').toLoadRect (w.writes (Elt Ideal) f L))⟩ :: L)))⟩ ::
       ⟨Rect.unit (s := S4096x128) (k0_off8 i 0#32) S512x128.size inb0, k0_pay44 (F := Ideal) dO (k0_pay36 (F := Ideal) (BitVec.ofNat 32 (i 1).val) q l (Scalar.muli (BitVec.ofNat 32 (i 1).val) 2#32) (arg3.view.readAt (Elt Ideal) (Rect.unit (s := S4096x256) (k0_off7 i 0#32) S512x256.size b70).toLoadRect X3)) (k0_pay37 (F := Ideal) q l (arg3.view.readAt (Elt Ideal) (Rect.unit (s := S4096x256) (k0_off7 i 0#32) S512x256.size b70).toLoadRect X3))
            (w.readAt (Elt Ideal) (Rect.unit (s := S4096x128) (k0_off8 i 0#32) S512x128.size inb0').toLoadRect (w.writes (Elt Ideal) f L))⟩ :: L)) (ix2 κ d) =
      (b κ d + gv (i 1).val q (arg3.view.read (Elt Ideal) X3) dO l κ d : EReal) :=
  tail13 i q (arg3.view.read (Elt Ideal) X3) dO l _ _ _
    (pay36_at _ q _ l (lt4 i) _ (diag0 i) (kb0_at i arg3 X3 b70)) (pay37_at _ q _ l (lt4 i) _ (diag0 i) (kb0_at i arg3 X3 b70))
    (pay47_at _ q _ l (lt4 i) _ (diag1 i) (kb1_at i arg3 X3 b71)) w f L inb0 inb0' inb1 inb1' b hL κ d

/-- What the body leaves in the transposed gradient of the group's q. -/
theorem body12 (w : View sig κ sp S256x1024 .f32) (f : w.ty.Contents (Elt Ideal)) (L : List (View.Piece (Elt Ideal) S256x1024 .f32))
    (inb0 inb0' : ∀ a, (![0, 0] : Fin 2 → ℕ) a + S256x512.size a ≤ S256x1024.size a) (inb1 inb1' : ∀ a, (![0, 512] : Fin 2 → ℕ) a + S256x512.size a ≤ S256x1024.size a)
    (L1 L2 : List (View.Piece (Elt Ideal) S256x1024 .f32))
    (hL1 : L1 = ⟨Rect.unit (s := S256x1024) ![0, 0] S256x512.size inb0, k0_pay41 (F := Ideal) (k0_pay34 (F := Ideal) (arg4.view.readAt (Elt Ideal) (Rect.unit (s := S256x4096) (k0_off9 i 0#32) S256x512.size b90).toLoadRect X4)) (k0_pay36 (F := Ideal) (BitVec.ofNat 32 (i 1).val) q l (Scalar.muli (BitVec.ofNat 32 (i 1).val) 2#32) (arg3.view.readAt (Elt Ideal) (Rect.unit (s := S4096x256) (k0_off7 i 0#32) S512x256.size b70).toLoadRect X3)) (k0_pay38 (F := Ideal) dO dl (arg5.view.readAt (Elt Ideal) (Rect.unit (s := S4096x128) (k0_off8 i 0#32) S512x128.size b80).toLoadRect X5))
            (w.readAt (Elt Ideal) (Rect.unit (s := S256x1024) ![0, 0] S256x512.size inb0').toLoadRect (w.writes (Elt Ideal) f L))⟩ :: L)
    (hL2 : L2 = ⟨Rect.unit (s := S256x1024) ![0, 512] S256x512.size inb1, k0_pay42 (F := Ideal) dl (k0_pay34 (F := Ideal) (arg4.view.readAt (Elt Ideal) (Rect.unit (s := S256x4096) (k0_off9 i 0#32) S256x512.size b90).toLoadRect X4)) (k0_pay35 (F := Ideal) dO (arg5.view.readAt (Elt Ideal) (Rect.unit (s := S4096x128) (k0_off8 i 0#32) S512x128.size b80).toLoadRect X5)) (k0_pay37 (F := Ideal) q l (arg3.view.readAt (Elt Ideal) (Rect.unit (s := S4096x256) (k0_off7 i 0#32) S512x256.size b70).toLoadRect X3))
            (w.readAt (Elt Ideal) (Rect.unit (s := S256x1024) ![0, 512] S256x512.size inb1').toLoadRect (w.writes (Elt Ideal) f L1))⟩ :: L1)
    (hL : ∀ d r, w.read (Elt Ideal) (w.writes (Elt Ideal) f L) (ix2 d r) =
      (∑ κ : Fin 4096, (if κ.val < 512 * (2 * (i 1).val) then tq (i 1).val q (arg3.view.read (Elt Ideal) X3) (arg4.view.read (Elt Ideal) X4) (arg5.view.read (Elt Ideal) X5) dO l dl κ d r else 0) : EReal)) (d : Fin 256) (r : Fin 1024) :
    w.read (Elt Ideal) (w.writes (Elt Ideal) f
      (⟨Rect.unit (s := S256x1024) ![0, 512] S256x512.size inb1, k0_pay48 (F := Ideal) (BitVec.ofNat 32 (i 1).val) dO q l dl (Scalar.addi (Scalar.muli (BitVec.ofNat 32 (i 1).val) 2#32) 1#32) (arg3.view.readAt (Elt Ideal) (Rect.unit (s := S4096x256) (k0_off7 i 1#32) S512x256.size b71).toLoadRect X3) (arg5.view.readAt (Elt Ideal) (Rect.unit (s := S4096x128) (k0_off8 i 1#32) S512x128.size b81).toLoadRect X5) (arg4.view.readAt (Elt Ideal) (Rect.unit (s := S256x4096) (k0_off9 i 1#32) S256x512.size b91).toLoadRect X4)
            (w.readAt (Elt Ideal) (Rect.unit (s := S256x1024) ![0, 512] S256x512.size inb1').toLoadRect (w.writes (Elt Ideal) f L2))⟩ :: L2)) (ix2 d r) =
      (∑ κ : Fin 4096, tq (i 1).val q (arg3.view.read (Elt Ideal) X3) (arg4.view.read (Elt Ideal) X4) (arg5.view.read (Elt Ideal) X5) dO l dl κ d r : EReal) :=
  tail12 i q (arg3.view.read (Elt Ideal) X3) (arg4.view.read (Elt Ideal) X4) (arg5.view.read (Elt Ideal) X5) dO l dl _ _ _ _
    (pay36_at _ q _ l (lt4 i) _ (diag0 i) (kb0_at i arg3 X3 b70)) (pay37_at _ q _ l (lt4 i) _ (diag0 i) (kb0_at i arg3 X3 b70))
    (pay38_at _ dO dl _ _ (diag0 i) (vb0_at i arg5 X5 b80)) (pay35_at _ dO _ _ (diag0 i) (vb0_at i arg5 X5 b80))
    _ _ _ _ (kb1_at i arg3 X3 b71) (vb1_at i arg5 X5 b81) (pay34_at _ _ (diag0 i) _ (ktb0_at i arg4 X4 b90)) (ktb1_at i arg4 X4 b91)
    w f L inb0 inb0' inb1 inb1' L1 L2 hL1 hL2 hL d r

end Blocks

end Cert.KernelIdeal.Attn

end
-- ==== Proof.Attn.Point.lean ====
/- What each grid point of the attention backward leaves behind. -/
module

public import proofs.«01_k».proof.Proof.Attn.Body

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

section Point

variable (c : Dev nD) (i : grid0.Coords)
  (arg2 : Memref sig .tc .vmem S1024x256 .bf16) (harg2 : arg2.IsWhole)
    (arg3 : Memref sig .tc .vmem S4096x256 .bf16) (harg3 : arg3.IsWhole)
    (arg4 : Memref sig .tc .vmem S256x4096 .bf16) (harg4 : arg4.IsWhole)
    (arg5 : Memref sig .tc .vmem S4096x128 .bf16) (harg5 : arg5.IsWhole)
    (arg6 : Memref sig .tc .vmem S1024x128 .f32) (harg6 : arg6.IsWhole)
    (arg7 : Memref sig .tc .vmem S1024x128 .bf16) (harg7 : arg7.IsWhole)
    (arg8 : Memref sig .tc .vmem S1x1x1024 .f32) (harg8 : arg8.IsWhole)
    (arg9 : Memref sig .tc .vmem S1024x256 .f32) (harg9 : arg9.IsWhole)
    (arg10 : Memref sig .tc .vmem S4096x256 .f32) (harg10 : arg10.IsWhole)
    (arg11 : Memref sig .tc .vmem S4096x128 .bf16) (harg11 : arg11.IsWhole)
    (arg12 : Memref sig .tc .vmem S256x1024 .f32) (harg12 : arg12.IsWhole)
    (arg13 : Memref sig .tc .vmem S4096x128 .f32) (harg13 : arg13.IsWhole)
  (x0 : Vec Ideal S1024x256 .bf16) (x1 : Vec Ideal S4096x256 .bf16) (x2 : Vec Ideal S256x4096 .bf16) (x3 : Vec Ideal S4096x128 .bf16)
  (x4 : Vec Ideal S1024x128 .f32) (x5 : Vec Ideal S1024x128 .bf16) (x6 : Vec Ideal S1x1x1024 .f32) (xo8 : Vec Ideal S4096x256 .f32) (xs1 : Vec Ideal S4096x128 .f32)

/-- A whole view read back after being filled is what it was filled with. -/
theorem readAt_whole {κ : Kind} {sp : Space} {s : Shape} {e : EltTy} (m : Memref sig κ sp s e) (hm : m.IsWhole) (X : s.Idx → Elt Ideal e)
    (off : Fin s.rank → ℕ) (inb) : m.view.readAt (Elt Ideal) (Rect.unit off s.size inb).toLoadRect (hm.unread X) = X := by
  rw [View.readAt_full, hm.read_unread]

theorem pb2_nil (v33 v35 : BitVec 32) (X3 X4 X5) (G10 G12 G13) (a v7 v8 v10 v29 v30 z o) (n : ℕ) (hn : n = 0) :
    pb_k0_t2 (F := Ideal) Variants.none c none i arg2 harg2 arg3 harg3 arg4 harg4 arg5 harg5 arg6 harg6 arg7 harg7 arg8 harg8 arg9 harg9 arg10 harg10 arg11 harg11 arg12 harg12 arg13 harg13 a v7 v8 v10 v29 v30 z o v33 v35 X3 X4 X5 G10 G12 G13 n = ([], [], []) := by
  rw [hn]
  rfl

theorem loop10' (v33 : BitVec 32) (X3 X4 X5) (G10 G12 G13) (a v7 v8 v10 v29 v30 z o) (n : ℕ) (hn : n = 2 * (i 1).val) (a' : Fin 4096) (b' : Fin 256) :
    arg10.view.read (Elt Ideal) (arg10.view.writes (Elt Ideal) G10 (pb_k0_t1 (F := Ideal) Variants.none c none i arg2 harg2 arg3 harg3 arg4 harg4 arg5 harg5 arg6 harg6 arg7 harg7 arg8 harg8 arg9 harg9 arg10 harg10 arg11 harg11 arg12 harg12 arg13 harg13 a v7 v8 v10 v29 v30 z o v33 X3 X4 X5 G10 G12 G13 n).1) (ix2 a' b') =
      (arg10.view.read (Elt Ideal) G10 (ix2 a' b') + (if a'.val < 512 * (2 * (i 1).val) then
        gk (i 1).val v8 (arg3.view.read (Elt Ideal) X3) (arg5.view.read (Elt Ideal) X5) v7 v10 v29 a' b' else 0) : EReal) := by
  rw [hn]
  exact loop10 Variants.none c none i arg2 harg2 arg3 harg3 arg4 harg4 arg5 harg5 arg6 harg6 arg7 harg7 arg8 harg8 arg9 harg9 arg10 harg10 arg11 harg11 arg12 harg12 arg13 harg13 a v7 v8 v10 v29 v30 z o v33 X3 X4 X5 G10 G12 G13 _ (trips_eq i).ge (ix2 a' b')

theorem loop13' (v33 : BitVec 32) (X3 X4 X5) (G10 G12 G13) (a v7 v8 v10 v29 v30 z o) (n : ℕ) (hn : n = 2 * (i 1).val) (a' : Fin 4096) (b' : Fin 128) :
    arg13.view.read (Elt Ideal) (arg13.view.writes (Elt Ideal) G13 (pb_k0_t1 (F := Ideal) Variants.none c none i arg2 harg2 arg3 harg3 arg4 harg4 arg5 harg5 arg6 harg6 arg7 harg7 arg8 harg8 arg9 harg9 arg10 harg10 arg11 harg11 arg12 harg12 arg13 harg13 a v7 v8 v10 v29 v30 z o v33 X3 X4 X5 G10 G12 G13 n).2.2) (ix2 a' b') =
      (arg13.view.read (Elt Ideal) G13 (ix2 a' b') + (if a'.val < 512 * (2 * (i 1).val) then
        gv (i 1).val v8 (arg3.view.read (Elt Ideal) X3) v7 v10 a' b' else 0) : EReal) := by
  rw [hn]
  exact loop13 Variants.none c none i arg2 harg2 arg3 harg3 arg4 harg4 arg5 harg5 arg6 harg6 arg7 harg7 arg8 harg8 arg9 harg9 arg10 harg10 arg11 harg11 arg12 harg12 arg13 harg13 a v7 v8 v10 v29 v30 z o v33 X3 X4 X5 G10 G12 G13 _ (trips_eq i).ge (ix2 a' b')

theorem loop12' (v33 : BitVec 32) (X3 X4 X5) (G10 G12 G13) (a v7 v8 v10 v29 v30 z o) (n : ℕ) (hn : n = 2 * (i 1).val) (a' : Fin 256) (b' : Fin 1024) :
    arg12.view.read (Elt Ideal) (arg12.view.writes (Elt Ideal) G12 (pb_k0_t1 (F := Ideal) Variants.none c none i arg2 harg2 arg3 harg3 arg4 harg4 arg5 harg5 arg6 harg6 arg7 harg7 arg8 harg8 arg9 harg9 arg10 harg10 arg11 harg11 arg12 harg12 arg13 harg13 a v7 v8 v10 v29 v30 z o v33 X3 X4 X5 G10 G12 G13 n).2.1) (ix2 a' b') =
      (arg12.view.read (Elt Ideal) G12 (ix2 a' b') + ∑ κ : Fin 4096, (if κ.val < 512 * (2 * (i 1).val) then
        tq (i 1).val v8 (arg3.view.read (Elt Ideal) X3) (arg4.view.read (Elt Ideal) X4) (arg5.view.read (Elt Ideal) X5) v7 v10 v29 κ a' b' else 0) : EReal) := by
  rw [hn]
  exact loop12 Variants.none c none i arg2 harg2 arg3 harg3 arg4 harg4 arg5 harg5 arg6 harg6 arg7 harg7 arg8 harg8 arg9 harg9 arg10 harg10 arg11 harg11 arg12 harg12 arg13 harg13 a v7 v8 v10 v29 v30 z o v33 X3 X4 X5 G10 G12 G13 _ (trips_eq i).ge a' b'

theorem out_B_8 (hc0 : ¬ cond0_0 i) (hc1 : ¬ cond0_1 i) (κ : Fin 4096) (d : Fin 256) :
    out0_B_8 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xs1 (ix2 κ d) =
      (xo8 (ix2 κ d) + gk (i 1).val x0 x1 x3 x5 (k0_pay26 (F := Ideal) x6) (k0_pay27 (F := Ideal) x5 x4) κ d : EReal) := by
  unfold out0_B_8 kernelRun0_B
  dsimp only
  unfold kernelRun0_B.sl.r_11 kernelRun0_B.sl.H8_1 kernelRun0_B.sl.v101
  refine (body10 i arg3 arg5 (harg3.unread x1) (harg5.unread x3) _ _ _ _ _ _ _ _ arg10.view (harg10.unread xo8) _ _ _ _ _ (fun κ d => xo8 (ix2 κ d)) (fun κ d => ?_) κ d).trans ?_
  · rw [pb2_nil, List.nil_append, loop10']
    · rw [harg10.read_unread]
    · exact trips_eq i
    · exact trips2_eq i
  · simp only [harg3.read_unread, harg4.read_unread, harg5.read_unread]
    rw [show kernelRun0_B.sl.r_1 c arg2 harg2 x0 = x0 from by unfold kernelRun0_B.sl.r_1; rw [readAt_whole], show kernelRun0_B.sl.r c arg7 harg7 x5 = x5 from by unfold kernelRun0_B.sl.r; rw [readAt_whole],
      show kernelRun0_B.sl.r_2 c arg8 harg8 x6 = k0_pay26 (F := Ideal) x6 from by unfold kernelRun0_B.sl.r_2; rw [readAt_whole],
      show kernelRun0_B.sl.r_3 c arg6 harg6 arg7 harg7 x4 x5 = k0_pay27 (F := Ideal) x5 x4 from by unfold kernelRun0_B.sl.r_3; rw [readAt_whole, readAt_whole]]

theorem sout_B_1 (hc0 : ¬ cond0_0 i) (hc1 : ¬ cond0_1 i) (κ : Fin 4096) (d : Fin 128) :
    sout0_B_1 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xs1 (ix2 κ d) =
      (xs1 (ix2 κ d) + gv (i 1).val x0 x1 x5 (k0_pay26 (F := Ideal) x6) κ d : EReal) := by
  unfold sout0_B_1 kernelRun0_B
  dsimp only
  unfold kernelRun0_B.sl.HS1_1 kernelRun0_B.sl.v108
  refine (body13 i arg3 (harg3.unread x1) _ _ _ _ _ arg13.view (harg13.unread xs1) _ _ _ _ _ (fun κ d => xs1 (ix2 κ d)) (fun κ d => ?_) κ d).trans ?_
  · rw [pb2_nil, List.nil_append, loop13']
    · rw [harg13.read_unread]
    · exact trips_eq i
    · exact trips2_eq i
  · simp only [harg3.read_unread, harg4.read_unread, harg5.read_unread]
    rw [show kernelRun0_B.sl.r_1 c arg2 harg2 x0 = x0 from by unfold kernelRun0_B.sl.r_1; rw [readAt_whole], show kernelRun0_B.sl.r c arg7 harg7 x5 = x5 from by unfold kernelRun0_B.sl.r; rw [readAt_whole],
      show kernelRun0_B.sl.r_2 c arg8 harg8 x6 = k0_pay26 (F := Ideal) x6 from by unfold kernelRun0_B.sl.r_2; rw [readAt_whole]]

theorem out_B_7 (hc0 : ¬ cond0_0 i) (hc1 : ¬ cond0_1 i) (r : Fin 1024) (d : Fin 256) :
    out0_B_7 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xs1 (ix2 r d) =
      (∑ κ : Fin 4096, tq (i 1).val x0 x1 x2 x3 x5 (k0_pay26 (F := Ideal) x6) (k0_pay27 (F := Ideal) x5 x4) κ d r : EReal) := by
  unfold out0_B_7 kernelRun0_B
  dsimp only
  rw [View.read_writes_full, pay3_at]
  unfold kernelRun0_B.sl.v174
  rw [View.readCov, View.readAt_full]
  unfold kernelRun0_B.sl.HS0_3
  refine (body12 i arg3 arg4 arg5 (harg3.unread x1) (harg4.unread x2) (harg5.unread x3) _ _ _ _ _ _ _ _ _ _ arg12.view arg12.view.junk _ _ _ _ _ _ _ rfl rfl (fun d r => ?_) d r).trans ?_
  · rw [pb2_nil, List.nil_append, View.writes_append, loop12']
    · unfold kernelRun0_B.sl.HS0_1
      rw [View.read_writes_full, pay25_at, zero_add]
    · exact trips_eq i
    · exact trips2_eq i
  · simp only [harg3.read_unread, harg4.read_unread, harg5.read_unread]
    rw [show kernelRun0_B.sl.r_1 c arg2 harg2 x0 = x0 from by unfold kernelRun0_B.sl.r_1; rw [readAt_whole], show kernelRun0_B.sl.r c arg7 harg7 x5 = x5 from by unfold kernelRun0_B.sl.r; rw [readAt_whole],
      show kernelRun0_B.sl.r_2 c arg8 harg8 x6 = k0_pay26 (F := Ideal) x6 from by unfold kernelRun0_B.sl.r_2; rw [readAt_whole],
      show kernelRun0_B.sl.r_3 c arg6 harg6 arg7 harg7 x4 x5 = k0_pay27 (F := Ideal) x5 x4 from by unfold kernelRun0_B.sl.r_3; rw [readAt_whole, readAt_whole]]

theorem out_A_8 (hc0 : cond0_0 i) (hc1 : ¬ cond0_1 i) (κ : Fin 4096) (d : Fin 256) :
    out0_A_8 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 (ix2 κ d) =
      (gk (i 1).val x0 x1 x3 x5 (k0_pay26 (F := Ideal) x6) (k0_pay27 (F := Ideal) x5 x4) κ d : EReal) := by
  unfold out0_A_8 kernelRun0_A
  dsimp only
  rw [View.read_writes_junk_apply_eq_canon, ← View.read_writes_junk_apply_eq_canon arg10.view]
  unfold kernelRun0_A.sl.r_11 kernelRun0_A.sl.H8_1_1 kernelRun0_A.sl.v101
  refine (body10 i arg3 arg5 (harg3.unread x1) (harg5.unread x3) _ _ _ _ _ _ _ _ arg10.view arg10.view.junk _ _ _ _ _ (fun κ d => 0) (fun κ d => ?_) κ d).trans ?_
  · rw [pb2_nil, List.nil_append, View.writes_append, loop10']
    · unfold kernelRun0_A.sl.H8_1; rw [View.read_writes_full, pay23_at]
    · exact trips_eq i
    · exact trips2_eq i
  · simp only [harg3.read_unread, harg4.read_unread, harg5.read_unread]
    rw [show kernelRun0_A.sl.r_1 c arg2 harg2 x0 = x0 from by unfold kernelRun0_A.sl.r_1; rw [readAt_whole], show kernelRun0_A.sl.r c arg7 harg7 x5 = x5 from by unfold kernelRun0_A.sl.r; rw [readAt_whole],
      show kernelRun0_A.sl.r_2 c arg8 harg8 x6 = k0_pay26 (F := Ideal) x6 from by unfold kernelRun0_A.sl.r_2; rw [readAt_whole],
      show kernelRun0_A.sl.r_3 c arg6 harg6 arg7 harg7 x4 x5 = k0_pay27 (F := Ideal) x5 x4 from by unfold kernelRun0_A.sl.r_3; rw [readAt_whole, readAt_whole]]
    rw [zero_add]

theorem sout_A_1 (hc0 : cond0_0 i) (hc1 : ¬ cond0_1 i) (κ : Fin 4096) (d : Fin 128) :
    sout0_A_1 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 (ix2 κ d) =
      (gv (i 1).val x0 x1 x5 (k0_pay26 (F := Ideal) x6) κ d : EReal) := by
  unfold sout0_A_1 kernelRun0_A
  dsimp only
  rw [View.read_writes_junk_apply_eq_canon, ← View.read_writes_junk_apply_eq_canon arg13.view]
  unfold kernelRun0_A.sl.HS1_1_1 kernelRun0_A.sl.v108
  refine (body13 i arg3 (harg3.unread x1) _ _ _ _ _ arg13.view arg13.view.junk _ _ _ _ _ (fun κ d => 0) (fun κ d => ?_) κ d).trans ?_
  · rw [pb2_nil, List.nil_append, View.writes_append, loop13']
    · unfold kernelRun0_A.sl.HS1_1; rw [View.read_writes_full, pay24_at]
    · exact trips_eq i
    · exact trips2_eq i
  · simp only [harg3.read_unread, harg4.read_unread, harg5.read_unread]
    rw [show kernelRun0_A.sl.r_1 c arg2 harg2 x0 = x0 from by unfold kernelRun0_A.sl.r_1; rw [readAt_whole], show kernelRun0_A.sl.r c arg7 harg7 x5 = x5 from by unfold kernelRun0_A.sl.r; rw [readAt_whole],
      show kernelRun0_A.sl.r_2 c arg8 harg8 x6 = k0_pay26 (F := Ideal) x6 from by unfold kernelRun0_A.sl.r_2; rw [readAt_whole]]
    rw [zero_add]

theorem out_A_7 (hc0 : cond0_0 i) (hc1 : ¬ cond0_1 i) (r : Fin 1024) (d : Fin 256) :
    out0_A_7 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 (ix2 r d) =
      (∑ κ : Fin 4096, tq (i 1).val x0 x1 x2 x3 x5 (k0_pay26 (F := Ideal) x6) (k0_pay27 (F := Ideal) x5 x4) κ d r : EReal) := by
  unfold out0_A_7 kernelRun0_A
  dsimp only
  rw [View.read_writes_full, pay3_at]
  unfold kernelRun0_A.sl.v174
  rw [View.readCov, View.readAt_full]
  unfold kernelRun0_A.sl.HS0_3
  refine (body12 i arg3 arg4 arg5 (harg3.unread x1) (harg4.unread x2) (harg5.unread x3) _ _ _ _ _ _ _ _ _ _ arg12.view arg12.view.junk _ _ _ _ _ _ _ rfl rfl (fun d r => ?_) d r).trans ?_
  · rw [pb2_nil, List.nil_append, View.writes_append, loop12']
    · unfold kernelRun0_A.sl.HS0_1
      rw [View.read_writes_full, pay25_at, zero_add]
    · exact trips_eq i
    · exact trips2_eq i
  · simp only [harg3.read_unread, harg4.read_unread, harg5.read_unread]
    rw [show kernelRun0_A.sl.r_1 c arg2 harg2 x0 = x0 from by unfold kernelRun0_A.sl.r_1; rw [readAt_whole], show kernelRun0_A.sl.r c arg7 harg7 x5 = x5 from by unfold kernelRun0_A.sl.r; rw [readAt_whole],
      show kernelRun0_A.sl.r_2 c arg8 harg8 x6 = k0_pay26 (F := Ideal) x6 from by unfold kernelRun0_A.sl.r_2; rw [readAt_whole],
      show kernelRun0_A.sl.r_3 c arg6 harg6 arg7 harg7 x4 x5 = k0_pay27 (F := Ideal) x5 x4 from by unfold kernelRun0_A.sl.r_3; rw [readAt_whole, readAt_whole]]

theorem out_C_8 (hc0 : ¬ cond0_0 i) (hc1 : cond0_1 i) (κ : Fin 4096) (d : Fin 256) :
    out0_C_8 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xs1 (ix2 κ d) =
      (xo8 (ix2 κ d) + gk (i 1).val x0 x1 x3 x5 (k0_pay26 (F := Ideal) x6) (k0_pay27 (F := Ideal) x5 x4) κ d : EReal) := by
  unfold out0_C_8 kernelRun0_C
  dsimp only
  unfold kernelRun0_C.sl.r_11 kernelRun0_C.sl.H8_1 kernelRun0_C.sl.v101
  refine (body10 i arg3 arg5 (harg3.unread x1) (harg5.unread x3) _ _ _ _ _ _ _ _ arg10.view (harg10.unread xo8) _ _ _ _ _ (fun κ d => xo8 (ix2 κ d)) (fun κ d => ?_) κ d).trans ?_
  · rw [pb2_nil, List.nil_append, loop10']
    · rw [harg10.read_unread]
    · exact trips_eq i
    · exact trips2_eq i
  · simp only [harg3.read_unread, harg4.read_unread, harg5.read_unread]
    rw [show kernelRun0_C.sl.r_1 c arg2 harg2 x0 = x0 from by unfold kernelRun0_C.sl.r_1; rw [readAt_whole], show kernelRun0_C.sl.r c arg7 harg7 x5 = x5 from by unfold kernelRun0_C.sl.r; rw [readAt_whole],
      show kernelRun0_C.sl.r_2 c arg8 harg8 x6 = k0_pay26 (F := Ideal) x6 from by unfold kernelRun0_C.sl.r_2; rw [readAt_whole],
      show kernelRun0_C.sl.r_3 c arg6 harg6 arg7 harg7 x4 x5 = k0_pay27 (F := Ideal) x5 x4 from by unfold kernelRun0_C.sl.r_3; rw [readAt_whole, readAt_whole]]

theorem sout_C_1 (hc0 : ¬ cond0_0 i) (hc1 : cond0_1 i) (κ : Fin 4096) (d : Fin 128) :
    sout0_C_1 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xs1 (ix2 κ d) =
      (xs1 (ix2 κ d) + gv (i 1).val x0 x1 x5 (k0_pay26 (F := Ideal) x6) κ d : EReal) := by
  unfold sout0_C_1 kernelRun0_C
  dsimp only
  unfold kernelRun0_C.sl.HS1_2 kernelRun0_C.sl.HS1_1 kernelRun0_C.sl.v108
  refine (body13 i arg3 (harg3.unread x1) _ _ _ _ _ arg13.view (harg13.unread xs1) _ _ _ _ _ (fun κ d => xs1 (ix2 κ d)) (fun κ d => ?_) κ d).trans ?_
  · rw [pb2_nil, List.nil_append, loop13']
    · rw [harg13.read_unread]
    · exact trips_eq i
    · exact trips2_eq i
  · simp only [harg3.read_unread, harg4.read_unread, harg5.read_unread]
    rw [show kernelRun0_C.sl.r_1 c arg2 harg2 x0 = x0 from by unfold kernelRun0_C.sl.r_1; rw [readAt_whole], show kernelRun0_C.sl.r c arg7 harg7 x5 = x5 from by unfold kernelRun0_C.sl.r; rw [readAt_whole],
      show kernelRun0_C.sl.r_2 c arg8 harg8 x6 = k0_pay26 (F := Ideal) x6 from by unfold kernelRun0_C.sl.r_2; rw [readAt_whole]]

theorem out_C_7 (hc0 : ¬ cond0_0 i) (hc1 : cond0_1 i) (r : Fin 1024) (d : Fin 256) :
    out0_C_7 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xs1 (ix2 r d) =
      (∑ κ : Fin 4096, tq (i 1).val x0 x1 x2 x3 x5 (k0_pay26 (F := Ideal) x6) (k0_pay27 (F := Ideal) x5 x4) κ d r : EReal) := by
  unfold out0_C_7 kernelRun0_C
  dsimp only
  rw [View.read_writes_full, pay3_at]
  unfold kernelRun0_C.sl.v174
  rw [View.readCov, View.readAt_full]
  unfold kernelRun0_C.sl.HS0_3
  refine (body12 i arg3 arg4 arg5 (harg3.unread x1) (harg4.unread x2) (harg5.unread x3) _ _ _ _ _ _ _ _ _ _ arg12.view arg12.view.junk _ _ _ _ _ _ _ rfl rfl (fun d r => ?_) d r).trans ?_
  · rw [pb2_nil, List.nil_append, View.writes_append, loop12']
    · unfold kernelRun0_C.sl.HS0_1
      rw [View.read_writes_full, pay25_at, zero_add]
    · exact trips_eq i
    · exact trips2_eq i
  · simp only [harg3.read_unread, harg4.read_unread, harg5.read_unread]
    rw [show kernelRun0_C.sl.r_1 c arg2 harg2 x0 = x0 from by unfold kernelRun0_C.sl.r_1; rw [readAt_whole], show kernelRun0_C.sl.r c arg7 harg7 x5 = x5 from by unfold kernelRun0_C.sl.r; rw [readAt_whole],
      show kernelRun0_C.sl.r_2 c arg8 harg8 x6 = k0_pay26 (F := Ideal) x6 from by unfold kernelRun0_C.sl.r_2; rw [readAt_whole],
      show kernelRun0_C.sl.r_3 c arg6 harg6 arg7 harg7 x4 x5 = k0_pay27 (F := Ideal) x5 x4 from by unfold kernelRun0_C.sl.r_3; rw [readAt_whole, readAt_whole]]

theorem out_C_9 (hc0 : ¬ cond0_0 i) (hc1 : cond0_1 i) (κ : Fin 4096) (d : Fin 128) :
    out0_C_9 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xs1 (ix2 κ d) =
      (xs1 (ix2 κ d) + gv (i 1).val x0 x1 x5 (k0_pay26 (F := Ideal) x6) κ d : EReal) := by
  refine Eq.trans ?_ (sout_C_1 c i arg2 harg2 arg3 harg3 arg4 harg4 arg5 harg5 arg6 harg6 arg7 harg7 arg8 harg8 arg9 harg9 arg10 harg10 arg11 harg11 arg12 harg12 arg13 harg13 x0 x1 x2 x3 x4 x5 x6 xo8 xs1 hc0 hc1 κ d)
  unfold out0_C_9 sout0_C_1 kernelRun0_C
  dsimp only
  rw [View.read_writes_full, pay4_at]
  unfold kernelRun0_C.sl.v180
  rw [View.readAt_full]

end Point

end Cert.KernelIdeal.Attn

end
-- ==== Proof.Attn.Real.lean ====
/- One group's contributions over the real numbers. -/
module

public import proofs.«01_k».proof.Proof.Attn.Tile
public import proofs.«01_k».proof.Proof.Attn.Loop
public import proofs.«01_k».proof.Proof.Attn.Maths

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn

section Real

variable (q k : Fin 4096 → Fin 2048 → ℝ) (v dO o : Fin 4096 → Fin 1024 → ℝ) (l : Fin 8 → Fin 4096 → ℝ) (h : Fin 8) (g : Fin 4)
  (x0 : Vec Ideal S1024x256 .bf16) (x1 : Vec Ideal S4096x256 .bf16) (x2 : Vec Ideal S256x4096 .bf16) (x3 : Vec Ideal S4096x128 .bf16)
  (x4 : Vec Ideal S1024x128 .f32) (x5 : Vec Ideal S1024x128 .bf16) (x6 : Vec Ideal S1x1x1024 .f32)

/-- The blocks a point reads, at their places in the whole arrays. -/
structure Blocks : Prop where
  h0 : ∀ r d, x0 (ix2 r d) = (q (row g r) (cq h d) : EReal)
  h1 : ∀ κ d, x1 (ix2 κ d) = (k κ (cq h d) : EReal)
  h2 : ∀ d κ, x2 (ix2 d κ) = (k κ (cq h d) : EReal)
  h3 : ∀ κ e, x3 (ix2 κ e) = (v κ (cv h e) : EReal)
  h4 : ∀ r e, x4 (ix2 r e) = (o (row g r) (cv h e) : EReal)
  h5 : ∀ r e, x5 (ix2 r e) = (dO (row g r) (cv h e) : EReal)
  h6 : ∀ y, x6 y = (l h (row g (y 2)) : EReal)

variable (B : Blocks q k v dO o l h g x0 x1 x2 x3 x4 x5 x6)

include B

theorem sc_real (κ : Fin 4096) (r : Fin 1024) : sc x0 x1 κ r = (rS q k h κ (row g r) : EReal) := by
  unfold sc rS
  rw [coe_sum]
  exact Finset.sum_congr rfl fun d _ => by rw [B.h0, B.h1, EReal.coe_mul]

theorem dp_real (κ : Fin 4096) (r : Fin 1024) : dp x3 x5 κ r = (rDP v dO h κ (row g r) : EReal) := by
  unfold dp rDP
  rw [coe_sum]
  exact Finset.sum_congr rfl fun d _ => by rw [B.h3, B.h5, EReal.coe_mul]

theorem dl_real (r : Fin 1024) : k0_pay27 (F := Ideal) x5 x4 (ix2 0 r) = (rD dO o h (row g r) : EReal) := by
  rw [pay27_at]
  have e : ∀ a : Fin 128, (x4 (ix2 r a) : EReal) * x5 (ix2 r a) = ((o (row g r) (cv h a) * dO (row g r) (cv h a) : ℝ) : EReal) := fun a => by
    rw [B.h4, B.h5, EReal.coe_mul]
  simp only [e, ← EReal.coe_sub, sub_self, EReal.coe_zero, Finset.sum_const_zero, add_zero]
  unfold rD
  rw [coe_sum]

theorem pr_real (κ : Fin 4096) (r : Fin 1024) : pr g.val x0 x1 (k0_pay26 (F := Ideal) x6) κ r = (rP q k l h κ (row g r) : EReal) := by
  unfold pr rP
  rw [sc_real q k v dO o l h g x0 x1 x2 x3 x4 x5 x6 B, pay26_at, B.h6]
  show Ideal.exp ((if κ.val ≤ 1024 * g.val + r.val then (rS q k h κ (row g r) : EReal) else ⊥) - (l h (row g r) : EReal)) = _
  show _ = (((if κ.val ≤ 1024 * g.val + r.val then Real.exp (rS q k h κ (row g r) - l h (row g r)) else 0 : ℝ)) : EReal)
  split
  · rw [← EReal.coe_sub]; rfl
  · rw [sub_eq_add_neg, EReal.bot_add]; rfl

theorem ds_real (κ : Fin 4096) (r : Fin 1024) :
    ds g.val x0 x1 x3 x5 (k0_pay26 (F := Ideal) x6) (k0_pay27 (F := Ideal) x5 x4) κ r = (rDS q k v dO o l h κ (row g r) : EReal) := by
  unfold ds rDS
  rw [pr_real q k v dO o l h g x0 x1 x2 x3 x4 x5 x6 B, dp_real q k v dO o l h g x0 x1 x2 x3 x4 x5 x6 B, dl_real q k v dO o l h g x0 x1 x2 x3 x4 x5 x6 B,
    EReal.coe_mul, EReal.coe_sub]

theorem gk_real (κ : Fin 4096) (d : Fin 256) :
    gk g.val x0 x1 x3 x5 (k0_pay26 (F := Ideal) x6) (k0_pay27 (F := Ideal) x5 x4) κ d =
      ((∑ r : Fin 1024, rDS q k v dO o l h κ (row g r) * q (row g r) (cq h d) : ℝ) : EReal) := by
  unfold gk
  rw [coe_sum]
  exact Finset.sum_congr rfl fun r _ => by rw [ds_real q k v dO o l h g x0 x1 x2 x3 x4 x5 x6 B, B.h0, EReal.coe_mul]

theorem gv_real (κ : Fin 4096) (e : Fin 128) :
    gv g.val x0 x1 x5 (k0_pay26 (F := Ideal) x6) κ e = ((∑ r : Fin 1024, rP q k l h κ (row g r) * dO (row g r) (cv h e) : ℝ) : EReal) := by
  unfold gv
  rw [coe_sum]
  exact Finset.sum_congr rfl fun r _ => by rw [pr_real q k v dO o l h g x0 x1 x2 x3 x4 x5 x6 B, B.h5, EReal.coe_mul]

theorem tq_real (d : Fin 256) (r : Fin 1024) :
    (∑ κ : Fin 4096, tq g.val x0 x1 x2 x3 x5 (k0_pay26 (F := Ideal) x6) (k0_pay27 (F := Ideal) x5 x4) κ d r : EReal) =
      ((∑ κ : Fin 4096, k κ (cq h d) * rDS q k v dO o l h κ (row g r) : ℝ) : EReal) := by
  unfold tq
  rw [coe_sum]
  exact Finset.sum_congr rfl fun κ _ => by rw [ds_real q k v dO o l h g x0 x1 x2 x3 x4 x5 x6 B, B.h2, EReal.coe_mul]

end Real

end Cert.KernelIdeal.Attn

end
-- ==== Proof.Attn.Fold.lean ====
/- The attention backward's grid: which block each point reads, and what the points of a head add up to. -/
module

public import proofs.«01_k».proof.Proof.Attn.Point
public import proofs.«01_k».proof.Proof.Attn.Real
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.KernelIdeal.Value Cert.Attn

/-- The grid point of head `h` and query group `g`. -/
def pt (h : Fin 8) (g : Fin 4) : Fin cfg0.N := ⟨4 * h.val + g.val, by rw [show cfg0.N = 32 from N_0]; omega⟩
theorem coord1 : ∀ (h : Fin 8) (g : Fin 4), (grid0.coords (pt h g) 1).val = g.val := by decide +kernel
theorem ix_0 : ∀ (h : Fin 8) (g : Fin 4), win0_0.index (pt h g) = ![g.val, h.val] := by decide +kernel
theorem ix_1 : ∀ (h : Fin 8) (g : Fin 4), win0_1.index (pt h g) = ![0, h.val] := by decide +kernel
theorem ix_2 : ∀ (h : Fin 8) (g : Fin 4), win0_2.index (pt h g) = ![h.val, 0] := by decide +kernel
theorem ix_3 : ∀ (h : Fin 8) (g : Fin 4), win0_3.index (pt h g) = ![0, h.val] := by decide +kernel
theorem ix_4 : ∀ (h : Fin 8) (g : Fin 4), win0_4.index (pt h g) = ![g.val, h.val] := by decide +kernel
theorem ix_5 : ∀ (h : Fin 8) (g : Fin 4), win0_5.index (pt h g) = ![g.val, h.val] := by decide +kernel
theorem ix_6 : ∀ (h : Fin 8) (g : Fin 4), win0_6.index (pt h g) = ![h.val, 0, g.val] := by decide +kernel

section Fold

variable (m : (ℓ : Loc nD τ sig) → Buf (Elt Ideal) ℓ) (c : Dev nD) (h : Fin 8) (g : Fin 4)

theorem blk0 (r : Fin 1024) (d : Fin 256) : iblk m c 0 (pt h g) (ix2 r d) = V m c main_arg0 (ix2 (row g r) (cq h d)) := by
  blk_ext [iblk, ix_0 h g, row, cq]
theorem blk1 (κ : Fin 4096) (d : Fin 256) : iblk m c 1 (pt h g) (ix2 κ d) = V m c main_arg1 (ix2 κ (cq h d)) := by
  blk_ext [iblk, ix_1 h g, row, cq]
theorem blk2 (d : Fin 256) (κ : Fin 4096) : iblk m c 2 (pt h g) (ix2 d κ) = V m c main_v21 (ix2 (cq h d) κ) := by
  blk_ext [iblk, ix_2 h g, row, cq]
theorem blk3 (κ : Fin 4096) (e : Fin 128) : iblk m c 3 (pt h g) (ix2 κ e) = V m c main_arg2 (ix2 κ (cv h e)) := by
  blk_ext [iblk, ix_3 h g, row, cv]
theorem blk4 (r : Fin 1024) (e : Fin 128) : iblk m c 4 (pt h g) (ix2 r e) = V m c main_v46 (ix2 (row g r) (cv h e)) := by
  blk_ext [iblk, ix_4 h g, row, cv]
theorem blk5 (r : Fin 1024) (e : Fin 128) : iblk m c 5 (pt h g) (ix2 r e) = V m c main_arg3 (ix2 (row g r) (cv h e)) := by
  blk_ext [iblk, ix_5 h g, row, cv]
theorem rd6 (X : S8x1x4096.Idx → EReal) (y : S1x1x1024.Idx) :
    ((cfg0.win 6).blk (pt h g)).view.read (Elt Ideal) X y = X (ix3 h (0 : Fin 1) (row g (y 2))) := by
  have e := ix_6 h g
  have y0 : (y 0).val < 1 := (y 0).isLt
  have y1 : (y 1).val < 1 := (y 1).isLt
  show X (((cfg0.win 6).blk (pt h g)).view.emb y) = _
  refine congrArg X (funext fun a => Fin.ext ?_)
  match a with
  | ⟨0, _⟩ =>
    show win0_6.index (pt h g) 0 * 1 + 1 * (y 0).val = h.val
    rw [e]
    show h.val * 1 + 1 * (y 0).val = h.val
    omega
  | ⟨1, _⟩ =>
    show win0_6.index (pt h g) 1 * 1 + 1 * (y 1).val = 0
    rw [e]
    show 0 * 1 + 1 * (y 1).val = 0
    omega
  | ⟨2, _⟩ =>
    show win0_6.index (pt h g) 2 * 1024 + 1 * (y 2).val = 1024 * g.val + (y 2).val
    rw [e]
    show g.val * 1024 + 1 * (y 2).val = 1024 * g.val + (y 2).val
    omega

theorem blk6 (y : S1x1x1024.Idx) : (iblk m c 6 (pt h g) : Vec Ideal S1x1x1024 .f32) y = (V m c main_v47 : S8x1x4096.Idx → EReal) (ix3 h (0 : Fin 1) (row g (y 2))) := by
  unfold iblk
  exact rd6 h g (V m c main_v47) y

variable (q k : Fin 4096 → Fin 2048 → ℝ) (v dO o : Fin 4096 → Fin 1024 → ℝ) (l : Fin 8 → Fin 4096 → ℝ)

/-- The arrays the call is given, over the real numbers. -/
structure Arrays : Prop where
  hq : ∀ n d, V m c main_arg0 (ix2 n d) = (q n d : EReal)
  hk : ∀ n d, V m c main_arg1 (ix2 n d) = (k n d : EReal)
  ht : ∀ d n, V m c main_v21 (ix2 d n) = (k n d : EReal)
  hv : ∀ n e, V m c main_arg2 (ix2 n e) = (v n e : EReal)
  ho : ∀ n e, V m c main_v46 (ix2 n e) = (o n e : EReal)
  hd : ∀ n e, V m c main_arg3 (ix2 n e) = (dO n e : EReal)
  hl : ∀ h n, (V m c main_v47 : S8x1x4096.Idx → EReal) (ix3 h (0 : Fin 1) n) = (l h n : EReal)

theorem blocks (A : Arrays m c q k v dO o l) : Blocks q k v dO o l h g (iblk m c 0 (pt h g)) (iblk m c 1 (pt h g)) (iblk m c 2 (pt h g)) (iblk m c 3 (pt h g)) (iblk m c 4 (pt h g)) (iblk m c 5 (pt h g)) (iblk m c 6 (pt h g)) where
  h0 r d := (blk0 m c h g r d).trans (A.hq _ _)
  h1 κ d := (blk1 m c h g κ d).trans (A.hk _ _)
  h2 d κ := (blk2 m c h g d κ).trans (A.ht _ _)
  h3 κ e := (blk3 m c h g κ e).trans (A.hv _ _)
  h4 r e := (blk4 m c h g r e).trans (A.ho _ _)
  h5 r e := (blk5 m c h g r e).trans (A.hd _ _)
  h6 y := (blk6 m c h g y).trans (A.hl _ _)

variable (A : Arrays m c q k v dO o l) (acc : Vec Ideal S1024x256 .f32 × Vec Ideal S4096x256 .f32 × Vec Ideal S4096x128 .bf16 × Vec Ideal S4096x128 .f32)

include A

theorem st7 (r : Fin 1024) (d : Fin 256) : (stAt0 m c (pt h g).val (pt h g).isLt acc).1 (ix2 r d) =
    ((∑ κ : Fin 4096, k κ (cq h d) * rDS q k v dO o l h κ (row g r) : ℝ) : EReal) := by
  have hv : (pt h g).val = 4 * h.val + g.val := rfl
  rw [← tq_real q k v dO o l h g (iblk m c 0 (pt h g)) (iblk m c 1 (pt h g)) (iblk m c 2 (pt h g)) (iblk m c 3 (pt h g)) (iblk m c 4 (pt h g)) (iblk m c 5 (pt h g)) (iblk m c 6 (pt h g)) (blocks m c h g q k v dO o l A), ← coord1 h g]
  by_cases h0 : (pt h g).val % 4 = 0
  · rw [stAt0_A m c (pt h g) acc h0 (by omega)]
    dsimp only
    exact out_A_7 ..
  · by_cases h1 : (pt h g).val % 4 = 3
    · rw [stAt0_C m c (pt h g) acc h0 h1]
      dsimp only
      exact out_C_7 ..
    · rw [stAt0_B m c (pt h g) acc h0 h1]
      dsimp only
      exact out_B_7 ..

theorem st8 (κ : Fin 4096) (d : Fin 256) : (stAt0 m c (pt h g).val (pt h g).isLt acc).2.1 (ix2 κ d) =
    ((if g.val = 0 then 0 else acc.2.1 (ix2 κ d)) + ((∑ r : Fin 1024, rDS q k v dO o l h κ (row g r) * q (row g r) (cq h d) : ℝ) : EReal) : EReal) := by
  have hv : (pt h g).val = 4 * h.val + g.val := rfl
  rw [← gk_real q k v dO o l h g (iblk m c 0 (pt h g)) (iblk m c 1 (pt h g)) (iblk m c 2 (pt h g)) (iblk m c 3 (pt h g)) (iblk m c 4 (pt h g)) (iblk m c 5 (pt h g)) (iblk m c 6 (pt h g)) (blocks m c h g q k v dO o l A), ← coord1 h g]
  by_cases h0 : (pt h g).val % 4 = 0
  · rw [stAt0_A m c (pt h g) acc h0 (by omega), if_pos (by rw [coord1]; omega), zero_add]
    dsimp only
    exact out_A_8 ..
  · rw [if_neg (by rw [coord1]; omega)]
    by_cases h1 : (pt h g).val % 4 = 3
    · rw [stAt0_C m c (pt h g) acc h0 h1]
      dsimp only
      exact out_C_8 ..
    · rw [stAt0_B m c (pt h g) acc h0 h1]
      dsimp only
      exact out_B_8 ..

theorem st13 (κ : Fin 4096) (e : Fin 128) : (stAt0 m c (pt h g).val (pt h g).isLt acc).2.2.2 (ix2 κ e) =
    ((if g.val = 0 then 0 else acc.2.2.2 (ix2 κ e)) + ((∑ r : Fin 1024, rP q k l h κ (row g r) * dO (row g r) (cv h e) : ℝ) : EReal) : EReal) := by
  have hv : (pt h g).val = 4 * h.val + g.val := rfl
  rw [← gv_real q k v dO o l h g (iblk m c 0 (pt h g)) (iblk m c 1 (pt h g)) (iblk m c 2 (pt h g)) (iblk m c 3 (pt h g)) (iblk m c 4 (pt h g)) (iblk m c 5 (pt h g)) (iblk m c 6 (pt h g)) (blocks m c h g q k v dO o l A), ← coord1 h g]
  by_cases h0 : (pt h g).val % 4 = 0
  · rw [stAt0_A m c (pt h g) acc h0 (by omega), if_pos (by rw [coord1]; omega), zero_add]
    dsimp only
    exact sout_A_1 ..
  · rw [if_neg (by rw [coord1]; omega)]
    by_cases h1 : (pt h g).val % 4 = 3
    · rw [stAt0_C m c (pt h g) acc h0 h1]
      dsimp only
      exact sout_C_1 ..
    · rw [stAt0_B m c (pt h g) acc h0 h1]
      dsimp only
      exact sout_B_1 ..

theorem st9 (hg : g.val = 3) (κ : Fin 4096) (e : Fin 128) : (stAt0 m c (pt h g).val (pt h g).isLt acc).2.2.1 (ix2 κ e) =
    (acc.2.2.2 (ix2 κ e) + ((∑ r : Fin 1024, rP q k l h κ (row g r) * dO (row g r) (cv h e) : ℝ) : EReal) : EReal) := by
  have hv : (pt h g).val = 4 * h.val + g.val := rfl
  rw [← gv_real q k v dO o l h g (iblk m c 0 (pt h g)) (iblk m c 1 (pt h g)) (iblk m c 2 (pt h g)) (iblk m c 3 (pt h g)) (iblk m c 4 (pt h g)) (iblk m c 5 (pt h g)) (iblk m c 6 (pt h g)) (blocks m c h g q k v dO o l A), ← coord1 h g]
  rw [stAt0_C m c (pt h g) acc (by omega) (by omega)]
  dsimp only
  exact out_C_9 ..

end Fold

end Cert.KernelIdeal.Attn

end
-- ==== Proof.Attn.Final.lean ====
/- What the attention backward's three results hold, over the real numbers. -/
module

public import proofs.«01_k».proof.Proof.Attn.Fold

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.KernelIdeal.Value Cert.Attn

section Final

variable (m : (ℓ : Loc nD τ sig) → Buf (Elt Ideal) ℓ) (c : Dev nD)

theorem outs_st (n : ℕ) (hn : n < cfg0.N) : ∃ acc, outsAt0 m c n hn = stAt0 m c n hn acc := by
  cases n with
  | zero => exact ⟨_, outsAt0_zero m c hn⟩
  | succ n => exact ⟨_, outsAt0_succ m c n hn⟩

theorem outs_next (h : Fin 8) (g : Fin 4) (hg : g.val + 1 < 4) :
    outsAt0 m c (pt h ⟨g.val + 1, hg⟩).val (pt h ⟨g.val + 1, hg⟩).isLt =
      stAt0 m c (pt h ⟨g.val + 1, hg⟩).val (pt h ⟨g.val + 1, hg⟩).isLt (outsAt0 m c (pt h g).val (pt h g).isLt) :=
  outsAt0_succ m c (4 * h.val + g.val) _

variable (q k : Fin 4096 → Fin 2048 → ℝ) (v dO o : Fin 4096 → Fin 1024 → ℝ) (l : Fin 8 → Fin 4096 → ℝ)
variable (A : Arrays m c q k v dO o l)

include A

theorem outs7 (h : Fin 8) (g : Fin 4) (r : Fin 1024) (d : Fin 256) : (outsAt0 m c (pt h g).val (pt h g).isLt).1 (ix2 r d) =
    ((∑ κ : Fin 4096, k κ (cq h d) * rDS q k v dO o l h κ (row g r) : ℝ) : EReal) := by
  obtain ⟨acc, e⟩ := outs_st m c (pt h g).val (pt h g).isLt
  rw [e]
  exact st7 m c h g q k v dO o l A acc r d

theorem outs8 (h : Fin 8) (κ : Fin 4096) (d : Fin 256) : (outsAt0 m c (pt h 3).val (pt h 3).isLt).2.1 (ix2 κ d) =
    ((∑ n : Fin 4096, rDS q k v dO o l h κ n * q n (cq h d) : ℝ) : EReal) := by
  have e0 : (outsAt0 m c (pt h 0).val (pt h 0).isLt).2.1 (ix2 κ d) = ((∑ r : Fin 1024, rDS q k v dO o l h κ (row 0 r) * q (row 0 r) (cq h d) : ℝ) : EReal) := by
    obtain ⟨acc, e'⟩ := outs_st m c (pt h 0).val (pt h 0).isLt
    rw [e']
    exact (st8 m c h 0 q k v dO o l A acc κ d).trans (by rw [if_pos (show (0 : Fin 4).val = 0 from rfl), zero_add])
  have e1 : (outsAt0 m c (pt h 1).val (pt h 1).isLt).2.1 (ix2 κ d) = (((∑ r : Fin 1024, rDS q k v dO o l h κ (row 0 r) * q (row 0 r) (cq h d) : ℝ) : EReal) + ((∑ r : Fin 1024, rDS q k v dO o l h κ (row 1 r) * q (row 1 r) (cq h d) : ℝ) : EReal) : EReal) :=
    (congrArg (fun s => s.2.1 (ix2 κ d)) (outs_next m c h 0 (by decide))).trans ((st8 m c h 1 q k v dO o l A _ κ d).trans (by rw [if_neg (by decide), e0]))
  have e2 : (outsAt0 m c (pt h 2).val (pt h 2).isLt).2.1 (ix2 κ d) = ((((∑ r : Fin 1024, rDS q k v dO o l h κ (row 0 r) * q (row 0 r) (cq h d) : ℝ) : EReal) + ((∑ r : Fin 1024, rDS q k v dO o l h κ (row 1 r) * q (row 1 r) (cq h d) : ℝ) : EReal) : EReal) + ((∑ r : Fin 1024, rDS q k v dO o l h κ (row 2 r) * q (row 2 r) (cq h d) : ℝ) : EReal) : EReal) :=
    (congrArg (fun s => s.2.1 (ix2 κ d)) (outs_next m c h 1 (by decide))).trans ((st8 m c h 2 q k v dO o l A _ κ d).trans (by rw [if_neg (by decide), e1]))
  refine (congrArg (fun s => s.2.1 (ix2 κ d)) (outs_next m c h 2 (by decide))).trans ((st8 m c h 3 q k v dO o l A _ κ d).trans ?_)
  rw [if_neg (by decide), e2, sum_rows, Fin.sum_univ_four, EReal.coe_add, EReal.coe_add, EReal.coe_add]

theorem outs9 (h : Fin 8) (κ : Fin 4096) (e : Fin 128) : (outsAt0 m c (pt h 3).val (pt h 3).isLt).2.2.1 (ix2 κ e) =
    ((∑ n : Fin 4096, rP q k l h κ n * dO n (cv h e) : ℝ) : EReal) := by
  have e0 : (outsAt0 m c (pt h 0).val (pt h 0).isLt).2.2.2 (ix2 κ e) = ((∑ r : Fin 1024, rP q k l h κ (row 0 r) * dO (row 0 r) (cv h e) : ℝ) : EReal) := by
    obtain ⟨acc, e'⟩ := outs_st m c (pt h 0).val (pt h 0).isLt
    rw [e']
    exact (st13 m c h 0 q k v dO o l A acc κ e).trans (by rw [if_pos (show (0 : Fin 4).val = 0 from rfl), zero_add])
  have e1 : (outsAt0 m c (pt h 1).val (pt h 1).isLt).2.2.2 (ix2 κ e) = (((∑ r : Fin 1024, rP q k l h κ (row 0 r) * dO (row 0 r) (cv h e) : ℝ) : EReal) + ((∑ r : Fin 1024, rP q k l h κ (row 1 r) * dO (row 1 r) (cv h e) : ℝ) : EReal) : EReal) :=
    (congrArg (fun s => s.2.2.2 (ix2 κ e)) (outs_next m c h 0 (by decide))).trans ((st13 m c h 1 q k v dO o l A _ κ e).trans (by rw [if_neg (by decide), e0]))
  have e2 : (outsAt0 m c (pt h 2).val (pt h 2).isLt).2.2.2 (ix2 κ e) = ((((∑ r : Fin 1024, rP q k l h κ (row 0 r) * dO (row 0 r) (cv h e) : ℝ) : EReal) + ((∑ r : Fin 1024, rP q k l h κ (row 1 r) * dO (row 1 r) (cv h e) : ℝ) : EReal) : EReal) + ((∑ r : Fin 1024, rP q k l h κ (row 2 r) * dO (row 2 r) (cv h e) : ℝ) : EReal) : EReal) :=
    (congrArg (fun s => s.2.2.2 (ix2 κ e)) (outs_next m c h 1 (by decide))).trans ((st13 m c h 2 q k v dO o l A _ κ e).trans (by rw [if_neg (by decide), e1]))
  refine (congrArg (fun s => s.2.2.1 (ix2 κ e)) (outs_next m c h 2 (by decide))).trans ((st9 m c h 3 q k v dO o l A _ rfl κ e).trans ?_)
  rw [e2, sum_rows, Fin.sum_univ_four, EReal.coe_add, EReal.coe_add, EReal.coe_add]

omit A in
theorem acc_eq (t : Fin cfg0.N) (p : ℕ) (hp : p = t.val) (h : 0 + p < cfg0.N) :
    Pipeline.accAt (fun n h => stAt0 m c n h junk0) (stAt0 m c) 0 p h = outsAt0 m c t.val t.isLt := by
  subst hp
  exact (outsAt0_sweep m c t.val t.isLt).symm

/-- The first result: the gradient of `q`. -/
theorem G7_real (h : Fin 8) (n : Fin 4096) (d : Fin 256) : G7 m c (ix2 n (cq h d)) =
    ((∑ κ : Fin 4096, k κ (cq h d) * rDS q k v dO o l h κ n : ℝ) : EReal) := by
  obtain ⟨g, r, rfl⟩ : ∃ g r, n = row g r := ⟨⟨n.val / 1024, by omega⟩, ⟨n.val % 1024, by omega⟩, Fin.ext (by simp only [row]; omega)⟩
  have hp : pt7Of (ix2 (row g r) (cq h d)) = (pt h g).val := by
    show 1 * ((1024 * g.val + r.val) / 1024 - 0) + 4 * ((256 * h.val + d.val) / 256 - 0) = 4 * h.val + g.val
    omega
  have hl : loc7Of (ix2 (row g r) (cq h d)) = ix2 r d := by
    funext a
    match a with
    | ⟨0, _⟩ => exact Fin.ext (show (1024 * g.val + r.val) % 1024 = r.val by omega)
    | ⟨1, _⟩ => exact Fin.ext (show (256 * h.val + d.val) % 256 = d.val by omega)
  rw [← outs7 m c q k v dO o l A h g r d]
  unfold G7
  rw [dif_pos (lt_of_eq_of_lt hp (pt h g).isLt), acc_eq m c (pt h g) _ hp, hl]

/-- The second result: the gradient of `k`. -/
theorem G8_real (h : Fin 8) (κ : Fin 4096) (d : Fin 256) : G8 m c (ix2 κ (cq h d)) =
    ((∑ n : Fin 4096, rDS q k v dO o l h κ n * q n (cq h d) : ℝ) : EReal) := by
  have hp : pt8Of (ix2 κ (cq h d)) = (pt h 3).val := by
    show 4 * (8 * (κ.val / 4096 - 0) + 1 * ((256 * h.val + d.val) / 256 - 0)) + 3 = 4 * h.val + 3
    omega
  have hl : loc8Of (ix2 κ (cq h d)) = ix2 κ d := by
    funext a
    match a with
    | ⟨0, _⟩ => exact Fin.ext (show κ.val % 4096 = κ.val by omega)
    | ⟨1, _⟩ => exact Fin.ext (show (256 * h.val + d.val) % 256 = d.val by omega)
  rw [← outs8 m c q k v dO o l A h κ d]
  unfold G8
  rw [dif_pos (lt_of_eq_of_lt hp (pt h 3).isLt), acc_eq m c (pt h 3) _ hp, hl]

/-- The third result: the gradient of `v`. -/
theorem G9_real (h : Fin 8) (κ : Fin 4096) (e : Fin 128) : G9 m c (ix2 κ (cv h e)) =
    ((∑ n : Fin 4096, rP q k l h κ n * dO n (cv h e) : ℝ) : EReal) := by
  have hp : pt9Of (ix2 κ (cv h e)) = (pt h 3).val := by
    show 4 * (8 * (κ.val / 4096 - 0) + 1 * ((128 * h.val + e.val) / 128 - 0)) + 3 = 4 * h.val + 3
    omega
  have hl : loc9Of (ix2 κ (cv h e)) = ix2 κ e := by
    funext a
    match a with
    | ⟨0, _⟩ => exact Fin.ext (show κ.val % 4096 = κ.val by omega)
    | ⟨1, _⟩ => exact Fin.ext (show (128 * h.val + e.val) % 128 = e.val by omega)
  rw [← outs9 m c q k v dO o l A h κ e]
  unfold G9
  rw [dif_pos (lt_of_eq_of_lt hp (pt h 3).isLt), acc_eq m c (pt h 3) _ hp, hl]

end Final

end Cert.KernelIdeal.Attn
-- ==== Proof.Attn.HostRead.lean ====
/- What the host prepares for the attention backward: the transposed keys, the outputs and the logarithms of the sums. -/
module

public import proofs.«01_k».proof.Proof.Attn.Softmax
public import proofs.«01_k».proof.Proof.Attn.Final

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.KernelIdeal.Value Cert.Attn

/-- The transposed keys. -/
def kT (x1 : Vec Ideal S4096x2048 .bf16) : Vec Ideal S2048x4096 .bf16 := transpose S2048x4096 [1, 0] x1 transposes_S4096x2048_S2048x4096_1_0

/-- The rows' logarithms. -/
def lsv (s : FVec Ideal S8x4096x4096 .f32) : FVec Ideal S8x1x4096 .f32 :=
  broadcastInDim S8x1x4096 ![0, 2] bcast_S8x4096_S8x1x4096_0_2 (addf (mxr s) (Host.log (zw (ew s (mxr s)))))

/-- The rows' largest scores, as the softmax takes them. -/
def mx2 (s : FVec Ideal S8x4096x4096 .f32) : FVec Ideal S8x4096 .f32 :=
  maximumf (broadcastInDim S8x4096 ![] bcast_S_S8x4096 (constant S_ .f32 0xFF800000#32)) (mxr s)

/-- The outputs. -/
def ouv (s : FVec Ideal S8x4096x4096 .f32) (x2 : Vec Ideal S4096x1024 .bf16) : FVec Ideal S4096x1024 .f32 :=
  fv (ov (hv x2) (Host.divf (ew s (mx2 s)) (bc (zw (ew s (mx2 s))))))

section V

variable (m : (ℓ : Loc nD τ sig) → Buf (Elt Ideal) ℓ) (c : Dev nD)

theorem V47 : V m c main_v47 = lsv (sco (m ((c : Thread nD τ).loc main_arg0)) (m ((c : Thread nD τ).loc main_arg1))) := by
  simp only [V, hostOps0, hostOps0_1, hostOps0_2, hostOps0_3, hostOps0_4, List.flatten_cons, List.flatten_nil, List.append_nil, List.cons_append, List.nil_append, StableHlo.TRef.nullary, StableHlo.TRef.ternary, StableHlo.TRef.unary]
  after_results_simp
  simp only [StableHlo.TRef.toBuf, StableHlo.TRef.ofBuf, cast_eq]
  unfold lsv ew zw mxr sco msk hq
  rfl

theorem V46 : V m c main_v46 = ouv (sco (m ((c : Thread nD τ).loc main_arg0)) (m ((c : Thread nD τ).loc main_arg1))) (m ((c : Thread nD τ).loc main_arg2)) := by
  simp only [V, hostOps0, hostOps0_1, hostOps0_2, hostOps0_3, hostOps0_4, List.flatten_cons, List.flatten_nil, List.append_nil, List.cons_append, List.nil_append, StableHlo.TRef.nullary, StableHlo.TRef.ternary, StableHlo.TRef.unary]
  after_results_simp
  simp only [StableHlo.TRef.toBuf, StableHlo.TRef.ofBuf, cast_eq]
  unfold ouv fv ov bc mx2 ew zw mxr sco msk hq hv
  rfl

theorem V21 : V m c main_v21 = kT (m ((c : Thread nD τ).loc main_arg1)) := by
  simp only [V, hostOps0, hostOps0_1, hostOps0_2, hostOps0_3, hostOps0_4, List.flatten_cons, List.flatten_nil, List.append_nil, List.cons_append, List.nil_append]
  after_results_simp
  unfold kT
  rfl

end V

end Cert.KernelIdeal.Attn
-- ==== Proof.Attn.Host.lean ====
/- What the host prepares for the attention backward: the transposed keys, the outputs and the logarithms of the sums. -/
module

public import proofs.«01_k».proof.Proof.Attn.HostRead

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.KernelIdeal.Value Cert.Attn

theorem kT_at (x1 : Vec Ideal S4096x2048 .bf16) (d : Fin 2048) (n : Fin 4096) : kT x1 (ix2 d n) = x1 (ix2 n d) := by
  pointwise [kT]

theorem ls1 (x z : FVec Ideal S8x4096 .f32) (h : Fin 8) (n : Fin 4096) :
    broadcastInDim S8x1x4096 ![0, 2] bcast_S8x4096_S8x1x4096_0_2 (addf x (Host.log z)) (ix3 h (0 : Fin 1) n) = (x (ix2 h n) + Ideal.log (z (ix2 h n)) : EReal) := by
  pointwise []

theorem mx1 (x : FVec Ideal S8x4096 .f32) (h : Fin 8) (n : Fin 4096) :
    maximumf (broadcastInDim S8x4096 ![] bcast_S_S8x4096 (constant S_ .f32 0xFF800000#32)) x (ix2 h n) = x (ix2 h n) := by
  pointwise []
  rw [ninf]
  exact max_eq_right bot_le

theorem lsv_at (s : FVec Ideal S8x4096x4096 .f32) (h : Fin 8) (n : Fin 4096) :
    lsv s (ix3 h (0 : Fin 1) n) = (mxr s (ix2 h n) + Ideal.log (zw (ew s (mxr s)) (ix2 h n)) : EReal) := by
  unfold lsv
  exact ls1 (mxr s) (zw (ew s (mxr s))) h n

theorem mx2_at (s : FVec Ideal S8x4096x4096 .f32) (h : Fin 8) (n : Fin 4096) : mx2 s (ix2 h n) = mxr s (ix2 h n) := by
  unfold mx2
  exact mx1 (mxr s) h n

theorem ouv_at (s : FVec Ideal S8x4096x4096 .f32) (x2 : Vec Ideal S4096x1024 .bf16) (n : Fin 4096) (h : Fin 8) (e : Fin 128) :
    ouv s x2 (ix2 n (cv h e)) = ∑ κ : Fin 4096, (x2 (ix2 κ (cv h e)) * Ideal.div (ew s (mx2 s) (ix3 h n κ)) (zw (ew s (mx2 s)) (ix2 h n)) : EReal) := by
  rw [ouv, fv_at, ov_at]
  refine Finset.sum_congr rfl fun κ _ => ?_
  rw [hv_at]
  pointwise []
  rw [bc_at]

theorem div_coe (a b : ℝ) (hb : b ≠ 0) : Ideal.div (a : EReal) (b : EReal) = ((a / b : ℝ) : EReal) := by
  unfold Ideal.div
  rw [if_neg (by exact_mod_cast hb)]
  rw [div_eq_mul_inv, EReal.coe_mul, EReal.coe_inv]

theorem log_coe (r : ℝ) (hr : 0 < r) : Ideal.log (r : EReal) = (Real.log r : EReal) := if_neg (not_le.mpr hr)

section Reals

variable (m : (ℓ : Loc nD τ sig) → Buf (Elt Ideal) ℓ) (c : Dev nD)
  (x0 x1 : Vec Ideal S4096x2048 .bf16) (x2 : Vec Ideal S4096x1024 .bf16) (q k : Fin 4096 → Fin 2048 → ℝ) (v : Fin 4096 → Fin 1024 → ℝ)
  (M : Fin 8 → Fin 4096 → ℝ)
  (H0 : ∀ n d, x0 (ix2 n d) = (q n d : EReal)) (H1 : ∀ n d, x1 (ix2 n d) = (k n d : EReal)) (H2 : ∀ n d, x2 (ix2 n d) = (v n d : EReal))
  (HM : ∀ h n, mxr (sco x0 x1) (ix2 h n) = (M h n : EReal))

include H0 H1 HM

theorem lsv_real (h : Fin 8) (n : Fin 4096) :
    lsv (sco x0 x1) (ix3 h (0 : Fin 1) n) = ((M h n + Real.log (rZ q k M h n) : ℝ) : EReal) := by
  rw [lsv_at, zw_real x0 x1 q k M H0 H1 _ HM, HM, EReal.coe_add, log_coe _ (rZ_pos q k M h n)]

include H2

theorem ouv_real (n : Fin 4096) (h : Fin 8) (e : Fin 128) : ouv (sco x0 x1) x2 (ix2 n (cv h e)) = (rO q k v M n h e : EReal) := by
  have HM2 : ∀ h n, mx2 (sco x0 x1) (ix2 h n) = (M h n : EReal) := fun h n => (mx2_at _ h n).trans (HM h n)
  rw [ouv_at, rO, coe_sum]
  refine Finset.sum_congr rfl fun κ _ => ?_
  rw [ew_real x0 x1 q k M H0 H1 _ HM2, zw_real x0 x1 q k M H0 H1 _ HM2, div_coe _ _ (rZ_pos q k M h n).ne', H2, EReal.coe_mul]

end Reals

/-- A column of the outputs is some head's. -/
theorem cv_surj (j : Fin 1024) : ∃ h e, j = cv h e :=
  ⟨⟨j.val / 128, by omega⟩, ⟨j.val % 128, by omega⟩, Fin.ext (by simp only [cv]; omega)⟩
theorem cq_surj (j : Fin 2048) : ∃ h d, j = cq h d :=
  ⟨⟨j.val / 256, by omega⟩, ⟨j.val % 256, by omega⟩, Fin.ext (by simp only [cq]; omega)⟩

/-- The arrays of the call, named apart from how the host came by them. -/
theorem arrays_of (m : (ℓ : Loc nD τ sig) → Buf (Elt Ideal) ℓ) (c : Dev nD)
    (q k : Fin 4096 → Fin 2048 → ℝ) (v dO o : Fin 4096 → Fin 1024 → ℝ) (l : Fin 8 → Fin 4096 → ℝ)
    (X0 X1 : Vec Ideal S4096x2048 .bf16) (X2 X3 : Vec Ideal S4096x1024 .bf16) (Xt : Vec Ideal S2048x4096 .bf16) (Xo : FVec Ideal S4096x1024 .f32) (Xl : FVec Ideal S8x1x4096 .f32)
    (e0 : V m c main_arg0 = X0) (e1 : V m c main_arg1 = X1) (e2 : V m c main_arg2 = X2) (e3 : V m c main_arg3 = X3)
    (et : V m c main_v21 = Xt) (eo : V m c main_v46 = Xo) (el : V m c main_v47 = Xl)
    (h0 : ∀ n d, X0 (ix2 n d) = (q n d : EReal)) (h1 : ∀ n d, X1 (ix2 n d) = (k n d : EReal)) (h2 : ∀ n e, X2 (ix2 n e) = (v n e : EReal))
    (h3 : ∀ n e, X3 (ix2 n e) = (dO n e : EReal)) (ht : ∀ d n, Xt (ix2 d n) = (k n d : EReal)) (ho : ∀ n e, Xo (ix2 n e) = (o n e : EReal))
    (hl : ∀ h n, Xl (ix3 h (0 : Fin 1) n) = (l h n : EReal)) : Arrays m c q k v dO o l := by
  subst e0 e1 e2 e3 et eo el
  exact ⟨h0, h1, ht, h2, ho, h3, hl⟩

/-- Every query's output, by column. -/
def rOc (q k : Fin 4096 → Fin 2048 → ℝ) (v : Fin 4096 → Fin 1024 → ℝ) (M : Fin 8 → Fin 4096 → ℝ) (n : Fin 4096) (j : Fin 1024) : ℝ :=
  rO q k v M n ⟨j.val / 128, by omega⟩ ⟨j.val % 128, by omega⟩

theorem rOc_cv (q k : Fin 4096 → Fin 2048 → ℝ) (v : Fin 4096 → Fin 1024 → ℝ) (M : Fin 8 → Fin 4096 → ℝ) (n : Fin 4096) (h : Fin 8) (e : Fin 128) :
    rOc q k v M n (cv h e) = rO q k v M n h e := by
  have e1 : (⟨(cv h e).val / 128, by omega⟩ : Fin 8) = h := Fin.ext (by simp only [cv]; omega)
  have e2 : (⟨(cv h e).val % 128, by omega⟩ : Fin 128) = e := Fin.ext (by simp only [cv]; omega)
  rw [rOc, e1, e2]

/-- The arrays of the call, when the arguments are real numbers. -/
theorem arrays (m : (ℓ : Loc nD τ sig) → Buf (Elt Ideal) ℓ) (c : Dev nD)
    (q k : Fin 4096 → Fin 2048 → ℝ) (v dO : Fin 4096 → Fin 1024 → ℝ) (M : Fin 8 → Fin 4096 → ℝ)
    (H0 : ∀ n d, (m ((c : Thread nD τ).loc main_arg0) : Vec Ideal S4096x2048 .bf16) (ix2 n d) = (q n d : EReal))
    (H1 : ∀ n d, (m ((c : Thread nD τ).loc main_arg1) : Vec Ideal S4096x2048 .bf16) (ix2 n d) = (k n d : EReal))
    (H2 : ∀ n d, (m ((c : Thread nD τ).loc main_arg2) : Vec Ideal S4096x1024 .bf16) (ix2 n d) = (v n d : EReal))
    (H3 : ∀ n d, (m ((c : Thread nD τ).loc main_arg3) : Vec Ideal S4096x1024 .bf16) (ix2 n d) = (dO n d : EReal))
    (HM : ∀ h n, mxr (sco (m ((c : Thread nD τ).loc main_arg0)) (m ((c : Thread nD τ).loc main_arg1))) (ix2 h n) = (M h n : EReal)) :
    Arrays m c q k v dO (rOc q k v M) (fun h n => M h n + Real.log (rZ q k M h n)) := by
  refine arrays_of m c q k v dO _ _ _ _ _ _ _ _ _ (V_main_arg0 m c) (V_main_arg1 m c) (V_main_arg2 m c) (V_main_arg3 m c) (V21 m c) (V46 m c) (V47 m c)
    H0 H1 H2 H3 (fun d n => (kT_at _ d n).trans (H1 n d)) (fun n j => ?_) (lsv_real _ _ q k M H0 H1 HM)
  obtain ⟨h, e, rfl⟩ := cv_surj j
  rw [rOc_cv]
  exact ouv_real _ _ _ q k v M H0 H1 H2 HM n h e

end Cert.KernelIdeal.Attn
-- ==== Proof.Attn.Ref.lean ====
/- The derivative of softmax attention as the reference computes it, read at an index over the real numbers. -/
module

public import proofs.«01_k».proof.Proof.Attn.Host
public import proofs.«01_k».proof.Proof.Gen.ReferenceIdeal
public import proofs.«01_k».proof.Proof.Gen.ReferenceIdeal.Run

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Value Cert.Attn
open Cert.KernelIdeal.Attn (msk hq hv sco mxr ew zw bc fv mx2)

/-- The output gradients with the queries last. -/
def dT (y : FVec Ideal S4096x8x128 .f32) : FVec Ideal S8x128x4096 .f32 :=
  transpose S8x128x4096 [1, 2, 0] y transposes_S4096x8x128_S8x128x4096_1_2_0

/-- The output gradients against the values. -/
def dpv (y w : FVec Ideal S4096x8x128 .f32) : FVec Ideal S8x4096x4096 .f32 :=
  Host.dotGeneral dot_S8x128x4096_S4096x8x128_S8x4096x4096_1_2_2_0_0_1 none (dT y) w

/-- One over each row's sum squared, over the row. -/
def iz (z : FVec Ideal S8x4096 .f32) : FVec Ideal S8x4096x4096 .f32 :=
  broadcastInDim S8x4096x4096 ![0, 1, 2] bcast_S8x4096x1_S8x4096x4096_0_1_2 (Host.divf (broadcastInDim S8x4096x1 ![] bcast_S_S8x4096x1 (constant S_ .f32 0x3F800000#32))
    (mulf (broadcastInDim S8x4096x1 ![0, 1] bcast_S8x4096_S8x4096x1_0_1 z) (broadcastInDim S8x4096x1 ![0, 1] bcast_S8x4096_S8x4096x1_0_1 z)))

/-- What the row's sum sends back, over the row. -/
def nb (r : FVec Ideal S8x4096 .f32) : FVec Ideal S8x4096x4096 .f32 :=
  broadcastInDim S8x4096x4096 ![0, 1] bcast_S8x4096_S8x4096x4096_0_1
    (Host.reduceAdd (Host.negf (shapeCast S8x4096x1 r shapeCasts_S8x4096_S8x4096x1)) (constant S_ .f32 0x00000000#32) reducesTo_S8x4096x1_S8x4096_d2 h_S_)

/-- The gradient of the scores. -/
def dsv (dp e : FVec Ideal S8x4096x4096 .f32) (z : FVec Ideal S8x4096 .f32) : FVec Ideal S8x4096x4096 .f32 :=
  select msk (mulf (addf (Host.divf dp (bc z)) (nb (zw (mulf (mulf dp (iz z)) e)))) e)
    (broadcastInDim S8x4096x4096 ![] bcast_S_S8x4096x4096 (constant S_ .f32 0x00000000#32))

/-- The gradient of the queries, -/
def dqv (s : FVec Ideal S8x4096x4096 .f32) (w : FVec Ideal S4096x8x256 .f32) : FVec Ideal S4096x2048 .f32 :=
  shapeCast S4096x2048 (transpose S4096x8x256 [1, 0, 2] (Host.dotGeneral dot_S8x4096x4096_S4096x8x256_S8x4096x256_2_0_1_2_0_1 none s w) transposes_S8x4096x256_S4096x8x256_1_0_2) shapeCasts_S4096x8x256_S4096x2048

/-- of the keys, -/
def dkv (s : FVec Ideal S8x4096x4096 .f32) (w : FVec Ideal S4096x8x256 .f32) : FVec Ideal S4096x2048 .f32 :=
  shapeCast S4096x2048 (transpose S4096x8x256 [1, 0, 2] (Host.dotGeneral dot_S8x4096x4096_S4096x8x256_S8x4096x256_1_0_2_2_0_1 none s w) transposes_S8x4096x256_S4096x8x256_1_0_2) shapeCasts_S4096x8x256_S4096x2048

/-- and of the values. -/
def dvv (y : FVec Ideal S4096x8x128 .f32) (p : FVec Ideal S8x4096x4096 .f32) : FVec Ideal S4096x1024 .bf16 :=
  truncf .bf16 (shapeCast S4096x1024 (transpose S4096x8x128 [2, 0, 1] (Host.dotGeneral dot_S8x128x4096_S8x4096x4096_S8x128x4096_2_1_1_2_0_0 none (dT y) p) transposes_S8x128x4096_S4096x8x128_2_0_1) shapeCasts_S4096x8x128_S4096x1024) bitsLt_bf16_f32

theorem dpv_at (y w : FVec Ideal S4096x8x128 .f32) (h : Fin 8) (n κ : Fin 4096) :
    dpv y w (ix3 h n κ) = ∑ e : Fin 128, (y (ix3 n h e) * w (ix3 κ h e) : EReal) := by
  pointwise [dpv, dT]
theorem one' : Ideal.ofBits .f32 0x3F800000#32 = (1 : EReal) := by simp [Ideal.ofBits, Ideal.ieee, -EReal.coe_mul]; norm_num
theorem iz_at (z : FVec Ideal S8x4096 .f32) (h : Fin 8) (n κ : Fin 4096) :
    iz z (ix3 h n κ) = Ideal.div (1 : EReal) (z (ix2 h n) * z (ix2 h n) : EReal) := by
  pointwise [iz]
theorem nb_at (r : FVec Ideal S8x4096 .f32) (h : Fin 8) (n κ : Fin 4096) : nb r (ix3 h n κ) = (-(r (ix2 h n)) : EReal) := by
  pointwise [nb]
  exact Fin.sum_univ_one _
theorem ds1 (dp e s b : FVec Ideal S8x4096x4096 .f32) (h : Fin 8) (n κ : Fin 4096) :
    select msk (mulf (addf (Host.divf dp b) s) e) (broadcastInDim S8x4096x4096 ![] bcast_S_S8x4096x4096 (constant (F := Ideal) S_ .f32 0x00000000#32)) (ix3 h n κ) =
      if κ.val ≤ n.val then ((Ideal.div (dp (ix3 h n κ)) (b (ix3 h n κ)) + s (ix3 h n κ)) * e (ix3 h n κ) : EReal) else 0 := by
  rw [← Cert.KernelIdeal.Attn.msk_at h n κ]
  pointwise []
theorem dqv_at (s : FVec Ideal S8x4096x4096 .f32) (w : FVec Ideal S4096x8x256 .f32) (n : Fin 4096) (h : Fin 8) (d : Fin 256) :
    dqv s w (ix2 n (cq h d)) = ∑ κ : Fin 4096, (s (ix3 h n κ) * w (ix3 κ h d) : EReal) := by
  pointwise [dqv, cq]
theorem dkv_at (s : FVec Ideal S8x4096x4096 .f32) (w : FVec Ideal S4096x8x256 .f32) (κ : Fin 4096) (h : Fin 8) (d : Fin 256) :
    dkv s w (ix2 κ (cq h d)) = ∑ n : Fin 4096, (s (ix3 h n κ) * w (ix3 n h d) : EReal) := by
  pointwise [dkv, cq]
theorem dvv_at (y : FVec Ideal S4096x8x128 .f32) (p : FVec Ideal S8x4096x4096 .f32) (κ : Fin 4096) (h : Fin 8) (e : Fin 128) :
    dvv y p (ix2 κ (cv h e)) = ∑ n : Fin 4096, (y (ix3 n h e) * p (ix3 h n κ) : EReal) := by
  pointwise [dvv, dT, cv]

theorem pv_at (e : FVec Ideal S8x4096x4096 .f32) (z : FVec Ideal S8x4096 .f32) (h : Fin 8) (n κ : Fin 4096) :
    Host.divf e (bc z) (ix3 h n κ) = Ideal.div (e (ix3 h n κ)) (z (ix2 h n)) := by
  rw [← Cert.KernelIdeal.Attn.bc_at z h n κ]
  pointwise []

section Reals

variable (x0 x1 : Vec Ideal S4096x2048 .bf16) (x2 x3 : Vec Ideal S4096x1024 .bf16) (q k : Fin 4096 → Fin 2048 → ℝ) (v dO : Fin 4096 → Fin 1024 → ℝ)
  (M : Fin 8 → Fin 4096 → ℝ) (e : FVec Ideal S8x4096x4096 .f32) (z : FVec Ideal S8x4096 .f32)
  (H0 : ∀ n d, x0 (ix2 n d) = (q n d : EReal)) (H1 : ∀ n d, x1 (ix2 n d) = (k n d : EReal))
  (H2 : ∀ n d, x2 (ix2 n d) = (v n d : EReal)) (H3 : ∀ n d, x3 (ix2 n d) = (dO n d : EReal))
  (HE : ∀ h n κ, e (ix3 h n κ) = (rE q k M h κ n : EReal)) (HZ : ∀ h n, z (ix2 h n) = (rZ q k M h n : EReal))

include H2 H3 in
theorem dpv_real (h : Fin 8) (n κ : Fin 4096) : dpv (hv x3) (hv x2) (ix3 h n κ) = (rDP v dO h κ n : EReal) := by
  rw [dpv_at, rDP, coe_sum]
  refine Finset.sum_congr rfl fun j _ => ?_
  rw [Cert.KernelIdeal.Attn.hv_at, Cert.KernelIdeal.Attn.hv_at, H2, H3, EReal.coe_mul, mul_comm]

include HZ in
theorem iz_real (h : Fin 8) (n κ : Fin 4096) : iz z (ix3 h n κ) = ((1 / (rZ q k M h n * rZ q k M h n) : ℝ) : EReal) := by
  rw [iz_at, HZ, ← EReal.coe_mul, ← EReal.coe_one]
  exact Cert.KernelIdeal.Attn.div_coe 1 _ (mul_pos (rZ_pos q k M h n) (rZ_pos q k M h n)).ne'

theorem row_real (dp : FVec Ideal S8x4096x4096 .f32) (HD : ∀ h n κ, dp (ix3 h n κ) = (rDP v dO h κ n : EReal))
    (i : FVec Ideal S8x4096x4096 .f32) (HI : ∀ h n κ, i (ix3 h n κ) = ((1 / (rZ q k M h n * rZ q k M h n) : ℝ) : EReal))
    (HE : ∀ h n κ, e (ix3 h n κ) = (rE q k M h κ n : EReal)) (h : Fin 8) (n : Fin 4096) :
    zw (mulf (mulf dp i) e) (ix2 h n) = ((∑ j : Fin 4096, rDP v dO h j n * (1 / (rZ q k M h n * rZ q k M h n)) * rE q k M h j n : ℝ) : EReal) := by
  rw [Cert.KernelIdeal.Attn.zw_at, coe_sum]
  refine Finset.sum_congr rfl fun j _ => ?_
  have e1 : mulf (mulf dp i) e (ix3 h n j) = (dp (ix3 h n j) * i (ix3 h n j) * e (ix3 h n j) : EReal) := by pointwise []
  rw [e1, HD, HI, HE, EReal.coe_mul, EReal.coe_mul]

include H2 H3 HE HZ in
theorem dsv_real (h : Fin 8) (n κ : Fin 4096) : dsv (dpv (hv x3) (hv x2)) e z (ix3 h n κ) =
    (rDS q k v dO (Cert.KernelIdeal.Attn.rOc q k v M) (fun h n => M h n + Real.log (rZ q k M h n)) h κ n : EReal) := by
  rw [dsv, ds1, ← rDS_eq q k v dO _ M (Cert.KernelIdeal.Attn.rOc_cv q k v M) h κ n, dpv_real x2 x3 v dO H2 H3, Cert.KernelIdeal.Attn.bc_at, HZ, HE, nb_at,
    row_real q k v dO M e (dpv (hv x3) (hv x2)) (dpv_real x2 x3 v dO H2 H3) (iz z) (iz_real q k M z HZ) HE h n, Cert.KernelIdeal.Attn.div_coe _ _ (rZ_pos q k M h n).ne',
    ← EReal.coe_neg, ← EReal.coe_add, ← EReal.coe_mul]
  split
  · rfl
  · rename_i hn
    rw [show rE q k M h κ n = 0 from if_neg hn, mul_zero, EReal.coe_zero]

end Reals

section Res

variable (m : (ℓ : Loc nD τ sig) → Buf (Elt Ideal) ℓ) (c : Dev nD)

/-- The exponentials of the reference's arguments, and their sums. -/
def eR (x0 x1 : Vec Ideal S4096x2048 .bf16) : FVec Ideal S8x4096x4096 .f32 := ew (sco x0 x1) (mx2 (sco x0 x1))

theorem res0_eq : res_out0 m c = dqv (dsv (dpv (hv (m ((c.tc : Thread nD τ).loc main_arg3))) (hv (m ((c.tc : Thread nD τ).loc main_arg2))))
    (eR (m ((c.tc : Thread nD τ).loc main_arg0)) (m ((c.tc : Thread nD τ).loc main_arg1))) (zw (eR (m ((c.tc : Thread nD τ).loc main_arg0)) (m ((c.tc : Thread nD τ).loc main_arg1)))))
    (hq (m ((c.tc : Thread nD τ).loc main_arg1))) := by
  unfold res_out0 res_main_v70 dqv dsv dpv dT nb iz eR ew zw bc mx2 mxr sco msk hq hv
  rfl

theorem res1_eq : res_out1 m c = dkv (dsv (dpv (hv (m ((c.tc : Thread nD τ).loc main_arg3))) (hv (m ((c.tc : Thread nD τ).loc main_arg2))))
    (eR (m ((c.tc : Thread nD τ).loc main_arg0)) (m ((c.tc : Thread nD τ).loc main_arg1))) (zw (eR (m ((c.tc : Thread nD τ).loc main_arg0)) (m ((c.tc : Thread nD τ).loc main_arg1)))))
    (hq (m ((c.tc : Thread nD τ).loc main_arg0))) := by
  unfold res_out1 res_main_v69 dkv dsv dpv dT nb iz eR ew zw bc mx2 mxr sco msk hq hv
  rfl

theorem res2_eq : res_out2 m c = dvv (hv (m ((c.tc : Thread nD τ).loc main_arg3)))
    (Host.divf (eR (m ((c.tc : Thread nD τ).loc main_arg0)) (m ((c.tc : Thread nD τ).loc main_arg1))) (bc (zw (eR (m ((c.tc : Thread nD τ).loc main_arg0)) (m ((c.tc : Thread nD τ).loc main_arg1)))))) := by
  unfold res_out2 res_main_v71 dvv dT eR ew zw bc mx2 mxr sco msk hq hv
  rfl

end Res

end Cert.ReferenceIdeal.Attn
-- ==== Proof.Attn.Equal.lean ====
/- The kernel's three results are the reference's, when the arguments are real numbers. -/
module

public import proofs.«01_k».proof.Proof.Attn.Ref
public import proofs.«01_k».proof.Proof.Gen.Pre_finite
public import proofs.«01_k».proof.Defs

@[expose] public section

set_option maxRecDepth 16384

noncomputable section

open Idealize.ShloMosaic Idealize.ShloMosaic.TcCoe Idealize.SL.Sem

namespace Cert.Proof

open Cert.Attn

/-- A number whose magnitude is below infinity is real. -/
theorem real_of_lt (x : EReal) (h : FloatOps.cmpf .olt (FloatOps.hostAbsf (F := Ideal) (φ := .f32) x) (FloatOps.ofBits (F := Ideal) .f32 0x7F800000#32) = 1#1) :
    x = ((x.toReal : ℝ) : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    simp [Ideal.cmp, hn] at h'
  rw [max_lt_iff] at hlt
  refine (EReal.coe_toReal hlt.1.ne fun hb => ?_).symm
  rw [hb, EReal.neg_bot] at hlt
  exact lt_irrefl _ hlt.2

/-- An index of a two-axis array is its two coordinates. -/
theorem ix2_eta {a b : ℕ} (i : (⟨2, ![a, b]⟩ : Shape).Idx) : i = ix2 (⟨(i 0).val, (i 0).isLt⟩ : Fin a) (⟨(i 1).val, (i 1).isLt⟩ : Fin b) := by
  funext x
  match x with
  | ⟨0, _⟩ => rfl
  | ⟨1, _⟩ => rfl

section Equal

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reference's three results, from the kernel's arguments. -/
theorem equal_of (q k : Fin 4096 → Fin 2048 → ℝ) (v dO : Fin 4096 → Fin 1024 → ℝ)
    (x0 x1 : Vec Ideal Cert.KernelIdeal.S4096x2048 .bf16) (x2 x3 : Vec Ideal Cert.KernelIdeal.S4096x1024 .bf16)
    (E0 : m ((c.tc : Thread Cert.KernelIdeal.nD Cert.KernelIdeal.τ).loc Cert.KernelIdeal.main_arg0) = x0)
    (E1 : m ((c.tc : Thread Cert.KernelIdeal.nD Cert.KernelIdeal.τ).loc Cert.KernelIdeal.main_arg1) = x1)
    (E2 : m ((c.tc : Thread Cert.KernelIdeal.nD Cert.KernelIdeal.τ).loc Cert.KernelIdeal.main_arg2) = x2)
    (E3 : m ((c.tc : Thread Cert.KernelIdeal.nD Cert.KernelIdeal.τ).loc Cert.KernelIdeal.main_arg3) = x3)
    (F0 : m' ((c.tc : Thread Cert.ReferenceIdeal.nD Cert.ReferenceIdeal.τ).loc Cert.ReferenceIdeal.main_arg0) = x0)
    (F1 : m' ((c.tc : Thread Cert.ReferenceIdeal.nD Cert.ReferenceIdeal.τ).loc Cert.ReferenceIdeal.main_arg1) = x1)
    (F2 : m' ((c.tc : Thread Cert.ReferenceIdeal.nD Cert.ReferenceIdeal.τ).loc Cert.ReferenceIdeal.main_arg2) = x2)
    (F3 : m' ((c.tc : Thread Cert.ReferenceIdeal.nD Cert.ReferenceIdeal.τ).loc Cert.ReferenceIdeal.main_arg3) = x3)
    (H0 : ∀ n d, x0 (ix2 n d) = (q n d : EReal)) (H1 : ∀ n d, x1 (ix2 n d) = (k n d : EReal))
    (H2 : ∀ n d, x2 (ix2 n d) = (v n d : EReal)) (H3 : ∀ n d, x3 (ix2 n d) = (dO n d : EReal)) :
    Cert.ReferenceIdeal.Value.res_out0 m' c = Cert.KernelIdeal.Value.G7 m c ∧ Cert.ReferenceIdeal.Value.res_out1 m' c = Cert.KernelIdeal.Value.G8 m c
      ∧ Cert.ReferenceIdeal.Value.res_out2 m' c = Cert.KernelIdeal.Value.G9 m c := by
  obtain ⟨M, HM⟩ := Cert.KernelIdeal.Attn.mxr_real x0 x1 q k H0 H1
  have A := Cert.KernelIdeal.Attn.arrays m c q k v dO M (by rw [E0]; exact H0) (by rw [E1]; exact H1) (by rw [E2]; exact H2) (by rw [E3]; exact H3) (by rw [E0, E1]; exact HM)
  have HM2 : ∀ h n, Cert.KernelIdeal.Attn.mx2 (Cert.KernelIdeal.Attn.sco x0 x1) (ix2 h n) = (M h n : EReal) := fun h n => (Cert.KernelIdeal.Attn.mx2_at _ h n).trans (HM h n)
  have HE : ∀ h n κ, Cert.ReferenceIdeal.Attn.eR x0 x1 (ix3 h n κ) = (rE q k M h κ n : EReal) := fun h n κ => Cert.KernelIdeal.Attn.ew_real x0 x1 q k M H0 H1 _ HM2 h n κ
  have HZ : ∀ h n, Cert.KernelIdeal.Attn.zw (Cert.ReferenceIdeal.Attn.eR x0 x1) (ix2 h n) = (rZ q k M h n : EReal) := fun h n => Cert.KernelIdeal.Attn.zw_real x0 x1 q k M H0 H1 _ HM2 h n
  have HD := Cert.ReferenceIdeal.Attn.dsv_real x2 x3 q k v dO M _ _ H2 H3 HE HZ
  refine ⟨?_, ?_, ?_⟩
  · rw [Cert.ReferenceIdeal.Attn.res0_eq, F0, F1, F2, F3]
    funext i
    rw [ix2_eta i]
    obtain ⟨h, d, e⟩ := Cert.KernelIdeal.Attn.cq_surj ⟨(i 1).val, (i 1).isLt⟩
    rw [e, Cert.ReferenceIdeal.Attn.dqv_at]
    refine Eq.trans ?_ (Cert.KernelIdeal.Attn.G7_real m c q k v dO _ _ A h _ d).symm
    rw [coe_sum]
    refine Finset.sum_congr rfl fun κ _ => ?_
    rw [HD, Cert.KernelIdeal.Attn.hq_at, H1, EReal.coe_mul, mul_comm]
  · rw [Cert.ReferenceIdeal.Attn.res1_eq, F0, F1, F2, F3]
    funext i
    rw [ix2_eta i]
    obtain ⟨h, d, e⟩ := Cert.KernelIdeal.Attn.cq_surj ⟨(i 1).val, (i 1).isLt⟩
    rw [e, Cert.ReferenceIdeal.Attn.dkv_at]
    refine Eq.trans ?_ (Cert.KernelIdeal.Attn.G8_real m c q k v dO _ _ A h _ d).symm
    rw [coe_sum]
    refine Finset.sum_congr rfl fun n _ => ?_
    rw [HD, Cert.KernelIdeal.Attn.hq_at, H0, EReal.coe_mul]
  · rw [Cert.ReferenceIdeal.Attn.res2_eq, F0, F1, F3]
    funext i
    rw [ix2_eta i]
    obtain ⟨h, d, e⟩ := Cert.KernelIdeal.Attn.cv_surj ⟨(i 1).val, (i 1).isLt⟩
    rw [e, Cert.ReferenceIdeal.Attn.dvv_at]
    refine Eq.trans ?_ (Cert.KernelIdeal.Attn.G9_real m c q k v dO _ _ A h _ d).symm
    rw [coe_sum]
    refine Finset.sum_congr rfl fun n _ => ?_
    rw [rP_eq, Cert.KernelIdeal.Attn.hv_at, H3, Cert.ReferenceIdeal.Attn.pv_at, HE, HZ, Cert.KernelIdeal.Attn.div_coe _ _ (rZ_pos q k M h n).ne', EReal.coe_mul, mul_comm]

end Equal

end Cert.Proof
-- ==== Proof.Attn.Words.lean ====
/- The ideal program, read at the machine's floats with its named constant taken as the word it is written with, is the
   kernel itself. So the kernel's frame is the ideal program's. -/
module

public import proofs.«01_k».proof.Defs
public import proofs.«01_k».proof.Proof.Gen.Kernel
public import proofs.«01_k».proof.Proof.Gen.KernelIdeal.Frame

@[expose] public section

set_option maxRecDepth 16384
set_option maxHeartbeats 2000000

noncomputable section

open Idealize.ShloMosaic Idealize.ShloMosaic.TcCoe Idealize.SL.Sem

namespace Cert.Proof

/-- At the machine's floats a named constant is its word. -/
@[reducible] def words : Named Bits where
  named _ _ {φ} b := Scalar.ofBits φ b

attribute [local instance] words

/-- The kernel's body is the ideal program's. -/
theorem body_words : @Cert.Kernel.cc0_attn_bwd Bits _ _ = @Cert.KernelIdeal.cc0_attn_bwd Bits _ _ _ := rfl

/-- So are the bodies that its one call looks up. -/
theorem defs₀_words : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Λ := Cert.Kernel.Λ₀) (Val := Elt Bits)) ?_
  funext l a
  match l, a with
  | 0, (t, s) => rw [body_words]; rfl

/-- And the pipeline around them. -/
theorem defs_words : Cert.Kernel.defs (F := Bits) = Cert.KernelIdeal.defs (F := Bits) :=
  (congrArg (Pipeline.defs (Cert.Kernel.pcfgs (F := Bits))) defs₀_words).trans rfl

/-- And the host code. -/
theorem main_words : Cert.Kernel.main (F := Bits) = Cert.KernelIdeal.main (F := Bits) := rfl

/-- The kernel's frame. -/
theorem kernel_frame : quiescent_Kernel := by
  intro m ρ _
  rw [defs_words, main_words]
  exact Cert.KernelIdeal.Gen.frame (F := Bits) m ρ

end Cert.Proof

end
-- ==== Proof.Fwd.Col.lean ====
/- The attention forward's running maximum, sum and weighted values of one query, step by step. -/
module

public import proofs.«01_k».proof.Proof.Attn.Loop
public import proofs.«01_k».proof.Proof.Attn.Softmax

@[expose] public section

set_option maxRecDepth 16384

noncomputable section

open Idealize.ShloMosaic Idealize.ShloMosaic.TcCoe Idealize.SL.Sem
open Idealize.ShloMosaic.Pipeline (Dat)

namespace Cert.Kernel2Ideal.Attn

open Cert.Attn
open Cert.KernelIdeal.Attn (key lo hi ninf)

section Col

variable (g : ℕ) (s : Fin 4096 → Fin 1024 → ℝ) (v : Fin 4096 → Fin 128 → EReal)

/-- The sum of the weights of the first `N` keys for query `r` of group `g`, with `M` taken off the scores, -/
def cz (N : ℕ) (r : Fin 1024) (M : ℝ) : ℝ := ∑ κ : Fin 4096, if κ.val < N then (if κ.val ≤ 1024 * g + r.val then Real.exp (s κ r - M) else 0) else 0

/-- and of their values times the weights. -/
def cw (N : ℕ) (r : Fin 1024) (M : ℝ) (e : Fin 128) : EReal :=
  ∑ κ : Fin 4096, if κ.val < N then v κ e * ((if κ.val ≤ 1024 * g + r.val then Real.exp (s κ r - M) else 0 : ℝ) : EReal) else 0

/-- What a query's running maximum, sum and weighted values hold after the first `N` keys. -/
def Col (N : ℕ) (r : Fin 1024) (m l : EReal) (a : Fin 128 → EReal) : Prop :=
  (N = 0 ∧ m = ⊥ ∧ l = 0 ∧ ∀ e, a e = 0) ∨ ∃ M : ℝ, m = (M : EReal) ∧ l = (cz g s N r M : EReal) ∧ ∀ e, a e = cw g s v N r M e

/-- One step's new maximum, -/
def mN (m : EReal) (st : Fin 512 → EReal) : EReal := max m (Finset.fold max (Ideal.ofBits .f32 0xFF800000#32) st Finset.univ)
/-- its new sum -/
def lN (m l : EReal) (st : Fin 512 → EReal) : EReal := Ideal.exp (m - mN m st) * l + ∑ x, Ideal.exp (st x - mN m st)
/-- and its new weighted value. -/
def aN (m a : EReal) (st vb : Fin 512 → EReal) : EReal := a * Ideal.exp (m - mN m st) + ∑ x, vb x * Ideal.exp (st x - mN m st)

/-- The keys below the end of block `j` are those below its start and the block's. -/
theorem sum_tile {α : Type} [AddCommMonoid α] (j : ℕ) (hj : 512 * j + 512 ≤ 4096) (f : Fin 4096 → α) :
    ∑ κ : Fin 4096, (if κ.val < 512 * (j + 1) then f κ else 0) = ∑ κ : Fin 4096, (if κ.val < 512 * j then f κ else 0) + ∑ x : Fin 512, f (key j hj x) := by
  have e : ∑ x : Fin 512, f (key j hj x) = ∑ κ : Fin 4096, (if 512 * j ≤ κ.val ∧ κ.val < 512 * j + 512 then f κ else 0) := by
    rw [← Finset.sum_filter]
    refine Finset.sum_nbij' (fun a => key j hj a) (fun κ => ⟨(κ.val - 512 * j) % 512, Nat.mod_lt _ (by decide)⟩) ?_ ?_ ?_ ?_ ?_
    · intro a _
      rw [Finset.mem_filter]
      exact ⟨Finset.mem_univ _, by show _ ≤ 512 * j + a.val ∧ 512 * j + a.val < _; omega⟩
    · intro κ _; exact Finset.mem_univ _
    · intro a _
      apply Fin.ext
      show (512 * j + a.val - 512 * j) % 512 = a.val
      omega
    · intro κ h
      rw [Finset.mem_filter] at h
      apply Fin.ext
      show 512 * j + (κ.val - 512 * j) % 512 = κ.val
      omega
    · intro a _; rfl
  rw [e, ← Finset.sum_add_distrib]
  refine Finset.sum_congr rfl fun κ _ => ?_
  by_cases h : κ.val < 512 * j
  · rw [if_pos h, if_neg (c := 512 * j ≤ κ.val ∧ κ.val < 512 * j + 512) (by omega), if_pos (by omega), add_zero]
  · by_cases h' : κ.val < 512 * (j + 1)
    · rw [if_neg h, if_pos (c := 512 * j ≤ κ.val ∧ κ.val < 512 * j + 512) (by omega), if_pos h', zero_add]
    · rw [if_neg h, if_neg (c := 512 * j ≤ κ.val ∧ κ.val < 512 * j + 512) (by omega), if_neg h', zero_add]

/-- A factor that is a real number and not negative goes into a sum of any terms. -/
theorem sum_mul_real {ι : Type} [Fintype ι] (f : ι → EReal) (b : ℝ) (hb : 0 ≤ b) : (∑ i, f i) * (b : EReal) = ∑ i, f i * (b : EReal) := by
  classical
  refine Finset.induction_on (Finset.univ : Finset ι) (by rw [Finset.sum_empty, Finset.sum_empty, zero_mul]) fun i t hi ih => ?_
  rw [Finset.sum_insert hi, Finset.sum_insert hi, EReal.right_distrib_of_nonneg_of_ne_top (by exact_mod_cast hb) (EReal.coe_ne_top b), ih]

theorem exp_bot (M : ℝ) : Ideal.exp ((⊥ : EReal) - (M : EReal)) = 0 := by
  rw [sub_eq_add_neg, EReal.bot_add]
  rfl

theorem exp_real (x M : ℝ) : Ideal.exp ((x : EReal) - (M : EReal)) = (Real.exp (x - M) : EReal) := by
  rw [← EReal.coe_sub]
  rfl

section Step

variable (j : ℕ) (hj : 512 * j + 512 ≤ 4096) (r : Fin 1024) (hs : 512 * j ≤ 1024 * g + r.val) (st : Fin 512 → EReal) (vb : Fin 128 → Fin 512 → EReal)
  (hst : ∀ x, st x = if (key j hj x).val ≤ 1024 * g + r.val then (s (key j hj x) r : EReal) else ⊥)
  (hvb : ∀ e x, vb e x = v (key j hj x) e)

include hs hst in
theorem mN_real (m : EReal) (hm : m < ⊤) : ∃ M : ℝ, mN m st = (M : EReal) := by
  refine ⟨(mN m st).toReal, (EReal.coe_toReal (ne_of_lt ?_) (ne_of_gt ?_)).symm⟩
  · unfold mN
    refine max_lt hm ((Finset.fold_max_lt (⊤ : EReal)).mpr ⟨by rw [ninf]; exact bot_lt_top, fun x _ => ?_⟩)
    rw [hst]
    split
    · exact EReal.coe_lt_top _
    · exact bot_lt_top
  · unfold mN
    refine lt_of_lt_of_le (EReal.bot_lt_coe (s (key j hj 0) r)) (le_max_of_le_right ((Finset.le_fold_max _).mpr (Or.inr ⟨0, Finset.mem_univ _, ?_⟩)))
    rw [hst, if_pos (by show 512 * j + 0 ≤ _; omega)]

include hst in
theorem w_real (M : ℝ) (x : Fin 512) : Ideal.exp (st x - (M : EReal)) =
    ((if (key j hj x).val ≤ 1024 * g + r.val then Real.exp (s (key j hj x) r - M) else 0 : ℝ) : EReal) := by
  rw [hst]
  split
  · exact exp_real _ _
  · rw [exp_bot]; rfl

theorem cz_scale (N : ℕ) (M M' : ℝ) : Real.exp (M - M') * cz g s N r M = cz g s N r M' := by
  unfold cz
  rw [Finset.mul_sum]
  refine Finset.sum_congr rfl fun κ _ => ?_
  split
  · split
    · rw [← Real.exp_add]; congr 1; ring
    · rw [mul_zero]
  · rw [mul_zero]

theorem cw_mul (N : ℕ) (M : ℝ) (e : Fin 128) (b : ℝ) (hb : 0 ≤ b) :
    cw g s v N r M e * (b : EReal) = ∑ κ : Fin 4096, if κ.val < N then v κ e * (((if κ.val ≤ 1024 * g + r.val then Real.exp (s κ r - M) else 0) * b : ℝ) : EReal) else 0 := by
  unfold cw
  rw [sum_mul_real _ _ hb]
  refine Finset.sum_congr rfl fun κ _ => ?_
  split
  · rw [mul_assoc, ← EReal.coe_mul]
  · rw [zero_mul]

theorem cw_scale (N : ℕ) (M M' : ℝ) (e : Fin 128) : cw g s v N r M e * (Real.exp (M - M') : EReal) = cw g s v N r M' e := by
  rw [cw_mul g s v r N M e _ (Real.exp_pos _).le, cw]
  refine Finset.sum_congr rfl fun κ _ => ?_
  split
  · congr 2
    split
    · rw [← Real.exp_add]; congr 1; ring
    · rw [zero_mul]
  · rfl

theorem cz_none (M : ℝ) : cz g s 0 r M = 0 := Finset.sum_eq_zero fun κ _ => if_neg (by omega)
theorem cw_none (M : ℝ) (e : Fin 128) : cw g s v 0 r M e = 0 := Finset.sum_eq_zero fun κ _ => if_neg (by omega)

include hs hst hvb in
/-- A step over a block of keys. -/
theorem col_step (m l : EReal) (a : Fin 128 → EReal) (h : Col g s v (512 * j) r m l a) :
    Col g s v (512 * (j + 1)) r (mN m st) (lN m l st) (fun e => aN m (a e) st (vb e)) := by
  have hm : m < ⊤ := by
    rcases h with ⟨_, h, _⟩ | ⟨M, h, _⟩
    · rw [h]; exact bot_lt_top
    · rw [h]; exact EReal.coe_lt_top _
  obtain ⟨M', hM⟩ := mN_real g s j hj r hs st hst m hm
  refine Or.inr ⟨M', hM, ?_, fun e => ?_⟩
  · unfold lN
    rw [hM, cz, sum_tile j hj, EReal.coe_add, coe_sum (fun x : Fin 512 => _)]
    simp only [w_real g s j hj r st hst]
    congr 1
    change _ = (cz g s (512 * j) r M' : EReal)
    rcases h with ⟨h0, h1, h2, h3⟩ | ⟨M, h1, h2, h3⟩
    · rw [h1, h2, h0, cz_none, mul_zero]; rfl
    · rw [h1, h2, exp_real, ← EReal.coe_mul, cz_scale]
  · unfold aN
    rw [hM, cw, sum_tile j hj]
    simp only [w_real g s j hj r st hst, hvb]
    congr 1
    change _ = cw g s v (512 * j) r M' e
    rcases h with ⟨h0, h1, h2, h3⟩ | ⟨M, h1, h2, h3⟩
    · rw [h3, h0, cw_none, zero_mul]
    · rw [h1, h3, exp_real, cw_scale]

end Step

/-- Further keys, all after the query, change nothing. -/
theorem col_more (N N' : ℕ) (r : Fin 1024) (m l : EReal) (a : Fin 128 → EReal) (hN : 0 < N) (h1 : 1024 * g + r.val < N) (h2 : 1024 * g + r.val < N') (h : Col g s v N r m l a) :
    Col g s v N' r m l a := by
  rcases h with ⟨h0, _⟩ | ⟨M, e1, e2, e3⟩
  · omega
  · refine Or.inr ⟨M, e1, e2.trans (congrArg _ ?_), fun e => (e3 e).trans ?_⟩
    · unfold cz
      refine Finset.sum_congr rfl fun κ _ => ?_
      by_cases h : κ.val ≤ 1024 * g + r.val
      · rw [if_pos (c := κ.val < N) (by omega), if_pos (c := κ.val < N') (by omega)]
      · rw [if_neg h, ite_self, ite_self]
    · unfold cw
      refine Finset.sum_congr rfl fun κ _ => ?_
      by_cases h : κ.val ≤ 1024 * g + r.val
      · rw [if_pos (c := κ.val < N) (by omega), if_pos (c := κ.val < N') (by omega)]
      · rw [if_neg h, EReal.coe_zero, mul_zero, ite_self, ite_self]

end Col

end Cert.Kernel2Ideal.Attn

end
-- ==== Proof.Fwd.Tile.lean ====
/- The attention forward's tile at an index over the extended reals. -/
module

public import proofs.«01_k».proof.Proof.Gen.Kernel2Ideal.Value
public import Idealize.ShloMosaic.Lib.Pipeline.ValueKit
public import Idealize.ShloMosaic.Lib.VecWindow
public import Idealize.ShloMosaic.Lib.WordCmp
public import proofs.«01_k».proof.Proof.Fwd.Col

@[expose] public section

set_option maxRecDepth 16384

noncomputable section

open Idealize.ShloMosaic Idealize.ShloMosaic.TcCoe Idealize.SL.Sem
open Idealize.ShloMosaic.Pipeline (Dat)

namespace Cert.Kernel2Ideal.Attn

open Cert.Kernel2Ideal Cert.Kernel2Ideal.Gen

open Cert.Attn
open Cert.KernelIdeal.Attn (key lo hi ninf)

/-- The scores of a block of keys against one query. -/
def sb (kb q : Vec Ideal S512x256 .bf16) (c : Fin 512) (a : Fin 512) : EReal := ∑ d : Fin 256, (kb (ix2 a d) : EReal) * q (ix2 c d)

theorem mask_at (x y : ℕ) (hx : x < 2 ^ 31) (hy : y < 2 ^ 31) (u w : BitVec 32) (hu : u = BitVec.ofNat 32 x) (hw : w = BitVec.ofNat 32 y) (s : EReal) :
    (Scalar.select (IntOp.cmpi .sle u w) s (Named.named (F := Ideal) (φ := .f32) κ "mask" 0xF149F2CA#32) : EReal) = if x ≤ y then s else ⊥ := by
  subst hu hw
  rw [IdealRules.named_const.ideal_named_scalar κ "mask" (φ := .f32) 0xF149F2CA#32 ⊥ rfl]
  by_cases h : x ≤ y
  · rw [if_pos h, (WordCmp.cmpi_sle_ofNat_eq_one_iff hx hy).mpr h]; rfl
  · rw [if_neg h, (WordCmp.cmpi_sle_ofNat_eq_zero_iff hx hy).mpr (by omega)]; rfl

theorem init_m (y : S1x1024.Idx) : k0_pay28 (F := Ideal) y = (⊥ : EReal) := by
  show Named.named (F := Ideal) (φ := .f32) κ "mask" 0xF149F2CA#32 = (⊥ : EReal)
  rw [IdealRules.named_const.ideal_named_scalar κ "mask" (φ := .f32) 0xF149F2CA#32 ⊥ rfl]

theorem init_l (y : S1x1024.Idx) : k0_pay29 (F := Ideal) y = (0 : EReal) := by
  show Ideal.ofBits .f32 0#32 = (0 : EReal)
  exact Ideal.ofBits_zero_f32

theorem init_a (y : S128x1024.Idx) : k0_pay30 (F := Ideal) y = (0 : EReal) := by
  show Ideal.ofBits .f32 0#32 = (0 : EReal)
  exact Ideal.ofBits_zero_f32

section Tile

variable (kb q : Vec Ideal S512x256 .bf16) (vt : Vec Ideal S128x512 .bf16) (m l : Vec Ideal S1x512 .f32) (acc : Vec Ideal S128x512 .f32)
  (a1 u : BitVec 32) (x : FVec Ideal S512x512 .f32) (e : Fin 128) (c : Fin 512)

theorem tl_m : k0_pay7 (F := Ideal) kb q m (ix2 0 c) = mN (m (ix2 0 c)) (sb kb q c) := by
  pointwise [k0_pay7, k0_pay5, mN, sb]

theorem tl_al : k0_pay9 (F := Ideal) kb q m (ix2 0 c) = Ideal.exp ((m (ix2 0 c) : EReal) - mN (m (ix2 0 c)) (sb kb q c)) := by
  rw [← tl_m]
  pointwise [k0_pay9]

theorem tl_w (a : Fin 512) : k0_pay11 (F := Ideal) kb q m (ix2 a c) = Ideal.exp ((sb kb q c) a - mN (m (ix2 0 c)) (sb kb q c)) := by
  rw [← tl_m]
  pointwise [k0_pay11, k0_pay5, sb]

theorem tl_pv : k0_pay13 (F := Ideal) kb vt q m (ix2 e c) = ∑ a : Fin 512, (vt (ix2 e a) : EReal) * Ideal.exp ((sb kb q c) a - mN (m (ix2 0 c)) (sb kb q c)) := by
  simp only [← tl_w]
  pointwise [k0_pay13, k0_pay4]

theorem th_m : k0_pay8 (F := Ideal) kb q m (ix2 0 c) = mN (m (ix2 0 c)) (sb kb q c) := by
  pointwise [k0_pay8, k0_pay6, mN, sb]

theorem th_al : k0_pay10 (F := Ideal) kb q m (ix2 0 c) = Ideal.exp ((m (ix2 0 c) : EReal) - mN (m (ix2 0 c)) (sb kb q c)) := by
  rw [← th_m]
  pointwise [k0_pay10]

theorem th_w (a : Fin 512) : k0_pay12 (F := Ideal) kb q m (ix2 a c) = Ideal.exp ((sb kb q c) a - mN (m (ix2 0 c)) (sb kb q c)) := by
  rw [← th_m]
  pointwise [k0_pay12, k0_pay6, sb]

theorem th_pv : k0_pay14 (F := Ideal) kb vt q m (ix2 e c) = ∑ a : Fin 512, (vt (ix2 e a) : EReal) * Ideal.exp ((sb kb q c) a - mN (m (ix2 0 c)) (sb kb q c)) := by
  simp only [← th_w]
  pointwise [k0_pay14, k0_pay4]

theorem dh_m : k0_pay48 (F := Ideal) kb q m (ix2 0 c) = mN (m (ix2 0 c)) (sb kb q c) := by
  pointwise [k0_pay48, k0_pay45, mN, sb]

theorem dh_al : k0_pay50 (F := Ideal) kb q m (ix2 0 c) = Ideal.exp ((m (ix2 0 c) : EReal) - mN (m (ix2 0 c)) (sb kb q c)) := by
  rw [← dh_m]
  pointwise [k0_pay50]

theorem dh_w (a : Fin 512) : k0_pay52 (F := Ideal) kb q m (ix2 a c) = Ideal.exp ((sb kb q c) a - mN (m (ix2 0 c)) (sb kb q c)) := by
  rw [← dh_m]
  pointwise [k0_pay52, k0_pay45, sb]

theorem dh_pv : k0_pay54 (F := Ideal) kb vt q m (ix2 e c) = ∑ a : Fin 512, (vt (ix2 e a) : EReal) * Ideal.exp ((sb kb q c) a - mN (m (ix2 0 c)) (sb kb q c)) := by
  simp only [← dh_w]
  pointwise [k0_pay54]

theorem dl_m : k0_pay47 (F := Ideal) a1 u x m (ix2 0 c) = mN (m (ix2 0 c)) (fun a => k0_pay46 (F := Ideal) a1 u x (ix2 a c)) := by
  pointwise [k0_pay47, k0_pay46, mN]

theorem dl_al : k0_pay49 (F := Ideal) a1 u x m (ix2 0 c) = Ideal.exp ((m (ix2 0 c) : EReal) - mN (m (ix2 0 c)) (fun a => k0_pay46 (F := Ideal) a1 u x (ix2 a c))) := by
  rw [← dl_m]
  pointwise [k0_pay49]

theorem dl_w (a : Fin 512) : k0_pay51 (F := Ideal) a1 u x m (ix2 a c) = Ideal.exp ((fun a => k0_pay46 (F := Ideal) a1 u x (ix2 a c)) a - mN (m (ix2 0 c)) (fun a => k0_pay46 (F := Ideal) a1 u x (ix2 a c))) := by
  rw [← dl_m]
  pointwise [k0_pay51, k0_pay46]

theorem dl_pv : k0_pay53 (F := Ideal) a1 u vt x m (ix2 e c) = ∑ a : Fin 512, (vt (ix2 e a) : EReal) * Ideal.exp ((fun a => k0_pay46 (F := Ideal) a1 u x (ix2 a c)) a - mN (m (ix2 0 c)) (fun a => k0_pay46 (F := Ideal) a1 u x (ix2 a c))) := by
  simp only [← dl_w]
  pointwise [k0_pay53]

theorem eh_m : k0_pay63 (F := Ideal) a1 u kb q m (ix2 0 c) = mN (m (ix2 0 c)) (fun a => k0_pay62 (F := Ideal) a1 u kb q (ix2 a c)) := by
  pointwise [k0_pay63, k0_pay62, mN]

theorem eh_al : k0_pay64 (F := Ideal) a1 u kb q m (ix2 0 c) = Ideal.exp ((m (ix2 0 c) : EReal) - mN (m (ix2 0 c)) (fun a => k0_pay62 (F := Ideal) a1 u kb q (ix2 a c))) := by
  rw [← eh_m]
  pointwise [k0_pay64]

theorem eh_w (a : Fin 512) : k0_pay65 (F := Ideal) a1 u kb q m (ix2 a c) = Ideal.exp ((fun a => k0_pay62 (F := Ideal) a1 u kb q (ix2 a c)) a - mN (m (ix2 0 c)) (fun a => k0_pay62 (F := Ideal) a1 u kb q (ix2 a c))) := by
  rw [← eh_m]
  pointwise [k0_pay65, k0_pay62]

theorem eh_pv : k0_pay66 (F := Ideal) a1 u kb vt q m (ix2 e c) = ∑ a : Fin 512, (vt (ix2 e a) : EReal) * Ideal.exp ((fun a => k0_pay62 (F := Ideal) a1 u kb q (ix2 a c)) a - mN (m (ix2 0 c)) (fun a => k0_pay62 (F := Ideal) a1 u kb q (ix2 a c))) := by
  simp only [← eh_w]
  pointwise [k0_pay66]

end Tile

end Cert.Kernel2Ideal.Attn

end
-- ==== Proof.Fwd.Step.lean ====
/- The attention forward's steps: what one block of keys does to a query's running maximum, sum and weighted values. -/
module

public import proofs.«01_k».proof.Proof.Fwd.Tile

@[expose] public section

set_option maxRecDepth 16384

noncomputable section

open Idealize.ShloMosaic Idealize.ShloMosaic.TcCoe Idealize.SL.Sem
open Idealize.ShloMosaic.Pipeline (Dat)

namespace Cert.Kernel2Ideal.Attn

open Cert.Kernel2Ideal Cert.Kernel2Ideal.Gen

open Cert.Attn
open Cert.KernelIdeal.Attn (key lo hi ninf)

section Tile

variable (kb q : Vec Ideal S512x256 .bf16) (vt vt0 : Vec Ideal S128x512 .bf16) (m l al : Vec Ideal S1x512 .f32) (acc pv : Vec Ideal S128x512 .f32)
  (a1 u : BitVec 32) (w x : FVec Ideal S512x512 .f32) (e : Fin 128) (c : Fin 512)

theorem pay31_at : k0_pay31 (F := Ideal) l (ix2 0 c) = l (ix2 0 c) := by pointwise [k0_pay31]
theorem pay32_at : k0_pay32 (F := Ideal) l (ix2 0 c) = l (ix2 0 c) := by pointwise [k0_pay32]
theorem pay35_at : k0_pay35 (F := Ideal) l (ix2 0 c) = l (ix2 0 c) := by pointwise [k0_pay35]
theorem pay56_at : k0_pay56 (F := Ideal) l (ix2 0 c) = l (ix2 0 c) := by pointwise [k0_pay56]
theorem pay57_at : k0_pay57 (F := Ideal) l (ix2 0 c) = l (ix2 0 c) := by pointwise [k0_pay57]
theorem pay60_at : k0_pay60 (F := Ideal) l (ix2 0 c) = l (ix2 0 c) := by pointwise [k0_pay60]
theorem pay43_at : k0_pay43 (F := Ideal) vt (ix2 e c) = vt (ix2 e c) := by pointwise [k0_pay43]
theorem pay43_eq : k0_pay43 (F := Ideal) vt = vt := by
  funext y
  rw [eq_ix2 y]
  exact pay43_at vt _ _

theorem pay33_at : k0_pay33 (F := Ideal) al pv acc (ix2 e c) = (acc (ix2 e c) * al (ix2 0 c) + pv (ix2 e c) : EReal) := by pointwise [k0_pay33]
theorem pay36_at : k0_pay36 (F := Ideal) al pv acc (ix2 e c) = (acc (ix2 e c) * al (ix2 0 c) + pv (ix2 e c) : EReal) := by pointwise [k0_pay36]
theorem pay58_at : k0_pay58 (F := Ideal) al pv acc (ix2 e c) = (acc (ix2 e c) * al (ix2 0 c) + pv (ix2 e c) : EReal) := by pointwise [k0_pay58]
theorem pay61_at : k0_pay61 (F := Ideal) al pv acc (ix2 e c) = (acc (ix2 e c) * al (ix2 0 c) + pv (ix2 e c) : EReal) := by pointwise [k0_pay61]
theorem pay1_at : k0_pay1 (F := Ideal) al pv acc (ix2 e c) = (acc (ix2 e c) * al (ix2 0 c) + pv (ix2 e c) : EReal) := by pointwise [k0_pay1]
theorem pay34_at : k0_pay34 (F := Ideal) al w l (ix2 0 c) = (al (ix2 0 c) * l (ix2 0 c) + ∑ a : Fin 512, (w (ix2 a c) : EReal) : EReal) := by pointwise [k0_pay34]
theorem pay59_at : k0_pay59 (F := Ideal) al w l (ix2 0 c) = (al (ix2 0 c) * l (ix2 0 c) + ∑ a : Fin 512, (w (ix2 a c) : EReal) : EReal) := by pointwise [k0_pay59]
theorem pay15_at : k0_pay15 (F := Ideal) kb q m l (ix2 0 c) = (k0_pay9 (F := Ideal) kb q m (ix2 0 c) * l (ix2 0 c) + ∑ a : Fin 512, (k0_pay11 (F := Ideal) kb q m (ix2 a c) : EReal) : EReal) := by
  pointwise [k0_pay15]
theorem pay55_at : k0_pay55 (F := Ideal) a1 u x m l (ix2 0 c) = (k0_pay49 (F := Ideal) a1 u x m (ix2 0 c) * l (ix2 0 c) + ∑ a : Fin 512, (k0_pay51 (F := Ideal) a1 u x m (ix2 a c) : EReal) : EReal) := by
  pointwise [k0_pay55]
theorem pay67_at : k0_pay67 (F := Ideal) a1 u kb q m l (ix2 0 c) = (k0_pay64 (F := Ideal) a1 u kb q m (ix2 0 c) * l (ix2 0 c) + ∑ a : Fin 512, (k0_pay65 (F := Ideal) a1 u kb q m (ix2 a c) : EReal) : EReal) := by
  pointwise [k0_pay67]
theorem pay68_at : k0_pay68 (F := Ideal) a1 u kb q m (ix2 0 c) = k0_pay63 (F := Ideal) a1 u kb q m (ix2 0 c) := by pointwise [k0_pay68]

/-- A whole step's new maximum, sum and weighted values, of a block before the group, first half, -/
theorem tl_l : k0_pay31 (F := Ideal) (k0_pay15 (F := Ideal) kb q m l) (ix2 0 c) = lN (m (ix2 0 c)) (l (ix2 0 c)) (sb kb q c) := by
  rw [pay31_at, pay15_at, tl_al]
  simp only [tl_w]
  rfl
theorem tl_a : k0_pay33 (F := Ideal) (k0_pay9 (F := Ideal) kb q m) (k0_pay13 (F := Ideal) kb vt q m) acc (ix2 e c) = aN (m (ix2 0 c)) (acc (ix2 e c)) (sb kb q c) (fun a => vt (ix2 e a)) := by
  rw [pay33_at, tl_al, tl_pv]
  rfl
/-- second half, -/
theorem th_l : k0_pay34 (F := Ideal) (k0_pay10 (F := Ideal) kb q m) (k0_pay12 (F := Ideal) kb q m) l (ix2 0 c) = lN (m (ix2 0 c)) (l (ix2 0 c)) (sb kb q c) := by
  rw [pay34_at, th_al]
  simp only [th_w]
  rfl
theorem th_a : k0_pay36 (F := Ideal) (k0_pay10 (F := Ideal) kb q m) (k0_pay14 (F := Ideal) kb vt q m) acc (ix2 e c) = aN (m (ix2 0 c)) (acc (ix2 e c)) (sb kb q c) (fun a => vt (ix2 e a)) := by
  rw [pay36_at, th_al, th_pv]
  rfl
/-- of the group's first block, second half, -/
theorem dh_l : k0_pay59 (F := Ideal) (k0_pay50 (F := Ideal) kb q m) (k0_pay52 (F := Ideal) kb q m) l (ix2 0 c) = lN (m (ix2 0 c)) (l (ix2 0 c)) (sb kb q c) := by
  rw [pay59_at, dh_al]
  simp only [dh_w]
  rfl
theorem dh_a : k0_pay61 (F := Ideal) (k0_pay50 (F := Ideal) kb q m) (k0_pay54 (F := Ideal) kb vt q m) acc (ix2 e c) = aN (m (ix2 0 c)) (acc (ix2 e c)) (sb kb q c) (fun a => vt (ix2 e a)) := by
  rw [pay61_at, dh_al, dh_pv]
  rfl

/-- The masked scores of the group's first block, first half, -/
def sd (g : ℕ) (c a : Fin 512) : EReal := if 512 * (2 * g) + a.val ≤ 1024 * g + c.val then sb kb q c a else ⊥
/-- and of its second block, second half. -/
def se (g : ℕ) (c a : Fin 512) : EReal := if 512 * (2 * g + 1) + a.val ≤ 1024 * g + 512 + c.val then sb kb q c a else ⊥

theorem pay44_at (a : Fin 512) : k0_pay44 (F := Ideal) kb q (ix2 a c) = sb kb q c a := by pointwise [k0_pay44, sb]

theorem pay46_at (g : ℕ) (hg : g < 4) (hu : u = Scalar.addi (Scalar.muli (BitVec.ofNat 32 g) 2#32) 0#32) (a : Fin 512) :
    k0_pay46 (F := Ideal) (BitVec.ofNat 32 g) u x (ix2 a c) = if 512 * (2 * g) + a.val ≤ 1024 * g + c.val then (x (ix2 a c) : EReal) else ⊥ := by
  subst hu
  pointwise [k0_pay46]
  rw [mask_at (512 * (2 * g) + a.val) (1024 * g + c.val) (by omega) (by omega) _ _ (by simp only [Scalar.muli, Scalar.addi, WordCmp.addi_ofNat, WordCmp.muli_ofNat]; congr 1; omega)
    (by simp only [Scalar.muli, Scalar.addi, WordCmp.addi_ofNat, WordCmp.muli_ofNat]; congr 1; omega)]

theorem pay62_at (g : ℕ) (hg : g < 4) (hu : u = Scalar.addi (Scalar.muli (BitVec.ofNat 32 g) 2#32) 1#32) (a : Fin 512) :
    k0_pay62 (F := Ideal) (BitVec.ofNat 32 g) u kb q (ix2 a c) = se kb q g c a := by
  subst hu
  pointwise [k0_pay62, se, sb]
  rw [mask_at (512 * (2 * g + 1) + a.val) (1024 * g + 512 + c.val) (by omega) (by omega) _ _ (by simp only [Scalar.muli, Scalar.addi, WordCmp.addi_ofNat, WordCmp.muli_ofNat]; congr 1; omega)
    (by simp only [Scalar.muli, Scalar.addi, WordCmp.addi_ofNat, WordCmp.muli_ofNat]; congr 1; omega)]

section Diag

variable (g : ℕ) (hg : g < 4)

include hg in
theorem st_d (hu : u = Scalar.addi (Scalar.muli (BitVec.ofNat 32 g) 2#32) 0#32) :
    (fun a : Fin 512 => (k0_pay46 (F := Ideal) (BitVec.ofNat 32 g) u (k0_pay44 (F := Ideal) kb q) (ix2 a c) : EReal)) = sd kb q g c := by
  funext a
  rw [pay46_at _ _ c g hg hu, pay44_at]
  rfl

include hg in
theorem st_e (hu : u = Scalar.addi (Scalar.muli (BitVec.ofNat 32 g) 2#32) 1#32) :
    (fun a : Fin 512 => (k0_pay62 (F := Ideal) (BitVec.ofNat 32 g) u kb q (ix2 a c) : EReal)) = se kb q g c := by
  funext a
  exact pay62_at kb q _ c g hg hu a

include hg in
/-- of the group's first block, first half, -/
theorem dl_m' (hu : u = Scalar.addi (Scalar.muli (BitVec.ofNat 32 g) 2#32) 0#32) :
    k0_pay47 (F := Ideal) (BitVec.ofNat 32 g) u (k0_pay44 (F := Ideal) kb q) m (ix2 0 c) = mN (m (ix2 0 c)) (sd kb q g c) := by
  rw [dl_m, st_d kb q u c g hg hu]

include hg in
theorem dl_l (hu : u = Scalar.addi (Scalar.muli (BitVec.ofNat 32 g) 2#32) 0#32) :
    k0_pay56 (F := Ideal) (k0_pay55 (F := Ideal) (BitVec.ofNat 32 g) u (k0_pay44 (F := Ideal) kb q) m l) (ix2 0 c) = lN (m (ix2 0 c)) (l (ix2 0 c)) (sd kb q g c) := by
  rw [pay56_at, pay55_at, dl_al]
  simp only [dl_w]
  rw [st_d kb q u c g hg hu]
  rw [← st_d kb q u c g hg hu]
  rfl

include hg in
theorem dl_a (hu : u = Scalar.addi (Scalar.muli (BitVec.ofNat 32 g) 2#32) 0#32) :
    k0_pay58 (F := Ideal) (k0_pay49 (F := Ideal) (BitVec.ofNat 32 g) u (k0_pay44 (F := Ideal) kb q) m) (k0_pay53 (F := Ideal) (BitVec.ofNat 32 g) u vt (k0_pay44 (F := Ideal) kb q) m) acc (ix2 e c) =
      aN (m (ix2 0 c)) (acc (ix2 e c)) (sd kb q g c) (fun a => vt (ix2 e a)) := by
  rw [pay58_at, dl_al, dl_pv, ← st_d kb q u c g hg hu]
  rfl

include hg in
/-- and of its second block, second half. -/
theorem eh_m' (hu : u = Scalar.addi (Scalar.muli (BitVec.ofNat 32 g) 2#32) 1#32) :
    k0_pay68 (F := Ideal) (BitVec.ofNat 32 g) u kb q m (ix2 0 c) = mN (m (ix2 0 c)) (se kb q g c) := by
  rw [pay68_at, eh_m, st_e kb q u c g hg hu]

include hg in
theorem eh_l (hu : u = Scalar.addi (Scalar.muli (BitVec.ofNat 32 g) 2#32) 1#32) :
    k0_pay67 (F := Ideal) (BitVec.ofNat 32 g) u kb q m l (ix2 0 c) = lN (m (ix2 0 c)) (l (ix2 0 c)) (se kb q g c) := by
  rw [pay67_at, eh_al]
  simp only [eh_w]
  rw [← st_e kb q u c g hg hu]
  rfl

include hg in
theorem eh_a (hu : u = Scalar.addi (Scalar.muli (BitVec.ofNat 32 g) 2#32) 1#32) :
    k0_pay1 (F := Ideal) (k0_pay64 (F := Ideal) (BitVec.ofNat 32 g) u kb q m) (k0_pay66 (F := Ideal) (BitVec.ofNat 32 g) u kb vt q m) acc (ix2 e c) =
      aN (m (ix2 0 c)) (acc (ix2 e c)) (se kb q g c) (fun a => vt (ix2 e a)) := by
  rw [pay1_at, eh_al, eh_pv, ← st_e kb q u c g hg hu]
  rfl

end Diag

end Tile

/-- The output is the weighted values over the weights' sum, -/
theorem pay2_at (l : Vec Ideal S1x1024 .f32) (acc : Vec Ideal S128x1024 .f32) (r : Fin 1024) (e : Fin 128) :
    k0_pay2 (F := Ideal) l acc (ix2 r e) = Ideal.div (acc (ix2 e r)) (l (ix2 0 r)) := by
  pointwise [k0_pay2]

/-- and the row's log-sum the maximum plus the log of that sum. -/
theorem pay3_at (l m : Vec Ideal S1x1024 .f32) (r : Fin 1024) :
    k0_pay3 (F := Ideal) l m (ix3 0 0 r) = (m (ix2 0 r) + Ideal.log (l (ix2 0 r)) : EReal) := by
  pointwise [k0_pay3]

end Cert.Kernel2Ideal.Attn

end
-- ==== Proof.Fwd.Loop.lean ====
/- The attention forward's loop over the key blocks below the group. -/
module

public import proofs.«01_k».proof.Proof.Fwd.Step
public import Idealize.ShloMosaic.Lib.WritesUnit
public import Idealize.ShloMosaic.Lib.Writes

@[expose] public section

set_option maxRecDepth 16384

noncomputable section

open Idealize.ShloMosaic Idealize.ShloMosaic.TcCoe Idealize.SL.Sem
open Idealize.ShloMosaic.Pipeline (Dat)

namespace Cert.Kernel2Ideal.Attn

open Cert.Kernel2Ideal Cert.Kernel2Ideal.Gen

open Cert.Attn
open Cert.KernelIdeal.Attn (key lo hi ninf)

/-- A read of a rectangle of a rank-2 view, at an index. -/
theorem readAt2 {κ : Kind} {sp : Space} {n0 n1 m0 m1 : ℕ} {e : EltTy} (v : View sig κ sp ⟨2, ![n0, n1]⟩ e) (f : v.ty.Contents (Elt Ideal))
    {off : Fin 2 → ℕ} (o0 o1 : ℕ) (heq : off = ![o0, o1])
    (inb : ∀ a : Fin 2, off a + (![m0, m1] : Fin 2 → ℕ) a ≤ (![n0, n1] : Fin 2 → ℕ) a) (a : Fin m0) (b : Fin m1) (h0 : o0 + a.val < n0) (h1 : o1 + b.val < n1) :
    v.readAt (Elt Ideal) (Rect.unit (s := ⟨2, ![n0, n1]⟩) off ![m0, m1] inb).toLoadRect f (ix2 a b) =
      v.read (Elt Ideal) f (ix2 ⟨o0 + a.val, h0⟩ ⟨o1 + b.val, h1⟩) := by
  subst heq
  rw [View.readAt_unit v f inb rfl inb]
  show v.read (Elt Ideal) f ((Rect.unit (s := ⟨2, ![n0, n1]⟩) ![o0, o1] ![m0, m1] inb).emb (ix2 a b)) = _
  congr 1
  funext x
  apply Fin.ext
  show (![o0, o1] : Fin 2 → ℕ) x + 1 * (ix2 a b x).val = _
  match x with
  | ⟨0, _⟩ => show o0 + 1 * a.val = o0 + a.val; omega
  | ⟨1, _⟩ => show o1 + 1 * b.val = o1 + b.val; omega

/-- A whole view read back after being filled is what it was filled with. -/
theorem readAt_whole {κ : Kind} {sp : Space} {s : Shape} {e : EltTy} (m : Memref sig κ sp s e) (hm : m.IsWhole) (X : s.Idx → Elt Ideal e)
    (off : Fin s.rank → ℕ) (inb) : m.view.readAt (Elt Ideal) (Rect.unit off s.size inb).toLoadRect (hm.unread X) = X := by
  rw [View.readAt_full, hm.read_unread]

section Half

variable {κ : Kind} {sp : Space} {n0 : ℕ} (v : View sig κ sp ⟨2, ![n0, 1024]⟩ .f32) (f : v.ty.Contents (Elt Ideal)) (L : List (View.Piece (Elt Ideal) ⟨2, ![n0, 1024]⟩ .f32))

theorem rd_hi (inb : ∀ a : Fin 2, (![0, 512] : Fin 2 → ℕ) a + (![n0, 512] : Fin 2 → ℕ) a ≤ (![n0, 1024] : Fin 2 → ℕ) a) (w : Shape.Idx ⟨2, ![n0, 512]⟩ → Elt Ideal .f32) (e : Fin n0) (c : Fin 512) :
    v.read (Elt Ideal) (v.writes (Elt Ideal) f ((⟨Rect.unit (s := ⟨2, ![n0, 1024]⟩) ![0, 512] ![n0, 512] inb, w⟩ : View.Piece (Elt Ideal) ⟨2, ![n0, 1024]⟩ .f32) :: L)) (ix2 e (hi c)) = w (ix2 e c) := by
  rw [View.read_writes_cons_unit v f inb w L (ix2 e (hi c)) rfl]
  rw [dif_pos (Fin.forall_fin_two.mpr ⟨show 0 ≤ e.val ∧ e.val < 0 + n0 from ⟨Nat.zero_le _, by omega⟩, show 512 ≤ 512 + c.val ∧ 512 + c.val < 512 + 512 from by omega⟩)]
  congr 1
  funext x
  match x with
  | ⟨0, _⟩ => rfl
  | ⟨1, _⟩ => exact Fin.ext (by show 512 + c.val - 512 = c.val; omega)

theorem rd_lo (inb : ∀ a : Fin 2, (![0, 0] : Fin 2 → ℕ) a + (![n0, 512] : Fin 2 → ℕ) a ≤ (![n0, 1024] : Fin 2 → ℕ) a) (w : Shape.Idx ⟨2, ![n0, 512]⟩ → Elt Ideal .f32) (e : Fin n0) (c : Fin 512) :
    v.read (Elt Ideal) (v.writes (Elt Ideal) f ((⟨Rect.unit (s := ⟨2, ![n0, 1024]⟩) ![0, 0] ![n0, 512] inb, w⟩ : View.Piece (Elt Ideal) ⟨2, ![n0, 1024]⟩ .f32) :: L)) (ix2 e (lo c)) = w (ix2 e c) := by
  rw [View.read_writes_cons_unit v f inb w L (ix2 e (lo c)) rfl]
  rw [dif_pos (Fin.forall_fin_two.mpr ⟨show 0 ≤ e.val ∧ e.val < 0 + n0 from ⟨Nat.zero_le _, by omega⟩, show 0 ≤ c.val ∧ c.val < 0 + 512 from by omega⟩)]
  congr 1
  funext x
  match x with
  | ⟨0, _⟩ => rfl
  | ⟨1, _⟩ => rfl

theorem rd_hi_lo (inb : ∀ a : Fin 2, (![0, 512] : Fin 2 → ℕ) a + (![n0, 512] : Fin 2 → ℕ) a ≤ (![n0, 1024] : Fin 2 → ℕ) a) (w : Shape.Idx ⟨2, ![n0, 512]⟩ → Elt Ideal .f32) (e : Fin n0) (c : Fin 512) :
    v.read (Elt Ideal) (v.writes (Elt Ideal) f ((⟨Rect.unit (s := ⟨2, ![n0, 1024]⟩) ![0, 512] ![n0, 512] inb, w⟩ : View.Piece (Elt Ideal) ⟨2, ![n0, 1024]⟩ .f32) :: L)) (ix2 e (lo c)) =
      v.read (Elt Ideal) (v.writes (Elt Ideal) f L) (ix2 e (lo c)) :=
  View.read_writes_cons_unit_of_not_mem (s := ⟨2, ![n0, 1024]⟩) (off' := ![0, 512]) (size := ![n0, 512]) v f inb w L (ix2 e (lo c)) rfl (1 : Fin 2) (Or.inl (show c.val < 512 from c.isLt))

theorem rd_lo_hi (inb : ∀ a : Fin 2, (![0, 0] : Fin 2 → ℕ) a + (![n0, 512] : Fin 2 → ℕ) a ≤ (![n0, 1024] : Fin 2 → ℕ) a) (w : Shape.Idx ⟨2, ![n0, 512]⟩ → Elt Ideal .f32) (e : Fin n0) (c : Fin 512) :
    v.read (Elt Ideal) (v.writes (Elt Ideal) f ((⟨Rect.unit (s := ⟨2, ![n0, 1024]⟩) ![0, 0] ![n0, 512] inb, w⟩ : View.Piece (Elt Ideal) ⟨2, ![n0, 1024]⟩ .f32) :: L)) (ix2 e (hi c)) =
      v.read (Elt Ideal) (v.writes (Elt Ideal) f L) (ix2 e (hi c)) :=
  View.read_writes_cons_unit_of_not_mem (s := ⟨2, ![n0, 1024]⟩) (off' := ![0, 0]) (size := ![n0, 512]) v f inb w L (ix2 e (hi c)) rfl (1 : Fin 2) (Or.inr (show 0 + 512 ≤ 512 + c.val by omega))

/-- A read of one half at an index. -/
theorem at_lo (inb : ∀ a : Fin 2, (![0, 0] : Fin 2 → ℕ) a + (![n0, 512] : Fin 2 → ℕ) a ≤ (![n0, 1024] : Fin 2 → ℕ) a) (e : Fin n0) (c : Fin 512) :
    v.readAt (Elt Ideal) (Rect.unit (s := ⟨2, ![n0, 1024]⟩) ![0, 0] ![n0, 512] inb).toLoadRect f (ix2 e c) = v.read (Elt Ideal) f (ix2 e (lo c)) :=
  (readAt2 v f 0 0 rfl inb e c (by omega) (by omega)).trans (congrArg _ (congrArg₂ ix2 (Fin.ext (Nat.zero_add _)) (Fin.ext (Nat.zero_add _))))

theorem at_hi (inb : ∀ a : Fin 2, (![0, 512] : Fin 2 → ℕ) a + (![n0, 512] : Fin 2 → ℕ) a ≤ (![n0, 1024] : Fin 2 → ℕ) a) (e : Fin n0) (c : Fin 512) :
    v.readAt (Elt Ideal) (Rect.unit (s := ⟨2, ![n0, 1024]⟩) ![0, 512] ![n0, 512] inb).toLoadRect f (ix2 e c) = v.read (Elt Ideal) f (ix2 e (hi c)) :=
  (readAt2 v f 0 512 rfl inb e c (by omega) (by omega)).trans (congrArg _ (congrArg₂ ix2 (Fin.ext (Nat.zero_add _)) rfl))

end Half

theorem halves (P : Fin 1024 → Prop) (h0 : ∀ c, P (lo c)) (h1 : ∀ c, P (hi c)) (r : Fin 1024) : P r := by
  by_cases h : r.val < 512
  · exact (show lo ⟨r.val, h⟩ = r from rfl) ▸ h0 ⟨r.val, h⟩
  · have e : hi ⟨r.val - 512, by omega⟩ = r := Fin.ext (by show 512 + (r.val - 512) = r.val; omega)
    exact e ▸ h1 ⟨r.val - 512, by omega⟩

theorem trips_eq : ∀ i : grid0.Coords, (k0_t1_loop i).trips = 2 * (i 1).val := by decide +kernel

theorem trips2_eq : ∀ i : grid0.Coords, (k0_t2_loop i).trips = 0 := by decide +kernel

theorem two_lo {κ : Kind} {sp : Space} {n0 : ℕ} (v : View sig κ sp ⟨2, ![n0, 1024]⟩ .f32) (f : v.ty.Contents (Elt Ideal)) (L : List (View.Piece (Elt Ideal) ⟨2, ![n0, 1024]⟩ .f32))
    (inb1 : ∀ a : Fin 2, (![0, 512] : Fin 2 → ℕ) a + (![n0, 512] : Fin 2 → ℕ) a ≤ (![n0, 1024] : Fin 2 → ℕ) a) (inb0 : ∀ a : Fin 2, (![0, 0] : Fin 2 → ℕ) a + (![n0, 512] : Fin 2 → ℕ) a ≤ (![n0, 1024] : Fin 2 → ℕ) a)
    (w1 w0 : Shape.Idx ⟨2, ![n0, 512]⟩ → Elt Ideal .f32) (e : Fin n0) (c : Fin 512) (x : EReal) (h : w0 (ix2 e c) = x) :
    v.read (Elt Ideal) (v.writes (Elt Ideal) f ((⟨Rect.unit (s := ⟨2, ![n0, 1024]⟩) ![0, 512] ![n0, 512] inb1, w1⟩ : View.Piece (Elt Ideal) ⟨2, ![n0, 1024]⟩ .f32) ::
      (⟨Rect.unit (s := ⟨2, ![n0, 1024]⟩) ![0, 0] ![n0, 512] inb0, w0⟩ : View.Piece (Elt Ideal) ⟨2, ![n0, 1024]⟩ .f32) :: L)) (ix2 e (lo c)) = x := by
  rw [rd_hi_lo, rd_lo, h]

theorem one_hi {κ : Kind} {sp : Space} {n0 : ℕ} (v : View sig κ sp ⟨2, ![n0, 1024]⟩ .f32) (f : v.ty.Contents (Elt Ideal)) (L : List (View.Piece (Elt Ideal) ⟨2, ![n0, 1024]⟩ .f32))
    (inb1 : ∀ a : Fin 2, (![0, 512] : Fin 2 → ℕ) a + (![n0, 512] : Fin 2 → ℕ) a ≤ (![n0, 1024] : Fin 2 → ℕ) a)
    (w1 : Shape.Idx ⟨2, ![n0, 512]⟩ → Elt Ideal .f32) (e : Fin n0) (c : Fin 512) (x : EReal) (h : w1 (ix2 e c) = x) :
    v.read (Elt Ideal) (v.writes (Elt Ideal) f ((⟨Rect.unit (s := ⟨2, ![n0, 1024]⟩) ![0, 512] ![n0, 512] inb1, w1⟩ : View.Piece (Elt Ideal) ⟨2, ![n0, 1024]⟩ .f32) :: L)) (ix2 e (hi c)) = x := by
  rw [rd_hi, h]

theorem col_congr {g : ℕ} {s : Fin 4096 → Fin 1024 → ℝ} {v : Fin 4096 → Fin 128 → EReal} {N : ℕ} {r : Fin 1024} {m l m' l' : EReal} {a a' : Fin 128 → EReal} (h : Col g s v N r m l a)
    (e1 : m' = m) (e2 : l' = l) (e3 : ∀ e, a' e = a e) : Col g s v N r m' l' a' := by
  obtain rfl := e1
  obtain rfl := e2
  obtain rfl : a' = a := funext e3
  exact h

/-- The scores of a block of keys, where the scores are real. -/
theorem sb_real (q : Vec Ideal S1024x256 .bf16) (k : Vec Ideal S4096x256 .bf16) (s : Fin 4096 → Fin 1024 → ℝ)
    (hS : ∀ κ r, ∑ d : Fin 256, (k (ix2 κ d) : EReal) * q (ix2 r d) = (s κ r : EReal)) (kb qb : Vec Ideal S512x256 .bf16) (j : ℕ) (hj : 512 * j + 512 ≤ 4096) (c : Fin 512) (r : Fin 1024)
    (hk : ∀ a d, kb (ix2 a d) = k (ix2 (key j hj a) d)) (hq : ∀ d, qb (ix2 c d) = q (ix2 r d)) (a : Fin 512) : sb kb qb c a = (s (key j hj a) r : EReal) := by
  rw [← hS, sb]
  exact Finset.sum_congr rfl fun d _ => by rw [hk, hq]

section Loop

variable (𝒱 : Variants) (c : Dev nD) (bd : Option 𝒱.V) (i : grid0.Coords)
  (arg2 : Memref sig .tc .vmem S1024x256 .bf16) (harg2 : arg2.IsWhole)
  (arg3 : Memref sig .tc .vmem S4096x256 .bf16) (harg3 : arg3.IsWhole)
  (arg4 : Memref sig .tc .vmem S128x4096 .bf16) (harg4 : arg4.IsWhole)
  (arg5 : Memref sig .tc .vmem S1024x128 .f32) (harg5 : arg5.IsWhole)
  (arg6 : Memref sig .tc .vmem S1x1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S128x1024 .f32) (harg9 : arg9.IsWhole)
  (X_arg2 : BufTy.Contents (Elt Ideal) arg2.view.ty) (X_arg3 : BufTy.Contents (Elt Ideal) arg3.view.ty) (X_arg4 : BufTy.Contents (Elt Ideal) arg4.view.ty)
  (G7 : BufTy.Contents (Elt Ideal) arg7.view.ty) (G8 : BufTy.Contents (Elt Ideal) arg8.view.ty) (G9 : BufTy.Contents (Elt Ideal) arg9.view.ty)
  (s : Fin 4096 → Fin 1024 → ℝ) (v : Fin 4096 → Fin 128 → EReal)
  (hS : ∀ κ r, ∑ d : Fin 256, (arg3.view.read (Elt Ideal) X_arg3 (ix2 κ d) : EReal) * arg2.view.read (Elt Ideal) X_arg2 (ix2 r d) = (s κ r : EReal))
  (hV : ∀ κ e, arg4.view.read (Elt Ideal) X_arg4 (ix2 e κ) = v κ e)

/-- What the three running arrays hold after the first `N` keys. -/
def St (N : ℕ) (r : Fin 1024) (G7 : BufTy.Contents (Elt Ideal) arg7.view.ty) (G8 : BufTy.Contents (Elt Ideal) arg8.view.ty) (G9 : BufTy.Contents (Elt Ideal) arg9.view.ty) : Prop :=
  Col (i 1).val s v N r (arg7.view.read (Elt Ideal) G7 (ix2 0 r)) (arg8.view.read (Elt Ideal) G8 (ix2 0 r)) (fun e => arg9.view.read (Elt Ideal) G9 (ix2 e r))

section Names

variable (k : Fin (k0_t1_loop i).trips) (b1 : ∀ a, k0_off1 i k a + S512x256.size a ≤ S4096x256.size a) (b2 : ∀ a, k0_off2 i k a + S128x512.size a ≤ S128x4096.size a)

theorem v178_eq : trip_k0_t1.sl.v178 (F := Ideal) i arg2 arg3 arg7 X_arg2 X_arg3 k G7 = k0_pay7 (F := Ideal) (arg3.view.readAt (Elt Ideal) (Rect.unit (s := S4096x256) (k0_off1 i k) S512x256.size b1).toLoadRect X_arg3) (arg2.view.readAt (Elt Ideal) (Rect.unit (s := S1024x256) ![0, 0] S512x256.size inb_S1024x256_S512x256_0_0).toLoadRect X_arg2) (arg7.view.readAt (Elt Ideal) (Rect.unit (s := S1x1024) ![0, 0] S1x512.size inb_S1x1024_S1x512_0_0).toLoadRect G7) := rfl
theorem v181_eq : trip_k0_t1.sl.v181 (F := Ideal) i arg2 arg3 arg7 X_arg2 X_arg3 k G7 = k0_pay8 (F := Ideal) (arg3.view.readAt (Elt Ideal) (Rect.unit (s := S4096x256) (k0_off1 i k) S512x256.size b1).toLoadRect X_arg3) (arg2.view.readAt (Elt Ideal) (Rect.unit (s := S1024x256) ![512, 0] S512x256.size inb_S1024x256_S512x256_512_0).toLoadRect X_arg2) (arg7.view.readAt (Elt Ideal) (Rect.unit (s := S1x1024) ![0, 512] S1x512.size inb_S1x1024_S1x512_0_512).toLoadRect G7) := rfl
theorem v183_eq : trip_k0_t1.sl.v183 (F := Ideal) i arg2 arg3 arg7 X_arg2 X_arg3 k G7 = k0_pay9 (F := Ideal) (arg3.view.readAt (Elt Ideal) (Rect.unit (s := S4096x256) (k0_off1 i k) S512x256.size b1).toLoadRect X_arg3) (arg2.view.readAt (Elt Ideal) (Rect.unit (s := S1024x256) ![0, 0] S512x256.size inb_S1024x256_S512x256_0_0).toLoadRect X_arg2) (arg7.view.readAt (Elt Ideal) (Rect.unit (s := S1x1024) ![0, 0] S1x512.size inb_S1x1024_S1x512_0_0).toLoadRect G7) := rfl
theorem v185_eq : trip_k0_t1.sl.v185 (F := Ideal) i arg2 arg3 arg7 X_arg2 X_arg3 k G7 = k0_pay10 (F := Ideal) (arg3.view.readAt (Elt Ideal) (Rect.unit (s := S4096x256) (k0_off1 i k) S512x256.size b1).toLoadRect X_arg3) (arg2.view.readAt (Elt Ideal) (Rect.unit (s := S1024x256) ![512, 0] S512x256.size inb_S1024x256_S512x256_512_0).toLoadRect X_arg2) (arg7.view.readAt (Elt Ideal) (Rect.unit (s := S1x1024) ![0, 512] S1x512.size inb_S1x1024_S1x512_0_512).toLoadRect G7) := rfl
theorem v191_eq : trip_k0_t1.sl.v191 (F := Ideal) i arg2 arg3 arg7 X_arg2 X_arg3 k G7 = k0_pay12 (F := Ideal) (arg3.view.readAt (Elt Ideal) (Rect.unit (s := S4096x256) (k0_off1 i k) S512x256.size b1).toLoadRect X_arg3) (arg2.view.readAt (Elt Ideal) (Rect.unit (s := S1024x256) ![512, 0] S512x256.size inb_S1024x256_S512x256_512_0).toLoadRect X_arg2) (arg7.view.readAt (Elt Ideal) (Rect.unit (s := S1x1024) ![0, 512] S1x512.size inb_S1x1024_S1x512_0_512).toLoadRect G7) := rfl
theorem v193_eq : trip_k0_t1.sl.v193 (F := Ideal) i arg2 arg3 arg4 arg7 X_arg2 X_arg3 X_arg4 k G7 = k0_pay13 (F := Ideal) (arg3.view.readAt (Elt Ideal) (Rect.unit (s := S4096x256) (k0_off1 i k) S512x256.size b1).toLoadRect X_arg3) (arg4.view.readAt (Elt Ideal) (Rect.unit (s := S128x4096) (k0_off2 i k) S128x512.size b2).toLoadRect X_arg4) (arg2.view.readAt (Elt Ideal) (Rect.unit (s := S1024x256) ![0, 0] S512x256.size inb_S1024x256_S512x256_0_0).toLoadRect X_arg2) (arg7.view.readAt (Elt Ideal) (Rect.unit (s := S1x1024) ![0, 0] S1x512.size inb_S1x1024_S1x512_0_0).toLoadRect G7) := rfl
theorem v195_eq : trip_k0_t1.sl.v195 (F := Ideal) i arg2 arg3 arg4 arg7 X_arg2 X_arg3 X_arg4 k G7 = k0_pay14 (F := Ideal) (arg3.view.readAt (Elt Ideal) (Rect.unit (s := S4096x256) (k0_off1 i k) S512x256.size b1).toLoadRect X_arg3) (arg4.view.readAt (Elt Ideal) (Rect.unit (s := S128x4096) (k0_off2 i k) S128x512.size b2).toLoadRect X_arg4) (arg2.view.readAt (Elt Ideal) (Rect.unit (s := S1024x256) ![512, 0] S512x256.size inb_S1024x256_S512x256_512_0).toLoadRect X_arg2) (arg7.view.readAt (Elt Ideal) (Rect.unit (s := S1x1024) ![0, 512] S1x512.size inb_S1x1024_S1x512_0_512).toLoadRect G7) := rfl
theorem v200_eq : trip_k0_t1.sl.v200 (F := Ideal) i arg2 arg3 arg7 arg8 X_arg2 X_arg3 k G7 G8 = k0_pay15 (F := Ideal) (arg3.view.readAt (Elt Ideal) (Rect.unit (s := S4096x256) (k0_off1 i k) S512x256.size b1).toLoadRect X_arg3) (arg2.view.readAt (Elt Ideal) (Rect.unit (s := S1024x256) ![0, 0] S512x256.size inb_S1024x256_S512x256_0_0).toLoadRect X_arg2) (arg7.view.readAt (Elt Ideal) (Rect.unit (s := S1x1024) ![0, 0] S1x512.size inb_S1x1024_S1x512_0_0).toLoadRect G7) (arg8.view.readAt (Elt Ideal) (Rect.unit (s := S1x1024) ![0, 0] S1x512.size inb_S1x1024_S1x512_0_0).toLoadRect G8) := rfl

end Names

theorem off1_b (k : Fin (k0_t1_loop i).trips) : ∀ a, k0_off1 i k a + S512x256.size a ≤ S4096x256.size a := by
  have hk : k.val < 2 * (i 1).val := lt_of_lt_of_eq k.isLt (trips_eq i)
  have hg : (i 1).val < 4 := (i 1).isLt
  rw [k0_off1_eq i k]
  exact Fin.forall_fin_two.mpr ⟨show 512 * k.val + 512 ≤ 4096 by omega, show 0 + 256 ≤ 256 by omega⟩

theorem off2_b (k : Fin (k0_t1_loop i).trips) : ∀ a, k0_off2 i k a + S128x512.size a ≤ S128x4096.size a := by
  have hk : k.val < 2 * (i 1).val := lt_of_lt_of_eq k.isLt (trips_eq i)
  have hg : (i 1).val < 4 := (i 1).isLt
  rw [k0_off2_eq i k]
  exact Fin.forall_fin_two.mpr ⟨show 0 + 128 ≤ 128 by omega, show 512 * k.val + 512 ≤ 4096 by omega⟩

include hS hV in
set_option backward.isDefEq.respectTransparency false in
theorem trip_lo (k : Fin (k0_t1_loop i).trips) (b : Fin 512) (h : St i arg7 arg8 arg9 s v (512 * k.val) (lo b) G7 G8 G9) :
    St i arg7 arg8 arg9 s v (512 * (k.val + 1)) (lo b)
      (arg7.view.writes (Elt Ideal) G7 (tripL_k0_t1 (F := Ideal) 𝒱 c bd i arg2 harg2 arg3 harg3 arg4 harg4 arg5 harg5 arg6 harg6 arg7 harg7 arg8 harg8 arg9 harg9 X_arg2 X_arg3 X_arg4 k G7 G8 G9).1)
      (arg8.view.writes (Elt Ideal) G8 (tripL_k0_t1 (F := Ideal) 𝒱 c bd i arg2 harg2 arg3 harg3 arg4 harg4 arg5 harg5 arg6 harg6 arg7 harg7 arg8 harg8 arg9 harg9 X_arg2 X_arg3 X_arg4 k G7 G8 G9).2.1)
      (arg9.view.writes (Elt Ideal) G9 (tripL_k0_t1 (F := Ideal) 𝒱 c bd i arg2 harg2 arg3 harg3 arg4 harg4 arg5 harg5 arg6 harg6 arg7 harg7 arg8 harg8 arg9 harg9 X_arg2 X_arg3 X_arg4 k G7 G8 G9).2.2) := by
  have hk : k.val < 2 * (i 1).val := lt_of_lt_of_eq k.isLt (trips_eq i)
  have hg : (i 1).val < 4 := (i 1).isLt
  have hj : 512 * k.val + 512 ≤ 4096 := by omega
  have b1 := off1_b i k
  have b2 := off2_b i k
  unfold tripL_k0_t1 trip_k0_t1
  dsimp only
  rw [v178_eq (b1 := b1), v200_eq (b1 := b1), v183_eq (b1 := b1), v193_eq (b1 := b1) (b2 := b2)]
  unfold St at h ⊢
  refine col_congr (col_step (i 1).val s v k.val hj (lo b) (by show 512 * k.val ≤ 1024 * (i 1).val + b.val; omega) (sb (arg3.view.readAt (Elt Ideal) (Rect.unit (s := S4096x256) (k0_off1 i k) S512x256.size b1).toLoadRect X_arg3) (arg2.view.readAt (Elt Ideal) (Rect.unit (s := S1024x256) ![0, 0] S512x256.size inb_S1024x256_S512x256_0_0).toLoadRect X_arg2) b) (fun e a => (arg4.view.readAt (Elt Ideal) (Rect.unit (s := S128x4096) (k0_off2 i k) S128x512.size b2).toLoadRect X_arg4) (ix2 e a)) ?_ ?_ _ _ _ h) ?_ ?_ (fun e => ?_)
  · intro a
    refine (sb_real (arg2.view.read (Elt Ideal) X_arg2) (arg3.view.read (Elt Ideal) X_arg3) s hS _ _ k.val hj b (lo b) (fun a d => (readAt2 arg3.view X_arg3 _ _ (k0_off1_eq i k) _ a d (by omega) (by omega)).trans (by simp [key]))
      (fun d => (readAt2 arg2.view X_arg2 0 0 rfl _ b d (by omega) (by omega)).trans (by simp [lo])) a).trans ?_
    rw [if_pos (by show 512 * k.val + a.val ≤ 1024 * (i 1).val + b.val; omega)]
  · intro e a
    exact ((readAt2 arg4.view X_arg4 _ _ (k0_off2_eq i k) _ e a (by omega) (by omega)).trans (by simp [key])).trans (hV (key k.val hj a) e)
  · refine two_lo (n0 := 1) arg7.view G7 [] _ _ _ _ 0 b _ ?_
    rw [pay32_at, tl_m, at_lo (n0 := 1)]
  · refine two_lo (n0 := 1) arg8.view G8 [] _ _ _ _ 0 b _ ?_
    rw [tl_l, at_lo (n0 := 1), at_lo (n0 := 1)]
  · refine two_lo (n0 := 128) arg9.view G9 [] _ _ _ _ e b _ ?_
    rw [tl_a, at_lo (n0 := 1), at_lo (n0 := 128)]

include hS hV in
set_option backward.isDefEq.respectTransparency false in
theorem trip_hi (k : Fin (k0_t1_loop i).trips) (b : Fin 512) (h : St i arg7 arg8 arg9 s v (512 * k.val) (hi b) G7 G8 G9) :
    St i arg7 arg8 arg9 s v (512 * (k.val + 1)) (hi b)
      (arg7.view.writes (Elt Ideal) G7 (tripL_k0_t1 (F := Ideal) 𝒱 c bd i arg2 harg2 arg3 harg3 arg4 harg4 arg5 harg5 arg6 harg6 arg7 harg7 arg8 harg8 arg9 harg9 X_arg2 X_arg3 X_arg4 k G7 G8 G9).1)
      (arg8.view.writes (Elt Ideal) G8 (tripL_k0_t1 (F := Ideal) 𝒱 c bd i arg2 harg2 arg3 harg3 arg4 harg4 arg5 harg5 arg6 harg6 arg7 harg7 arg8 harg8 arg9 harg9 X_arg2 X_arg3 X_arg4 k G7 G8 G9).2.1)
      (arg9.view.writes (Elt Ideal) G9 (tripL_k0_t1 (F := Ideal) 𝒱 c bd i arg2 harg2 arg3 harg3 arg4 harg4 arg5 harg5 arg6 harg6 arg7 harg7 arg8 harg8 arg9 harg9 X_arg2 X_arg3 X_arg4 k G7 G8 G9).2.2) := by
  have hk : k.val < 2 * (i 1).val := lt_of_lt_of_eq k.isLt (trips_eq i)
  have hg : (i 1).val < 4 := (i 1).isLt
  have hj : 512 * k.val + 512 ≤ 4096 := by omega
  have b1 := off1_b i k
  have b2 := off2_b i k
  unfold tripL_k0_t1 trip_k0_t1
  dsimp only
  rw [v181_eq (b1 := b1), v185_eq (b1 := b1), v191_eq (b1 := b1), v195_eq (b1 := b1) (b2 := b2)]
  unfold St at h ⊢
  refine col_congr (col_step (i 1).val s v k.val hj (hi b) (by show 512 * k.val ≤ 1024 * (i 1).val + (512 + b.val); omega) (sb (arg3.view.readAt (Elt Ideal) (Rect.unit (s := S4096x256) (k0_off1 i k) S512x256.size b1).toLoadRect X_arg3) (arg2.view.readAt (Elt Ideal) (Rect.unit (s := S1024x256) ![512, 0] S512x256.size inb_S1024x256_S512x256_512_0).toLoadRect X_arg2) b) (fun e a => (arg4.view.readAt (Elt Ideal) (Rect.unit (s := S128x4096) (k0_off2 i k) S128x512.size b2).toLoadRect X_arg4) (ix2 e a)) ?_ ?_ _ _ _ h) ?_ ?_ (fun e => ?_)
  · intro a
    refine (sb_real (arg2.view.read (Elt Ideal) X_arg2) (arg3.view.read (Elt Ideal) X_arg3) s hS _ _ k.val hj b (hi b) (fun a d => (readAt2 arg3.view X_arg3 _ _ (k0_off1_eq i k) _ a d (by omega) (by omega)).trans (by simp [key]))
      (fun d => (readAt2 arg2.view X_arg2 512 0 rfl _ b d (by omega) (by omega)).trans (by simp [hi])) a).trans ?_
    rw [if_pos (by show 512 * k.val + a.val ≤ 1024 * (i 1).val + (512 + b.val); omega)]
  · intro e a
    exact ((readAt2 arg4.view X_arg4 _ _ (k0_off2_eq i k) _ e a (by omega) (by omega)).trans (by simp [key])).trans (hV (key k.val hj a) e)
  · refine one_hi (n0 := 1) arg7.view G7 _ _ _ 0 b _ ?_
    rw [pay35_at, th_m, at_hi (n0 := 1)]
  · refine one_hi (n0 := 1) arg8.view G8 _ _ _ 0 b _ ?_
    unfold trip_k0_t1.sl.v214
    rw [th_l, at_hi (n0 := 1), at_hi (n0 := 1)]
  · refine one_hi (n0 := 128) arg9.view G9 _ _ _ e b _ ?_
    unfold trip_k0_t1.sl.v225
    rw [th_a, at_hi (n0 := 1), at_hi (n0 := 128)]

include hS hV in
/-- The running arrays after the trips below `n`. -/
theorem loop (n : ℕ) (hn : n ≤ (k0_t1_loop i).trips) (h : ∀ r, St i arg7 arg8 arg9 s v 0 r G7 G8 G9) (r : Fin 1024) :
    St i arg7 arg8 arg9 s v (512 * n) r
      (arg7.view.writes (Elt Ideal) G7 (pb_k0_t1 (F := Ideal) 𝒱 c bd i arg2 harg2 arg3 harg3 arg4 harg4 arg5 harg5 arg6 harg6 arg7 harg7 arg8 harg8 arg9 harg9 X_arg2 X_arg3 X_arg4 G7 G8 G9 n).1)
      (arg8.view.writes (Elt Ideal) G8 (pb_k0_t1 (F := Ideal) 𝒱 c bd i arg2 harg2 arg3 harg3 arg4 harg4 arg5 harg5 arg6 harg6 arg7 harg7 arg8 harg8 arg9 harg9 X_arg2 X_arg3 X_arg4 G7 G8 G9 n).2.1)
      (arg9.view.writes (Elt Ideal) G9 (pb_k0_t1 (F := Ideal) 𝒱 c bd i arg2 harg2 arg3 harg3 arg4 harg4 arg5 harg5 arg6 harg6 arg7 harg7 arg8 harg8 arg9 harg9 X_arg2 X_arg3 X_arg4 G7 G8 G9 n).2.2) := by
  induction n generalizing r with
  | zero => exact h r
  | succ n ih =>
    rw [pb_k0_t1_succ (F := Ideal) 𝒱 c bd i arg2 harg2 arg3 harg3 arg4 harg4 arg5 harg5 arg6 harg6 arg7 harg7 arg8 harg8 arg9 harg9 X_arg2 X_arg3 X_arg4 G7 G8 G9 ⟨n, hn⟩]
    dsimp only
    rw [View.writes_append, View.writes_append, View.writes_append]
    revert r
    refine halves _ (fun b => ?_) (fun b => ?_)
    · exact trip_lo 𝒱 c bd i arg2 harg2 arg3 harg3 arg4 harg4 arg5 harg5 arg6 harg6 arg7 harg7 arg8 harg8 arg9 harg9 X_arg2 X_arg3 X_arg4 _ _ _ s v hS hV ⟨n, hn⟩ b (ih (by omega) _)
    · exact trip_hi 𝒱 c bd i arg2 harg2 arg3 harg3 arg4 harg4 arg5 harg5 arg6 harg6 arg7 harg7 arg8 harg8 arg9 harg9 X_arg2 X_arg3 X_arg4 _ _ _ s v hS hV ⟨n, hn⟩ b (ih (by omega) _)

end Loop

end Cert.Kernel2Ideal.Attn

end
-- ==== Proof.Fwd.Diag.lean ====
/- The attention forward's two steps over the key blocks on the diagonal. -/
module

public import proofs.«01_k».proof.Proof.Fwd.Loop

@[expose] public section

set_option maxRecDepth 16384

noncomputable section

open Idealize.ShloMosaic Idealize.ShloMosaic.TcCoe Idealize.SL.Sem
open Idealize.ShloMosaic.Pipeline (Dat)

namespace Cert.Kernel2Ideal.Attn

open Cert.Kernel2Ideal Cert.Kernel2Ideal.Gen

open Cert.Attn
open Cert.KernelIdeal.Attn (key lo hi ninf)

section Diag

variable (i : grid0.Coords) (arg7 : Memref sig .tc .vmem S1x1024 .f32) (arg8 : Memref sig .tc .vmem S1x1024 .f32) (arg9 : Memref sig .tc .vmem S128x1024 .f32)
  (f7 : BufTy.Contents (Elt Ideal) arg7.view.ty) (f8 : BufTy.Contents (Elt Ideal) arg8.view.ty) (f9 : BufTy.Contents (Elt Ideal) arg9.view.ty)
  (L7 : List (View.Piece (Elt Ideal) S1x1024 .f32)) (L8 : List (View.Piece (Elt Ideal) S1x1024 .f32)) (L9 : List (View.Piece (Elt Ideal) S128x1024 .f32))
  (q : Vec Ideal S1024x256 .bf16) (k : Vec Ideal S4096x256 .bf16) (vt : Vec Ideal S128x4096 .bf16)
  (s : Fin 4096 → Fin 1024 → ℝ) (v : Fin 4096 → Fin 128 → EReal)
  (hS : ∀ κ r, ∑ d : Fin 256, (k (ix2 κ d) : EReal) * q (ix2 r d) = (s κ r : EReal))
  (hV : ∀ κ e, vt (ix2 e κ) = v κ e)
  (u : BitVec 32) (kb ql qh : Vec Ideal S512x256 .bf16) (vb : Vec Ideal S128x512 .bf16)
  (hql : ∀ c d, ql (ix2 c d) = q (ix2 (lo c) d)) (hqh : ∀ c d, qh (ix2 c d) = q (ix2 (hi c) d))
  (ml mh ll lh : Vec Ideal S1x512 .f32) (al ah : Vec Ideal S128x512 .f32)
  (hml : ∀ c, ml (ix2 0 c) = arg7.view.read (Elt Ideal) (arg7.view.writes (Elt Ideal) f7 L7) (ix2 0 (lo c)))
  (hmh : ∀ c, mh (ix2 0 c) = arg7.view.read (Elt Ideal) (arg7.view.writes (Elt Ideal) f7 L7) (ix2 0 (hi c)))
  (hll : ∀ c, ll (ix2 0 c) = arg8.view.read (Elt Ideal) (arg8.view.writes (Elt Ideal) f8 L8) (ix2 0 (lo c)))
  (hlh : ∀ c, lh (ix2 0 c) = arg8.view.read (Elt Ideal) (arg8.view.writes (Elt Ideal) f8 L8) (ix2 0 (hi c)))
  (hal : ∀ e c, al (ix2 e c) = arg9.view.read (Elt Ideal) (arg9.view.writes (Elt Ideal) f9 L9) (ix2 e (lo c)))
  (hah : ∀ e c, ah (ix2 e c) = arg9.view.read (Elt Ideal) (arg9.view.writes (Elt Ideal) f9 L9) (ix2 e (hi c)))

theorem lt4 : (i 1).val < 4 := (i 1).isLt
theorem d0 : 512 * (2 * (i 1).val) + 512 ≤ 4096 := by have := lt4 i; omega
theorem d1 : 512 * (2 * (i 1).val + 1) + 512 ≤ 4096 := by have := lt4 i; omega

include hS hV hql hqh hml hmh hll hlh hal hah in
set_option backward.isDefEq.respectTransparency false in
/-- The step over the group's first block, with both halves. -/
theorem diag0 (hk : ∀ a d, kb (ix2 a d) = k (ix2 (key (2 * (i 1).val) (d0 i) a) d)) (hv : ∀ e a, vb (ix2 e a) = vt (ix2 e (key (2 * (i 1).val) (d0 i) a)))
    (hu : u = Scalar.addi (Scalar.muli (BitVec.ofNat 32 (i 1).val) 2#32) 0#32)
    (h : ∀ r, St i arg7 arg8 arg9 s v (512 * (2 * (i 1).val)) r (arg7.view.writes (Elt Ideal) f7 L7) (arg8.view.writes (Elt Ideal) f8 L8) (arg9.view.writes (Elt Ideal) f9 L9)) (r : Fin 1024) :
    St i arg7 arg8 arg9 s v (512 * (2 * (i 1).val + 1)) r
      (arg7.view.writes (Elt Ideal) f7 (⟨Rect.unit (s := S1x1024) ![0, 512] S1x512.size inb_S1x1024_S1x512_0_512, k0_pay60 (F := Ideal) (k0_pay48 (F := Ideal) kb qh mh)⟩ ::
        ⟨Rect.unit (s := S1x1024) ![0, 0] S1x512.size inb_S1x1024_S1x512_0_0, k0_pay57 (F := Ideal) (k0_pay47 (F := Ideal) (BitVec.ofNat 32 (i 1).val) u (k0_pay44 (F := Ideal) kb ql) ml)⟩ :: L7))
      (arg8.view.writes (Elt Ideal) f8 (⟨Rect.unit (s := S1x1024) ![0, 512] S1x512.size inb_S1x1024_S1x512_0_512, k0_pay59 (F := Ideal) (k0_pay50 (F := Ideal) kb qh mh) (k0_pay52 (F := Ideal) kb qh mh) lh⟩ ::
        ⟨Rect.unit (s := S1x1024) ![0, 0] S1x512.size inb_S1x1024_S1x512_0_0, k0_pay56 (F := Ideal) (k0_pay55 (F := Ideal) (BitVec.ofNat 32 (i 1).val) u (k0_pay44 (F := Ideal) kb ql) ml ll)⟩ :: L8))
      (arg9.view.writes (Elt Ideal) f9 (⟨Rect.unit (s := S128x1024) ![0, 512] S128x512.size inb_S128x1024_S128x512_0_512, k0_pay61 (F := Ideal) (k0_pay50 (F := Ideal) kb qh mh) (k0_pay54 (F := Ideal) kb vb qh mh) ah⟩ ::
        ⟨Rect.unit (s := S128x1024) ![0, 0] S128x512.size inb_S128x1024_S128x512_0_0, k0_pay58 (F := Ideal) (k0_pay49 (F := Ideal) (BitVec.ofNat 32 (i 1).val) u (k0_pay44 (F := Ideal) kb ql) ml) (k0_pay53 (F := Ideal) (BitVec.ofNat 32 (i 1).val) u vb (k0_pay44 (F := Ideal) kb ql) ml) al⟩ :: L9)) := by
  have hg := lt4 i
  revert r
  refine halves _ (fun b => ?_) (fun b => ?_)
  · have h' := h (lo b)
    unfold St at h' ⊢
    refine col_congr (col_step (i 1).val s v (2 * (i 1).val) (d0 i) (lo b) (by show _ ≤ 1024 * (i 1).val + b.val; omega) (sd kb ql (i 1).val b) (fun e a => vb (ix2 e a)) ?_ ?_ _ _ _ h') ?_ ?_ (fun e => ?_)
    · intro a
      rw [sd, sb_real q k s hS kb ql (2 * (i 1).val) (d0 i) b (lo b) hk (fun d => hql b d) a]
      rfl
    · intro e a
      exact (hv e a).trans (hV _ e)
    · refine two_lo (n0 := 1) arg7.view f7 L7 _ _ _ _ 0 b _ ?_
      rw [pay57_at, dl_m' kb ql ml u b (i 1).val hg hu, hml]
    · refine two_lo (n0 := 1) arg8.view f8 L8 _ _ _ _ 0 b _ ?_
      rw [dl_l kb ql ml ll u b (i 1).val hg hu, hml, hll]
    · refine two_lo (n0 := 128) arg9.view f9 L9 _ _ _ _ e b _ ?_
      rw [dl_a kb ql vb ml al u e b (i 1).val hg hu, hml, hal]
  · have h' := h (hi b)
    unfold St at h' ⊢
    refine col_congr (col_step (i 1).val s v (2 * (i 1).val) (d0 i) (hi b) (by show _ ≤ 1024 * (i 1).val + (512 + b.val); omega) (sb kb qh b) (fun e a => vb (ix2 e a)) ?_ ?_ _ _ _ h') ?_ ?_ (fun e => ?_)
    · intro a
      rw [if_pos (by show 512 * (2 * (i 1).val) + a.val ≤ 1024 * (i 1).val + (512 + b.val); omega)]
      exact sb_real q k s hS kb qh (2 * (i 1).val) (d0 i) b (hi b) hk (fun d => hqh b d) a
    · intro e a
      exact (hv e a).trans (hV _ e)
    · refine one_hi (n0 := 1) arg7.view f7 _ _ _ 0 b _ ?_
      rw [pay60_at, dh_m, hmh]
    · refine one_hi (n0 := 1) arg8.view f8 _ _ _ 0 b _ ?_
      rw [dh_l, hmh, hlh]
    · refine one_hi (n0 := 128) arg9.view f9 _ _ _ e b _ ?_
      rw [dh_a, hmh, hah]

include hS hV hqh hmh hlh hah in
set_option backward.isDefEq.respectTransparency false in
/-- The step over the group's second block, with the second half; afterwards every query has seen all its keys. -/
theorem diag1 (hk : ∀ a d, kb (ix2 a d) = k (ix2 (key (2 * (i 1).val + 1) (d1 i) a) d)) (hv : ∀ e a, vb (ix2 e a) = vt (ix2 e (key (2 * (i 1).val + 1) (d1 i) a)))
    (hu : u = Scalar.addi (Scalar.muli (BitVec.ofNat 32 (i 1).val) 2#32) 1#32)
    (h : ∀ r, St i arg7 arg8 arg9 s v (512 * (2 * (i 1).val + 1)) r (arg7.view.writes (Elt Ideal) f7 L7) (arg8.view.writes (Elt Ideal) f8 L8) (arg9.view.writes (Elt Ideal) f9 L9)) (r : Fin 1024) :
    St i arg7 arg8 arg9 s v 4096 r
      (arg7.view.writes (Elt Ideal) f7 (⟨Rect.unit (s := S1x1024) ![0, 512] S1x512.size inb_S1x1024_S1x512_0_512, k0_pay68 (F := Ideal) (BitVec.ofNat 32 (i 1).val) u kb qh mh⟩ :: L7))
      (arg8.view.writes (Elt Ideal) f8 (⟨Rect.unit (s := S1x1024) ![0, 512] S1x512.size inb_S1x1024_S1x512_0_512, k0_pay67 (F := Ideal) (BitVec.ofNat 32 (i 1).val) u kb qh mh lh⟩ :: L8))
      (arg9.view.writes (Elt Ideal) f9 (⟨Rect.unit (s := S128x1024) ![0, 512] S128x512.size inb_S128x1024_S128x512_0_512,
        k0_pay1 (F := Ideal) (k0_pay64 (F := Ideal) (BitVec.ofNat 32 (i 1).val) u kb qh mh) (k0_pay66 (F := Ideal) (BitVec.ofNat 32 (i 1).val) u kb vb qh mh) ah⟩ :: L9)) := by
  have hg := lt4 i
  revert r
  refine halves _ (fun b => ?_) (fun b => ?_)
  · have h' := h (lo b)
    unfold St at h' ⊢
    refine col_congr (col_more (i 1).val s v _ 4096 (lo b) _ _ _ (by omega) (by show 1024 * (i 1).val + b.val < _; omega) (by show 1024 * (i 1).val + b.val < _; omega) h') ?_ ?_ (fun e => ?_)
    · exact rd_hi_lo (n0 := 1) arg7.view f7 L7 _ _ 0 b
    · exact rd_hi_lo (n0 := 1) arg8.view f8 L8 _ _ 0 b
    · exact rd_hi_lo (n0 := 128) arg9.view f9 L9 _ _ e b
  · have h' := h (hi b)
    unfold St at h' ⊢
    refine col_congr (col_more (i 1).val s v _ 4096 (hi b) _ _ _ (by omega) (by show 1024 * (i 1).val + (512 + b.val) < _; omega) (by show 1024 * (i 1).val + (512 + b.val) < _; omega)
      (col_step (i 1).val s v (2 * (i 1).val + 1) (d1 i) (hi b) (by show _ ≤ 1024 * (i 1).val + (512 + b.val); omega) (se kb qh (i 1).val b) (fun e a => vb (ix2 e a)) ?_ ?_ _ _ _ h')) ?_ ?_ (fun e => ?_)
    · intro a
      rw [se, sb_real q k s hS kb qh (2 * (i 1).val + 1) (d1 i) b (hi b) hk (fun d => hqh b d) a]
      by_cases hc : 512 * (2 * (i 1).val + 1) + a.val ≤ 1024 * (i 1).val + 512 + b.val
      · rw [if_pos hc, if_pos (by show 512 * (2 * (i 1).val + 1) + a.val ≤ 1024 * (i 1).val + (512 + b.val); omega)]
      · rw [if_neg hc, if_neg (by show ¬ 512 * (2 * (i 1).val + 1) + a.val ≤ 1024 * (i 1).val + (512 + b.val); omega)]
    · intro e a
      exact (hv e a).trans (hV _ e)
    · refine one_hi (n0 := 1) arg7.view f7 _ _ _ 0 b _ ?_
      rw [eh_m' kb qh mh u b (i 1).val hg hu, hmh]
    · refine one_hi (n0 := 1) arg8.view f8 _ _ _ 0 b _ ?_
      rw [eh_l kb qh mh lh u b (i 1).val hg hu, hmh, hlh]
    · refine one_hi (n0 := 128) arg9.view f9 _ _ _ e b _ ?_
      rw [eh_a kb qh vb mh ah u e b (i 1).val hg hu, hmh, hah]

end Diag

end Cert.Kernel2Ideal.Attn

end
-- ==== Proof.Fwd.Point.lean ====
/- What each grid point of the attention forward leaves behind. -/
module

public import proofs.«01_k».proof.Proof.Fwd.Diag

@[expose] public section

set_option maxRecDepth 16384

noncomputable section

open Idealize.ShloMosaic Idealize.ShloMosaic.TcCoe Idealize.SL.Sem
open Idealize.ShloMosaic.Pipeline (Dat)

namespace Cert.Kernel2Ideal.Attn

open Cert.Kernel2Ideal Cert.Kernel2Ideal.Gen

open Cert.Attn
open Cert.KernelIdeal.Attn (key lo hi ninf)

section Point

variable (c : Dev nD) (i : grid0.Coords)
  (arg2 : Memref sig .tc .vmem S1024x256 .bf16) (harg2 : arg2.IsWhole)
  (arg3 : Memref sig .tc .vmem S4096x256 .bf16) (harg3 : arg3.IsWhole)
  (arg4 : Memref sig .tc .vmem S128x4096 .bf16) (harg4 : arg4.IsWhole)
  (arg5 : Memref sig .tc .vmem S1024x128 .f32) (harg5 : arg5.IsWhole)
  (arg6 : Memref sig .tc .vmem S1x1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S128x1024 .f32) (harg9 : arg9.IsWhole)
  (x0 : Vec Ideal S1024x256 .bf16) (x1 : Vec Ideal S4096x256 .bf16) (x2 : Vec Ideal S128x4096 .bf16)
  (s : Fin 4096 → Fin 1024 → ℝ) (v : Fin 4096 → Fin 128 → EReal)
  (hS : ∀ κ r, ∑ d : Fin 256, (x1 (ix2 κ d) : EReal) * x0 (ix2 r d) = (s κ r : EReal))
  (hV : ∀ κ e, x2 (ix2 e κ) = v κ e)

theorem pb2_nil (v17 : BitVec 32) (X2 X3 X4) (G7 G8 G9) (n : ℕ) (hn : n = 0) :
    pb_k0_t2 (F := Ideal) Variants.none c none i arg2 harg2 arg3 harg3 arg4 harg4 arg5 harg5 arg6 harg6 arg7 harg7 arg8 harg8 arg9 harg9 v17 X2 X3 X4 G7 G8 G9 n = ([], [], []) := by
  rw [hn]
  rfl

theorem off50 : k0_off5 i 0#32 = ![512 * (2 * (i 1).val), 0] :=
  (k0_off5_eq i ⟨0, by decide⟩).trans (by congr 1; show 1024 * (i 1).val + 512 * 0 = _; omega)
theorem off51 : k0_off5 i 1#32 = ![512 * (2 * (i 1).val + 1), 0] :=
  (k0_off5_eq i ⟨1, by decide⟩).trans (by congr 1; show 1024 * (i 1).val + 512 * 1 = _; omega)
theorem off60 : k0_off6 i 0#32 = ![0, 512 * (2 * (i 1).val)] :=
  (k0_off6_eq i ⟨0, by decide⟩).trans (by congr 2; show 1024 * (i 1).val + 512 * 0 = _; omega)
theorem off61 : k0_off6 i 1#32 = ![0, 512 * (2 * (i 1).val + 1)] :=
  (k0_off6_eq i ⟨1, by decide⟩).trans (by congr 2; show 1024 * (i 1).val + 512 * 1 = _; omega)

include hS hV in
set_option backward.isDefEq.respectTransparency false in
theorem st_loop (n : ℕ) (hn : n = 2 * (i 1).val) (r : Fin 1024) :
    St i arg7 arg8 arg9 s v (512 * (2 * (i 1).val)) r
      (arg7.view.writes (Elt Ideal) arg7.view.junk ((pb_k0_t1 (F := Ideal) Variants.none c none i arg2 harg2 arg3 harg3 arg4 harg4 arg5 harg5 arg6 harg6 arg7 harg7 arg8 harg8 arg9 harg9 (harg2.unread x0) (harg3.unread x1) (harg4.unread x2) (arg7.view.writes (Elt Ideal) arg7.view.junk (kernelRun0_A.sl.HS0_1 (F := Ideal))) (arg8.view.writes (Elt Ideal) arg8.view.junk (kernelRun0_A.sl.HS1_1 (F := Ideal))) (arg9.view.writes (Elt Ideal) arg9.view.junk (kernelRun0_A.sl.HS2_1 (F := Ideal))) n).1 ++ kernelRun0_A.sl.HS0_1 (F := Ideal)))
      (arg8.view.writes (Elt Ideal) arg8.view.junk ((pb_k0_t1 (F := Ideal) Variants.none c none i arg2 harg2 arg3 harg3 arg4 harg4 arg5 harg5 arg6 harg6 arg7 harg7 arg8 harg8 arg9 harg9 (harg2.unread x0) (harg3.unread x1) (harg4.unread x2) (arg7.view.writes (Elt Ideal) arg7.view.junk (kernelRun0_A.sl.HS0_1 (F := Ideal))) (arg8.view.writes (Elt Ideal) arg8.view.junk (kernelRun0_A.sl.HS1_1 (F := Ideal))) (arg9.view.writes (Elt Ideal) arg9.view.junk (kernelRun0_A.sl.HS2_1 (F := Ideal))) n).2.1 ++ kernelRun0_A.sl.HS1_1 (F := Ideal)))
      (arg9.view.writes (Elt Ideal) arg9.view.junk ((pb_k0_t1 (F := Ideal) Variants.none c none i arg2 harg2 arg3 harg3 arg4 harg4 arg5 harg5 arg6 harg6 arg7 harg7 arg8 harg8 arg9 harg9 (harg2.unread x0) (harg3.unread x1) (harg4.unread x2) (arg7.view.writes (Elt Ideal) arg7.view.junk (kernelRun0_A.sl.HS0_1 (F := Ideal))) (arg8.view.writes (Elt Ideal) arg8.view.junk (kernelRun0_A.sl.HS1_1 (F := Ideal))) (arg9.view.writes (Elt Ideal) arg9.view.junk (kernelRun0_A.sl.HS2_1 (F := Ideal))) n).2.2 ++ kernelRun0_A.sl.HS2_1 (F := Ideal))) := by
  subst hn
  rw [View.writes_append, View.writes_append, View.writes_append]
  refine loop Variants.none c none i arg2 harg2 arg3 harg3 arg4 harg4 arg5 harg5 arg6 harg6 arg7 harg7 arg8 harg8 arg9 harg9 (harg2.unread x0) (harg3.unread x1) (harg4.unread x2) _ _ _ s v ?_ ?_ (2 * (i 1).val) (trips_eq i).ge (fun r => ?_) r
  · rw [harg2.read_unread, harg3.read_unread]; exact hS
  · rw [harg4.read_unread]; exact hV
  · unfold St kernelRun0_A.sl.HS0_1 kernelRun0_A.sl.HS1_1 kernelRun0_A.sl.HS2_1
    rw [View.read_writes_full, View.read_writes_full, init_m, init_l]
    refine Or.inl ⟨rfl, rfl, rfl, fun e => ?_⟩
    rw [View.read_writes_full]
    exact init_a _

include hS hV in
set_option backward.isDefEq.respectTransparency false in
theorem st_2 (r : Fin 1024) : St i arg7 arg8 arg9 s v (512 * (2 * (i 1).val + 1)) r (arg7.view.writes (Elt Ideal) arg7.view.junk (kernelRun0_A.sl.HS0_2 (F := Ideal) c i arg2 harg2 arg3 harg3 arg4 harg4 arg5 harg5 arg6 harg6 arg7 harg7 arg8 harg8 arg9 harg9 x0 x1 x2))
      (arg8.view.writes (Elt Ideal) arg8.view.junk (kernelRun0_A.sl.HS1_2 (F := Ideal) c i arg2 harg2 arg3 harg3 arg4 harg4 arg5 harg5 arg6 harg6 arg7 harg7 arg8 harg8 arg9 harg9 x0 x1 x2)) (arg9.view.writes (Elt Ideal) arg9.view.junk (kernelRun0_A.sl.HS2_2 (F := Ideal) c i arg2 harg2 arg3 harg3 arg4 harg4 arg5 harg5 arg6 harg6 arg7 harg7 arg8 harg8 arg9 harg9 x0 x1 x2)) := by
  have hg := lt4 i
  unfold kernelRun0_A.sl.HS0_2 kernelRun0_A.sl.HS1_2 kernelRun0_A.sl.HS1_1_1 kernelRun0_A.sl.HS2_2 kernelRun0_A.sl.HS2_1_1 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r kernelRun0_A.sl.r_1 kernelRun0_A.sl.r_2 kernelRun0_A.sl.r_3
  rw [pay43_eq]
  refine diag0 i arg7 arg8 arg9 _ _ _ _ _ _ x0 x1 x2 s v hS hV _ _ _ _ _ (fun b d => ?_) (fun b d => ?_) _ _ _ _ _ _ (fun b => ?_) (fun b => ?_) (fun b => ?_) (fun b => ?_) (fun e b => ?_) (fun e b => ?_) (fun a d => ?_) (fun e a => ?_) ?_ (fun r => ?_) r
  · exact ((readAt2 arg2.view (harg2.unread x0) 0 0 rfl _ b d (by omega) (by omega)).trans (by rw [harg2.read_unread]; simp [lo]))
  · exact ((readAt2 arg2.view (harg2.unread x0) 512 0 rfl _ b d (by omega) (by omega)).trans (by rw [harg2.read_unread]; simp [hi]))
  · unfold kernelRun0_A.sl.v42; rw [View.readCov]; exact at_lo (n0 := 1) arg7.view _ _ 0 b
  · unfold kernelRun0_A.sl.v43; rw [View.readCov]; exact at_hi (n0 := 1) arg7.view _ _ 0 b
  · unfold kernelRun0_A.sl.v64; rw [View.readCov]; exact at_lo (n0 := 1) arg8.view _ _ 0 b
  · unfold kernelRun0_A.sl.v82 kernelRun0_A.sl.HS1_1_1; rw [View.readCov]; exact (at_hi (n0 := 1) arg8.view _ _ 0 b).trans (rd_lo_hi (n0 := 1) arg8.view _ _ _ _ 0 b)
  · unfold kernelRun0_A.sl.v75; rw [View.readCov]; exact at_lo (n0 := 128) arg9.view _ _ e b
  · unfold kernelRun0_A.sl.v93 kernelRun0_A.sl.HS2_1_1; rw [View.readCov]; exact (at_hi (n0 := 128) arg9.view _ _ e b).trans (rd_lo_hi (n0 := 128) arg9.view _ _ _ _ e b)
  · exact ((readAt2 arg3.view (harg3.unread x1) _ _ (off50 i) _ a d (by omega) (by omega)).trans (by rw [harg3.read_unread]; simp [key]))
  · exact ((readAt2 arg4.view (harg4.unread x2) _ _ (off60 i) _ e a (by omega) (by omega)).trans (by rw [harg4.read_unread]; simp [key]))
  · rfl
  · rw [pb2_nil, List.nil_append, List.nil_append, List.nil_append]
    · exact st_loop c i arg2 harg2 arg3 harg3 arg4 harg4 arg5 harg5 arg6 harg6 arg7 harg7 arg8 harg8 arg9 harg9 x0 x1 x2 s v hS hV _ (trips_eq i) r
    · exact trips2_eq i

include hS hV in
set_option backward.isDefEq.respectTransparency false in
theorem st_3 (r : Fin 1024) : St i arg7 arg8 arg9 s v 4096 r (arg7.view.writes (Elt Ideal) arg7.view.junk (kernelRun0_A.sl.HS0_3 (F := Ideal) c i arg2 harg2 arg3 harg3 arg4 harg4 arg5 harg5 arg6 harg6 arg7 harg7 arg8 harg8 arg9 harg9 x0 x1 x2))
      (arg8.view.writes (Elt Ideal) arg8.view.junk (kernelRun0_A.sl.HS1_3 (F := Ideal) c i arg2 harg2 arg3 harg3 arg4 harg4 arg5 harg5 arg6 harg6 arg7 harg7 arg8 harg8 arg9 harg9 x0 x1 x2)) (arg9.view.writes (Elt Ideal) arg9.view.junk (kernelRun0_A.sl.HS2_3 (F := Ideal) c i arg2 harg2 arg3 harg3 arg4 harg4 arg5 harg5 arg6 harg6 arg7 harg7 arg8 harg8 arg9 harg9 x0 x1 x2)) := by
  have hg := lt4 i
  unfold kernelRun0_A.sl.HS0_3 kernelRun0_A.sl.HS1_3 kernelRun0_A.sl.HS2_3 kernelRun0_A.sl.r_13 kernelRun0_A.sl.r_14 kernelRun0_A.sl.r_12
  refine diag1 i arg7 arg8 arg9 _ _ _ _ _ _ x0 x1 x2 s v hS hV _ _ _ _ (fun b d => ?_) _ _ _ (fun b => ?_) (fun b => ?_) (fun e b => ?_) (fun a d => ?_) (fun e a => ?_) ?_ (fun r => st_2 c i arg2 harg2 arg3 harg3 arg4 harg4 arg5 harg5 arg6 harg6 arg7 harg7 arg8 harg8 arg9 harg9 x0 x1 x2 s v hS hV r) r
  · exact ((readAt2 arg2.view (harg2.unread x0) 512 0 rfl _ b d (by omega) (by omega)).trans (by rw [harg2.read_unread]; simp [hi]))
  · unfold kernelRun0_A.sl.v122; rw [View.readCov]; exact at_hi (n0 := 1) arg7.view _ _ 0 b
  · unfold kernelRun0_A.sl.v133; rw [View.readCov]; exact at_hi (n0 := 1) arg8.view _ _ 0 b
  · unfold kernelRun0_A.sl.v144; rw [View.readCov]; exact at_hi (n0 := 128) arg9.view _ _ e b
  · exact ((readAt2 arg3.view (harg3.unread x1) _ _ (off51 i) _ a d (by omega) (by omega)).trans (by rw [harg3.read_unread]; simp [key]))
  · exact ((readAt2 arg4.view (harg4.unread x2) _ _ (off61 i) _ e a (by omega) (by omega)).trans (by rw [harg4.read_unread]; simp [key]))
  · rfl

include hS hV in
/-- What a grid point leaves: the output and the row's log-sum, with some real `M` taken off the scores. -/
theorem out_real (r : Fin 1024) : ∃ M : ℝ,
    (∀ e, out0_A_3 (F := Ideal) c i arg2 harg2 arg3 harg3 arg4 harg4 arg5 harg5 arg6 harg6 arg7 harg7 arg8 harg8 arg9 harg9 x0 x1 x2 (ix2 r e) = Ideal.div (cw (i 1).val s v 4096 r M e) (cz (i 1).val s 4096 r M : EReal)) ∧
    out0_A_4 (F := Ideal) c i arg2 harg2 arg3 harg3 arg4 harg4 arg5 harg5 arg6 harg6 arg7 harg7 arg8 harg8 arg9 harg9 x0 x1 x2 (ix3 0 0 r) = ((M : EReal) + Ideal.log (cz (i 1).val s 4096 r M : EReal) : EReal) := by
  have h := st_3 c i arg2 harg2 arg3 harg3 arg4 harg4 arg5 harg5 arg6 harg6 arg7 harg7 arg8 harg8 arg9 harg9 x0 x1 x2 s v hS hV r
  unfold St at h
  rcases h with ⟨h, _⟩ | ⟨M, h1, h2, h3⟩
  · omega
  · refine ⟨M, fun e => ?_, ?_⟩
    · unfold out0_A_3 kernelRun0_A
      dsimp only
      rw [View.read_writes_full, pay2_at]
      unfold kernelRun0_A.sl.v151 kernelRun0_A.sl.v152
      rw [View.readCov, View.readAt_full, View.readCov, View.readAt_full, ← h2, ← h3]
    · unfold out0_A_4 kernelRun0_A
      dsimp only
      rw [View.read_writes_full, pay3_at]
      unfold kernelRun0_A.sl.v151 kernelRun0_A.sl.v157
      rw [View.readCov, View.readAt_full, View.readCov, View.readAt_full, ← h2, ← h1]

end Point

end Cert.Kernel2Ideal.Attn

end
-- ==== Proof.Fwd.Final.lean ====
/- The attention forward's grid: which block each point reads, and the two arrays it leaves, over the real numbers. -/
module

public import proofs.«01_k».proof.Proof.Fwd.Point
public import proofs.«01_k».proof.Proof.Attn.Host
public import proofs.«01_k».proof.Proof.Gen.Kernel2Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Attn

open Cert.Kernel2Ideal Cert.Kernel2Ideal.Gen

open Cert.Attn
open Cert.KernelIdeal.Attn (div_coe log_coe)

/-- The grid point of head `h` and query group `g`. -/
def pt (h : Fin 8) (g : Fin 4) : Fin cfg0.N := ⟨4 * h.val + g.val, by rw [show cfg0.N = 32 from N_0]; omega⟩
theorem coord1 : ∀ (h : Fin 8) (g : Fin 4), (grid0.coords (pt h g) 1).val = g.val := by decide +kernel
theorem ix_0 : ∀ (h : Fin 8) (g : Fin 4), win0_0.index (pt h g) = ![g.val, h.val] := by decide +kernel
theorem ix_1 : ∀ (h : Fin 8) (g : Fin 4), win0_1.index (pt h g) = ![0, h.val] := by decide +kernel
theorem ix_2 : ∀ (h : Fin 8) (g : Fin 4), win0_2.index (pt h g) = ![h.val, 0] := by decide +kernel
theorem ix_3 : ∀ (h : Fin 8) (g : Fin 4), win0_3.index (pt h g) = ![g.val, h.val] := by decide +kernel
theorem ix_4 : ∀ (h : Fin 8) (g : Fin 4), win0_4.index (pt h g) = ![h.val, 0, g.val] := by decide +kernel
theorem fl_3 : ∀ (h : Fin 8) (g : Fin 4), (cfg0.win 3).flush (pt h g) = true := by decide +kernel
theorem fl_4 : ∀ (h : Fin 8) (g : Fin 4), (cfg0.win 4).flush (pt h g) = true := by decide +kernel

/-- The transposed values. -/
def vT (x2 : Vec Ideal S4096x1024 .bf16) : Vec Ideal S1024x4096 .bf16 := transpose S1024x4096 [1, 0] x2 transposes_S4096x1024_S1024x4096_1_0

theorem vT_at (x2 : Vec Ideal S4096x1024 .bf16) (j : Fin 1024) (n : Fin 4096) : vT x2 (ix2 j n) = x2 (ix2 n j) := by
  pointwise [vT]

theorem cz_rZ (q k : Fin 4096 → Fin 2048 → ℝ) (M : Fin 8 → Fin 4096 → ℝ) (h : Fin 8) (g : Fin 4) (r : Fin 1024) :
    cz g.val (fun κ r => rS q k h κ (row g r)) 4096 r (M h (row g r)) = rZ q k M h (row g r) := by
  unfold cz rZ
  refine Finset.sum_congr rfl fun κ _ => ?_
  rw [if_pos (c := κ.val < 4096) κ.isLt]
  rfl

/-- The attention's output where the scores are real and the values are any. -/
def wO (q k : Fin 4096 → Fin 2048 → ℝ) (x2 : Vec Ideal S4096x1024 .bf16) (M : Fin 8 → Fin 4096 → ℝ) (n : Fin 4096) (h : Fin 8) (e : Fin 128) : EReal :=
  ∑ κ : Fin 4096, HMul.hMul (α := EReal) (β := EReal) (γ := EReal) (x2 (ix2 κ (cv h e))) ((rE q k M h κ n / rZ q k M h n : ℝ) : EReal)

theorem div_real (x : EReal) (b : ℝ) (hb : b ≠ 0) : Ideal.div x (b : EReal) = x * ((b⁻¹ : ℝ) : EReal) := by
  unfold Ideal.div
  rw [if_neg (by exact_mod_cast hb), EReal.coe_inv]

theorem cw_wO (q k : Fin 4096 → Fin 2048 → ℝ) (x2 : Vec Ideal S4096x1024 .bf16) (M : Fin 8 → Fin 4096 → ℝ) (h : Fin 8) (g : Fin 4) (r : Fin 1024) (e : Fin 128) :
    cw g.val (fun κ r => rS q k h κ (row g r)) (fun κ e => x2 (ix2 κ (cv h e))) 4096 r (M h (row g r)) e * (((rZ q k M h (row g r))⁻¹ : ℝ) : EReal) = wO q k x2 M (row g r) h e := by
  rw [cw_mul _ _ _ _ _ _ _ _ (inv_nonneg.mpr (rZ_pos q k M h (row g r)).le), wO]
  refine Finset.sum_congr rfl fun κ _ => ?_
  rw [if_pos (c := κ.val < 4096) κ.isLt, div_eq_mul_inv]
  rfl

section Final

variable (m : (ℓ : Loc nD τ sig) → Buf (Elt Ideal) ℓ) (c : Dev nD) (h : Fin 8) (g : Fin 4)

theorem V0 : V m c main_v0 = vT (m ((c : Thread nD τ).loc main_arg2)) := by
  simp only [V, hostOps0, List.flatten_cons, List.flatten_nil, List.append_nil, List.cons_append, List.nil_append]
  after_results_simp
  unfold vT
  rfl

theorem blk0 (r : Fin 1024) (d : Fin 256) : iblk m c 0 (pt h g) (ix2 r d) = V m c main_arg0 (ix2 (row g r) (cq h d)) := by
  blk_ext [iblk, ix_0 h g, row, cq]
theorem blk1 (κ : Fin 4096) (d : Fin 256) : iblk m c 1 (pt h g) (ix2 κ d) = V m c main_arg1 (ix2 κ (cq h d)) := by
  blk_ext [iblk, ix_1 h g, row, cq]
theorem blk2 (e : Fin 128) (κ : Fin 4096) : iblk m c 2 (pt h g) (ix2 e κ) = V m c main_v0 (ix2 (cv h e) κ) := by
  blk_ext [iblk, ix_2 h g, row, cv]

theorem rd3 (X : S4096x1024.Idx → EReal) (r : Fin 1024) (e : Fin 128) :
    ((cfg0.win 3).blk (pt h g)).view.read (Elt Ideal) X (ix2 r e) = X (ix2 (row g r) (cv h e)) := by
  have i := ix_3 h g
  show X (((cfg0.win 3).blk (pt h g)).view.emb (ix2 r e)) = _
  refine congrArg X (funext fun a => Fin.ext ?_)
  match a with
  | ⟨0, _⟩ =>
    show win0_3.index (pt h g) 0 * 1024 + 1 * r.val = 1024 * g.val + r.val
    rw [i]
    show g.val * 1024 + 1 * r.val = 1024 * g.val + r.val
    omega
  | ⟨1, _⟩ =>
    show win0_3.index (pt h g) 1 * 128 + 1 * e.val = 128 * h.val + e.val
    rw [i]
    show h.val * 128 + 1 * e.val = 128 * h.val + e.val
    omega

theorem rd4 (X : S8x1x4096.Idx → EReal) (r : Fin 1024) :
    ((cfg0.win 4).blk (pt h g)).view.read (Elt Ideal) X (ix3 (0 : Fin 1) (0 : Fin 1) r) = X (ix3 h (0 : Fin 1) (row g r)) := by
  have i := ix_4 h g
  show X (((cfg0.win 4).blk (pt h g)).view.emb (ix3 (0 : Fin 1) (0 : Fin 1) r)) = _
  refine congrArg X (funext fun a => Fin.ext ?_)
  match a with
  | ⟨0, _⟩ =>
    show win0_4.index (pt h g) 0 * 1 + 1 * 0 = h.val
    rw [i]
    show h.val * 1 + 1 * 0 = h.val
    omega
  | ⟨1, _⟩ =>
    show win0_4.index (pt h g) 1 * 1 + 1 * 0 = 0
    rw [i]
    rfl
  | ⟨2, _⟩ =>
    show win0_4.index (pt h g) 2 * 1024 + 1 * r.val = 1024 * g.val + r.val
    rw [i]
    show g.val * 1024 + 1 * r.val = 1024 * g.val + r.val
    omega

variable (q k : Fin 4096 → Fin 2048 → ℝ) (M : Fin 8 → Fin 4096 → ℝ)
  (H0 : ∀ n d, (m ((c : Thread nD τ).loc main_arg0) : Vec Ideal S4096x2048 .bf16) (ix2 n d) = (q n d : EReal))
  (H1 : ∀ n d, (m ((c : Thread nD τ).loc main_arg1) : Vec Ideal S4096x2048 .bf16) (ix2 n d) = (k n d : EReal))

include H0 H1

/-- What a point writes back, at a query of its group. -/
theorem point_real (r : Fin 1024) :
    (∀ e, (dats m 0 c).flushed 3 (pt h g) (ix2 r e) = wO q k (m ((c : Thread nD τ).loc main_arg2)) M (row g r) h e) ∧
    (dats m 0 c).flushed 4 (pt h g) (ix3 (0 : Fin 1) (0 : Fin 1) r) = ((M h (row g r) + Real.log (rZ q k M h (row g r)) : ℝ) : EReal) := by
  have hS : ∀ κ r, ∑ d : Fin 256, HMul.hMul (α := EReal) (β := EReal) (γ := EReal) (iblk m c 1 (pt h g) (ix2 κ d)) (iblk m c 0 (pt h g) (ix2 r d)) = ((fun κ r => rS q k h κ (row g r)) κ r : EReal) := fun κ r => by
    show _ = (rS q k h κ (row g r) : EReal)
    rw [rS, coe_sum]
    refine Finset.sum_congr rfl fun d _ => ?_
    rw [blk0, blk1, V_main_arg0, V_main_arg1, H0, H1, EReal.coe_mul]
  have hV : ∀ κ e, iblk m c 2 (pt h g) (ix2 e κ) = (fun κ e => (m ((c : Thread nD τ).loc main_arg2) : Vec Ideal S4096x1024 .bf16) (ix2 κ (cv h e))) κ e := fun κ e => by
    rw [blk2, V0, vT_at]
  obtain ⟨M', h3, h4⟩ := out_real c (grid0.coords (pt h g)) (ms0_0 (pt h g)) (hs0_0 (pt h g)) (ms0_1 (pt h g)) (hs0_1 (pt h g)) (ms0_2 (pt h g)) (hs0_2 (pt h g)) (ms0_3 (pt h g)) (hs0_3 (pt h g)) (ms0_4 (pt h g)) (hs0_4 (pt h g)) scM0_0 (Memref.isWhole_whole _) scM0_1 (Memref.isWhole_whole _) scM0_2 (Memref.isWhole_whole _) (iblk m c 0 (pt h g)) (iblk m c 1 (pt h g)) (iblk m c 2 (pt h g)) _ _ hS hV r
  rw [coord1 h g] at h3 h4
  have ez : cz g.val (fun κ r => rS q k h κ (row g r)) 4096 r M' = Real.exp (M h (row g r) - M') * rZ q k M h (row g r) := by
    rw [← cz_rZ, cz_scale]
  have ew : ∀ e, cw g.val (fun κ r => rS q k h κ (row g r)) (fun κ e => (m ((c : Thread nD τ).loc main_arg2) : Vec Ideal S4096x1024 .bf16) (ix2 κ (cv h e))) 4096 r M' e = cw g.val (fun κ r => rS q k h κ (row g r)) (fun κ e => (m ((c : Thread nD τ).loc main_arg2) : Vec Ideal S4096x1024 .bf16) (ix2 κ (cv h e))) 4096 r (M h (row g r)) e * (Real.exp (M h (row g r) - M') : EReal) := fun e => by
    rw [cw_scale]
  have hp := rZ_pos q k M h (row g r)
  have he := Real.exp_pos (M h (row g r) - M')
  refine ⟨fun e => ?_, ?_⟩
  · rw [Value.flushed3_A]
    refine (h3 e).trans ?_
    rw [ew, ez, div_real _ _ (mul_pos he hp).ne', mul_assoc, ← EReal.coe_mul, mul_inv, mul_inv_cancel_left₀ he.ne', cw_wO]
  · rw [Value.flushed4_A]
    refine h4.trans ?_
    rw [ez, Cert.KernelIdeal.Attn.log_coe _ (mul_pos he hp), Real.log_mul he.ne' hp.ne', Real.log_exp, ← EReal.coe_add]
    exact congrArg _ (by ring)

/-- The first result: the attention's output. -/
theorem out3_real (n : Fin 4096) (e : Fin 128) : (dats m 0 c).arrAt 3 cfg0.N (ix2 n (cv h e)) = wO q k (m ((c : Thread nD τ).loc main_arg2)) M n h e := by
  obtain ⟨g, r, rfl⟩ : ∃ g r, n = row g r := ⟨⟨n.val / 1024, by omega⟩, ⟨n.val % 1024, by omega⟩, Fin.ext (by simp only [row]; omega)⟩
  have b := Value.blocks3 m c (pt h g) (fl_3 h g)
  exact (rd3 h g _ r e).symm.trans ((congrFun b (ix2 r e)).trans ((point_real m c h g q k M H0 H1 r).1 e))

/-- The second result: the rows' log-sums. -/
theorem out4_real (n : Fin 4096) : (dats m 0 c).arrAt 4 cfg0.N (ix3 h (0 : Fin 1) n) = ((M h n + Real.log (rZ q k M h n) : ℝ) : EReal) := by
  obtain ⟨g, r, rfl⟩ : ∃ g r, n = row g r := ⟨⟨n.val / 1024, by omega⟩, ⟨n.val % 1024, by omega⟩, Fin.ext (by simp only [row]; omega)⟩
  have b := Value.blocks4 m c (pt h g) (fl_4 h g)
  exact (rd4 h g _ r).symm.trans ((congrFun b (ix3 (0 : Fin 1) (0 : Fin 1) r)).trans (point_real m c h g q k M H0 H1 r).2)

end Final

end Cert.Kernel2Ideal.Attn

end
-- ==== Proof.Fwd.Equal.lean ====
/- The attention forward's two arrays, the kernel's and the reference's: equal, where the queries and keys are real. -/
module

public import proofs.«01_k».proof.Proof.Fwd.Final
public import proofs.«01_k».proof.Proof.Attn.Equal
public import proofs.«01_k».proof.Proof.Gen.Reference2Ideal
public import proofs.«01_k».proof.Proof.Gen.Reference2Ideal.Run

@[expose] public section

set_option maxRecDepth 16384

noncomputable section

open Idealize.ShloMosaic Idealize.ShloMosaic.TcCoe Idealize.SL.Sem

namespace Cert.Reference2Ideal.Attn

open Cert.Reference2Ideal Cert.Reference2Ideal.Gen Cert.Reference2Ideal.Value Cert.Attn
open Cert.KernelIdeal.Attn (msk hq hv sco mxr ew zw bc fv mx2 ov ouv lsv)

variable (m : (ℓ : Loc nD τ sig) → Buf (Elt Ideal) ℓ) (c : Dev nD)

theorem res0_eq : res_out0 m c = ouv (sco (m ((c.tc : Thread nD τ).loc main_arg0)) (m ((c.tc : Thread nD τ).loc main_arg1))) (m ((c.tc : Thread nD τ).loc main_arg2)) := by
  unfold res_out0 res_main_v27 ouv fv ov bc mx2 ew zw mxr sco msk hq hv
  rfl

set_option maxHeartbeats 2000000 in
set_option maxRecDepth 65536 in
/-- The reference's run, with its two results named. -/
theorem run_named (ρ : Dev nD → PrngReg) : θ_run defs (onTc (τ := τ) (main (F := Ideal))) ⟨m, fun _ => 0, ρ⟩ fun r => ∀ c : Dev nD,
      r.2.mem ((c.tc : Thread nD τ).loc main_v27) = res_out0 m c
      ∧ r.2.mem ((c.tc : Thread nD τ).loc main_v36) = lsv (sco (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1, (h c).2.1.trans ?_, (h c).2.2.1, (h c).2.2.2.1, (h c).2.2.2.2⟩) (run m ρ)
  unfold lsv ew zw mxr sco msk hq
  rfl

end Cert.Reference2Ideal.Attn

namespace Cert.Kernel2Ideal.Attn

open Cert.Attn
open Cert.KernelIdeal.Attn (sco mx2 mx2_at mxr ouv ouv_at ew_real zw_real div_coe)

/-- The reference's output, where the queries and keys are real. -/
theorem ouv_wO (x0 x1 : Vec Ideal Cert.KernelIdeal.S4096x2048 .bf16) (x2 : Vec Ideal Cert.KernelIdeal.S4096x1024 .bf16) (q k : Fin 4096 → Fin 2048 → ℝ) (M : Fin 8 → Fin 4096 → ℝ)
    (H0 : ∀ n d, x0 (ix2 n d) = (q n d : EReal)) (H1 : ∀ n d, x1 (ix2 n d) = (k n d : EReal)) (HM : ∀ h n, mxr (sco x0 x1) (ix2 h n) = (M h n : EReal))
    (n : Fin 4096) (h : Fin 8) (e : Fin 128) : ouv (sco x0 x1) x2 (ix2 n (cv h e)) = wO q k x2 M n h e := by
  have HM2 : ∀ h n, mx2 (sco x0 x1) (ix2 h n) = (M h n : EReal) := fun h n => (mx2_at _ h n).trans (HM h n)
  rw [ouv_at, wO]
  refine Finset.sum_congr rfl fun κ _ => ?_
  rw [ew_real x0 x1 q k M H0 H1 _ HM2, zw_real x0 x1 q k M H0 H1 _ HM2, div_coe _ _ (rZ_pos q k M h n).ne']

end Cert.Kernel2Ideal.Attn

namespace Cert.Proof

open Cert.Attn

/-- An index of a three-axis array with one place on the middle axis is its outer two coordinates. -/
theorem ix3_eta {a b : ℕ} (i : (⟨3, ![a, 1, b]⟩ : Shape).Idx) : i = ix3 (⟨(i 0).val, (i 0).isLt⟩ : Fin a) (0 : Fin 1) (⟨(i 2).val, (i 2).isLt⟩ : Fin b) := by
  funext x
  match x with
  | ⟨0, _⟩ => rfl
  | ⟨1, _⟩ => exact Fin.ext (by have : (i 1).val < 1 := (i 1).isLt; show (i 1).val = 0; omega)
  | ⟨2, _⟩ => rfl

section Equal

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)
  (c : Dev Cert.Kernel2Ideal.nD)

/-- The reference's two results, from the kernel's arguments. -/
theorem equal2_of (q k : Fin 4096 → Fin 2048 → ℝ)
    (x0 x1 : Vec Ideal Cert.KernelIdeal.S4096x2048 .bf16) (x2 : Vec Ideal Cert.KernelIdeal.S4096x1024 .bf16)
    (E0 : m ((c.tc : Thread Cert.Kernel2Ideal.nD Cert.Kernel2Ideal.τ).loc Cert.Kernel2Ideal.main_arg0) = x0)
    (E1 : m ((c.tc : Thread Cert.Kernel2Ideal.nD Cert.Kernel2Ideal.τ).loc Cert.Kernel2Ideal.main_arg1) = x1)
    (E2 : m ((c.tc : Thread Cert.Kernel2Ideal.nD Cert.Kernel2Ideal.τ).loc Cert.Kernel2Ideal.main_arg2) = x2)
    (F0 : m' ((c.tc : Thread Cert.Reference2Ideal.nD Cert.Reference2Ideal.τ).loc Cert.Reference2Ideal.main_arg0) = x0)
    (F1 : m' ((c.tc : Thread Cert.Reference2Ideal.nD Cert.Reference2Ideal.τ).loc Cert.Reference2Ideal.main_arg1) = x1)
    (F2 : m' ((c.tc : Thread Cert.Reference2Ideal.nD Cert.Reference2Ideal.τ).loc Cert.Reference2Ideal.main_arg2) = x2)
    (H0 : ∀ n d, x0 (ix2 n d) = (q n d : EReal)) (H1 : ∀ n d, x1 (ix2 n d) = (k n d : EReal)) :
    Cert.Reference2Ideal.Value.res_out0 m' c = (Cert.Kernel2Ideal.Gen.dats m 0 c).arrAt 3 Cert.Kernel2Ideal.cfg0.N ∧
      Cert.KernelIdeal.Attn.lsv (Cert.KernelIdeal.Attn.sco (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))) = (Cert.Kernel2Ideal.Gen.dats m 0 c).arrAt 4 Cert.Kernel2Ideal.cfg0.N := by
  obtain ⟨M, HM⟩ := Cert.KernelIdeal.Attn.mxr_real x0 x1 q k H0 H1
  have G0 : ∀ n d, (m ((c.tc : Thread Cert.Kernel2Ideal.nD Cert.Kernel2Ideal.τ).loc Cert.Kernel2Ideal.main_arg0) : Vec Ideal Cert.KernelIdeal.S4096x2048 .bf16) (ix2 n d) = (q n d : EReal) := by rw [E0]; exact H0
  have G1 : ∀ n d, (m ((c.tc : Thread Cert.Kernel2Ideal.nD Cert.Kernel2Ideal.τ).loc Cert.Kernel2Ideal.main_arg1) : Vec Ideal Cert.KernelIdeal.S4096x2048 .bf16) (ix2 n d) = (k n d : EReal) := by rw [E1]; exact H1
  refine ⟨?_, ?_⟩
  · rw [Cert.Reference2Ideal.Attn.res0_eq, F0, F1, F2]
    funext i
    rw [ix2_eta i]
    obtain ⟨h, e, he⟩ := Cert.KernelIdeal.Attn.cv_surj ⟨(i 1).val, (i 1).isLt⟩
    rw [he]
    exact (Cert.Kernel2Ideal.Attn.ouv_wO x0 x1 x2 q k M H0 H1 HM _ h e).trans ((congrArg (fun x => Cert.Kernel2Ideal.Attn.wO q k x M _ h e) E2.symm).trans (Cert.Kernel2Ideal.Attn.out3_real m c h q k M G0 G1 _ e).symm)
  · rw [F0, F1]
    funext i
    rw [ix3_eta i]
    exact (Cert.KernelIdeal.Attn.lsv_real x0 x1 q k M H0 H1 HM _ _).trans (Cert.Kernel2Ideal.Attn.out4_real m c _ q k M G0 G1 _).symm

end Equal

end Cert.Proof

end
-- ==== Proof.Ffn.DGated.lean ====
/- The gradients by the gate's two halves: the kernel and the reference. -/
module

public import proofs.«01_k».proof.Proof.Gen.Kernel3Ideal.Value
public import proofs.«01_k».proof.Proof.Gen.Reference3Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen

variable (m : (ℓ : Loc nD τ sig) → Buf (Elt Ideal) ℓ)

/-- The kernel's gradient by the gate's value `x`, where the up value is `u` and the gradient arriving is `d`. -/
def dgate (x u d : EReal) : EReal := d * u * (Ideal.div 1 (1 + Ideal.exp (-x)) * (1 + x * (1 - Ideal.div 1 (1 + Ideal.exp (-x)))))

/-- The gradient by the up value. -/
def dup (x d : EReal) : EReal := d * x * Ideal.div 1 (1 + Ideal.exp (-x))

/-- The reference's gradient by the gate's value: the product rule's two summands. -/
def dgateR (x u d : EReal) : EReal :=
  d * u * Ideal.div 1 (1 + Ideal.exp (-x)) + x * (d * u) * (Ideal.div 1 (1 + Ideal.exp (-x)) * (1 - Ideal.div 1 (1 + Ideal.exp (-x))))

/-- The two agree at every value of the gate, infinite ones too, where the other two are real. -/
theorem dgate_eq (x : EReal) (u d : ℝ) : dgate x u d = dgateR x u d := by
  have hs : ∀ y, Ideal.div 1 (1 + Ideal.exp (-y)) = Ideal.logistic y := fun _ => rfl
  unfold dgate dgateR
  rw [hs]
  induction x with
  | bot => simp
  | top => simp [← EReal.coe_mul, ← EReal.coe_one, ← EReal.coe_sub]
  | coe r =>
    rw [Ideal.logistic_coe, ← EReal.coe_one]
    simp only [← EReal.coe_mul, ← EReal.coe_sub, ← EReal.coe_add]
    rw [EReal.coe_eq_coe_iff]
    ring

/-- The reference's result, of the call's arguments: gate's values, up values and arriving gradient. -/
abbrev REF (X U D : FVec Ideal S4096x2816 .bf16) : FVec Ideal Cert.Reference3Ideal.S4096x5632 .bf16 :=
  truncf .bf16 (concatenate Cert.Reference3Ideal.S4096x5632 1
    [⟨Cert.Reference3Ideal.S4096x2816, addf (mulf (mulf (extf .f32 D Cert.Reference3Ideal.Gen.bitsLt_bf16_f32) (extf .f32 U Cert.Reference3Ideal.Gen.bitsLt_bf16_f32)) (Host.divf (broadcastInDim Cert.Reference3Ideal.S4096x2816 ![] Cert.Reference3Ideal.Gen.bcast_S_S4096x2816 (constant Cert.Reference3Ideal.S_ .f32 0x3F800000#32)) (addf (broadcastInDim Cert.Reference3Ideal.S4096x2816 ![] Cert.Reference3Ideal.Gen.bcast_S_S4096x2816 (constant Cert.Reference3Ideal.S_ .f32 0x3F800000#32)) (Host.exp (Host.negf (extf .f32 X Cert.Reference3Ideal.Gen.bitsLt_bf16_f32))))))
      (mulf (mulf (extf .f32 X Cert.Reference3Ideal.Gen.bitsLt_bf16_f32) (mulf (extf .f32 D Cert.Reference3Ideal.Gen.bitsLt_bf16_f32) (extf .f32 U Cert.Reference3Ideal.Gen.bitsLt_bf16_f32))) (mulf (Host.divf (broadcastInDim Cert.Reference3Ideal.S4096x2816 ![] Cert.Reference3Ideal.Gen.bcast_S_S4096x2816 (constant Cert.Reference3Ideal.S_ .f32 0x3F800000#32)) (addf (broadcastInDim Cert.Reference3Ideal.S4096x2816 ![] Cert.Reference3Ideal.Gen.bcast_S_S4096x2816 (constant Cert.Reference3Ideal.S_ .f32 0x3F800000#32)) (Host.exp (Host.negf (extf .f32 X Cert.Reference3Ideal.Gen.bitsLt_bf16_f32))))) (subf (broadcastInDim Cert.Reference3Ideal.S4096x2816 ![] Cert.Reference3Ideal.Gen.bcast_S_S4096x2816 (constant Cert.Reference3Ideal.S_ .f32 0x3F800000#32)) (Host.divf (broadcastInDim Cert.Reference3Ideal.S4096x2816 ![] Cert.Reference3Ideal.Gen.bcast_S_S4096x2816 (constant Cert.Reference3Ideal.S_ .f32 0x3F800000#32)) (addf (broadcastInDim Cert.Reference3Ideal.S4096x2816 ![] Cert.Reference3Ideal.Gen.bcast_S_S4096x2816 (constant Cert.Reference3Ideal.S_ .f32 0x3F800000#32)) (Host.exp (Host.negf (extf .f32 X Cert.Reference3Ideal.Gen.bitsLt_bf16_f32))))))))⟩,
     ⟨Cert.Reference3Ideal.S4096x2816, mulf (mulf (extf .f32 X Cert.Reference3Ideal.Gen.bitsLt_bf16_f32) (Host.divf (broadcastInDim Cert.Reference3Ideal.S4096x2816 ![] Cert.Reference3Ideal.Gen.bcast_S_S4096x2816 (constant Cert.Reference3Ideal.S_ .f32 0x3F800000#32)) (addf (broadcastInDim Cert.Reference3Ideal.S4096x2816 ![] Cert.Reference3Ideal.Gen.bcast_S_S4096x2816 (constant Cert.Reference3Ideal.S_ .f32 0x3F800000#32)) (Host.exp (Host.negf (extf .f32 X Cert.Reference3Ideal.Gen.bitsLt_bf16_f32)))))) (extf .f32 D Cert.Reference3Ideal.Gen.bitsLt_bf16_f32)⟩] Cert.Reference3Ideal.Gen.concatenates_S4096x2816_S4096x2816_S4096x5632_d1) Cert.Reference3Ideal.Gen.bitsLt_bf16_f32

/-- Which block of its array each window holds at each point. -/
theorem idx : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)

/-- What a point stores: the gate's gradients in the first half of the columns, the up values' in the second. -/
theorem pay_at (x u d : Vec Ideal S256x2816 .bf16) (y : S256x5632.Idx) : k0_pay1 x u d y =
    if h : (y 1).val < 2816 then dgate (x (ix2 (y 0) ⟨(y 1).val, h⟩)) (u (ix2 (y 0) ⟨(y 1).val, h⟩)) (d (ix2 (y 0) ⟨(y 1).val, h⟩))
    else dup (x (ix2 (y 0) ⟨(y 1).val - 2816, by have : (y 1).val < 5632 := (y 1).isLt; omega⟩)) (d (ix2 (y 0) ⟨(y 1).val - 2816, by have : (y 1).val < 5632 := (y 1).isLt; omega⟩)) := by
  pointwise [k0_pay1]
  simp only [zero_sub]
  rfl

/-- The reference's value, likewise. -/
theorem ref_at (X U D : FVec Ideal S4096x2816 .bf16) (i : S4096x5632.Idx) : REF X U D i =
    if h : (i 1).val < 2816 then dgateR (X (ix2 (i 0) ⟨(i 1).val, h⟩)) (U (ix2 (i 0) ⟨(i 1).val, h⟩)) (D (ix2 (i 0) ⟨(i 1).val, h⟩))
    else dup (X (ix2 (i 0) ⟨(i 1).val - 2816, by have : (i 1).val < 5632 := (i 1).isLt; omega⟩)) (D (ix2 (i 0) ⟨(i 1).val - 2816, by have : (i 1).val < 5632 := (i 1).isLt; omega⟩)) := by
  pointwise [REF]
  refine dite_congr rfl (fun _ => rfl) fun _ => ?_
  unfold dup
  rw [mul_comm, ← mul_assoc]

section Point

variable (c : Dev nD) (t : Fin cfg0.N)

theorem read0 (p : Fin 256) (q q' : Fin 2816) (n : Fin 4096) (hn : n.val = t.val * 256 + p.val) (hq : q'.val = q.val) :
    (iblk m c 0 t : Vec Ideal S256x2816 .bf16) (ix2 p q) = (show FVec Ideal S4096x2816 .bf16 from m ((c : Thread nD τ).loc main_arg0)) (ix2 n q') := by
  blk_ext [iblk, V, idx t]

theorem read1 (p : Fin 256) (q q' : Fin 2816) (n : Fin 4096) (hn : n.val = t.val * 256 + p.val) (hq : q'.val = q.val) :
    (iblk m c 1 t : Vec Ideal S256x2816 .bf16) (ix2 p q) = (show FVec Ideal S4096x2816 .bf16 from m ((c : Thread nD τ).loc main_arg1)) (ix2 n q') := by
  blk_ext [iblk, V, idx t]

theorem read2 (p : Fin 256) (q q' : Fin 2816) (n : Fin 4096) (hn : n.val = t.val * 256 + p.val) (hq : q'.val = q.val) :
    (iblk m c 2 t : Vec Ideal S256x2816 .bf16) (ix2 p q) = (show FVec Ideal S4096x2816 .bf16 from m ((c : Thread nD τ).loc main_arg2)) (ix2 n q') := by
  blk_ext [iblk, V, idx t]

/-- What one point stores at an index of its block is the reference's value at the index's place. -/
theorem point (HU : ∀ i, (m ((c : Thread nD τ).loc main_arg1) : FVec Ideal S4096x2816 .bf16) i = (((m ((c : Thread nD τ).loc main_arg1) : FVec Ideal S4096x2816 .bf16) i).toReal : EReal))
    (HD : ∀ i, (m ((c : Thread nD τ).loc main_arg2) : FVec Ideal S4096x2816 .bf16) i = (((m ((c : Thread nD τ).loc main_arg2) : FVec Ideal S4096x2816 .bf16) i).toReal : EReal)) (y : S256x5632.Idx) :
    k0_pay1 (iblk m c 0 t) (iblk m c 1 t) (iblk m c 2 t) y = REF (m ((c : Thread nD τ).loc main_arg0)) (m ((c : Thread nD τ).loc main_arg1)) (m ((c : Thread nD τ).loc main_arg2)) (((cfg0.win 3).blk t).view.emb y) := by
  have e0 : ((((cfg0.win 3).blk t).view.emb y) 0 : ℕ) = t.val * 256 + (y 0).val := by
    blk_simp [idx t]
  have e1 : ((((cfg0.win 3).blk t).view.emb y) 1 : ℕ) = (y 1).val := by
    blk_simp [idx t] <;> omega
  refine (pay_at _ _ _ y).trans (Eq.trans ?_ (ref_at _ _ _ _).symm)
  by_cases h : (y 1).val < 2816
  · rw [dif_pos h, dif_pos (e1.trans_lt h)]
    refine (congr (congr (congrArg dgate (read0 m c t _ ⟨_, h⟩ ⟨_, e1.trans_lt h⟩ _ e0 e1)) (read1 m c t _ ⟨_, h⟩ ⟨_, e1.trans_lt h⟩ _ e0 e1)) (read2 m c t _ ⟨_, h⟩ ⟨_, e1.trans_lt h⟩ _ e0 e1)).trans ?_
    exact (congrArg₂ (dgate _) (HU _) (HD _)).trans ((dgate_eq _ _ _).trans (congrArg₂ (dgateR _) (HU _) (HD _)).symm)
  · rw [dif_neg h, dif_neg (e1 ▸ h)]
    exact congrArg₂ dup (read0 m c t _ _ _ _ e0 (congrArg (· - 2816) e1)) (read2 m c t _ _ _ _ e0 (congrArg (· - 2816) e1))

end Point

/-- The result array after the run is the reference's, where the up values and the arriving gradient are real. -/
theorem final (c : Dev nD) (HU : ∀ i, (m ((c : Thread nD τ).loc main_arg1) : FVec Ideal S4096x2816 .bf16) i = (((m ((c : Thread nD τ).loc main_arg1) : FVec Ideal S4096x2816 .bf16) i).toReal : EReal))
    (HD : ∀ i, (m ((c : Thread nD τ).loc main_arg2) : FVec Ideal S4096x2816 .bf16) i = (((m ((c : Thread nD τ).loc main_arg2) : FVec Ideal S4096x2816 .bf16) i).toReal : EReal)) :
    (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t HU HD y

end Cert.Kernel3Ideal.Value

end
-- ==== Proof.Ffn.Gate.lean ====
/- The mixer's first product and its gate: the kernel and the reference. -/
module

public import proofs.«01_k».proof.Proof.Gen.Kernel4Ideal.Value
public import proofs.«01_k».proof.Proof.Gen.Reference4Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

variable (m : (ℓ : Loc nD τ sig) → Buf (Elt Ideal) ℓ)

/-- Which block of its array each window holds at each point. -/
theorem idx : ∀ t : Fin cfg0.N, win0_0.index t = ![t.val % 8, 0] ∧ win0_1.index t = ![t.val / 8, 0] ∧ win0_2.index t = ![t.val / 8 + 2, 0]
      ∧ win0_3.index t = ![t.val % 8, t.val / 8] ∧ win0_4.index t = ![t.val % 8, t.val / 8] ∧ win0_5.index t = ![t.val % 8, t.val / 8] :=
  (by decide +kernel : ∀ t : Fin grid0.N, _)

/-- The reference's gate's values, of the call's arguments. -/
abbrev REF3 (X : FVec Ideal S4096x1024 .bf16) (W : FVec Ideal S5632x1024 .bf16) : FVec Ideal Cert.Reference4Ideal.S4096x2816 .bf16 :=
  truncf .bf16 (extractStridedSlice Cert.Reference4Ideal.S4096x2816 ![0, 0] (Host.dotGeneral Cert.Reference4Ideal.dot_S4096x1024_S1024x5632_S4096x5632_1_0_0_1_n_n none (extf .f32 X Cert.Reference4Ideal.Gen.bitsLt_bf16_f32) (transpose Cert.Reference4Ideal.S1024x5632 [1, 0] (extf .f32 W Cert.Reference4Ideal.Gen.bitsLt_bf16_f32) Cert.Reference4Ideal.Gen.transposes_S5632x1024_S1024x5632_1_0)) Cert.Reference4Ideal.Gen.slices_S4096x5632_S4096x2816_0_0) Cert.Reference4Ideal.Gen.bitsLt_bf16_f32

/-- What one point stores of the gate's values is the reference's. -/
theorem point3 (c : Dev nD) (t : Fin cfg0.N) (y) : k0_pay3 (iblk m c 0 t) (iblk m c 1 t) y = REF3 (m ((c : Thread nD τ).loc main_arg0)) (m ((c : Thread nD τ).loc main_arg1)) (((cfg0.win 3).blk t).view.emb y) := by
  pointwise [k0_pay3, k0_pay1, REF3]
  blk_point [iblk, V, idx t]

/-- The gate's values after the run are the reference's. -/
theorem final3_eq (c : Dev nD) : (dats m 0 c).arrAt 3 (cfgs 0).N = REF3 (m ((c : Thread nD τ).loc main_arg0)) (m ((c : Thread nD τ).loc main_arg1)) := by
  refine (dats m 0 c).arrAt_eq_of_covers 3 _ (by decide +kernel) fun t _ y => ?_
  blk_simp
  rw [after0_3]
  frame_out
  exact point3 m c t y

/-- The reference's up values, of the call's arguments. -/
abbrev REF4 (X : FVec Ideal S4096x1024 .bf16) (W : FVec Ideal S5632x1024 .bf16) : FVec Ideal Cert.Reference4Ideal.S4096x2816 .bf16 :=
  truncf .bf16 (extractStridedSlice Cert.Reference4Ideal.S4096x2816 ![0, 2816] (Host.dotGeneral Cert.Reference4Ideal.dot_S4096x1024_S1024x5632_S4096x5632_1_0_0_1_n_n none (extf .f32 X Cert.Reference4Ideal.Gen.bitsLt_bf16_f32) (transpose Cert.Reference4Ideal.S1024x5632 [1, 0] (extf .f32 W Cert.Reference4Ideal.Gen.bitsLt_bf16_f32) Cert.Reference4Ideal.Gen.transposes_S5632x1024_S1024x5632_1_0)) Cert.Reference4Ideal.Gen.slices_S4096x5632_S4096x2816_0_2816) Cert.Reference4Ideal.Gen.bitsLt_bf16_f32

/-- What one point stores of the up values is the reference's. -/
theorem point4 (c : Dev nD) (t : Fin cfg0.N) (y) : k0_pay4 (iblk m c 0 t) (iblk m c 2 t) y = REF4 (m ((c : Thread nD τ).loc main_arg0)) (m ((c : Thread nD τ).loc main_arg1)) (((cfg0.win 4).blk t).view.emb y) := by
  pointwise [k0_pay4, k0_pay2, REF4]
  blk_point [iblk, V, idx t]

/-- The up values after the run are the reference's. -/
theorem final4_eq (c : Dev nD) : (dats m 0 c).arrAt 4 (cfgs 0).N = REF4 (m ((c : Thread nD τ).loc main_arg0)) (m ((c : Thread nD τ).loc main_arg1)) := by
  refine (dats m 0 c).arrAt_eq_of_covers 4 _ (by decide +kernel) fun t _ y => ?_
  blk_simp
  rw [after0_4]
  frame_out
  exact point4 m c t y

/-- The reference's gated product, of the call's arguments. -/
abbrev REF5 (X : FVec Ideal S4096x1024 .bf16) (W : FVec Ideal S5632x1024 .bf16) : FVec Ideal Cert.Reference4Ideal.S4096x2816 .bf16 :=
  truncf .bf16 (mulf (mulf (extractStridedSlice Cert.Reference4Ideal.S4096x2816 ![0, 0] (Host.dotGeneral Cert.Reference4Ideal.dot_S4096x1024_S1024x5632_S4096x5632_1_0_0_1_n_n none (extf .f32 X Cert.Reference4Ideal.Gen.bitsLt_bf16_f32) (transpose Cert.Reference4Ideal.S1024x5632 [1, 0] (extf .f32 W Cert.Reference4Ideal.Gen.bitsLt_bf16_f32) Cert.Reference4Ideal.Gen.transposes_S5632x1024_S1024x5632_1_0)) Cert.Reference4Ideal.Gen.slices_S4096x5632_S4096x2816_0_0) (Host.divf (broadcastInDim Cert.Reference4Ideal.S4096x2816 ![] Cert.Reference4Ideal.Gen.bcast_S_S4096x2816 (constant Cert.Reference4Ideal.S_ .f32 0x3F800000#32)) (addf (broadcastInDim Cert.Reference4Ideal.S4096x2816 ![] Cert.Reference4Ideal.Gen.bcast_S_S4096x2816 (constant Cert.Reference4Ideal.S_ .f32 0x3F800000#32)) (Host.exp (Host.negf (extractStridedSlice Cert.Reference4Ideal.S4096x2816 ![0, 0] (Host.dotGeneral Cert.Reference4Ideal.dot_S4096x1024_S1024x5632_S4096x5632_1_0_0_1_n_n none (extf .f32 X Cert.Reference4Ideal.Gen.bitsLt_bf16_f32) (transpose Cert.Reference4Ideal.S1024x5632 [1, 0] (extf .f32 W Cert.Reference4Ideal.Gen.bitsLt_bf16_f32) Cert.Reference4Ideal.Gen.transposes_S5632x1024_S1024x5632_1_0)) Cert.Reference4Ideal.Gen.slices_S4096x5632_S4096x2816_0_0)))))) (extractStridedSlice Cert.Reference4Ideal.S4096x2816 ![0, 2816] (Host.dotGeneral Cert.Reference4Ideal.dot_S4096x1024_S1024x5632_S4096x5632_1_0_0_1_n_n none (extf .f32 X Cert.Reference4Ideal.Gen.bitsLt_bf16_f32) (transpose Cert.Reference4Ideal.S1024x5632 [1, 0] (extf .f32 W Cert.Reference4Ideal.Gen.bitsLt_bf16_f32) Cert.Reference4Ideal.Gen.transposes_S5632x1024_S1024x5632_1_0)) Cert.Reference4Ideal.Gen.slices_S4096x5632_S4096x2816_0_2816)) Cert.Reference4Ideal.Gen.bitsLt_bf16_f32

/-- The blocks of windows 3 and 5 lie at the same places. -/
theorem emb_eq3 (t : Fin cfg0.N) (y : S512x1408.Idx) : (((cfg0.win 3).blk t).view.emb y : S4096x2816.Idx) = ((cfg0.win 5).blk t).view.emb y := by
  blk_ext [idx t]

/-- The blocks of windows 4 and 5 lie at the same places. -/
theorem emb_eq4 (t : Fin cfg0.N) (y : S512x1408.Idx) : (((cfg0.win 4).blk t).view.emb y : S4096x2816.Idx) = ((cfg0.win 5).blk t).view.emb y := by
  blk_ext [idx t]

/-- One value of the gate: the sigmoid-weighted gate value times the up value. -/
def gated (x u : EReal) : EReal := x * Ideal.div 1 (1 + Ideal.exp (-x)) * u

/-- The kernel's gate, of any two blocks of values. -/
theorem gated_block (a : Vec Ideal S512x1024 .bf16) (w v : Vec Ideal S1408x1024 .bf16) (y : S512x1408.Idx) : k0_pay5 a w v y = gated (k0_pay3 a w y) (k0_pay4 a v y) := by
  have h : ∀ g u : FVec Ideal S512x1408 .f32, (truncf .bf16 (mulf (mulf g (divf (broadcast S512x1408 (Scalar.ofBits .f32 0x3F800000#32) : FVec Ideal S512x1408 .f32) (addf (broadcast S512x1408 (Scalar.ofBits .f32 0x3F800000#32) : FVec Ideal S512x1408 .f32) (exp (subf (broadcast S512x1408 (Scalar.ofBits .f32 0x00000000#32) : FVec Ideal S512x1408 .f32) g))))) u) bitsLt_bf16_f32 : FVec Ideal S512x1408 .bf16) = fun y => gated (g y) (u y) := by
    intro g u
    funext y
    pointwise [gated]
    rw [zero_sub]
  exact congrFun (h (k0_pay1 a w) (k0_pay2 a v)) y

/-- The reference's gate, of any two arrays of values. -/
theorem gated_array (g u : FVec Ideal Cert.Reference4Ideal.S4096x2816 .f32) (i : S4096x2816.Idx) : (truncf .bf16 (mulf (mulf g (Host.divf (broadcastInDim Cert.Reference4Ideal.S4096x2816 ![] Cert.Reference4Ideal.Gen.bcast_S_S4096x2816 (constant Cert.Reference4Ideal.S_ .f32 0x3F800000#32)) (addf (broadcastInDim Cert.Reference4Ideal.S4096x2816 ![] Cert.Reference4Ideal.Gen.bcast_S_S4096x2816 (constant Cert.Reference4Ideal.S_ .f32 0x3F800000#32)) (Host.exp (Host.negf g))))) u) Cert.Reference4Ideal.Gen.bitsLt_bf16_f32 : FVec Ideal Cert.Reference4Ideal.S4096x2816 .bf16) i = gated (g i) (u i) := by
  pointwise [gated]

/-- What one point stores of the gated product is the reference's. -/
theorem point5 (c : Dev nD) (t : Fin cfg0.N) (y) : k0_pay5 (iblk m c 0 t) (iblk m c 1 t) (iblk m c 2 t) y = REF5 (m ((c : Thread nD τ).loc main_arg0)) (m ((c : Thread nD τ).loc main_arg1)) (((cfg0.win 5).blk t).view.emb y) := by
  refine (gated_block _ _ _ y).trans (Eq.trans ?_ (gated_array _ _ _).symm)
  exact congrArg₂ gated ((point3 m c t y).trans (congrArg (REF3 (m ((c : Thread nD τ).loc main_arg0)) (m ((c : Thread nD τ).loc main_arg1))) (emb_eq3 t y))) ((point4 m c t y).trans (congrArg (REF4 (m ((c : Thread nD τ).loc main_arg0)) (m ((c : Thread nD τ).loc main_arg1))) (emb_eq4 t y)))

/-- The gated product after the run are the reference's. -/
theorem final5_eq (c : Dev nD) : (dats m 0 c).arrAt 5 (cfgs 0).N = REF5 (m ((c : Thread nD τ).loc main_arg0)) (m ((c : Thread nD τ).loc main_arg1)) := by
  refine (dats m 0 c).arrAt_eq_of_covers 5 _ (by decide +kernel) fun t _ y => ?_
  blk_simp
  rw [after0_5]
  frame_out
  exact point5 m c t y

end Cert.Kernel4Ideal.Value

end
-- ==== Proof.Ffn.Out.lean ====
/- The product of the gated array with the output weights: the kernel and the reference. -/
module

public import proofs.«01_k».proof.Proof.Gen.Kernel5Ideal.Value
public import proofs.«01_k».proof.Proof.Gen.Reference5Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen

variable (m : (ℓ : Loc nD τ sig) → Buf (Elt Ideal) ℓ)

/-- The reference's result, of the call's arguments. -/
abbrev REF (X : FVec Ideal S4096x2816 .bf16) (W : FVec Ideal S2816x1024 .bf16) : FVec Ideal Cert.Reference5Ideal.S4096x1024 .f32 :=
  Host.dotGeneral Cert.Reference5Ideal.dot_S4096x2816_S2816x1024_S4096x1024_1_0_0_1_n_n none (extf .f32 X Cert.Reference5Ideal.Gen.bitsLt_bf16_f32) (extf .f32 W Cert.Reference5Ideal.Gen.bitsLt_bf16_f32)

/-- Which block of its array each window holds at each point. -/
theorem idx : ∀ t : Fin cfg0.N, win0_0.index t = ![t.val, 0] ∧ win0_1.index t = ![0, 0] ∧ win0_2.index t = ![t.val, 0] :=
  (by decide +kernel : ∀ t : Fin grid0.N, _)

/-- What one point stores at an index of its block is the reference's value at the index's place. -/
theorem point (c : Dev nD) (t : Fin cfg0.N) (y) : k0_pay1 (iblk m c 0 t) (iblk m c 1 t) y = REF (m ((c : Thread nD τ).loc main_arg0)) (m ((c : Thread nD τ).loc main_arg1)) (((cfg0.win 2).blk t).view.emb y) := by
  pointwise [k0_pay1, REF]
  blk_point [iblk, V, idx t]

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel5Ideal.Value

end
-- ==== Proof.Ffn.DAct.lean ====
/- The gradient by the gated array: the kernel and the reference. -/
module

public import proofs.«01_k».proof.Proof.Gen.Kernel6Ideal.Value
public import proofs.«01_k».proof.Proof.Gen.Reference6Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen

variable (m : (ℓ : Loc nD τ sig) → Buf (Elt Ideal) ℓ)

/-- The reference's result, of the call's arguments. -/
abbrev REF (X : FVec Ideal S4096x1024 .bf16) (W : FVec Ideal S2816x1024 .bf16) : FVec Ideal Cert.Reference6Ideal.S4096x2816 .bf16 :=
  truncf .bf16 (Host.dotGeneral Cert.Reference6Ideal.dot_S4096x1024_S2816x1024_S4096x2816_1_1_0_0_n_n none (extf .f32 X Cert.Reference6Ideal.Gen.bitsLt_bf16_f32) (extf .f32 W Cert.Reference6Ideal.Gen.bitsLt_bf16_f32)) Cert.Reference6Ideal.Gen.bitsLt_bf16_f32

/-- Which block of its array each window holds at each point. -/
theorem idx : ∀ t : Fin cfg0.N, win0_0.index t = ![t.val, 0] ∧ win0_1.index t = ![0, 0] ∧ win0_2.index t = ![t.val, 0] :=
  (by decide +kernel : ∀ t : Fin grid0.N, _)

/-- What one point stores at an index of its block is the reference's value at the index's place. -/
theorem point (c : Dev nD) (t : Fin cfg0.N) (y) : k0_pay1 (iblk m c 0 t) (iblk m c 1 t) y = REF (m ((c : Thread nD τ).loc main_arg0)) (m ((c : Thread nD τ).loc main_arg1)) (((cfg0.win 2).blk t).view.emb y) := by
  pointwise [k0_pay1, REF]
  blk_point [iblk, V, idx t]

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel6Ideal.Value

end
-- ==== Proof.Ffn.DOut.lean ====
/- The gradient by the output weights: the kernel and the reference. -/
module

public import proofs.«01_k».proof.Proof.Gen.Kernel7Ideal.Value
public import proofs.«01_k».proof.Proof.Gen.Reference7Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel7Ideal.Value

open Cert.Kernel7Ideal Cert.Kernel7Ideal.Gen

variable (m : (ℓ : Loc nD τ sig) → Buf (Elt Ideal) ℓ)

/-- The reference's result, of the call's arguments. -/
abbrev REF (X : FVec Ideal S4096x2816 .bf16) (Y : FVec Ideal S4096x1024 .bf16) : FVec Ideal Cert.Reference7Ideal.S2816x1024 .bf16 :=
  truncf .bf16 (transpose Cert.Reference7Ideal.S2816x1024 [1, 0] (Host.dotGeneral Cert.Reference7Ideal.dot_S4096x1024_S4096x2816_S1024x2816_0_0_1_1_n_n none (extf .f32 Y Cert.Reference7Ideal.Gen.bitsLt_bf16_f32) (extf .f32 X Cert.Reference7Ideal.Gen.bitsLt_bf16_f32)) Cert.Reference7Ideal.Gen.transposes_S1024x2816_S2816x1024_1_0) Cert.Reference7Ideal.Gen.bitsLt_bf16_f32

/-- Which block of its array each window holds at each point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem zero_at (j) : k0_pay1 (F := Ideal) j = 0 := by
  pointwise [k0_pay1]

/-- One step of the accumulation: what was held, and the product of the step's two blocks of rows. -/
theorem step_at (acc : Vec Ideal S1408x1024 .f32) (x : Vec Ideal S1024x1408 .bf16) (y : Vec Ideal S1024x1024 .bf16) (j : S1408x1024.Idx) :
    k0_pay2 acc x y j = acc j + ∑ k : Fin 1024, HMul.hMul (α := EReal) (β := EReal) (γ := EReal) (x (ix2 k (j 0))) (y (ix2 k (j 1))) := by
  pointwise [k0_pay2]

theorem cut_at (x : Vec Ideal S1408x1024 .f32) (j : S1408x1024.Idx) : (k0_pay3 x j : EReal) = x j := by
  pointwise [k0_pay3]

/-- The reference's value at an index: the sum over all rows. -/
theorem ref_at (X : FVec Ideal S4096x2816 .bf16) (Y : FVec Ideal S4096x1024 .bf16) (j : S2816x1024.Idx) :
    REF X Y j = ∑ l : Fin 4096, HMul.hMul (α := EReal) (β := EReal) (γ := EReal) (X (ix2 l (j 0))) (Y (ix2 l (j 1))) := by
  pointwise [REF]
  exact Fin.sum_fin_congr fun l => mul_comm _ _

/-- What a run's last point stores is what it has accumulated. -/
theorem last (c : Dev nD) (t : Fin cfg0.N) (h0 : ¬t.val % 4 = 0) (h1 : t.val % 4 = 3) : (outsAt0 m c t.val t.isLt).1 = k0_pay3 (outsAt0 m c t.val t.isLt).2 := by
  rw [outsAt0_C m c t h0 h1]
  frame_out

theorem first_acc (c : Dev nD) (t : Fin cfg0.N) (h0 : t.val % 4 = 0) : (outsAt0 m c t.val t.isLt).2 = k0_pay2 (k0_pay1 (F := Ideal)) (iblk m c 0 t) (iblk m c 1 t) := by
  rw [outsAt0_A m c t h0 (by omega)]
  frame_out

theorem next_acc (c : Dev nD) (t : Fin cfg0.N) (h0 : ¬t.val % 4 = 0) : (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    frame_out
    exact congrArg (fun x => k0_pay2 x (iblk m c 0 t) (iblk m c 1 t)) ((Memref.isWhole_whole _).read_unread _)
  · rw [outsAt0_B m c t h0 h1]
    frame_out
    exact congrArg (fun x => k0_pay2 x (iblk m c 0 t) (iblk m c 1 t)) ((Memref.isWhole_whole _).read_unread _)

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, last m c t (by omega) h3, cut_at,
    Pipeline.eq_sum_fin_of_reset_step_apply_of_flush (fun n h => (outsAt0 m c n h).2) 4 (fun _ => 0) _
      (fun t h j => by rw [first_acc m c t h, step_at, zero_at]) (fun t h j => by rw [next_acc m c t h, step_at])
      t h3 _, zero_add, ref_at]
  refine Fin.sum_mul_add_congr fun s k hl => ?_
  blk_point [iblk, V, idx t, idx ⟨_, Pipeline.run_point_lt_of_flush t h3 s⟩]

end Cert.Kernel7Ideal.Value

end
-- ==== Proof.Ffn.DGate.lean ====
/- The gradient by the input weights: the kernel and the reference. -/
module

public import proofs.«01_k».proof.Proof.Gen.Kernel8Ideal.Value
public import proofs.«01_k».proof.Proof.Gen.Reference8Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen

variable (m : (ℓ : Loc nD τ sig) → Buf (Elt Ideal) ℓ)

/-- The reference's result, of the call's arguments. -/
abbrev REF (X : FVec Ideal S4096x5632 .bf16) (Y : FVec Ideal S4096x1024 .bf16) : FVec Ideal Cert.Reference8Ideal.S5632x1024 .bf16 :=
  truncf .bf16 (transpose Cert.Reference8Ideal.S5632x1024 [1, 0] (transpose Cert.Reference8Ideal.S1024x5632 [1, 0] (Host.dotGeneral Cert.Reference8Ideal.dot_S4096x5632_S4096x1024_S5632x1024_0_0_1_1_n_n none (extf .f32 X Cert.Reference8Ideal.Gen.bitsLt_bf16_f32) (extf .f32 Y Cert.Reference8Ideal.Gen.bitsLt_bf16_f32)) Cert.Reference8Ideal.Gen.transposes_S5632x1024_S1024x5632_1_0) Cert.Reference8Ideal.Gen.transposes_S1024x5632_S5632x1024_1_0) Cert.Reference8Ideal.Gen.bitsLt_bf16_f32

/-- Which block of its array each window holds at each point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem zero_at (j) : k0_pay1 (F := Ideal) j = 0 := by
  pointwise [k0_pay1]

/-- One step of the accumulation: what was held, and the product of the step's two blocks of rows. -/
theorem step_at (acc : Vec Ideal S1408x1024 .f32) (x : Vec Ideal S1024x1408 .bf16) (y : Vec Ideal S1024x1024 .bf16) (j : S1408x1024.Idx) :
    k0_pay2 acc x y j = acc j + ∑ k : Fin 1024, HMul.hMul (α := EReal) (β := EReal) (γ := EReal) (x (ix2 k (j 0))) (y (ix2 k (j 1))) := by
  pointwise [k0_pay2]

theorem cut_at (x : Vec Ideal S1408x1024 .f32) (j : S1408x1024.Idx) : (k0_pay3 x j : EReal) = x j := by
  pointwise [k0_pay3]

/-- The reference's value at an index: the sum over all rows. -/
theorem ref_at (X : FVec Ideal S4096x5632 .bf16) (Y : FVec Ideal S4096x1024 .bf16) (j : S5632x1024.Idx) :
    REF X Y j = ∑ l : Fin 4096, HMul.hMul (α := EReal) (β := EReal) (γ := EReal) (X (ix2 l (j 0))) (Y (ix2 l (j 1))) := by
  pointwise [REF]

/-- What a run's last point stores is what it has accumulated. -/
theorem last (c : Dev nD) (t : Fin cfg0.N) (h0 : ¬t.val % 4 = 0) (h1 : t.val % 4 = 3) : (outsAt0 m c t.val t.isLt).1 = k0_pay3 (outsAt0 m c t.val t.isLt).2 := by
  rw [outsAt0_C m c t h0 h1]
  frame_out

theorem first_acc (c : Dev nD) (t : Fin cfg0.N) (h0 : t.val % 4 = 0) : (outsAt0 m c t.val t.isLt).2 = k0_pay2 (k0_pay1 (F := Ideal)) (iblk m c 0 t) (iblk m c 1 t) := by
  rw [outsAt0_A m c t h0 (by omega)]
  frame_out

theorem next_acc (c : Dev nD) (t : Fin cfg0.N) (h0 : ¬t.val % 4 = 0) : (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    frame_out
    exact congrArg (fun x => k0_pay2 x (iblk m c 0 t) (iblk m c 1 t)) ((Memref.isWhole_whole _).read_unread _)
  · rw [outsAt0_B m c t h0 h1]
    frame_out
    exact congrArg (fun x => k0_pay2 x (iblk m c 0 t) (iblk m c 1 t)) ((Memref.isWhole_whole _).read_unread _)

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, last m c t (by omega) h3, cut_at,
    Pipeline.eq_sum_fin_of_reset_step_apply_of_flush (fun n h => (outsAt0 m c n h).2) 4 (fun _ => 0) _
      (fun t h j => by rw [first_acc m c t h, step_at, zero_at]) (fun t h j => by rw [next_acc m c t h, step_at])
      t h3 _, zero_add, ref_at]
  refine Fin.sum_mul_add_congr fun s k hl => ?_
  blk_point [iblk, V, idx t, idx ⟨_, Pipeline.run_point_lt_of_flush t h3 s⟩]

end Cert.Kernel8Ideal.Value

end
-- ==== Proof.Ffn.DIn.lean ====
/- The gradient by the mixer's rows: the kernel and the reference. -/
module

public import proofs.«01_k».proof.Proof.Gen.Kernel9Ideal.Value
public import proofs.«01_k».proof.Proof.Gen.Reference9Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel9Ideal.Value

open Cert.Kernel9Ideal Cert.Kernel9Ideal.Gen

variable (m : (ℓ : Loc nD τ sig) → Buf (Elt Ideal) ℓ)

/-- The reference's result, of the call's arguments. -/
abbrev REF (X : FVec Ideal S4096x5632 .bf16) (W : FVec Ideal S5632x1024 .bf16) (R : FVec Ideal S4096x1024 .f32) : FVec Ideal Cert.Reference9Ideal.S4096x1024 .f32 :=
  addf (Host.dotGeneral Cert.Reference9Ideal.dot_S4096x5632_S1024x5632_S4096x1024_1_1_0_0_n_n none (extf .f32 X Cert.Reference9Ideal.Gen.bitsLt_bf16_f32) (transpose Cert.Reference9Ideal.S1024x5632 [1, 0] (extf .f32 W Cert.Reference9Ideal.Gen.bitsLt_bf16_f32) Cert.Reference9Ideal.Gen.transposes_S5632x1024_S1024x5632_1_0)) R

/-- Which block of its array each window holds at each point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- What one point stores at an index of its block is the reference's value at the index's place. -/
theorem point (c : Dev nD) (t : Fin cfg0.N) (y) : k0_pay1 (iblk m c 0 t) (iblk m c 1 t) (iblk m c 2 t) y = REF (m ((c : Thread nD τ).loc main_arg0)) (m ((c : Thread nD τ).loc main_arg1)) (m ((c : Thread nD τ).loc main_arg2)) (((cfg0.win 3).blk t).view.emb y) := by
  pointwise [k0_pay1, REF]
  blk_point [iblk, V, idx t]

/-- The result array after the run is the reference's. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.Kernel9Ideal.Value

end
-- ==== Proof.Ffn.Claims.lean ====
/- The channel mixer's seven calls: each one's value claim, and its reference's run. -/
module

public import proofs.«01_k».proof.Defs
public import proofs.«01_k».proof.Proof.Attn.Equal
public import proofs.«01_k».proof.Proof.Ffn.DGated
public import proofs.«01_k».proof.Proof.Gen.Reference3Ideal.Run
public import proofs.«01_k».proof.Proof.Ffn.Gate
public import proofs.«01_k».proof.Proof.Gen.Reference4Ideal.Run
public import proofs.«01_k».proof.Proof.Ffn.Out
public import proofs.«01_k».proof.Proof.Gen.Reference5Ideal.Run
public import proofs.«01_k».proof.Proof.Ffn.DAct
public import proofs.«01_k».proof.Proof.Gen.Reference6Ideal.Run
public import proofs.«01_k».proof.Proof.Ffn.DOut
public import proofs.«01_k».proof.Proof.Gen.Reference7Ideal.Run
public import proofs.«01_k».proof.Proof.Ffn.DGate
public import proofs.«01_k».proof.Proof.Gen.Reference8Ideal.Run
public import proofs.«01_k».proof.Proof.Ffn.DIn
public import proofs.«01_k».proof.Proof.Gen.Reference9Ideal.Run
public import proofs.«01_k».proof.Proof.Gen.Pre_finite3
public import Idealize.ShloMosaic.Adequacy
public import Idealize.ShloMosaic.Init

@[expose] public section

set_option maxRecDepth 16384

noncomputable section

namespace Cert.Proof

open Idealize.ShloMosaic Idealize.SL.Sem

/-- The precondition of the gate's gradient says that the up values and the arriving gradient are arrays of real numbers. -/
theorem reals_of_finite3 (x0 x1 x2 : FVec Ideal Cert.Kernel3Ideal.S4096x2816 .bf16)
    (h : (Cert.Pre_finite3.fn (F := Ideal) x0 x1 x2).1 = (fun _ => 1#1) ∧ (Cert.Pre_finite3.fn (F := Ideal) x0 x1 x2).2 = (fun _ => 1#1)) :
    (∀ i, x1 i = ((x1 i).toReal : EReal)) ∧ (∀ i, x2 i = ((x2 i).toReal : EReal)) :=
  ⟨fun i => real_of_lt _ (congrFun h.1 i), fun i => real_of_lt _ (congrFun h.2 i)⟩

/-- The gradients by the gate's two halves: the kernel and the reference compute the same. -/
theorem algebraic3 : algebraic_Kernel3Ideal_Reference3Ideal_pre_finite3 := by
  intro m g m' g' hp hm
  have R := fun c => reals_of_finite3 _ _ _ (hp c)
  refine ⟨fun c => (Cert.Kernel3Ideal.Gen.dats m 0 c).arrAt 3 Cert.Kernel3Ideal.cfg0.N, Cert.Kernel3Ideal.Value.run_blocks m g, ?_⟩
  refine (θ_run Cert.Reference3Ideal.defs _ _).mono (fun r h c => ?_) (Cert.Reference3Ideal.Value.run m' g')
  exact ⟨(h c).1.trans (by rw [(hm c).1, (hm c).2.1, (hm c).2.2]; exact (Cert.Kernel3Ideal.Value.final m c (R c).1 (R c).2).symm), (h c).2⟩

theorem reference3_frame : quiescent_Reference3Ideal := fun m ρ _ =>
  (θ_run Cert.Reference3Ideal.defs _ _).mono (fun r h => ⟨fun c => (h c).2, Idealize.ShloMosaic.sem_eq_zero_of_no_sems (by decide) r.2⟩) (Cert.Reference3Ideal.Value.run m ρ)

/-- The gate: the kernel and the reference compute the same. -/
theorem algebraic4 : algebraic_Kernel4Ideal_Reference4Ideal := by
  intro m g m' g' hp hm
  refine ⟨fun c => (Cert.Kernel4Ideal.Gen.dats m 0 c).arrAt 3 Cert.Kernel4Ideal.cfg0.N, fun c => (Cert.Kernel4Ideal.Gen.dats m 0 c).arrAt 4 Cert.Kernel4Ideal.cfg0.N, fun c => (Cert.Kernel4Ideal.Gen.dats m 0 c).arrAt 5 Cert.Kernel4Ideal.cfg0.N, Cert.Kernel4Ideal.Value.run_blocks m g, ?_⟩
  refine (θ_run Cert.Reference4Ideal.defs _ _).mono (fun r h c => ?_) (Cert.Reference4Ideal.Value.run m' g')
  exact ⟨(h c).1.trans (by rw [(hm c).1, (hm c).2]; exact (Cert.Kernel4Ideal.Value.final3_eq m c).symm),
    (h c).2.1.trans (by rw [(hm c).1, (hm c).2]; exact (Cert.Kernel4Ideal.Value.final4_eq m c).symm),
    (h c).2.2.1.trans (by rw [(hm c).1, (hm c).2]; exact (Cert.Kernel4Ideal.Value.final5_eq m c).symm), (h c).2.2.2⟩

theorem reference4_frame : quiescent_Reference4Ideal := fun m ρ _ =>
  (θ_run Cert.Reference4Ideal.defs _ _).mono (fun r h => ⟨fun c => (h c).2.2.2, Idealize.ShloMosaic.sem_eq_zero_of_no_sems (by decide) r.2⟩) (Cert.Reference4Ideal.Value.run m ρ)

/-- The product with the output weights: the kernel and the reference compute the same. -/
theorem algebraic5 : algebraic_Kernel5Ideal_Reference5Ideal := by
  intro m g m' g' hp hm
  refine ⟨fun c => (Cert.Kernel5Ideal.Gen.dats m 0 c).arrAt 2 Cert.Kernel5Ideal.cfg0.N, Cert.Kernel5Ideal.Value.run_blocks m g, ?_⟩
  refine (θ_run Cert.Reference5Ideal.defs _ _).mono (fun r h c => ?_) (Cert.Reference5Ideal.Value.run m' g')
  exact ⟨(h c).1.trans (by rw [(hm c).1, (hm c).2]; exact (Cert.Kernel5Ideal.Value.final m c).symm), (h c).2⟩

theorem reference5_frame : quiescent_Reference5Ideal := fun m ρ _ =>
  (θ_run Cert.Reference5Ideal.defs _ _).mono (fun r h => ⟨fun c => (h c).2, Idealize.ShloMosaic.sem_eq_zero_of_no_sems (by decide) r.2⟩) (Cert.Reference5Ideal.Value.run m ρ)

/-- The gradient by the gated array: the kernel and the reference compute the same. -/
theorem algebraic6 : algebraic_Kernel6Ideal_Reference6Ideal := by
  intro m g m' g' hp hm
  refine ⟨fun c => (Cert.Kernel6Ideal.Gen.dats m 0 c).arrAt 2 Cert.Kernel6Ideal.cfg0.N, Cert.Kernel6Ideal.Value.run_blocks m g, ?_⟩
  refine (θ_run Cert.Reference6Ideal.defs _ _).mono (fun r h c => ?_) (Cert.Reference6Ideal.Value.run m' g')
  exact ⟨(h c).1.trans (by rw [(hm c).1, (hm c).2]; exact (Cert.Kernel6Ideal.Value.final m c).symm), (h c).2⟩

theorem reference6_frame : quiescent_Reference6Ideal := fun m ρ _ =>
  (θ_run Cert.Reference6Ideal.defs _ _).mono (fun r h => ⟨fun c => (h c).2, Idealize.ShloMosaic.sem_eq_zero_of_no_sems (by decide) r.2⟩) (Cert.Reference6Ideal.Value.run m ρ)

/-- The gradient by the output weights: the kernel and the reference compute the same. -/
theorem algebraic7 : algebraic_Kernel7Ideal_Reference7Ideal := by
  intro m g m' g' hp hm
  refine ⟨fun c => (Cert.Kernel7Ideal.Gen.dats m 0 c).arrAt 2 Cert.Kernel7Ideal.cfg0.N, Cert.Kernel7Ideal.Value.run_blocks m g, ?_⟩
  refine (θ_run Cert.Reference7Ideal.defs _ _).mono (fun r h c => ?_) (Cert.Reference7Ideal.Value.run m' g')
  exact ⟨(h c).1.trans (by rw [(hm c).1, (hm c).2]; exact (Cert.Kernel7Ideal.Value.final m c).symm), (h c).2⟩

theorem reference7_frame : quiescent_Reference7Ideal := fun m ρ _ =>
  (θ_run Cert.Reference7Ideal.defs _ _).mono (fun r h => ⟨fun c => (h c).2, Idealize.ShloMosaic.sem_eq_zero_of_no_sems (by decide) r.2⟩) (Cert.Reference7Ideal.Value.run m ρ)

/-- The gradient by the input weights: the kernel and the reference compute the same. -/
theorem algebraic8 : algebraic_Kernel8Ideal_Reference8Ideal := by
  intro m g m' g' hp hm
  refine ⟨fun c => (Cert.Kernel8Ideal.Gen.dats m 0 c).arrAt 2 Cert.Kernel8Ideal.cfg0.N, Cert.Kernel8Ideal.Value.run_blocks m g, ?_⟩
  refine (θ_run Cert.Reference8Ideal.defs _ _).mono (fun r h c => ?_) (Cert.Reference8Ideal.Value.run m' g')
  exact ⟨(h c).1.trans (by rw [(hm c).1, (hm c).2]; exact (Cert.Kernel8Ideal.Value.final m c).symm), (h c).2⟩

theorem reference8_frame : quiescent_Reference8Ideal := fun m ρ _ =>
  (θ_run Cert.Reference8Ideal.defs _ _).mono (fun r h => ⟨fun c => (h c).2, Idealize.ShloMosaic.sem_eq_zero_of_no_sems (by decide) r.2⟩) (Cert.Reference8Ideal.Value.run m ρ)

/-- The gradient by the mixer's rows: the kernel and the reference compute the same. -/
theorem algebraic9 : algebraic_Kernel9Ideal_Reference9Ideal := by
  intro m g m' g' hp hm
  refine ⟨fun c => (Cert.Kernel9Ideal.Gen.dats m 0 c).arrAt 3 Cert.Kernel9Ideal.cfg0.N, Cert.Kernel9Ideal.Value.run_blocks m g, ?_⟩
  refine (θ_run Cert.Reference9Ideal.defs _ _).mono (fun r h c => ?_) (Cert.Reference9Ideal.Value.run m' g')
  exact ⟨(h c).1.trans (by rw [(hm c).1, (hm c).2.1, (hm c).2.2]; exact (Cert.Kernel9Ideal.Value.final m c).symm), (h c).2⟩

theorem reference9_frame : quiescent_Reference9Ideal := fun m ρ _ =>
  (θ_run Cert.Reference9Ideal.defs _ _).mono (fun r h => ⟨fun c => (h c).2, Idealize.ShloMosaic.sem_eq_zero_of_no_sems (by decide) r.2⟩) (Cert.Reference9Ideal.Value.run m ρ)

end Cert.Proof

end
-- ==== Proof.Prod.Input.lean ====
/- The products with the input weights: the kernel and the reference. -/
module

public import proofs.«01_k».proof.Proof.Gen.Kernel10Ideal.Value
public import proofs.«01_k».proof.Proof.Gen.Reference10Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel10Ideal.Value

open Cert.Kernel10Ideal Cert.Kernel10Ideal.Gen

variable (m : (ℓ : Loc nD τ sig) → Buf (Elt Ideal) ℓ)

/-- Which block of its array each window holds at each point. -/
theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] ∧ win0_7.index t = ![t.val, 0] :=
  (by decide +kernel : ∀ t : Fin grid0.N, _)

/-- The block of the input weights that every point holds: the first 4096 rows. -/
theorem rows_eq (c : Dev nD) (t : Fin cfg0.N) : X0_1 m c t = (fun j => (m ((c : Thread nD τ).loc main_arg1) : FVec Ideal S6864x1024 .bf16) (ix2 ⟨(j 0).val, Nat.lt_of_lt_of_le (j 0).isLt (by decide)⟩ ⟨(j 1).val, (j 1).isLt⟩) : FVec Ideal S4096x1024 .bf16) := by
  funext j
  unfold X0_1 Pipeline.Window.fill
  rw [dif_pos (moved0_1 t j)]
  blk_point [iblk, V, idx t]

/-- The reference's first result, of the call's arguments. -/
abbrev REF4 (X0 : FVec Ideal S4096x1024 .f32) (X1 : FVec Ideal S6864x1024 .bf16) (X2 : FVec Ideal S2048x1024 .bf16) (X3 : FVec Ideal S1024x1024 .bf16) : FVec Ideal Cert.Reference10Ideal.S4096x4096 .f32 :=
  Host.dotGeneral Cert.Reference10Ideal.dot_S4096x1024_S1024x4096_S4096x4096_1_0_0_1_n_n none X0 (transpose Cert.Reference10Ideal.S1024x4096 [1, 0] (extf .f32 (extractStridedSlice Cert.Reference10Ideal.S4096x1024 ![0, 0] X1 Cert.Reference10Ideal.Gen.slices_S6864x1024_S4096x1024_0_0) Cert.Reference10Ideal.Gen.bitsLt_bf16_f32) Cert.Reference10Ideal.Gen.transposes_S4096x1024_S1024x4096_1_0)

/-- What one point stores at an index of its block is the reference's value at the index's place. -/
theorem point4 (c : Dev nD) (t : Fin cfg0.N) (y) : k0_pay2 (iblk m c 0 t) (X0_1 m c t) y = REF4 (m ((c : Thread nD τ).loc main_arg0)) (m ((c : Thread nD τ).loc main_arg1)) (m ((c : Thread nD τ).loc main_arg2)) (m ((c : Thread nD τ).loc main_arg3)) (((cfg0.win 4).blk t).view.emb y) := by
  rw [rows_eq m c t]
  pointwise [k0_pay2, k0_pay1, REF4]
  blk_point [iblk, V, idx t]

/-- The array after the run is the reference's. -/
theorem final4 (c : Dev nD) : (dats m 0 c).arrAt 4 (cfgs 0).N = REF4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, outsAt0]
  frame_out
  exact point4 m c t y

/-- The reference's second result, of the call's arguments. -/
abbrev REF5 (X0 : FVec Ideal S4096x1024 .f32) (X1 : FVec Ideal S6864x1024 .bf16) (X2 : FVec Ideal S2048x1024 .bf16) (X3 : FVec Ideal S1024x1024 .bf16) : FVec Ideal Cert.Reference10Ideal.S4096x2048 .bf16 :=
  truncf .bf16 (Host.dotGeneral Cert.Reference10Ideal.dot_S4096x1024_S1024x2048_S4096x2048_1_0_0_1_n_n none X0 (transpose Cert.Reference10Ideal.S1024x2048 [1, 0] (extf .f32 X2 Cert.Reference10Ideal.Gen.bitsLt_bf16_f32) Cert.Reference10Ideal.Gen.transposes_S2048x1024_S1024x2048_1_0)) Cert.Reference10Ideal.Gen.bitsLt_bf16_f32

/-- What one point stores at an index of its block is the reference's value at the index's place. -/
theorem point5 (c : Dev nD) (t : Fin cfg0.N) (y) : k0_pay3 (iblk m c 0 t) (iblk m c 2 t) y = REF5 (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay3, k0_pay1, REF5]
  blk_point [iblk, V, idx t]

/-- The array after the run is the reference's. -/
theorem final5 (c : Dev nD) : (dats m 0 c).arrAt 5 (cfgs 0).N = REF5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, outsAt0]
  frame_out
  exact point5 m c t y

/-- The reference's third result, of the call's arguments. -/
abbrev REF6 (X0 : FVec Ideal S4096x1024 .f32) (X1 : FVec Ideal S6864x1024 .bf16) (X2 : FVec Ideal S2048x1024 .bf16) (X3 : FVec Ideal S1024x1024 .bf16) : FVec Ideal Cert.Reference10Ideal.S4096x1024 .f32 :=
  Host.dotGeneral Cert.Reference10Ideal.dot_S4096x1024_S1024x1024_S4096x1024_1_0_0_1_n_n none X0 (transpose Cert.Reference10Ideal.S1024x1024 [1, 0] (extf .f32 X3 Cert.Reference10Ideal.Gen.bitsLt_bf16_f32) Cert.Reference10Ideal.Gen.transposes_S1024x1024_S1024x1024_1_0)

/-- What one point stores at an index of its block is the reference's value at the index's place. -/
theorem point6 (c : Dev nD) (t : Fin cfg0.N) (y) : k0_pay4 (iblk m c 0 t) (iblk m c 3 t) y = REF6 (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay4, k0_pay1, REF6]
  blk_point [iblk, V, idx t]

/-- The array after the run is the reference's. -/
theorem final6 (c : Dev nD) : (dats m 0 c).arrAt 6 (cfgs 0).N = REF6 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6, outsAt0]
  frame_out
  exact point6 m c t y

/-- The reference's fourth result, of the call's arguments. -/
abbrev REF7 (X0 : FVec Ideal S4096x1024 .f32) (X1 : FVec Ideal S6864x1024 .bf16) (X2 : FVec Ideal S2048x1024 .bf16) (X3 : FVec Ideal S1024x1024 .bf16) : FVec Ideal Cert.Reference10Ideal.S4096x1024 .bf16 :=
  truncf .bf16 X0 Cert.Reference10Ideal.Gen.bitsLt_bf16_f32

/-- What one point stores at an index of its block is the reference's value at the index's place. -/
theorem point7 (c : Dev nD) (t : Fin cfg0.N) (y) : k0_pay1 (iblk m c 0 t) y = REF7 (m ((c : Thread nD τ).loc main_arg0)) (m ((c : Thread nD τ).loc main_arg1)) (m ((c : Thread nD τ).loc main_arg2)) (m ((c : Thread nD τ).loc main_arg3)) (((cfg0.win 7).blk t).view.emb y) := by
  pointwise [k0_pay1, REF7]
  blk_point [iblk, V, idx t]

/-- The array after the run is the reference's. -/
theorem final7 (c : Dev nD) : (dats m 0 c).arrAt 7 (cfgs 0).N = REF7 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7, outsAt0]
  frame_out
  exact point7 m c t y

end Cert.Kernel10Ideal.Value

end
-- ==== Proof.Prod.DInput.lean ====
/- The gradient by the step's rows through all their products: the kernel and the reference. -/
module

public import proofs.«01_k».proof.Proof.Gen.Kernel11Ideal.Value
public import proofs.«01_k».proof.Proof.Gen.Reference11Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel11Ideal.Value

open Cert.Kernel11Ideal Cert.Kernel11Ideal.Gen

variable (m : (ℓ : Loc nD τ sig) → Buf (Elt Ideal) ℓ)

/-- Which block of its array each window holds at each point. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)

/-- The block of the input weights that every point holds: the first 4096 rows. -/
theorem rows_eq (c : Dev nD) (t : Fin cfg0.N) : X0_4 m c t = (fun j => (m ((c : Thread nD τ).loc main_arg4) : FVec Ideal S6864x1024 .bf16) (ix2 ⟨(j 0).val, Nat.lt_of_lt_of_le (j 0).isLt (by decide)⟩ ⟨(j 1).val, (j 1).isLt⟩) : FVec Ideal S4096x1024 .bf16) := by
  funext j
  unfold X0_4 Pipeline.Window.fill
  rw [dif_pos (moved0_4 t j)]
  blk_point [iblk, V, idx t]

/-- The reference's result, of the call's arguments. -/
abbrev REF (X0 : FVec Ideal S4096x3072 .bf16) (X1 : FVec Ideal S4096x1024 .bf16) (X2 : FVec Ideal S4096x2048 .bf16) (X3 : FVec Ideal S4096x1024 .bf16) (X4 : FVec Ideal S6864x1024 .bf16) (X5 : FVec Ideal S2048x1024 .bf16) (X6 : FVec Ideal S1024x1024 .bf16) (X7 : FVec Ideal S4096x1024 .f32) : FVec Ideal Cert.Reference11Ideal.S4096x1024 .f32 :=
  addf (addf (addf (addf (Host.dotGeneral Cert.Reference11Ideal.dot_S4096x1024_S1024x1024_S4096x1024_1_1_0_0_n_n none (extf .f32 X3 Cert.Reference11Ideal.Gen.bitsLt_bf16_f32) (transpose Cert.Reference11Ideal.S1024x1024 [1, 0] (extf .f32 X6 Cert.Reference11Ideal.Gen.bitsLt_bf16_f32) Cert.Reference11Ideal.Gen.transposes_S1024x1024_S1024x1024_1_0)) (Host.dotGeneral Cert.Reference11Ideal.dot_S4096x2048_S1024x2048_S4096x1024_1_1_0_0_n_n none (extf .f32 X2 Cert.Reference11Ideal.Gen.bitsLt_bf16_f32) (transpose Cert.Reference11Ideal.S1024x2048 [1, 0] (extf .f32 X5 Cert.Reference11Ideal.Gen.bitsLt_bf16_f32) Cert.Reference11Ideal.Gen.transposes_S2048x1024_S1024x2048_1_0))) (Host.dotGeneral Cert.Reference11Ideal.dot_S4096x1024_S1024x1024_S4096x1024_1_1_0_0_n_n none (extf .f32 X1 Cert.Reference11Ideal.Gen.bitsLt_bf16_f32) (transpose Cert.Reference11Ideal.S1024x1024 [1, 0] (extf .f32 (extractStridedSlice Cert.Reference11Ideal.S1024x1024 ![3072, 0] X4 Cert.Reference11Ideal.Gen.slices_S6864x1024_S1024x1024_3072_0) Cert.Reference11Ideal.Gen.bitsLt_bf16_f32) Cert.Reference11Ideal.Gen.transposes_S1024x1024_S1024x1024_1_0))) (Host.dotGeneral Cert.Reference11Ideal.dot_S4096x3072_S1024x3072_S4096x1024_1_1_0_0_n_n none (extf .f32 X0 Cert.Reference11Ideal.Gen.bitsLt_bf16_f32) (transpose Cert.Reference11Ideal.S1024x3072 [1, 0] (extf .f32 (extractStridedSlice Cert.Reference11Ideal.S3072x1024 ![0, 0] X4 Cert.Reference11Ideal.Gen.slices_S6864x1024_S3072x1024_0_0) Cert.Reference11Ideal.Gen.bitsLt_bf16_f32) Cert.Reference11Ideal.Gen.transposes_S3072x1024_S1024x3072_1_0))) X7

/-- The kernel's order of the five terms and the reference's. -/
theorem reorder (e q z g b : EReal) : e + q + z + g + b = b + g + z + q + e := by ac_rfl

/-- The array after the run is the reference's. -/
theorem final (c : Dev nD) : (dats m 0 c).arrAt 8 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8, outsAt0]
  frame_out
  rw [rows_eq m c t]
  pointwise [k0_pay1, REF]
  refine (reorder _ _ _ _ _).trans ?_
  blk_point [iblk, V, idx t]

end Cert.Kernel11Ideal.Value

end
-- ==== Proof.Prod.WQkv.lean ====
/- The gradient by the rows of the input weights that make q, k and v: the kernel and the reference. -/
module

public import proofs.«01_k».proof.Proof.Gen.Kernel12Ideal.Value
public import proofs.«01_k».proof.Proof.Gen.Reference12Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel12Ideal.Value

open Cert.Kernel12Ideal Cert.Kernel12Ideal.Gen

variable (m : (ℓ : Loc nD τ sig) → Buf (Elt Ideal) ℓ)

/-- The reference's result, of the call's arguments. -/
abbrev REF (X0 : FVec Ideal S4096x3072 .bf16) (X1 : FVec Ideal S4096x1024 .bf16) : FVec Ideal Cert.Reference12Ideal.S3072x1024 .f32 :=
  transpose Cert.Reference12Ideal.S3072x1024 [1, 0] (transpose Cert.Reference12Ideal.S1024x3072 [1, 0] (Host.dotGeneral Cert.Reference12Ideal.dot_S4096x3072_S4096x1024_S3072x1024_0_0_1_1_n_n none (extf .f32 X0 Cert.Reference12Ideal.Gen.bitsLt_bf16_f32) (extf .f32 X1 Cert.Reference12Ideal.Gen.bitsLt_bf16_f32)) Cert.Reference12Ideal.Gen.transposes_S3072x1024_S1024x3072_1_0) Cert.Reference12Ideal.Gen.transposes_S1024x3072_S3072x1024_1_0

/-- Which block of its array each window holds at each point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem zero_at (j) : k0_pay1 (F := Ideal) j = 0 := by
  pointwise [k0_pay1]

/-- One step of the accumulation: what was held, and the product of the step's two blocks of rows. -/
theorem step_at (acc : Vec Ideal S1536x1024 .f32) (x : Vec Ideal S1024x1536 .bf16) (y : Vec Ideal S1024x1024 .bf16) (j : S1536x1024.Idx) :
    k0_pay2 acc x y j = acc j + ∑ k : Fin 1024, HMul.hMul (α := EReal) (β := EReal) (γ := EReal) (x (ix2 k (j 0))) (y (ix2 k (j 1))) := by
  pointwise [k0_pay2]

/-- The reference's value at an index: the sum over all rows. -/
theorem ref_at (X : FVec Ideal S4096x3072 .bf16) (Y : FVec Ideal S4096x1024 .bf16) (j : S3072x1024.Idx) :
    REF X Y j = ∑ l : Fin 4096, HMul.hMul (α := EReal) (β := EReal) (γ := EReal) (X (ix2 l (j 0))) (Y (ix2 l (j 1))) := by
  pointwise [REF]

/-- What a run's last point stores is what it has accumulated. -/
theorem last (c : Dev nD) (t : Fin cfg0.N) (h0 : ¬t.val % 4 = 0) (h1 : t.val % 4 = 3) : (outsAt0 m c t.val t.isLt).1 = (outsAt0 m c t.val t.isLt).2 := by
  rw [outsAt0_C m c t h0 h1]
  frame_out

theorem first_acc (c : Dev nD) (t : Fin cfg0.N) (h0 : t.val % 4 = 0) : (outsAt0 m c t.val t.isLt).2 = k0_pay2 (k0_pay1 (F := Ideal)) (iblk m c 0 t) (iblk m c 1 t) := by
  rw [outsAt0_A m c t h0 (by omega)]
  frame_out

theorem next_acc (c : Dev nD) (t : Fin cfg0.N) (h0 : ¬t.val % 4 = 0) : (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    frame_out
    exact congrArg (fun x => k0_pay2 x (iblk m c 0 t) (iblk m c 1 t)) ((Memref.isWhole_whole _).read_unread _)
  · rw [outsAt0_B m c t h0 h1]
    frame_out
    exact congrArg (fun x => k0_pay2 x (iblk m c 0 t) (iblk m c 1 t)) ((Memref.isWhole_whole _).read_unread _)

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, last m c t (by omega) h3,
    Pipeline.eq_sum_fin_of_reset_step_apply_of_flush (fun n h => (outsAt0 m c n h).2) 4 (fun _ => 0) _
      (fun t h j => by rw [first_acc m c t h, step_at, zero_at]) (fun t h j => by rw [next_acc m c t h, step_at])
      t h3 _, zero_add, ref_at]
  refine Fin.sum_mul_add_congr fun s k hl => ?_
  blk_point [iblk, V, idx t, idx ⟨_, Pipeline.run_point_lt_of_flush t h3 s⟩]

end Cert.Kernel12Ideal.Value

end
-- ==== Proof.Prod.WGates.lean ====
/- The gradient by the rows of the input weights that make the two branch gates: the kernel and the reference. -/
module

public import proofs.«01_k».proof.Proof.Gen.Kernel13Ideal.Value
public import proofs.«01_k».proof.Proof.Gen.Reference13Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel13Ideal.Value

open Cert.Kernel13Ideal Cert.Kernel13Ideal.Gen

variable (m : (ℓ : Loc nD τ sig) → Buf (Elt Ideal) ℓ)

/-- The reference's result, of the call's arguments. -/
abbrev REF (X0 : FVec Ideal S4096x2048 .bf16) (X1 : FVec Ideal S4096x1024 .bf16) : FVec Ideal Cert.Reference13Ideal.S2048x1024 .f32 :=
  transpose Cert.Reference13Ideal.S2048x1024 [1, 0] (transpose Cert.Reference13Ideal.S1024x2048 [1, 0] (Host.dotGeneral Cert.Reference13Ideal.dot_S4096x2048_S4096x1024_S2048x1024_0_0_1_1_n_n none (extf .f32 X0 Cert.Reference13Ideal.Gen.bitsLt_bf16_f32) (extf .f32 X1 Cert.Reference13Ideal.Gen.bitsLt_bf16_f32)) Cert.Reference13Ideal.Gen.transposes_S2048x1024_S1024x2048_1_0) Cert.Reference13Ideal.Gen.transposes_S1024x2048_S2048x1024_1_0

/-- Which block of its array each window holds at each point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem zero_at (j) : k0_pay1 (F := Ideal) j = 0 := by
  pointwise [k0_pay1]

/-- One step of the accumulation: what was held, and the product of the step's two blocks of rows. -/
theorem step_at (acc : Vec Ideal S1024x1024 .f32) (x : Vec Ideal S1024x1024 .bf16) (y : Vec Ideal S1024x1024 .bf16) (j : S1024x1024.Idx) :
    k0_pay2 acc x y j = acc j + ∑ k : Fin 1024, HMul.hMul (α := EReal) (β := EReal) (γ := EReal) (x (ix2 k (j 0))) (y (ix2 k (j 1))) := by
  pointwise [k0_pay2]

/-- The reference's value at an index: the sum over all rows. -/
theorem ref_at (X : FVec Ideal S4096x2048 .bf16) (Y : FVec Ideal S4096x1024 .bf16) (j : S2048x1024.Idx) :
    REF X Y j = ∑ l : Fin 4096, HMul.hMul (α := EReal) (β := EReal) (γ := EReal) (X (ix2 l (j 0))) (Y (ix2 l (j 1))) := by
  pointwise [REF]

/-- What a run's last point stores is what it has accumulated. -/
theorem last (c : Dev nD) (t : Fin cfg0.N) (h0 : ¬t.val % 4 = 0) (h1 : t.val % 4 = 3) : (outsAt0 m c t.val t.isLt).1 = (outsAt0 m c t.val t.isLt).2 := by
  rw [outsAt0_C m c t h0 h1]
  frame_out

theorem first_acc (c : Dev nD) (t : Fin cfg0.N) (h0 : t.val % 4 = 0) : (outsAt0 m c t.val t.isLt).2 = k0_pay2 (k0_pay1 (F := Ideal)) (iblk m c 0 t) (iblk m c 1 t) := by
  rw [outsAt0_A m c t h0 (by omega)]
  frame_out

theorem next_acc (c : Dev nD) (t : Fin cfg0.N) (h0 : ¬t.val % 4 = 0) : (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    frame_out
    exact congrArg (fun x => k0_pay2 x (iblk m c 0 t) (iblk m c 1 t)) ((Memref.isWhole_whole _).read_unread _)
  · rw [outsAt0_B m c t h0 h1]
    frame_out
    exact congrArg (fun x => k0_pay2 x (iblk m c 0 t) (iblk m c 1 t)) ((Memref.isWhole_whole _).read_unread _)

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, last m c t (by omega) h3,
    Pipeline.eq_sum_fin_of_reset_step_apply_of_flush (fun n h => (outsAt0 m c n h).2) 4 (fun _ => 0) _
      (fun t h j => by rw [first_acc m c t h, step_at, zero_at]) (fun t h j => by rw [next_acc m c t h, step_at])
      t h3 _, zero_add, ref_at]
  refine Fin.sum_mul_add_congr fun s k hl => ?_
  blk_point [iblk, V, idx t, idx ⟨_, Pipeline.run_point_lt_of_flush t h3 s⟩]

end Cert.Kernel13Ideal.Value

end
-- ==== Proof.Prod.WRows.lean ====
/- The gradient by 1024 rows of the input weights: the kernel and the reference. -/
module

public import proofs.«01_k».proof.Proof.Gen.Kernel14Ideal.Value
public import proofs.«01_k».proof.Proof.Gen.Reference14Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel14Ideal.Value

open Cert.Kernel14Ideal Cert.Kernel14Ideal.Gen

variable (m : (ℓ : Loc nD τ sig) → Buf (Elt Ideal) ℓ)

/-- The reference's result, of the call's arguments. -/
abbrev REF (X0 : FVec Ideal S4096x1024 .bf16) (X1 : FVec Ideal S4096x1024 .bf16) : FVec Ideal Cert.Reference14Ideal.S1024x1024 .f32 :=
  transpose Cert.Reference14Ideal.S1024x1024 [1, 0] (transpose Cert.Reference14Ideal.S1024x1024 [1, 0] (Host.dotGeneral Cert.Reference14Ideal.dot_S4096x1024_S4096x1024_S1024x1024_0_0_1_1_n_n none (extf .f32 X0 Cert.Reference14Ideal.Gen.bitsLt_bf16_f32) (extf .f32 X1 Cert.Reference14Ideal.Gen.bitsLt_bf16_f32)) Cert.Reference14Ideal.Gen.transposes_S1024x1024_S1024x1024_1_0) Cert.Reference14Ideal.Gen.transposes_S1024x1024_S1024x1024_1_0

/-- Which block of its array each window holds at each point. -/
theorem idx : ∀ t : Fin cfg0.N, win0_0.index t = ![t.val % 4, 0] ∧ win0_1.index t = ![t.val % 4, 0] ∧ win0_2.index t = ![0, 0] :=
  (by decide +kernel : ∀ t : Fin grid0.N, _)

theorem zero_at (j) : k0_pay1 (F := Ideal) j = 0 := by
  pointwise [k0_pay1]

/-- One step of the accumulation: what was held, and the product of the step's two blocks of rows. -/
theorem step_at (acc : Vec Ideal S1024x1024 .f32) (x : Vec Ideal S1024x1024 .bf16) (y : Vec Ideal S1024x1024 .bf16) (j : S1024x1024.Idx) :
    k0_pay2 acc x y j = acc j + ∑ k : Fin 1024, HMul.hMul (α := EReal) (β := EReal) (γ := EReal) (x (ix2 k (j 0))) (y (ix2 k (j 1))) := by
  pointwise [k0_pay2]

/-- The reference's value at an index: the sum over all rows. -/
theorem ref_at (X : FVec Ideal S4096x1024 .bf16) (Y : FVec Ideal S4096x1024 .bf16) (j : S1024x1024.Idx) :
    REF X Y j = ∑ l : Fin 4096, HMul.hMul (α := EReal) (β := EReal) (γ := EReal) (X (ix2 l (j 0))) (Y (ix2 l (j 1))) := by
  pointwise [REF]

/-- What a run's last point stores is what it has accumulated. -/
theorem last (c : Dev nD) (t : Fin cfg0.N) (h0 : ¬t.val % 4 = 0) (h1 : t.val % 4 = 3) : (outsAt0 m c t.val t.isLt).1 = (outsAt0 m c t.val t.isLt).2 := by
  rw [outsAt0_C m c t h0 h1]
  frame_out

theorem first_acc (c : Dev nD) (t : Fin cfg0.N) (h0 : t.val % 4 = 0) : (outsAt0 m c t.val t.isLt).2 = k0_pay2 (k0_pay1 (F := Ideal)) (iblk m c 0 t) (iblk m c 1 t) := by
  rw [outsAt0_A m c t h0 (by omega)]
  frame_out

theorem next_acc (c : Dev nD) (t : Fin cfg0.N) (h0 : ¬t.val % 4 = 0) : (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    frame_out
    exact congrArg (fun x => k0_pay2 x (iblk m c 0 t) (iblk m c 1 t)) ((Memref.isWhole_whole _).read_unread _)
  · rw [outsAt0_B m c t h0 h1]
    frame_out
    exact congrArg (fun x => k0_pay2 x (iblk m c 0 t) (iblk m c 1 t)) ((Memref.isWhole_whole _).read_unread _)

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, last m c t (by omega) h3,
    Pipeline.eq_sum_fin_of_reset_step_apply_of_flush (fun n h => (outsAt0 m c n h).2) 4 (fun _ => 0) _
      (fun t h j => by rw [first_acc m c t h, step_at, zero_at]) (fun t h j => by rw [next_acc m c t h, step_at])
      t h3 _, zero_add, ref_at]
  refine Fin.sum_mul_add_congr fun s k hl => ?_
  blk_point [iblk, V, idx t, idx ⟨_, Pipeline.run_point_lt_of_flush t h3 s⟩]

end Cert.Kernel14Ideal.Value

end
-- ==== Proof.Prod.WSquare.lean ====
/- The gradient by a square weight: the kernel and the reference. -/
module

public import proofs.«01_k».proof.Proof.Gen.Kernel15Ideal.Value
public import proofs.«01_k».proof.Proof.Gen.Reference15Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel15Ideal.Value

open Cert.Kernel15Ideal Cert.Kernel15Ideal.Gen

variable (m : (ℓ : Loc nD τ sig) → Buf (Elt Ideal) ℓ)

/-- The reference's result, of the call's arguments. -/
abbrev REF (X0 : FVec Ideal S4096x1024 .bf16) (X1 : FVec Ideal S4096x1024 .bf16) : FVec Ideal Cert.Reference15Ideal.S1024x1024 .bf16 :=
  truncf .bf16 (transpose Cert.Reference15Ideal.S1024x1024 [1, 0] (Host.dotGeneral Cert.Reference15Ideal.dot_S4096x1024_S4096x1024_S1024x1024_0_0_1_1_n_n none (extf .f32 X1 Cert.Reference15Ideal.Gen.bitsLt_bf16_f32) (extf .f32 X0 Cert.Reference15Ideal.Gen.bitsLt_bf16_f32)) Cert.Reference15Ideal.Gen.transposes_S1024x1024_S1024x1024_1_0) Cert.Reference15Ideal.Gen.bitsLt_bf16_f32

/-- Which block of its array each window holds at each point. -/
theorem idx : ∀ t : Fin cfg0.N, win0_0.index t = ![t.val % 4, 0] ∧ win0_1.index t = ![t.val % 4, 0] ∧ win0_2.index t = ![0, 0] :=
  (by decide +kernel : ∀ t : Fin grid0.N, _)

theorem zero_at (j) : k0_pay1 (F := Ideal) j = 0 := by
  pointwise [k0_pay1]

/-- One step of the accumulation: what was held, and the product of the step's two blocks of rows. -/
theorem step_at (acc : Vec Ideal S1024x1024 .f32) (x : Vec Ideal S1024x1024 .bf16) (y : Vec Ideal S1024x1024 .bf16) (j : S1024x1024.Idx) :
    k0_pay2 acc x y j = acc j + ∑ k : Fin 1024, HMul.hMul (α := EReal) (β := EReal) (γ := EReal) (x (ix2 k (j 0))) (y (ix2 k (j 1))) := by
  pointwise [k0_pay2]

theorem cut_at (x : Vec Ideal S1024x1024 .f32) (j : S1024x1024.Idx) : (k0_pay3 x j : EReal) = x j := by
  pointwise [k0_pay3]

/-- The reference's value at an index: the sum over all rows. -/
theorem ref_at (X : FVec Ideal S4096x1024 .bf16) (Y : FVec Ideal S4096x1024 .bf16) (j : S1024x1024.Idx) :
    REF X Y j = ∑ l : Fin 4096, HMul.hMul (α := EReal) (β := EReal) (γ := EReal) (X (ix2 l (j 0))) (Y (ix2 l (j 1))) := by
  pointwise [REF]
  exact Fin.sum_fin_congr fun l => mul_comm _ _

/-- What a run's last point stores is what it has accumulated. -/
theorem last (c : Dev nD) (t : Fin cfg0.N) (h0 : ¬t.val % 4 = 0) (h1 : t.val % 4 = 3) : (outsAt0 m c t.val t.isLt).1 = k0_pay3 (outsAt0 m c t.val t.isLt).2 := by
  rw [outsAt0_C m c t h0 h1]
  frame_out

theorem first_acc (c : Dev nD) (t : Fin cfg0.N) (h0 : t.val % 4 = 0) : (outsAt0 m c t.val t.isLt).2 = k0_pay2 (k0_pay1 (F := Ideal)) (iblk m c 0 t) (iblk m c 1 t) := by
  rw [outsAt0_A m c t h0 (by omega)]
  frame_out

theorem next_acc (c : Dev nD) (t : Fin cfg0.N) (h0 : ¬t.val % 4 = 0) : (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    frame_out
    exact congrArg (fun x => k0_pay2 x (iblk m c 0 t) (iblk m c 1 t)) ((Memref.isWhole_whole _).read_unread _)
  · rw [outsAt0_B m c t h0 h1]
    frame_out
    exact congrArg (fun x => k0_pay2 x (iblk m c 0 t) (iblk m c 1 t)) ((Memref.isWhole_whole _).read_unread _)

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, last m c t (by omega) h3, cut_at,
    Pipeline.eq_sum_fin_of_reset_step_apply_of_flush (fun n h => (outsAt0 m c n h).2) 4 (fun _ => 0) _
      (fun t h j => by rw [first_acc m c t h, step_at, zero_at]) (fun t h j => by rw [next_acc m c t h, step_at])
      t h3 _, zero_add, ref_at]
  refine Fin.sum_mul_add_congr fun s k hl => ?_
  blk_point [iblk, V, idx t, idx ⟨_, Pipeline.run_point_lt_of_flush t h3 s⟩]

end Cert.Kernel15Ideal.Value

end
-- ==== Proof.Prod.WBranch.lean ====
/- The gradient by the attention branch's weight: the kernel and the reference. -/
module

public import proofs.«01_k».proof.Proof.Gen.Kernel16Ideal.Value
public import proofs.«01_k».proof.Proof.Gen.Reference16Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel16Ideal.Value

open Cert.Kernel16Ideal Cert.Kernel16Ideal.Gen

variable (m : (ℓ : Loc nD τ sig) → Buf (Elt Ideal) ℓ)

/-- The reference's result, of the call's arguments. -/
abbrev REF (X0 : FVec Ideal S4096x1024 .f32) (X1 : FVec Ideal S4096x1024 .bf16) : FVec Ideal Cert.Reference16Ideal.S1024x1024 .bf16 :=
  truncf .bf16 (transpose Cert.Reference16Ideal.S1024x1024 [1, 0] (Host.dotGeneral Cert.Reference16Ideal.dot_S4096x1024_S4096x1024_S1024x1024_0_0_1_1_n_n none (extf .f32 X1 Cert.Reference16Ideal.Gen.bitsLt_bf16_f32) X0) Cert.Reference16Ideal.Gen.transposes_S1024x1024_S1024x1024_1_0) Cert.Reference16Ideal.Gen.bitsLt_bf16_f32

/-- Which block of its array each window holds at each point. -/
theorem idx : ∀ t : Fin cfg0.N, win0_0.index t = ![t.val % 4, 0] ∧ win0_1.index t = ![t.val % 4, 0] ∧ win0_2.index t = ![0, 0] :=
  (by decide +kernel : ∀ t : Fin grid0.N, _)

theorem zero_at (j) : k0_pay1 (F := Ideal) j = 0 := by
  pointwise [k0_pay1]

/-- One step of the accumulation: what was held, and the product of the step's two blocks of rows. -/
theorem step_at (acc : Vec Ideal S1024x1024 .f32) (x : Vec Ideal S1024x1024 .f32) (y : Vec Ideal S1024x1024 .bf16) (j : S1024x1024.Idx) :
    k0_pay2 acc x y j = acc j + ∑ k : Fin 1024, HMul.hMul (α := EReal) (β := EReal) (γ := EReal) (x (ix2 k (j 0))) (y (ix2 k (j 1))) := by
  pointwise [k0_pay2]

theorem cut_at (x : Vec Ideal S1024x1024 .f32) (j : S1024x1024.Idx) : (k0_pay3 x j : EReal) = x j := by
  pointwise [k0_pay3]

/-- The reference's value at an index: the sum over all rows. -/
theorem ref_at (X : FVec Ideal S4096x1024 .f32) (Y : FVec Ideal S4096x1024 .bf16) (j : S1024x1024.Idx) :
    REF X Y j = ∑ l : Fin 4096, HMul.hMul (α := EReal) (β := EReal) (γ := EReal) (X (ix2 l (j 0))) (Y (ix2 l (j 1))) := by
  pointwise [REF]
  exact Fin.sum_fin_congr fun l => mul_comm _ _

/-- What a run's last point stores is what it has accumulated. -/
theorem last (c : Dev nD) (t : Fin cfg0.N) (h0 : ¬t.val % 4 = 0) (h1 : t.val % 4 = 3) : (outsAt0 m c t.val t.isLt).1 = k0_pay3 (outsAt0 m c t.val t.isLt).2 := by
  rw [outsAt0_C m c t h0 h1]
  frame_out

theorem first_acc (c : Dev nD) (t : Fin cfg0.N) (h0 : t.val % 4 = 0) : (outsAt0 m c t.val t.isLt).2 = k0_pay2 (k0_pay1 (F := Ideal)) (iblk m c 0 t) (iblk m c 1 t) := by
  rw [outsAt0_A m c t h0 (by omega)]
  frame_out

theorem next_acc (c : Dev nD) (t : Fin cfg0.N) (h0 : ¬t.val % 4 = 0) : (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    frame_out
    exact congrArg (fun x => k0_pay2 x (iblk m c 0 t) (iblk m c 1 t)) ((Memref.isWhole_whole _).read_unread _)
  · rw [outsAt0_B m c t h0 h1]
    frame_out
    exact congrArg (fun x => k0_pay2 x (iblk m c 0 t) (iblk m c 1 t)) ((Memref.isWhole_whole _).read_unread _)

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, last m c t (by omega) h3, cut_at,
    Pipeline.eq_sum_fin_of_reset_step_apply_of_flush (fun n h => (outsAt0 m c n h).2) 4 (fun _ => 0) _
      (fun t h j => by rw [first_acc m c t h, step_at, zero_at]) (fun t h j => by rw [next_acc m c t h, step_at])
      t h3 _, zero_add, ref_at]
  refine Fin.sum_mul_add_congr fun s k hl => ?_
  blk_point [iblk, V, idx t, idx ⟨_, Pipeline.run_point_lt_of_flush t h3 s⟩]

end Cert.Kernel16Ideal.Value

end
-- ==== Proof.Prod.Branch.lean ====
/- The attention branch's product: the kernel and the reference. -/
module

public import proofs.«01_k».proof.Proof.Gen.Kernel17Ideal.Value
public import proofs.«01_k».proof.Proof.Gen.Reference17Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel17Ideal.Value

open Cert.Kernel17Ideal Cert.Kernel17Ideal.Gen

variable (m : (ℓ : Loc nD τ sig) → Buf (Elt Ideal) ℓ)

/-- Which block of its array each window holds at each point. -/
theorem idx : ∀ t : Fin cfg0.N, win0_0.index t = ![t.val, 0] ∧ win0_1.index t = ![0, 0] ∧ win0_2.index t = ![t.val, 0] :=
  (by decide +kernel : ∀ t : Fin grid0.N, _)

/-- The reference's result, of the call's arguments. -/
abbrev REF (X0 : FVec Ideal S4096x1024 .f32) (X1 : FVec Ideal S1024x1024 .bf16) : FVec Ideal Cert.Reference17Ideal.S4096x1024 .bf16 :=
  truncf .bf16 (Host.dotGeneral Cert.Reference17Ideal.dot_S4096x1024_S1024x1024_S4096x1024_1_0_0_1_n_n none X0 (extf .f32 X1 Cert.Reference17Ideal.Gen.bitsLt_bf16_f32)) Cert.Reference17Ideal.Gen.bitsLt_bf16_f32

/-- What one point stores at an index of its block is the reference's value at the index's place. -/
theorem point (c : Dev nD) (t : Fin cfg0.N) (y) : k0_pay1 (iblk m c 0 t) (iblk m c 1 t) y = REF (m ((c : Thread nD τ).loc main_arg0)) (m ((c : Thread nD τ).loc main_arg1)) (((cfg0.win 2).blk t).view.emb y) := by
  pointwise [k0_pay1, REF]
  blk_point [iblk, V, idx t]

/-- The array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel17Ideal.Value

end
-- ==== Proof.Prod.DBranch.lean ====
/- The gradient by the attention's output: the kernel and the reference. -/
module

public import proofs.«01_k».proof.Proof.Gen.Kernel18Ideal.Value
public import proofs.«01_k».proof.Proof.Gen.Reference18Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel18Ideal.Value

open Cert.Kernel18Ideal Cert.Kernel18Ideal.Gen

variable (m : (ℓ : Loc nD τ sig) → Buf (Elt Ideal) ℓ)

/-- Which block of its array each window holds at each point. -/
theorem idx : ∀ t : Fin cfg0.N, win0_0.index t = ![t.val, 0] ∧ win0_1.index t = ![0, 0] ∧ win0_2.index t = ![t.val, 0] :=
  (by decide +kernel : ∀ t : Fin grid0.N, _)

/-- The reference's result, of the call's arguments. -/
abbrev REF (X0 : FVec Ideal S4096x1024 .bf16) (X1 : FVec Ideal S1024x1024 .bf16) : FVec Ideal Cert.Reference18Ideal.S4096x1024 .bf16 :=
  truncf .bf16 (Host.dotGeneral Cert.Reference18Ideal.dot_S4096x1024_S1024x1024_S4096x1024_1_1_0_0_n_n none (extf .f32 X0 Cert.Reference18Ideal.Gen.bitsLt_bf16_f32) (extf .f32 X1 Cert.Reference18Ideal.Gen.bitsLt_bf16_f32)) Cert.Reference18Ideal.Gen.bitsLt_bf16_f32

/-- What one point stores at an index of its block is the reference's value at the index's place. -/
theorem point (c : Dev nD) (t : Fin cfg0.N) (y) : k0_pay1 (iblk m c 0 t) (iblk m c 1 t) y = REF (m ((c : Thread nD τ).loc main_arg0)) (m ((c : Thread nD τ).loc main_arg1)) (((cfg0.win 2).blk t).view.emb y) := by
  pointwise [k0_pay1, REF]
  blk_point [iblk, V, idx t]

/-- The array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel18Ideal.Value

end
-- ==== Proof.Prod.WUq.lean ====
/- The gradient by the weight that makes q from its compressed rows: the kernel and the reference. -/
module

public import proofs.«01_k».proof.Proof.Gen.Kernel19Ideal.Value
public import proofs.«01_k».proof.Proof.Gen.Reference19Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel19Ideal.Value

open Cert.Kernel19Ideal Cert.Kernel19Ideal.Gen

variable (m : (ℓ : Loc nD τ sig) → Buf (Elt Ideal) ℓ)

/-- The reference's result, of the call's arguments. -/
abbrev REF (X0 : FVec Ideal S4096x384 .bf16) (X1 : FVec Ideal S4096x2048 .bf16) : FVec Ideal Cert.Reference19Ideal.S384x2048 .bf16 :=
  truncf .bf16 (transpose Cert.Reference19Ideal.S384x2048 [1, 0] (Host.dotGeneral Cert.Reference19Ideal.dot_S4096x2048_S4096x384_S2048x384_0_0_1_1_n_n none (extf .f32 X1 Cert.Reference19Ideal.Gen.bitsLt_bf16_f32) (extf .f32 X0 Cert.Reference19Ideal.Gen.bitsLt_bf16_f32)) Cert.Reference19Ideal.Gen.transposes_S2048x384_S384x2048_1_0) Cert.Reference19Ideal.Gen.bitsLt_bf16_f32

/-- Which block of its array each window holds at each point. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

theorem zero_at (j) : k0_pay1 (F := Ideal) j = 0 := by
  pointwise [k0_pay1]

/-- One step of the accumulation: what was held, and the product of the step's two blocks of rows. -/
theorem step_at (acc : Vec Ideal S384x1024 .f32) (x : Vec Ideal S1024x384 .bf16) (y : Vec Ideal S1024x1024 .bf16) (j : S384x1024.Idx) :
    k0_pay2 acc x y j = acc j + ∑ k : Fin 1024, HMul.hMul (α := EReal) (β := EReal) (γ := EReal) (x (ix2 k (j 0))) (y (ix2 k (j 1))) := by
  pointwise [k0_pay2]

theorem cut_at (x : Vec Ideal S384x1024 .f32) (j : S384x1024.Idx) : (k0_pay3 x j : EReal) = x j := by
  pointwise [k0_pay3]

/-- The reference's value at an index: the sum over all rows. -/
theorem ref_at (X : FVec Ideal S4096x384 .bf16) (Y : FVec Ideal S4096x2048 .bf16) (j : S384x2048.Idx) :
    REF X Y j = ∑ l : Fin 4096, HMul.hMul (α := EReal) (β := EReal) (γ := EReal) (X (ix2 l (j 0))) (Y (ix2 l (j 1))) := by
  pointwise [REF]
  exact Fin.sum_fin_congr fun l => mul_comm _ _

/-- What a run's last point stores is what it has accumulated. -/
theorem last (c : Dev nD) (t : Fin cfg0.N) (h0 : ¬t.val % 4 = 0) (h1 : t.val % 4 = 3) : (outsAt0 m c t.val t.isLt).1 = k0_pay3 (outsAt0 m c t.val t.isLt).2 := by
  rw [outsAt0_C m c t h0 h1]
  frame_out

theorem first_acc (c : Dev nD) (t : Fin cfg0.N) (h0 : t.val % 4 = 0) : (outsAt0 m c t.val t.isLt).2 = k0_pay2 (k0_pay1 (F := Ideal)) (iblk m c 0 t) (iblk m c 1 t) := by
  rw [outsAt0_A m c t h0 (by omega)]
  frame_out

theorem next_acc (c : Dev nD) (t : Fin cfg0.N) (h0 : ¬t.val % 4 = 0) : (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    frame_out
    exact congrArg (fun x => k0_pay2 x (iblk m c 0 t) (iblk m c 1 t)) ((Memref.isWhole_whole _).read_unread _)
  · rw [outsAt0_B m c t h0 h1]
    frame_out
    exact congrArg (fun x => k0_pay2 x (iblk m c 0 t) (iblk m c 1 t)) ((Memref.isWhole_whole _).read_unread _)

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, last m c t (by omega) h3, cut_at,
    Pipeline.eq_sum_fin_of_reset_step_apply_of_flush (fun n h => (outsAt0 m c n h).2) 4 (fun _ => 0) _
      (fun t h j => by rw [first_acc m c t h, step_at, zero_at]) (fun t h j => by rw [next_acc m c t h, step_at])
      t h3 _, zero_add, ref_at]
  refine Fin.sum_mul_add_congr fun s k hl => ?_
  blk_point [iblk, V, idx t, idx ⟨_, Pipeline.run_point_lt_of_flush t h3 s⟩]

end Cert.Kernel19Ideal.Value

end
-- ==== Proof.Prod.WUkv.lean ====
/- The gradient by the weight that makes k, or v, from the compressed rows: the kernel and the reference. -/
module

public import proofs.«01_k».proof.Proof.Gen.Kernel20Ideal.Value
public import proofs.«01_k».proof.Proof.Gen.Reference20Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel20Ideal.Value

open Cert.Kernel20Ideal Cert.Kernel20Ideal.Gen

variable (m : (ℓ : Loc nD τ sig) → Buf (Elt Ideal) ℓ)

/-- The reference's result, of the call's arguments. -/
abbrev REF (X0 : FVec Ideal S4096x256 .bf16) (X1 : FVec Ideal S4096x1024 .bf16) : FVec Ideal Cert.Reference20Ideal.S256x1024 .bf16 :=
  truncf .bf16 (transpose Cert.Reference20Ideal.S256x1024 [1, 0] (Host.dotGeneral Cert.Reference20Ideal.dot_S4096x1024_S4096x256_S1024x256_0_0_1_1_n_n none (extf .f32 X1 Cert.Reference20Ideal.Gen.bitsLt_bf16_f32) (extf .f32 X0 Cert.Reference20Ideal.Gen.bitsLt_bf16_f32)) Cert.Reference20Ideal.Gen.transposes_S1024x256_S256x1024_1_0) Cert.Reference20Ideal.Gen.bitsLt_bf16_f32

/-- Which block of its array each window holds at each point. -/
theorem idx : ∀ t : Fin cfg0.N, win0_0.index t = ![t.val % 4, 0] ∧ win0_1.index t = ![t.val % 4, 0] ∧ win0_2.index t = ![0, 0] :=
  (by decide +kernel : ∀ t : Fin grid0.N, _)

theorem zero_at (j) : k0_pay1 (F := Ideal) j = 0 := by
  pointwise [k0_pay1]

/-- One step of the accumulation: what was held, and the product of the step's two blocks of rows. -/
theorem step_at (acc : Vec Ideal S256x1024 .f32) (x : Vec Ideal S1024x256 .bf16) (y : Vec Ideal S1024x1024 .bf16) (j : S256x1024.Idx) :
    k0_pay2 acc x y j = acc j + ∑ k : Fin 1024, HMul.hMul (α := EReal) (β := EReal) (γ := EReal) (x (ix2 k (j 0))) (y (ix2 k (j 1))) := by
  pointwise [k0_pay2]

theorem cut_at (x : Vec Ideal S256x1024 .f32) (j : S256x1024.Idx) : (k0_pay3 x j : EReal) = x j := by
  pointwise [k0_pay3]

/-- The reference's value at an index: the sum over all rows. -/
theorem ref_at (X : FVec Ideal S4096x256 .bf16) (Y : FVec Ideal S4096x1024 .bf16) (j : S256x1024.Idx) :
    REF X Y j = ∑ l : Fin 4096, HMul.hMul (α := EReal) (β := EReal) (γ := EReal) (X (ix2 l (j 0))) (Y (ix2 l (j 1))) := by
  pointwise [REF]
  exact Fin.sum_fin_congr fun l => mul_comm _ _

/-- What a run's last point stores is what it has accumulated. -/
theorem last (c : Dev nD) (t : Fin cfg0.N) (h0 : ¬t.val % 4 = 0) (h1 : t.val % 4 = 3) : (outsAt0 m c t.val t.isLt).1 = k0_pay3 (outsAt0 m c t.val t.isLt).2 := by
  rw [outsAt0_C m c t h0 h1]
  frame_out

theorem first_acc (c : Dev nD) (t : Fin cfg0.N) (h0 : t.val % 4 = 0) : (outsAt0 m c t.val t.isLt).2 = k0_pay2 (k0_pay1 (F := Ideal)) (iblk m c 0 t) (iblk m c 1 t) := by
  rw [outsAt0_A m c t h0 (by omega)]
  frame_out

theorem next_acc (c : Dev nD) (t : Fin cfg0.N) (h0 : ¬t.val % 4 = 0) : (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    frame_out
    exact congrArg (fun x => k0_pay2 x (iblk m c 0 t) (iblk m c 1 t)) ((Memref.isWhole_whole _).read_unread _)
  · rw [outsAt0_B m c t h0 h1]
    frame_out
    exact congrArg (fun x => k0_pay2 x (iblk m c 0 t) (iblk m c 1 t)) ((Memref.isWhole_whole _).read_unread _)

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, last m c t (by omega) h3, cut_at,
    Pipeline.eq_sum_fin_of_reset_step_apply_of_flush (fun n h => (outsAt0 m c n h).2) 4 (fun _ => 0) _
      (fun t h j => by rw [first_acc m c t h, step_at, zero_at]) (fun t h j => by rw [next_acc m c t h, step_at])
      t h3 _, zero_add, ref_at]
  refine Fin.sum_mul_add_congr fun s k hl => ?_
  blk_point [iblk, V, idx t, idx ⟨_, Pipeline.run_point_lt_of_flush t h3 s⟩]

end Cert.Kernel20Ideal.Value

end
-- ==== Proof.Prod.WPle.lean ====
/- The gradient by the per-layer weight: the kernel and the reference. -/
module

public import proofs.«01_k».proof.Proof.Gen.Kernel21Ideal.Value
public import proofs.«01_k».proof.Proof.Gen.Reference21Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel21Ideal.Value

open Cert.Kernel21Ideal Cert.Kernel21Ideal.Gen

variable (m : (ℓ : Loc nD τ sig) → Buf (Elt Ideal) ℓ)

/-- The reference's result, of the call's arguments. -/
abbrev REF (X0 : FVec Ideal S4096x1024 .bf16) (X1 : FVec Ideal S4096x256 .bf16) : FVec Ideal Cert.Reference21Ideal.S1024x256 .bf16 :=
  truncf .bf16 (transpose Cert.Reference21Ideal.S1024x256 [1, 0] (transpose Cert.Reference21Ideal.S256x1024 [1, 0] (Host.dotGeneral Cert.Reference21Ideal.dot_S4096x1024_S4096x256_S1024x256_0_0_1_1_n_n none (extf .f32 X0 Cert.Reference21Ideal.Gen.bitsLt_bf16_f32) (extf .f32 X1 Cert.Reference21Ideal.Gen.bitsLt_bf16_f32)) Cert.Reference21Ideal.Gen.transposes_S1024x256_S256x1024_1_0) Cert.Reference21Ideal.Gen.transposes_S256x1024_S1024x256_1_0) Cert.Reference21Ideal.Gen.bitsLt_bf16_f32

/-- Which block of its array each window holds at each point. -/
theorem idx : ∀ t : Fin cfg0.N, win0_0.index t = ![t.val % 4, 0] ∧ win0_1.index t = ![t.val % 4, 0] ∧ win0_2.index t = ![0, 0] :=
  (by decide +kernel : ∀ t : Fin grid0.N, _)

theorem zero_at (j) : k0_pay1 (F := Ideal) j = 0 := by
  pointwise [k0_pay1]

/-- One step of the accumulation: what was held, and the product of the step's two blocks of rows. -/
theorem step_at (acc : Vec Ideal S1024x256 .f32) (x : Vec Ideal S1024x1024 .bf16) (y : Vec Ideal S1024x256 .bf16) (j : S1024x256.Idx) :
    k0_pay2 acc x y j = acc j + ∑ k : Fin 1024, HMul.hMul (α := EReal) (β := EReal) (γ := EReal) (x (ix2 k (j 0))) (y (ix2 k (j 1))) := by
  pointwise [k0_pay2]

theorem cut_at (x : Vec Ideal S1024x256 .f32) (j : S1024x256.Idx) : (k0_pay3 x j : EReal) = x j := by
  pointwise [k0_pay3]

/-- The reference's value at an index: the sum over all rows. -/
theorem ref_at (X : FVec Ideal S4096x1024 .bf16) (Y : FVec Ideal S4096x256 .bf16) (j : S1024x256.Idx) :
    REF X Y j = ∑ l : Fin 4096, HMul.hMul (α := EReal) (β := EReal) (γ := EReal) (X (ix2 l (j 0))) (Y (ix2 l (j 1))) := by
  pointwise [REF]

/-- What a run's last point stores is what it has accumulated. -/
theorem last (c : Dev nD) (t : Fin cfg0.N) (h0 : ¬t.val % 4 = 0) (h1 : t.val % 4 = 3) : (outsAt0 m c t.val t.isLt).1 = k0_pay3 (outsAt0 m c t.val t.isLt).2 := by
  rw [outsAt0_C m c t h0 h1]
  frame_out

theorem first_acc (c : Dev nD) (t : Fin cfg0.N) (h0 : t.val % 4 = 0) : (outsAt0 m c t.val t.isLt).2 = k0_pay2 (k0_pay1 (F := Ideal)) (iblk m c 0 t) (iblk m c 1 t) := by
  rw [outsAt0_A m c t h0 (by omega)]
  frame_out

theorem next_acc (c : Dev nD) (t : Fin cfg0.N) (h0 : ¬t.val % 4 = 0) : (outsAt0 m c t.val t.isLt).2 = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    frame_out
    exact congrArg (fun x => k0_pay2 x (iblk m c 0 t) (iblk m c 1 t)) ((Memref.isWhole_whole _).read_unread _)
  · rw [outsAt0_B m c t h0 h1]
    frame_out
    exact congrArg (fun x => k0_pay2 x (iblk m c 0 t) (iblk m c 1 t)) ((Memref.isWhole_whole _).read_unread _)

/-- The result array after the run is the reference's. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, last m c t (by omega) h3, cut_at,
    Pipeline.eq_sum_fin_of_reset_step_apply_of_flush (fun n h => (outsAt0 m c n h).2) 4 (fun _ => 0) _
      (fun t h j => by rw [first_acc m c t h, step_at, zero_at]) (fun t h j => by rw [next_acc m c t h, step_at])
      t h3 _, zero_add, ref_at]
  refine Fin.sum_mul_add_congr fun s k hl => ?_
  blk_point [iblk, V, idx t, idx ⟨_, Pipeline.run_point_lt_of_flush t h3 s⟩]

end Cert.Kernel21Ideal.Value

end
-- ==== Proof.Prod.Claims.lean ====
/- The other products of the step: each call's value claim, and its reference's run. -/
module

public import proofs.«01_k».proof.Defs
public import proofs.«01_k».proof.Proof.Prod.Input
public import proofs.«01_k».proof.Proof.Gen.Reference10Ideal.Run
public import proofs.«01_k».proof.Proof.Prod.DInput
public import proofs.«01_k».proof.Proof.Gen.Reference11Ideal.Run
public import proofs.«01_k».proof.Proof.Prod.WQkv
public import proofs.«01_k».proof.Proof.Gen.Reference12Ideal.Run
public import proofs.«01_k».proof.Proof.Prod.WGates
public import proofs.«01_k».proof.Proof.Gen.Reference13Ideal.Run
public import proofs.«01_k».proof.Proof.Prod.WRows
public import proofs.«01_k».proof.Proof.Gen.Reference14Ideal.Run
public import proofs.«01_k».proof.Proof.Prod.WSquare
public import proofs.«01_k».proof.Proof.Gen.Reference15Ideal.Run
public import proofs.«01_k».proof.Proof.Prod.WBranch
public import proofs.«01_k».proof.Proof.Gen.Reference16Ideal.Run
public import proofs.«01_k».proof.Proof.Prod.Branch
public import proofs.«01_k».proof.Proof.Gen.Reference17Ideal.Run
public import proofs.«01_k».proof.Proof.Prod.DBranch
public import proofs.«01_k».proof.Proof.Gen.Reference18Ideal.Run
public import proofs.«01_k».proof.Proof.Prod.WUq
public import proofs.«01_k».proof.Proof.Gen.Reference19Ideal.Run
public import proofs.«01_k».proof.Proof.Prod.WUkv
public import proofs.«01_k».proof.Proof.Gen.Reference20Ideal.Run
public import proofs.«01_k».proof.Proof.Prod.WPle
public import proofs.«01_k».proof.Proof.Gen.Reference21Ideal.Run
public import Idealize.ShloMosaic.Adequacy
public import Idealize.ShloMosaic.Init

@[expose] public section

set_option maxRecDepth 16384

noncomputable section

namespace Cert.Proof

open Idealize.ShloMosaic Idealize.SL.Sem

/-- The products with the input weights: the kernel and the reference compute the same. -/
theorem algebraic10 : algebraic_Kernel10Ideal_Reference10Ideal := by
  intro m g m' g' hp hm
  refine ⟨fun c => (Cert.Kernel10Ideal.Gen.dats m 0 c).arrAt 4 Cert.Kernel10Ideal.cfg0.N, fun c => (Cert.Kernel10Ideal.Gen.dats m 0 c).arrAt 5 Cert.Kernel10Ideal.cfg0.N, fun c => (Cert.Kernel10Ideal.Gen.dats m 0 c).arrAt 6 Cert.Kernel10Ideal.cfg0.N, fun c => (Cert.Kernel10Ideal.Gen.dats m 0 c).arrAt 7 Cert.Kernel10Ideal.cfg0.N, Cert.Kernel10Ideal.Value.run_blocks m g, ?_⟩
  refine (θ_run Cert.Reference10Ideal.defs _ _).mono (fun r h c => ?_) (Cert.Reference10Ideal.Value.run m' g')
  exact ⟨(h c).1.trans (by rw [(hm c).1, (hm c).2.1]; exact (Cert.Kernel10Ideal.Value.final4 m c).symm),
    (h c).2.1.trans (by rw [(hm c).1, (hm c).2.2.1]; exact (Cert.Kernel10Ideal.Value.final5 m c).symm),
    (h c).2.2.1.trans (by rw [(hm c).1, (hm c).2.2.2]; exact (Cert.Kernel10Ideal.Value.final6 m c).symm),
    (h c).2.2.2.1.trans (by rw [(hm c).1]; exact (Cert.Kernel10Ideal.Value.final7 m c).symm), (h c).2.2.2.2⟩

theorem reference10_frame : quiescent_Reference10Ideal := fun m ρ _ =>
  (θ_run Cert.Reference10Ideal.defs _ _).mono (fun r h => ⟨fun c => (h c).2.2.2.2, Idealize.ShloMosaic.sem_eq_zero_of_no_sems (by decide) r.2⟩) (Cert.Reference10Ideal.Value.run m ρ)

/-- The gradient by the step's rows: the kernel and the reference compute the same. -/
theorem algebraic11 : algebraic_Kernel11Ideal_Reference11Ideal := by
  intro m g m' g' hp hm
  refine ⟨fun c => (Cert.Kernel11Ideal.Gen.dats m 0 c).arrAt 8 Cert.Kernel11Ideal.cfg0.N, Cert.Kernel11Ideal.Value.run_blocks m g, ?_⟩
  refine (θ_run Cert.Reference11Ideal.defs _ _).mono (fun r h c => ?_) (Cert.Reference11Ideal.Value.run m' g')
  exact ⟨(h c).1.trans (by rw [(hm c).1, (hm c).2.1, (hm c).2.2.1, (hm c).2.2.2.1, (hm c).2.2.2.2.1, (hm c).2.2.2.2.2.1, (hm c).2.2.2.2.2.2.1, (hm c).2.2.2.2.2.2.2]; exact (Cert.Kernel11Ideal.Value.final m c).symm), (h c).2⟩

theorem reference11_frame : quiescent_Reference11Ideal := fun m ρ _ =>
  (θ_run Cert.Reference11Ideal.defs _ _).mono (fun r h => ⟨fun c => (h c).2, Idealize.ShloMosaic.sem_eq_zero_of_no_sems (by decide) r.2⟩) (Cert.Reference11Ideal.Value.run m ρ)

/-- The gradient by the rows that make q, k and v: the kernel and the reference compute the same. -/
theorem algebraic12 : algebraic_Kernel12Ideal_Reference12Ideal := by
  intro m g m' g' hp hm
  refine ⟨fun c => (Cert.Kernel12Ideal.Gen.dats m 0 c).arrAt 2 Cert.Kernel12Ideal.cfg0.N, Cert.Kernel12Ideal.Value.run_blocks m g, ?_⟩
  refine (θ_run Cert.Reference12Ideal.defs _ _).mono (fun r h c => ?_) (Cert.Reference12Ideal.Value.run m' g')
  exact ⟨(h c).1.trans (by rw [(hm c).1, (hm c).2]; exact (Cert.Kernel12Ideal.Value.final m c).symm), (h c).2⟩

theorem reference12_frame : quiescent_Reference12Ideal := fun m ρ _ =>
  (θ_run Cert.Reference12Ideal.defs _ _).mono (fun r h => ⟨fun c => (h c).2, Idealize.ShloMosaic.sem_eq_zero_of_no_sems (by decide) r.2⟩) (Cert.Reference12Ideal.Value.run m ρ)

/-- The gradient by the rows that make the gates: the kernel and the reference compute the same. -/
theorem algebraic13 : algebraic_Kernel13Ideal_Reference13Ideal := by
  intro m g m' g' hp hm
  refine ⟨fun c => (Cert.Kernel13Ideal.Gen.dats m 0 c).arrAt 2 Cert.Kernel13Ideal.cfg0.N, Cert.Kernel13Ideal.Value.run_blocks m g, ?_⟩
  refine (θ_run Cert.Reference13Ideal.defs _ _).mono (fun r h c => ?_) (Cert.Reference13Ideal.Value.run m' g')
  exact ⟨(h c).1.trans (by rw [(hm c).1, (hm c).2]; exact (Cert.Kernel13Ideal.Value.final m c).symm), (h c).2⟩

theorem reference13_frame : quiescent_Reference13Ideal := fun m ρ _ =>
  (θ_run Cert.Reference13Ideal.defs _ _).mono (fun r h => ⟨fun c => (h c).2, Idealize.ShloMosaic.sem_eq_zero_of_no_sems (by decide) r.2⟩) (Cert.Reference13Ideal.Value.run m ρ)

/-- The gradient by 1024 rows of the input weights: the kernel and the reference compute the same. -/
theorem algebraic14 : algebraic_Kernel14Ideal_Reference14Ideal := by
  intro m g m' g' hp hm
  refine ⟨fun c => (Cert.Kernel14Ideal.Gen.dats m 0 c).arrAt 2 Cert.Kernel14Ideal.cfg0.N, Cert.Kernel14Ideal.Value.run_blocks m g, ?_⟩
  refine (θ_run Cert.Reference14Ideal.defs _ _).mono (fun r h c => ?_) (Cert.Reference14Ideal.Value.run m' g')
  exact ⟨(h c).1.trans (by rw [(hm c).1, (hm c).2]; exact (Cert.Kernel14Ideal.Value.final m c).symm), (h c).2⟩

theorem reference14_frame : quiescent_Reference14Ideal := fun m ρ _ =>
  (θ_run Cert.Reference14Ideal.defs _ _).mono (fun r h => ⟨fun c => (h c).2, Idealize.ShloMosaic.sem_eq_zero_of_no_sems (by decide) r.2⟩) (Cert.Reference14Ideal.Value.run m ρ)

/-- The gradient by a square weight: the kernel and the reference compute the same. -/
theorem algebraic15 : algebraic_Kernel15Ideal_Reference15Ideal := by
  intro m g m' g' hp hm
  refine ⟨fun c => (Cert.Kernel15Ideal.Gen.dats m 0 c).arrAt 2 Cert.Kernel15Ideal.cfg0.N, Cert.Kernel15Ideal.Value.run_blocks m g, ?_⟩
  refine (θ_run Cert.Reference15Ideal.defs _ _).mono (fun r h c => ?_) (Cert.Reference15Ideal.Value.run m' g')
  exact ⟨(h c).1.trans (by rw [(hm c).1, (hm c).2]; exact (Cert.Kernel15Ideal.Value.final m c).symm), (h c).2⟩

theorem reference15_frame : quiescent_Reference15Ideal := fun m ρ _ =>
  (θ_run Cert.Reference15Ideal.defs _ _).mono (fun r h => ⟨fun c => (h c).2, Idealize.ShloMosaic.sem_eq_zero_of_no_sems (by decide) r.2⟩) (Cert.Reference15Ideal.Value.run m ρ)

/-- The gradient by the attention branch's weight: the kernel and the reference compute the same. -/
theorem algebraic16 : algebraic_Kernel16Ideal_Reference16Ideal := by
  intro m g m' g' hp hm
  refine ⟨fun c => (Cert.Kernel16Ideal.Gen.dats m 0 c).arrAt 2 Cert.Kernel16Ideal.cfg0.N, Cert.Kernel16Ideal.Value.run_blocks m g, ?_⟩
  refine (θ_run Cert.Reference16Ideal.defs _ _).mono (fun r h c => ?_) (Cert.Reference16Ideal.Value.run m' g')
  exact ⟨(h c).1.trans (by rw [(hm c).1, (hm c).2]; exact (Cert.Kernel16Ideal.Value.final m c).symm), (h c).2⟩

theorem reference16_frame : quiescent_Reference16Ideal := fun m ρ _ =>
  (θ_run Cert.Reference16Ideal.defs _ _).mono (fun r h => ⟨fun c => (h c).2, Idealize.ShloMosaic.sem_eq_zero_of_no_sems (by decide) r.2⟩) (Cert.Reference16Ideal.Value.run m ρ)

/-- The attention branch's product: the kernel and the reference compute the same. -/
theorem algebraic17 : algebraic_Kernel17Ideal_Reference17Ideal := by
  intro m g m' g' hp hm
  refine ⟨fun c => (Cert.Kernel17Ideal.Gen.dats m 0 c).arrAt 2 Cert.Kernel17Ideal.cfg0.N, Cert.Kernel17Ideal.Value.run_blocks m g, ?_⟩
  refine (θ_run Cert.Reference17Ideal.defs _ _).mono (fun r h c => ?_) (Cert.Reference17Ideal.Value.run m' g')
  exact ⟨(h c).1.trans (by rw [(hm c).1, (hm c).2]; exact (Cert.Kernel17Ideal.Value.final m c).symm), (h c).2⟩

theorem reference17_frame : quiescent_Reference17Ideal := fun m ρ _ =>
  (θ_run Cert.Reference17Ideal.defs _ _).mono (fun r h => ⟨fun c => (h c).2, Idealize.ShloMosaic.sem_eq_zero_of_no_sems (by decide) r.2⟩) (Cert.Reference17Ideal.Value.run m ρ)

/-- The gradient by the attention's output: the kernel and the reference compute the same. -/
theorem algebraic18 : algebraic_Kernel18Ideal_Reference18Ideal := by
  intro m g m' g' hp hm
  refine ⟨fun c => (Cert.Kernel18Ideal.Gen.dats m 0 c).arrAt 2 Cert.Kernel18Ideal.cfg0.N, Cert.Kernel18Ideal.Value.run_blocks m g, ?_⟩
  refine (θ_run Cert.Reference18Ideal.defs _ _).mono (fun r h c => ?_) (Cert.Reference18Ideal.Value.run m' g')
  exact ⟨(h c).1.trans (by rw [(hm c).1, (hm c).2]; exact (Cert.Kernel18Ideal.Value.final m c).symm), (h c).2⟩

theorem reference18_frame : quiescent_Reference18Ideal := fun m ρ _ =>
  (θ_run Cert.Reference18Ideal.defs _ _).mono (fun r h => ⟨fun c => (h c).2, Idealize.ShloMosaic.sem_eq_zero_of_no_sems (by decide) r.2⟩) (Cert.Reference18Ideal.Value.run m ρ)

/-- The gradient by the weight of q: the kernel and the reference compute the same. -/
theorem algebraic19 : algebraic_Kernel19Ideal_Reference19Ideal := by
  intro m g m' g' hp hm
  refine ⟨fun c => (Cert.Kernel19Ideal.Gen.dats m 0 c).arrAt 2 Cert.Kernel19Ideal.cfg0.N, Cert.Kernel19Ideal.Value.run_blocks m g, ?_⟩
  refine (θ_run Cert.Reference19Ideal.defs _ _).mono (fun r h c => ?_) (Cert.Reference19Ideal.Value.run m' g')
  exact ⟨(h c).1.trans (by rw [(hm c).1, (hm c).2]; exact (Cert.Kernel19Ideal.Value.final m c).symm), (h c).2⟩

theorem reference19_frame : quiescent_Reference19Ideal := fun m ρ _ =>
  (θ_run Cert.Reference19Ideal.defs _ _).mono (fun r h => ⟨fun c => (h c).2, Idealize.ShloMosaic.sem_eq_zero_of_no_sems (by decide) r.2⟩) (Cert.Reference19Ideal.Value.run m ρ)

/-- The gradient by the weight of k or v: the kernel and the reference compute the same. -/
theorem algebraic20 : algebraic_Kernel20Ideal_Reference20Ideal := by
  intro m g m' g' hp hm
  refine ⟨fun c => (Cert.Kernel20Ideal.Gen.dats m 0 c).arrAt 2 Cert.Kernel20Ideal.cfg0.N, Cert.Kernel20Ideal.Value.run_blocks m g, ?_⟩
  refine (θ_run Cert.Reference20Ideal.defs _ _).mono (fun r h c => ?_) (Cert.Reference20Ideal.Value.run m' g')
  exact ⟨(h c).1.trans (by rw [(hm c).1, (hm c).2]; exact (Cert.Kernel20Ideal.Value.final m c).symm), (h c).2⟩

theorem reference20_frame : quiescent_Reference20Ideal := fun m ρ _ =>
  (θ_run Cert.Reference20Ideal.defs _ _).mono (fun r h => ⟨fun c => (h c).2, Idealize.ShloMosaic.sem_eq_zero_of_no_sems (by decide) r.2⟩) (Cert.Reference20Ideal.Value.run m ρ)

/-- The gradient by the per-layer weight: the kernel and the reference compute the same. -/
theorem algebraic21 : algebraic_Kernel21Ideal_Reference21Ideal := by
  intro m g m' g' hp hm
  refine ⟨fun c => (Cert.Kernel21Ideal.Gen.dats m 0 c).arrAt 2 Cert.Kernel21Ideal.cfg0.N, Cert.Kernel21Ideal.Value.run_blocks m g, ?_⟩
  refine (θ_run Cert.Reference21Ideal.defs _ _).mono (fun r h c => ?_) (Cert.Reference21Ideal.Value.run m' g')
  exact ⟨(h c).1.trans (by rw [(hm c).1, (hm c).2]; exact (Cert.Kernel21Ideal.Value.final m c).symm), (h c).2⟩

theorem reference21_frame : quiescent_Reference21Ideal := fun m ρ _ =>
  (θ_run Cert.Reference21Ideal.defs _ _).mono (fun r h => ⟨fun c => (h c).2, Idealize.ShloMosaic.sem_eq_zero_of_no_sems (by decide) r.2⟩) (Cert.Reference21Ideal.Value.run m ρ)

end Cert.Proof

end
-- ==== Proof.Norm.Mix.lean ====
/- The mixed branches, their product with the output weights, and the normalised rows: the kernel and the reference. -/
module

public import proofs.«01_k».proof.Proof.Gen.Kernel22Ideal.Value
public import proofs.«01_k».proof.Proof.Gen.Reference22Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel22Ideal.Value

open Cert.Kernel22Ideal Cert.Kernel22Ideal.Gen

variable (m : (ℓ : Loc nD τ sig) → Buf (Elt Ideal) ℓ)

/-- Which block of its array each window holds at each point. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![t.val, 0] ∧ win0_8.index t = ![t.val, 0] ∧ win0_9.index t = ![t.val, 0] ∧ win0_10.index t = ![t.val, 0] :=
  (by decide +kernel : ∀ t : Fin grid0.N, _)

/-- One value of the mixed branches: each branch's value by the sigmoid of its gate. -/
def mixed (g h a b : EReal) : EReal := Ideal.div 1 (1 + Ideal.exp (-g)) * a + Ideal.div 1 (1 + Ideal.exp (-h)) * b

/-- The mean of a row of 1024 values. -/
def mean (z : Fin 1024 → EReal) : EReal := Ideal.div (∑ k, z k) (Scalar.ofBits (F := Ideal) .f32 0x44800000#32 : Ideal .f32)

/-- One value of the normalised row: its column's, scaled and shifted. -/
def normed (z : Fin 1024 → EReal) (g b : EReal) (j : Fin 1024) : EReal :=
  (z j - mean z) * Ideal.rsqrt (mean (fun k => (z k - mean z) * (z k - mean z)) + (Scalar.ofBits (F := Ideal) .f32 0x3727C5AC#32 : Ideal .f32)) * g + b

/-- The reference's mixed branches before they are rounded, of the call's arguments. -/
abbrev MIX (X0 X1 : FVec Ideal S4096x1024 .bf16) (X2 : FVec Ideal S4096x2048 .bf16) : FVec Ideal Cert.Reference22Ideal.S4096x1024 .f32 :=
  (addf (mulf (Host.divf (broadcastInDim Cert.Reference22Ideal.S4096x1024 ![] Cert.Reference22Ideal.Gen.bcast_S_S4096x1024 (constant Cert.Reference22Ideal.S_ .f32 0x3F800000#32)) (addf (broadcastInDim Cert.Reference22Ideal.S4096x1024 ![] Cert.Reference22Ideal.Gen.bcast_S_S4096x1024 (constant Cert.Reference22Ideal.S_ .f32 0x3F800000#32)) (Host.exp (Host.negf (extractStridedSlice Cert.Reference22Ideal.S4096x1024 ![0, 0] (extf .f32 X2 Cert.Reference22Ideal.Gen.bitsLt_bf16_f32) Cert.Reference22Ideal.Gen.slices_S4096x2048_S4096x1024_0_0))))) (extf .f32 X0 Cert.Reference22Ideal.Gen.bitsLt_bf16_f32)) (mulf (Host.divf (broadcastInDim Cert.Reference22Ideal.S4096x1024 ![] Cert.Reference22Ideal.Gen.bcast_S_S4096x1024 (constant Cert.Reference22Ideal.S_ .f32 0x3F800000#32)) (addf (broadcastInDim Cert.Reference22Ideal.S4096x1024 ![] Cert.Reference22Ideal.Gen.bcast_S_S4096x1024 (constant Cert.Reference22Ideal.S_ .f32 0x3F800000#32)) (Host.exp (Host.negf (extractStridedSlice Cert.Reference22Ideal.S4096x1024 ![0, 1024] (extf .f32 X2 Cert.Reference22Ideal.Gen.bitsLt_bf16_f32) Cert.Reference22Ideal.Gen.slices_S4096x2048_S4096x1024_0_1024))))) (extf .f32 X1 Cert.Reference22Ideal.Gen.bitsLt_bf16_f32)))

/-- The reference's mixed branches, of the call's arguments. -/
abbrev REF7 (X0 X1 : FVec Ideal S4096x1024 .bf16) (X2 : FVec Ideal S4096x2048 .bf16) : FVec Ideal Cert.Reference22Ideal.S4096x1024 .bf16 :=
  truncf .bf16 (MIX X0 X1 X2) Cert.Reference22Ideal.Gen.bitsLt_bf16_f32

/-- The reference's product with the output weights, of the call's arguments. -/
abbrev REF8 (X0 X1 : FVec Ideal S4096x1024 .bf16) (X2 : FVec Ideal S4096x2048 .bf16) (X4 : FVec Ideal S1024x1024 .bf16) : FVec Ideal Cert.Reference22Ideal.S4096x1024 .f32 :=
  Host.dotGeneral Cert.Reference22Ideal.dot_S4096x1024_S1024x1024_S4096x1024_1_0_0_1_n_n none (MIX X0 X1 X2) (extf .f32 X4 Cert.Reference22Ideal.Gen.bitsLt_bf16_f32)

/-- The reference's normalisation of the rows of an array. -/
abbrev NORM (Z : FVec Ideal Cert.Reference22Ideal.S4096x1024 .f32) (X5 X6 : FVec Ideal S1x1024 .f32) : FVec Ideal Cert.Reference22Ideal.S4096x1024 .f32 :=
  addf (mulf (mulf (subf Z (broadcastInDim Cert.Reference22Ideal.S4096x1024 ![0, 1] Cert.Reference22Ideal.Gen.bcast_S4096x1_S4096x1024_0_1 (Host.divf (broadcastInDim Cert.Reference22Ideal.S4096x1 ![0] Cert.Reference22Ideal.Gen.bcast_S4096_S4096x1_0 (Host.reduceAdd Z (constant Cert.Reference22Ideal.S_ .f32 0x00000000#32) Cert.Reference22Ideal.Gen.reducesTo_S4096x1024_S4096_d1 Cert.Reference22Ideal.Gen.h_S_)) (broadcastInDim Cert.Reference22Ideal.S4096x1 ![] Cert.Reference22Ideal.Gen.bcast_S_S4096x1 (constant Cert.Reference22Ideal.S_ .f32 0x44800000#32))))) (broadcastInDim Cert.Reference22Ideal.S4096x1024 ![0, 1] Cert.Reference22Ideal.Gen.bcast_S4096x1_S4096x1024_0_1 (Host.rsqrt (addf (Host.divf (broadcastInDim Cert.Reference22Ideal.S4096x1 ![0] Cert.Reference22Ideal.Gen.bcast_S4096_S4096x1_0 (Host.reduceAdd (mulf (subf Z (broadcastInDim Cert.Reference22Ideal.S4096x1024 ![0, 1] Cert.Reference22Ideal.Gen.bcast_S4096x1_S4096x1024_0_1 (Host.divf (broadcastInDim Cert.Reference22Ideal.S4096x1 ![0] Cert.Reference22Ideal.Gen.bcast_S4096_S4096x1_0 (Host.reduceAdd Z (constant Cert.Reference22Ideal.S_ .f32 0x00000000#32) Cert.Reference22Ideal.Gen.reducesTo_S4096x1024_S4096_d1 Cert.Reference22Ideal.Gen.h_S_)) (broadcastInDim Cert.Reference22Ideal.S4096x1 ![] Cert.Reference22Ideal.Gen.bcast_S_S4096x1 (constant Cert.Reference22Ideal.S_ .f32 0x44800000#32))))) (subf Z (broadcastInDim Cert.Reference22Ideal.S4096x1024 ![0, 1] Cert.Reference22Ideal.Gen.bcast_S4096x1_S4096x1024_0_1 (Host.divf (broadcastInDim Cert.Reference22Ideal.S4096x1 ![0] Cert.Reference22Ideal.Gen.bcast_S4096_S4096x1_0 (Host.reduceAdd Z (constant Cert.Reference22Ideal.S_ .f32 0x00000000#32) Cert.Reference22Ideal.Gen.reducesTo_S4096x1024_S4096_d1 Cert.Reference22Ideal.Gen.h_S_)) (broadcastInDim Cert.Reference22Ideal.S4096x1 ![] Cert.Reference22Ideal.Gen.bcast_S_S4096x1 (constant Cert.Reference22Ideal.S_ .f32 0x44800000#32)))))) (constant Cert.Reference22Ideal.S_ .f32 0x00000000#32) Cert.Reference22Ideal.Gen.reducesTo_S4096x1024_S4096_d1 Cert.Reference22Ideal.Gen.h_S_)) (broadcastInDim Cert.Reference22Ideal.S4096x1 ![] Cert.Reference22Ideal.Gen.bcast_S_S4096x1 (constant Cert.Reference22Ideal.S_ .f32 0x44800000#32))) (broadcastInDim Cert.Reference22Ideal.S4096x1 ![] Cert.Reference22Ideal.Gen.bcast_S_S4096x1 (constant Cert.Reference22Ideal.S_ .f32 0x3727C5AC#32)))))) (broadcastInDim Cert.Reference22Ideal.S4096x1024 ![0, 1] Cert.Reference22Ideal.Gen.bcast_S1x1024_S4096x1024_0_1 X5)) (broadcastInDim Cert.Reference22Ideal.S4096x1024 ![0, 1] Cert.Reference22Ideal.Gen.bcast_S1x1024_S4096x1024_0_1 X6)

/-- The array that the reference normalises, of the call's arguments. -/
abbrev SUMS (X0 X1 : FVec Ideal S4096x1024 .bf16) (X2 : FVec Ideal S4096x2048 .bf16) (X3 : FVec Ideal S4096x1024 .f32) (X4 : FVec Ideal S1024x1024 .bf16) : FVec Ideal Cert.Reference22Ideal.S4096x1024 .f32 :=
  addf (mulf (broadcastInDim Cert.Reference22Ideal.S4096x1024 ![] Cert.Reference22Ideal.Gen.bcast_S_S4096x1024 (constant Cert.Reference22Ideal.S_ .f32 0x3F9837F0#32)) X3) (REF8 X0 X1 X2 X4)

/-- The reference's normalised rows, of the call's arguments. -/
abbrev REF9 (X0 X1 : FVec Ideal S4096x1024 .bf16) (X2 : FVec Ideal S4096x2048 .bf16) (X3 : FVec Ideal S4096x1024 .f32) (X4 : FVec Ideal S1024x1024 .bf16) (X5 X6 : FVec Ideal S1x1024 .f32) : FVec Ideal Cert.Reference22Ideal.S4096x1024 .f32 :=
  NORM (SUMS X0 X1 X2 X3 X4) X5 X6

/-- The reference's normalised rows, rounded, of the call's arguments. -/
abbrev REF10 (X0 X1 : FVec Ideal S4096x1024 .bf16) (X2 : FVec Ideal S4096x2048 .bf16) (X3 : FVec Ideal S4096x1024 .f32) (X4 : FVec Ideal S1024x1024 .bf16) (X5 X6 : FVec Ideal S1x1024 .f32) : FVec Ideal Cert.Reference22Ideal.S4096x1024 .bf16 :=
  truncf .bf16 (REF9 X0 X1 X2 X3 X4 X5 X6) Cert.Reference22Ideal.Gen.bitsLt_bf16_f32

/-- The kernel's mixed branches, of any blocks. -/
theorem mix_block (v0 : Vec Ideal S512x2048 .bf16) (v10 v21 : Vec Ideal S512x1024 .bf16) (y : S512x1024.Idx) :
    k0_pay3 v0 v10 v21 y = mixed (v0 (ix2 (y 0) ⟨(y 1).val, Nat.lt_of_lt_of_le (y 1).isLt (by decide)⟩)) (v0 (ix2 (y 0) ⟨1024 + (y 1).val, Nat.add_lt_add_left (y 1).isLt 1024⟩)) (v10 y) (v21 y) := by
  pointwise [k0_pay3, mixed]
  rw [zero_sub, zero_sub]

/-- The reference's mixed branches, at an index. -/
theorem mix_array (X0 X1 : FVec Ideal S4096x1024 .bf16) (X2 : FVec Ideal S4096x2048 .bf16) (i : S4096x1024.Idx) :
    (MIX X0 X1 X2 i : EReal) = mixed (X2 (ix2 (i 0) ⟨(i 1).val, Nat.lt_of_lt_of_le (i 1).isLt (by decide)⟩)) (X2 (ix2 (i 0) ⟨1024 + (i 1).val, Nat.add_lt_add_left (i 1).isLt 1024⟩)) (X0 i) (X1 i) := by
  pointwise [MIX, mixed]

/-- The kernel's product, at an index. -/
theorem out_block (v0 : Vec Ideal S512x2048 .bf16) (v10 v21 : Vec Ideal S512x1024 .bf16) (v26 : Vec Ideal S1024x1024 .bf16) (y : S512x1024.Idx) :
    k0_pay4 v0 v10 v21 v26 y = ∑ k : Fin 1024, HMul.hMul (α := EReal) (β := EReal) (γ := EReal) (k0_pay3 v0 v10 v21 (ix2 (y 0) k)) (v26 (ix2 k (y 1))) := by
  have h : ∀ x : FVec Ideal S512x1024 .bf16, matmul (φ₂ := .bf16) dot_S512x1024_S1024x1024_S512x1024_1_0_0_1_n_n none x v26 (constant S512x1024 .f32 0x00000000#32) y = ∑ k : Fin 1024, HMul.hMul (α := EReal) (β := EReal) (γ := EReal) (x (ix2 (y 0) k)) (v26 (ix2 k (y 1))) := by
    intro x
    pointwise []
  exact h _

/-- The reference's product, at an index. -/
theorem out_array (X0 X1 : FVec Ideal S4096x1024 .bf16) (X2 : FVec Ideal S4096x2048 .bf16) (X4 : FVec Ideal S1024x1024 .bf16) (i : S4096x1024.Idx) :
    REF8 X0 X1 X2 X4 i = ∑ k : Fin 1024, HMul.hMul (α := EReal) (β := EReal) (γ := EReal) (MIX X0 X1 X2 (ix2 (i 0) k)) (X4 (ix2 k (i 1))) := by
  have h : ∀ x : FVec Ideal Cert.Reference22Ideal.S4096x1024 .f32, (Host.dotGeneral Cert.Reference22Ideal.dot_S4096x1024_S1024x1024_S4096x1024_1_0_0_1_n_n none x (extf .f32 X4 Cert.Reference22Ideal.Gen.bitsLt_bf16_f32) : FVec Ideal Cert.Reference22Ideal.S4096x1024 .f32) i = ∑ k : Fin 1024, HMul.hMul (α := EReal) (β := EReal) (γ := EReal) (x (ix2 (i 0) k)) (X4 (ix2 k (i 1))) := by
    intro x
    pointwise []
  exact h _

/-- The kernel's normalisation, of any block. -/
theorem norm_block (z : FVec Ideal S512x1024 .f32) (g b : Vec Ideal S1x1024 .f32) (y : S512x1024.Idx) :
    (k0_pay1 (subf z (broadcastTo S512x1024 (divf (shapeCast S512x1 (multiReduction .add [1] S512 z 0x00000000#32 reduces_S512x1024_S512 (.inl rfl) rfl) shapeCasts_S512_S512x1) (broadcast S512x1 (Scalar.ofBits .f32 0x44800000#32 : Ideal .f32))) broadcasts_S512x1_S512x1024))
      (mulf (subf z (broadcastTo S512x1024 (divf (shapeCast S512x1 (multiReduction .add [1] S512 z 0x00000000#32 reduces_S512x1024_S512 (.inl rfl) rfl) shapeCasts_S512_S512x1) (broadcast S512x1 (Scalar.ofBits .f32 0x44800000#32 : Ideal .f32))) broadcasts_S512x1_S512x1024)) (subf z (broadcastTo S512x1024 (divf (shapeCast S512x1 (multiReduction .add [1] S512 z 0x00000000#32 reduces_S512x1024_S512 (.inl rfl) rfl) shapeCasts_S512_S512x1) (broadcast S512x1 (Scalar.ofBits .f32 0x44800000#32 : Ideal .f32))) broadcasts_S512x1_S512x1024)))
      g b y : EReal) = normed (fun k => z (ix2 (y 0) k)) (g (ix2 0 (y 1))) (b (ix2 0 (y 1))) (y 1) := by
  pointwise [k0_pay1, normed, mean]

/-- The reference's normalisation, at an index. -/
theorem norm_array (Z : FVec Ideal Cert.Reference22Ideal.S4096x1024 .f32) (X5 X6 : FVec Ideal S1x1024 .f32) (i : S4096x1024.Idx) :
    (NORM Z X5 X6 i : EReal) = normed (fun k => Z (ix2 (i 0) k)) (X5 (ix2 0 (i 1))) (X6 (ix2 0 (i 1))) (i 1) := by
  pointwise [NORM, normed, mean]

/-- The row of the arrays that a point's block holds as its row `r`. -/
def place (t : Fin cfg0.N) (r : Fin 512) : Fin 4096 := ⟨t.val * 512 + r.val, by have h : t.val < 8 := t.isLt; have := r.isLt; omega⟩

/-- The mixed branches in a point's block are the reference's in the block's rows. -/
theorem mix_row (c : Dev nD) (t : Fin cfg0.N) (r : Fin 512) (k : Fin 1024) : (k0_pay3 (iblk m c 2 t) (iblk m c 0 t) (iblk m c 1 t) (ix2 r k) : EReal) = MIX (m ((c : Thread nD τ).loc main_arg0)) (m ((c : Thread nD τ).loc main_arg1)) (m ((c : Thread nD τ).loc main_arg2)) (ix2 (place t r) k) := by
  rw [mix_block, mix_array]
  have hg : (iblk m c 2 t : Vec Ideal S512x2048 .bf16) = fun j => (m ((c : Thread nD τ).loc main_arg2) : FVec Ideal S4096x2048 .bf16) (ix2 (place t (j 0)) (j 1)) := by
    funext j
    blk_point [iblk, V, idx t, place]
  have h0 : (iblk m c 0 t : Vec Ideal S512x1024 .bf16) = fun j => (m ((c : Thread nD τ).loc main_arg0) : FVec Ideal S4096x1024 .bf16) (ix2 (place t (j 0)) (j 1)) := by
    funext j
    blk_point [iblk, V, idx t, place]
  have h1 : (iblk m c 1 t : Vec Ideal S512x1024 .bf16) = fun j => (m ((c : Thread nD τ).loc main_arg1) : FVec Ideal S4096x1024 .bf16) (ix2 (place t (j 0)) (j 1)) := by
    funext j
    blk_point [iblk, V, idx t, place]
  rw [hg, h0, h1]
  rfl

/-- The product in a point's block is the reference's in the block's rows. -/
theorem out_row (c : Dev nD) (t : Fin cfg0.N) (r : Fin 512) (k : Fin 1024) : (k0_pay4 (iblk m c 2 t) (iblk m c 0 t) (iblk m c 1 t) (iblk m c 4 t) (ix2 r k) : EReal) = REF8 (m ((c : Thread nD τ).loc main_arg0)) (m ((c : Thread nD τ).loc main_arg1)) (m ((c : Thread nD τ).loc main_arg2)) (m ((c : Thread nD τ).loc main_arg4)) (ix2 (place t r) k) := by
  rw [out_block, out_array]
  have h4 : (iblk m c 4 t : Vec Ideal S1024x1024 .bf16) = (m ((c : Thread nD τ).loc main_arg4) : FVec Ideal S1024x1024 .bf16) := by
    funext j
    blk_point [iblk, V, idx t]
  rw [h4]
  exact Fin.sum_fin_congr fun l => congrArg (fun x : EReal => x * (m ((c : Thread nD τ).loc main_arg4) : FVec Ideal S1024x1024 .bf16) (ix2 l k)) (mix_row m c t r l)

/-- What the kernel normalises, of any blocks: the scaled rows and the product. -/
abbrev ksums (v0 : Vec Ideal S512x2048 .bf16) (v10 v21 : Vec Ideal S512x1024 .bf16) (v26 : Vec Ideal S1024x1024 .bf16) (v28 : Vec Ideal S512x1024 .f32) : FVec Ideal S512x1024 .f32 :=
  addf (mulf (broadcast S512x1024 (Scalar.ofBits .f32 0x3F9837F0#32 : Ideal .f32)) v28) (k0_pay4 v0 v10 v21 v26)

/-- What a point normalises is what the reference normalises in the block's rows. -/
theorem sums_row (c : Dev nD) (t : Fin cfg0.N) (r : Fin 512) (k : Fin 1024) : (ksums (iblk m c 2 t) (iblk m c 0 t) (iblk m c 1 t) (iblk m c 4 t) (iblk m c 3 t) (ix2 r k) : EReal) = SUMS (m ((c : Thread nD τ).loc main_arg0)) (m ((c : Thread nD τ).loc main_arg1)) (m ((c : Thread nD τ).loc main_arg2)) (m ((c : Thread nD τ).loc main_arg3)) (m ((c : Thread nD τ).loc main_arg4)) (ix2 (place t r) k) := by
  have h3 : (iblk m c 3 t : Vec Ideal S512x1024 .f32) = fun j => (m ((c : Thread nD τ).loc main_arg3) : FVec Ideal S4096x1024 .f32) (ix2 (place t (j 0)) (j 1)) := by
    funext j
    blk_point [iblk, V, idx t, place]
  rw [h3]
  have hk : ∀ (x : FVec Ideal S512x1024 .f32) (p : FVec Ideal S512x1024 .f32) (i : S512x1024.Idx), (addf (mulf (broadcast S512x1024 (Scalar.ofBits .f32 0x3F9837F0#32 : Ideal .f32)) x) p i : EReal) = (Scalar.ofBits (F := Ideal) .f32 0x3F9837F0#32 : EReal) * x i + p i := fun _ _ _ => rfl
  have hr : ∀ (x p : FVec Ideal Cert.Reference22Ideal.S4096x1024 .f32) (i : S4096x1024.Idx), (addf (mulf (broadcastInDim Cert.Reference22Ideal.S4096x1024 ![] Cert.Reference22Ideal.Gen.bcast_S_S4096x1024 (constant Cert.Reference22Ideal.S_ .f32 0x3F9837F0#32)) x) p i : EReal) = (Scalar.ofBits (F := Ideal) .f32 0x3F9837F0#32 : EReal) * x i + p i := by
    intro x p i
    pointwise []
  refine (hk _ _ _).trans (Eq.trans ?_ (hr _ _ _).symm)
  exact congrArg (fun p : EReal => (Scalar.ofBits (F := Ideal) .f32 0x3F9837F0#32 : EReal) * (m ((c : Thread nD τ).loc main_arg3) : FVec Ideal S4096x1024 .f32) (ix2 (place t r) k) + p) (out_row m c t r k)

/-- The normalised rows in a point's block are the reference's in the block's rows. -/
theorem norm_row (c : Dev nD) (t : Fin cfg0.N) (y : S512x1024.Idx) : (k0_pay1 (k0_pay5 (iblk m c 2 t) (iblk m c 0 t) (iblk m c 1 t) (iblk m c 4 t) (iblk m c 3 t)) (k0_pay6 (iblk m c 2 t) (iblk m c 0 t) (iblk m c 1 t) (iblk m c 4 t) (iblk m c 3 t)) (iblk m c 5 t) (iblk m c 6 t) y : EReal) = REF9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (place t (y 0)) (y 1)) := by
  have h5 : (iblk m c 5 t : Vec Ideal S1x1024 .f32) = (m ((c : Thread nD τ).loc main_arg5) : FVec Ideal S1x1024 .f32) := by
    funext j
    blk_point [iblk, V, idx t]
  have h6 : (iblk m c 6 t : Vec Ideal S1x1024 .f32) = (m ((c : Thread nD τ).loc main_arg6) : FVec Ideal S1x1024 .f32) := by
    funext j
    blk_point [iblk, V, idx t]
  rw [h5, h6]
  refine (norm_block (ksums (iblk m c 2 t) (iblk m c 0 t) (iblk m c 1 t) (iblk m c 4 t) (iblk m c 3 t)) _ _ y).trans (Eq.trans ?_ (norm_array _ _ _ _).symm)
  exact congrArg (fun z : Fin 1024 → EReal => normed z ((m ((c : Thread nD τ).loc main_arg5) : FVec Ideal S1x1024 .f32) (ix2 0 (y 1))) ((m ((c : Thread nD τ).loc main_arg6) : FVec Ideal S1x1024 .f32) (ix2 0 (y 1))) (y 1)) (funext fun k => sums_row m c t (y 0) k)

/-- What one point stores of the mixed branches is the reference's value at the index's place. -/
theorem point7 (c : Dev nD) (t : Fin cfg0.N) (y) : k0_pay3 (iblk m c 2 t) (iblk m c 0 t) (iblk m c 1 t) y = REF7 (m ((c : Thread nD τ).loc main_arg0)) (m ((c : Thread nD τ).loc main_arg1)) (m ((c : Thread nD τ).loc main_arg2)) (((cfg0.win 7).blk t).view.emb y) := by
  have he : (((cfg0.win 7).blk t).view.emb y : S4096x1024.Idx) = ix2 (place t (y 0)) (y 1) := by
    blk_ext [idx t, place]
  exact ((congrArg (k0_pay3 (iblk m c 2 t) (iblk m c 0 t) (iblk m c 1 t)) (eq_ix2 y)).trans (mix_row m c t (y 0) (y 1))).trans (congrArg (REF7 (m ((c : Thread nD τ).loc main_arg0)) (m ((c : Thread nD τ).loc main_arg1)) (m ((c : Thread nD τ).loc main_arg2))) he.symm)

/-- The mixed branches after the run are the reference's. -/
theorem final7 (c : Dev nD) : (dats m 0 c).arrAt 7 (cfgs 0).N = REF7 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  frame_out
  exact point7 m c t y

/-- What one point stores of the products is the reference's value at the index's place. -/
theorem point8 (c : Dev nD) (t : Fin cfg0.N) (y) : k0_pay4 (iblk m c 2 t) (iblk m c 0 t) (iblk m c 1 t) (iblk m c 4 t) y = REF8 (m ((c : Thread nD τ).loc main_arg0)) (m ((c : Thread nD τ).loc main_arg1)) (m ((c : Thread nD τ).loc main_arg2)) (m ((c : Thread nD τ).loc main_arg4)) (((cfg0.win 8).blk t).view.emb y) := by
  have he : (((cfg0.win 8).blk t).view.emb y : S4096x1024.Idx) = ix2 (place t (y 0)) (y 1) := by
    blk_ext [idx t, place]
  exact ((congrArg (k0_pay4 (iblk m c 2 t) (iblk m c 0 t) (iblk m c 1 t) (iblk m c 4 t)) (eq_ix2 y)).trans (out_row m c t (y 0) (y 1))).trans (congrArg (REF8 (m ((c : Thread nD τ).loc main_arg0)) (m ((c : Thread nD τ).loc main_arg1)) (m ((c : Thread nD τ).loc main_arg2)) (m ((c : Thread nD τ).loc main_arg4))) he.symm)

/-- The products after the run are the reference's. -/
theorem final8 (c : Dev nD) : (dats m 0 c).arrAt 8 (cfgs 0).N = REF8 (m ((c : Thread nD τ).loc main_arg0)) (m ((c : Thread nD τ).loc main_arg1)) (m ((c : Thread nD τ).loc main_arg2)) (m ((c : Thread nD τ).loc main_arg4)) := by
  refine (dats m 0 c).arrAt_eq_of_covers 8 _ (by decide +kernel) fun t _ y => ?_
  blk_simp
  rw [after0_8]
  frame_out
  exact point8 m c t y

/-- The values that the normalised rows are made of, of a point's blocks. -/
theorem centred_eq (x0 x1 : Vec Ideal S512x1024 .bf16) (x2 : Vec Ideal S512x2048 .bf16) (x3 : Vec Ideal S512x1024 .f32) (x4 : Vec Ideal S1024x1024 .bf16) (x5 x6 : Vec Ideal S1x1024 .f32) :
    k0_pay7 x0 x1 x2 x3 x4 x5 x6 = k0_pay5 x2 x0 x1 x4 x3 ∧ k0_pay8 x0 x1 x2 x3 x4 x5 x6 = k0_pay6 x2 x0 x1 x4 x3 := by
  have e0 : ∀ x : Vec Ideal S512x2048 .bf16, View.ld x r0_0 = x := fun x => View.ld_unit_lit _ x (by decide)
  have e1 : ∀ (e : EltTy) (x : Vec Ideal S512x1024 e), View.ld x r0_1 = x := fun _ x => View.ld_unit_lit _ x (by decide)
  have e2 : ∀ x : Vec Ideal S1024x1024 .bf16, View.ld x r0_2 = x := fun x => View.ld_unit_lit _ x (by decide)
  unfold k0_pay7 k0_pay8
  rw [e0, e1, e1, e1, e2]
  exact ⟨rfl, rfl⟩

/-- What one point stores of the normalised rows is the reference's value at the index's place. -/
theorem point9 (c : Dev nD) (t : Fin cfg0.N) (y) : k0_pay1 (k0_pay5 (iblk m c 2 t) (iblk m c 0 t) (iblk m c 1 t) (iblk m c 4 t) (iblk m c 3 t)) (k0_pay6 (iblk m c 2 t) (iblk m c 0 t) (iblk m c 1 t) (iblk m c 4 t) (iblk m c 3 t)) (iblk m c 5 t) (iblk m c 6 t) y = REF9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y) := by
  have he : (((cfg0.win 9).blk t).view.emb y : S4096x1024.Idx) = ix2 (place t (y 0)) (y 1) := by
    blk_ext [idx t, place]
  exact (norm_row m c t y).trans (congrArg (REF9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) he.symm)

/-- The normalised rows after the run are the reference's. -/
theorem final9 (c : Dev nD) : (dats m 0 c).arrAt 9 (cfgs 0).N = REF9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  frame_out
  rw [(centred_eq _ _ _ _ _ _ _).1, (centred_eq _ _ _ _ _ _ _).2]
  exact point9 m c t y

/-- What one point stores of the rounded normalised rows is the reference's value at the index's place. -/
theorem point10 (c : Dev nD) (t : Fin cfg0.N) (y) : k0_pay2 (k0_pay5 (iblk m c 2 t) (iblk m c 0 t) (iblk m c 1 t) (iblk m c 4 t) (iblk m c 3 t)) (k0_pay6 (iblk m c 2 t) (iblk m c 0 t) (iblk m c 1 t) (iblk m c 4 t) (iblk m c 3 t)) (iblk m c 5 t) (iblk m c 6 t) y = REF10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 10).blk t).view.emb y) := by
  have he : (((cfg0.win 10).blk t).view.emb y : S4096x1024.Idx) = ix2 (place t (y 0)) (y 1) := by
    blk_ext [idx t, place]
  exact (norm_row m c t y).trans (congrArg (REF10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) he.symm)

/-- The rounded normalised rows after the run are the reference's. -/
theorem final10 (c : Dev nD) : (dats m 0 c).arrAt 10 (cfgs 0).N = REF10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t _ y => ?_
  blk_simp
  rw [after0_10]
  frame_out
  rw [(centred_eq _ _ _ _ _ _ _).1, (centred_eq _ _ _ _ _ _ _).2]
  exact point10 m c t y

end Cert.Kernel22Ideal.Value

end
-- ==== Proof.Norm.GdrOut.lean ====
/- The recurrence branch: its gated rows and their product: the kernel and the reference. -/
module

public import proofs.«01_k».proof.Proof.Gen.Kernel23Ideal.Value
public import proofs.«01_k».proof.Proof.Gen.Reference23Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel23Ideal.Value

open Cert.Kernel23Ideal Cert.Kernel23Ideal.Gen

variable (m : (ℓ : Loc nD τ sig) → Buf (Elt Ideal) ℓ)

/-- Which block of its array each window holds at each point. -/
theorem idx : ∀ t : Fin cfg0.N, win0_0.index t = ![t.val, 0] ∧ win0_1.index t = ![t.val, 3] ∧ win0_2.index t = ![0, 0] ∧ win0_3.index t = ![0, 0] ∧ win0_4.index t = ![t.val, 0] ∧ win0_5.index t = ![t.val, 0] :=
  (by decide +kernel : ∀ t : Fin grid0.N, _)

/-- One value of a head's gated row: the row by the root of its mean square, by its column's weight, by the gate. -/
def gated (o : Fin 128 → EReal) (z w : EReal) (j : Fin 128) : EReal :=
  o j * Ideal.rsqrt (Ideal.div (∑ k, o k * o k) (Scalar.ofBits (F := Ideal) .f32 0x43000000#32 : Ideal .f32) + (Scalar.ofBits (F := Ideal) .f32 0x358637BD#32 : Ideal .f32)) * w * (z * Ideal.div 1 (1 + Ideal.exp (-z)))

/-- The column that is head `h`'s column `k`. -/
def col (h : Fin 8) (k : Fin 128) : Fin 1024 := ⟨h.val * 128 + k.val, by omega⟩

/-- The reference's gated rows before they are rounded, of the call's arguments. -/
abbrev OG (X0 : FVec Ideal S4096x1024 .f32) (X1 : FVec Ideal S4096x4096 .f32) (X2 : FVec Ideal S1x128 .f32) : FVec Ideal Cert.Reference23Ideal.S4096x1024 .f32 :=
  shapeCast _ (mulf (mulf (mulf (shapeCast _ X0 Cert.Reference23Ideal.Gen.shapeCasts_S4096x1024_S4096x8x128) (broadcastInDim Cert.Reference23Ideal.S4096x8x128 ![0, 1, 2] Cert.Reference23Ideal.Gen.bcast_S4096x8x1_S4096x8x128_0_1_2 (Host.rsqrt (addf (Host.divf (broadcastInDim Cert.Reference23Ideal.S4096x8x1 ![0, 1] Cert.Reference23Ideal.Gen.bcast_S4096x8_S4096x8x1_0_1 (Host.reduceAdd (mulf (shapeCast _ X0 Cert.Reference23Ideal.Gen.shapeCasts_S4096x1024_S4096x8x128) (shapeCast _ X0 Cert.Reference23Ideal.Gen.shapeCasts_S4096x1024_S4096x8x128)) (constant Cert.Reference23Ideal.S_ .f32 0x00000000#32) Cert.Reference23Ideal.Gen.reducesTo_S4096x8x128_S4096x8_d2 Cert.Reference23Ideal.Gen.h_S_)) (broadcastInDim Cert.Reference23Ideal.S4096x8x1 ![] Cert.Reference23Ideal.Gen.bcast_S_S4096x8x1 (constant Cert.Reference23Ideal.S_ .f32 0x43000000#32))) (broadcastInDim Cert.Reference23Ideal.S4096x8x1 ![] Cert.Reference23Ideal.Gen.bcast_S_S4096x8x1 (constant Cert.Reference23Ideal.S_ .f32 0x358637BD#32)))))) (broadcastInDim Cert.Reference23Ideal.S4096x8x128 ![0, 1, 2] Cert.Reference23Ideal.Gen.bcast_S1x1x128_S4096x8x128_0_1_2 (broadcastInDim Cert.Reference23Ideal.S1x1x128 ![2] Cert.Reference23Ideal.Gen.bcast_S128_S1x1x128_2 (shapeCast _ X2 Cert.Reference23Ideal.Gen.shapeCasts_S1x128_S128)))) (mulf (shapeCast _ (extractStridedSlice Cert.Reference23Ideal.S4096x1024 ![0, 3072] X1 Cert.Reference23Ideal.Gen.slices_S4096x4096_S4096x1024_0_3072) Cert.Reference23Ideal.Gen.shapeCasts_S4096x1024_S4096x8x128) (Host.divf (broadcastInDim Cert.Reference23Ideal.S4096x8x128 ![] Cert.Reference23Ideal.Gen.bcast_S_S4096x8x128 (constant Cert.Reference23Ideal.S_ .f32 0x3F800000#32)) (addf (broadcastInDim Cert.Reference23Ideal.S4096x8x128 ![] Cert.Reference23Ideal.Gen.bcast_S_S4096x8x128 (constant Cert.Reference23Ideal.S_ .f32 0x3F800000#32)) (Host.exp (Host.negf (shapeCast _ (extractStridedSlice Cert.Reference23Ideal.S4096x1024 ![0, 3072] X1 Cert.Reference23Ideal.Gen.slices_S4096x4096_S4096x1024_0_3072) Cert.Reference23Ideal.Gen.shapeCasts_S4096x1024_S4096x8x128))))))) Cert.Reference23Ideal.Gen.shapeCasts_S4096x8x128_S4096x1024

/-- The reference's gated rows, of the call's arguments. -/
abbrev REF4 (X0 : FVec Ideal S4096x1024 .f32) (X1 : FVec Ideal S4096x4096 .f32) (X2 : FVec Ideal S1x128 .f32) : FVec Ideal Cert.Reference23Ideal.S4096x1024 .bf16 :=
  truncf .bf16 (OG X0 X1 X2) Cert.Reference23Ideal.Gen.bitsLt_bf16_f32

/-- The reference's product, of the call's arguments. -/
abbrev REF5 (X0 : FVec Ideal S4096x1024 .f32) (X1 : FVec Ideal S4096x4096 .f32) (X2 : FVec Ideal S1x128 .f32) (X3 : FVec Ideal S1024x1024 .bf16) : FVec Ideal Cert.Reference23Ideal.S4096x1024 .bf16 :=
  truncf .bf16 (Host.dotGeneral Cert.Reference23Ideal.dot_S4096x1024_S1024x1024_S4096x1024_1_0_0_1_n_n none (OG X0 X1 X2) (extf .f32 X3 Cert.Reference23Ideal.Gen.bitsLt_bf16_f32)) Cert.Reference23Ideal.Gen.bitsLt_bf16_f32

/-- The reference's gated rows, at a head's column. -/
theorem gated_array (X0 : FVec Ideal S4096x1024 .f32) (X1 : FVec Ideal S4096x4096 .f32) (X2 : FVec Ideal S1x128 .f32) (r : Fin 4096) (h : Fin 8) (j : Fin 128) :
    (OG X0 X1 X2 (ix2 r (col h j)) : EReal) = gated (fun k => X0 (ix2 r (col h k))) (X1 (ix2 r ⟨3072 + (col h j).val, Nat.add_lt_add_left (col h j).isLt 3072⟩)) (X2 (ix2 0 j)) j := by
  pointwise [OG, gated]
  have hd : (col h j).val / 128 * 128 = h.val * 128 := by
    have : (col h j).val = h.val * 128 + j.val := rfl
    omega
  have hm : (col h j).val % 128 = j.val := by
    have : (col h j).val = h.val * 128 + j.val := rfl
    omega
  simp only [hd, hm]
  rfl

theorem head0 (o z : Vec Ideal S512x1024 .f32) (w : Vec Ideal S1x128 .f32) (y : S512x128.Idx) :
    (k0_pay3 o z w y : EReal) = gated (fun k => o (ix2 (y 0) (col 0 k))) (z (ix2 (y 0) (col 0 (y 1)))) (w (ix2 0 (y 1))) (y 1) := by
  pointwise [k0_pay3, gated]
  rw [zero_sub]
  rw [show col 0 (y 1) = ⟨(y 1).val, Nat.lt_trans (y 1).isLt (by decide)⟩ from Fin.ext (Nat.zero_add _)]
  simp only [show ∀ k : Fin 128, col 0 k = ⟨k.val, Nat.lt_trans k.isLt (by decide)⟩ from fun k => Fin.ext (Nat.zero_add _)]

theorem head1 (o z : Vec Ideal S512x1024 .f32) (w : Vec Ideal S1x128 .f32) (y : S512x128.Idx) :
    (k0_pay6 (k0_pay4 z) (k0_pay5 o w) (Scalar.ofBits .f32 0x00000000#32 : Ideal .f32) y : EReal) = gated (fun k => o (ix2 (y 0) (col 1 k))) (z (ix2 (y 0) (col 1 (y 1)))) (w (ix2 0 (y 1))) (y 1) := by
  pointwise [k0_pay6, k0_pay4, k0_pay5, gated]
  rw [zero_sub]
  rfl

theorem head2 (o z : Vec Ideal S512x1024 .f32) (w : Vec Ideal S1x128 .f32) (y : S512x128.Idx) :
    (k0_pay7 o z w y : EReal) = gated (fun k => o (ix2 (y 0) (col 2 k))) (z (ix2 (y 0) (col 2 (y 1)))) (w (ix2 0 (y 1))) (y 1) := by
  pointwise [k0_pay7, gated]
  rw [zero_sub]
  rfl

theorem head3 (o z : Vec Ideal S512x1024 .f32) (w : Vec Ideal S1x128 .f32) (y : S512x128.Idx) :
    (k0_pay11 (k0_pay8 z) (k0_pay9 o w) (k0_pay10 z) y : EReal) = gated (fun k => o (ix2 (y 0) (col 3 k))) (z (ix2 (y 0) (col 3 (y 1)))) (w (ix2 0 (y 1))) (y 1) := by
  pointwise [k0_pay11, k0_pay8, k0_pay9, k0_pay10, gated]
  rw [zero_sub]
  rfl

theorem head4 (o z : Vec Ideal S512x1024 .f32) (w : Vec Ideal S1x128 .f32) (y : S512x128.Idx) :
    (k0_pay12 o z w y : EReal) = gated (fun k => o (ix2 (y 0) (col 4 k))) (z (ix2 (y 0) (col 4 (y 1)))) (w (ix2 0 (y 1))) (y 1) := by
  pointwise [k0_pay12, gated]
  rw [zero_sub]
  rfl

theorem head5 (o z : Vec Ideal S512x1024 .f32) (w : Vec Ideal S1x128 .f32) (y : S512x128.Idx) :
    (k0_pay16 (k0_pay13 z) (k0_pay14 o w) (k0_pay15 z) (Scalar.ofBits .f32 0x3F800000#32 : Ideal .f32) y : EReal) = gated (fun k => o (ix2 (y 0) (col 5 k))) (z (ix2 (y 0) (col 5 (y 1)))) (w (ix2 0 (y 1))) (y 1) := by
  pointwise [k0_pay16, k0_pay13, k0_pay14, k0_pay15, gated]
  rw [zero_sub]
  rfl

theorem head6 (o z : Vec Ideal S512x1024 .f32) (w : Vec Ideal S1x128 .f32) (y : S512x128.Idx) :
    (k0_pay17 o z w y : EReal) = gated (fun k => o (ix2 (y 0) (col 6 k))) (z (ix2 (y 0) (col 6 (y 1)))) (w (ix2 0 (y 1))) (y 1) := by
  pointwise [k0_pay17, gated]
  rw [zero_sub]
  rfl

theorem head7 (o z : Vec Ideal S512x1024 .f32) (w : Vec Ideal S1x128 .f32) (y : S512x128.Idx) :
    (mulf (k0_pay19 o w) (mulf (k0_pay18 z) (divf (broadcast S512x128 (Scalar.ofBits .f32 0x3F800000#32 : Ideal .f32)) (k0_pay20 z))) y : EReal) = gated (fun k => o (ix2 (y 0) (col 7 k))) (z (ix2 (y 0) (col 7 (y 1)))) (w (ix2 0 (y 1))) (y 1) := by
  pointwise [k0_pay18, k0_pay19, k0_pay20, gated]
  rw [zero_sub]
  rfl

/-- The eight heads' gated rows, of any blocks. -/
def heads (o z : Vec Ideal S512x1024 .f32) (w : Vec Ideal S1x128 .f32) : Fin 8 → FVec Ideal S512x128 .f32 :=
  ![k0_pay3 o z w, k0_pay6 (k0_pay4 z) (k0_pay5 o w) (Scalar.ofBits .f32 0x00000000#32 : Ideal .f32), k0_pay7 o z w, k0_pay11 (k0_pay8 z) (k0_pay9 o w) (k0_pay10 z), k0_pay12 o z w, k0_pay16 (k0_pay13 z) (k0_pay14 o w) (k0_pay15 z) (Scalar.ofBits .f32 0x3F800000#32 : Ideal .f32), k0_pay17 o z w, mulf (k0_pay19 o w) (mulf (k0_pay18 z) (divf (broadcast S512x128 (Scalar.ofBits .f32 0x3F800000#32 : Ideal .f32)) (k0_pay20 z)))]

theorem heads_at (o z : Vec Ideal S512x1024 .f32) (w : Vec Ideal S1x128 .f32) (h : Fin 8) (y : S512x128.Idx) :
    (heads o z w h y : EReal) = gated (fun k => o (ix2 (y 0) (col h k))) (z (ix2 (y 0) (col h (y 1)))) (w (ix2 0 (y 1))) (y 1) := by
  match h with
  | 0 => exact head0 o z w y
  | 1 => exact head1 o z w y
  | 2 => exact head2 o z w y
  | 3 => exact head3 o z w y
  | 4 => exact head4 o z w y
  | 5 => exact head5 o z w y
  | 6 => exact head6 o z w y
  | 7 => exact head7 o z w y

/-- The kernel's gated rows, at a head's column. -/
theorem gated_block (o z : Vec Ideal S512x1024 .f32) (w : Vec Ideal S1x128 .f32) (r : Fin 512) (h : Fin 8) (j : Fin 128) :
    (k0_pay1 (k0_pay3 o z w) (k0_pay6 (k0_pay4 z) (k0_pay5 o w) (Scalar.ofBits .f32 0x00000000#32 : Ideal .f32)) (k0_pay7 o z w) (k0_pay11 (k0_pay8 z) (k0_pay9 o w) (k0_pay10 z)) (k0_pay12 o z w) (k0_pay16 (k0_pay13 z) (k0_pay14 o w) (k0_pay15 z) (Scalar.ofBits .f32 0x3F800000#32 : Ideal .f32)) (k0_pay17 o z w) (k0_pay18 z) (k0_pay19 o w) (k0_pay20 z) (ix2 r (col h j)) : EReal) = gated (fun k => o (ix2 r (col h k))) (z (ix2 r (col h j))) (w (ix2 0 j)) j := by
  have hv : (col h j).val = h.val * 128 + j.val := rfl
  refine Eq.trans ?_ (heads_at o z w h (ix2 r j))
  refine concatenate_ofFn_apply (t := S512x1024) (s₁ := S512x128) 1 (heads o z w) concatenates_S512x128_S512x128_S512x128_S512x128_S512x128_S512x128_S512x128_S512x128_S512x1024_d1 rfl 128 rfl (ix2 r (col h j)) h ?_ (ix2 r j) ?_ ?_
  · show (col h j).val / 128 = h.val
    omega
  · show j.val = (col h j).val % 128
    omega
  · intro b hb
    match b with
    | 0 => rfl
    | 1 => exact absurd rfl hb

/-- The row of the arrays that a point's block holds as its row `r`. -/
def place (t : Fin cfg0.N) (r : Fin 512) : Fin 4096 := ⟨t.val * 512 + r.val, by have h : t.val < 8 := t.isLt; have := r.isLt; omega⟩

/-- The gated rows in a point's block are the reference's in the block's rows. -/
theorem gated_row (c : Dev nD) (t : Fin cfg0.N) (r : Fin 512) (k : Fin 1024) : (k0_pay1 (k0_pay3 (iblk m c 0 t) (iblk m c 1 t) (iblk m c 2 t)) (k0_pay6 (k0_pay4 (iblk m c 1 t)) (k0_pay5 (iblk m c 0 t) (iblk m c 2 t)) (Scalar.ofBits .f32 0x00000000#32 : Ideal .f32)) (k0_pay7 (iblk m c 0 t) (iblk m c 1 t) (iblk m c 2 t)) (k0_pay11 (k0_pay8 (iblk m c 1 t)) (k0_pay9 (iblk m c 0 t) (iblk m c 2 t)) (k0_pay10 (iblk m c 1 t))) (k0_pay12 (iblk m c 0 t) (iblk m c 1 t) (iblk m c 2 t)) (k0_pay16 (k0_pay13 (iblk m c 1 t)) (k0_pay14 (iblk m c 0 t) (iblk m c 2 t)) (k0_pay15 (iblk m c 1 t)) (Scalar.ofBits .f32 0x3F800000#32 : Ideal .f32)) (k0_pay17 (iblk m c 0 t) (iblk m c 1 t) (iblk m c 2 t)) (k0_pay18 (iblk m c 1 t)) (k0_pay19 (iblk m c 0 t) (iblk m c 2 t)) (k0_pay20 (iblk m c 1 t)) (ix2 r k) : EReal) = OG (m ((c : Thread nD τ).loc main_arg0)) (m ((c : Thread nD τ).loc main_arg1)) (m ((c : Thread nD τ).loc main_arg2)) (ix2 (place t r) k) := by
  have hk : k = col ⟨k.val / 128, by have := k.isLt; omega⟩ ⟨k.val % 128, by omega⟩ := Fin.ext (by show k.val = k.val / 128 * 128 + k.val % 128; omega)
  have h0 : (iblk m c 0 t : Vec Ideal S512x1024 .f32) = fun j => (m ((c : Thread nD τ).loc main_arg0) : FVec Ideal S4096x1024 .f32) (ix2 (place t (j 0)) (j 1)) := by
    funext j
    blk_point [iblk, V, idx t, place]
  have h1 : (iblk m c 1 t : Vec Ideal S512x1024 .f32) = fun j => (m ((c : Thread nD τ).loc main_arg1) : FVec Ideal S4096x4096 .f32) (ix2 (place t (j 0)) ⟨3072 + (j 1).val, Nat.add_lt_add_left (j 1).isLt 3072⟩) := by
    funext j
    blk_point [iblk, V, idx t, place]
  have h2 : (iblk m c 2 t : Vec Ideal S1x128 .f32) = (m ((c : Thread nD τ).loc main_arg2) : FVec Ideal S1x128 .f32) := by
    funext j
    blk_point [iblk, V, idx t]
  rw [h0, h1, h2, hk]
  exact (gated_block _ _ _ r _ _).trans (gated_array _ _ _ (place t r) _ _).symm

/-- The kernel's product, at an index. -/
theorem out_block (o z : Vec Ideal S512x1024 .f32) (w : Vec Ideal S1x128 .f32) (v : Vec Ideal S1024x1024 .bf16) (y : S512x1024.Idx) :
    k0_pay2 v (k0_pay3 o z w) (k0_pay6 (k0_pay4 z) (k0_pay5 o w) (Scalar.ofBits .f32 0x00000000#32 : Ideal .f32)) (k0_pay7 o z w) (k0_pay11 (k0_pay8 z) (k0_pay9 o w) (k0_pay10 z)) (k0_pay12 o z w) (k0_pay16 (k0_pay13 z) (k0_pay14 o w) (k0_pay15 z) (Scalar.ofBits .f32 0x3F800000#32 : Ideal .f32)) (k0_pay17 o z w) (k0_pay18 z) (k0_pay19 o w) (k0_pay20 z) y = ∑ k : Fin 1024, HMul.hMul (α := EReal) (β := EReal) (γ := EReal) (k0_pay1 (k0_pay3 o z w) (k0_pay6 (k0_pay4 z) (k0_pay5 o w) (Scalar.ofBits .f32 0x00000000#32 : Ideal .f32)) (k0_pay7 o z w) (k0_pay11 (k0_pay8 z) (k0_pay9 o w) (k0_pay10 z)) (k0_pay12 o z w) (k0_pay16 (k0_pay13 z) (k0_pay14 o w) (k0_pay15 z) (Scalar.ofBits .f32 0x3F800000#32 : Ideal .f32)) (k0_pay17 o z w) (k0_pay18 z) (k0_pay19 o w) (k0_pay20 z) (ix2 (y 0) k)) (v (ix2 k (y 1))) := by
  have h : ∀ x : FVec Ideal S512x1024 .bf16, (truncf .bf16 (matmul (φ₂ := .bf16) dot_S512x1024_S1024x1024_S512x1024_1_0_0_1_n_n none x v (constant S512x1024 .f32 0x00000000#32)) bitsLt_bf16_f32 : FVec Ideal S512x1024 .bf16) y = ∑ k : Fin 1024, HMul.hMul (α := EReal) (β := EReal) (γ := EReal) (x (ix2 (y 0) k)) (v (ix2 k (y 1))) := by
    intro x
    pointwise []
  exact h _

/-- The reference's product, at an index. -/
theorem out_array (X0 : FVec Ideal S4096x1024 .f32) (X1 : FVec Ideal S4096x4096 .f32) (X2 : FVec Ideal S1x128 .f32) (X3 : FVec Ideal S1024x1024 .bf16) (i : S4096x1024.Idx) :
    REF5 X0 X1 X2 X3 i = ∑ k : Fin 1024, HMul.hMul (α := EReal) (β := EReal) (γ := EReal) (OG X0 X1 X2 (ix2 (i 0) k)) (X3 (ix2 k (i 1))) := by
  have h : ∀ x : FVec Ideal Cert.Reference23Ideal.S4096x1024 .f32, (truncf .bf16 (Host.dotGeneral Cert.Reference23Ideal.dot_S4096x1024_S1024x1024_S4096x1024_1_0_0_1_n_n none x (extf .f32 X3 Cert.Reference23Ideal.Gen.bitsLt_bf16_f32)) Cert.Reference23Ideal.Gen.bitsLt_bf16_f32 : FVec Ideal Cert.Reference23Ideal.S4096x1024 .bf16) i = ∑ k : Fin 1024, HMul.hMul (α := EReal) (β := EReal) (γ := EReal) (x (ix2 (i 0) k)) (X3 (ix2 k (i 1))) := by
    intro x
    pointwise []
  exact h _

/-- The product in a point's block is the reference's in the block's rows. -/
theorem out_row (c : Dev nD) (t : Fin cfg0.N) (y : S512x1024.Idx) : (k0_pay2 (iblk m c 3 t) (k0_pay3 (iblk m c 0 t) (iblk m c 1 t) (iblk m c 2 t)) (k0_pay6 (k0_pay4 (iblk m c 1 t)) (k0_pay5 (iblk m c 0 t) (iblk m c 2 t)) (Scalar.ofBits .f32 0x00000000#32 : Ideal .f32)) (k0_pay7 (iblk m c 0 t) (iblk m c 1 t) (iblk m c 2 t)) (k0_pay11 (k0_pay8 (iblk m c 1 t)) (k0_pay9 (iblk m c 0 t) (iblk m c 2 t)) (k0_pay10 (iblk m c 1 t))) (k0_pay12 (iblk m c 0 t) (iblk m c 1 t) (iblk m c 2 t)) (k0_pay16 (k0_pay13 (iblk m c 1 t)) (k0_pay14 (iblk m c 0 t) (iblk m c 2 t)) (k0_pay15 (iblk m c 1 t)) (Scalar.ofBits .f32 0x3F800000#32 : Ideal .f32)) (k0_pay17 (iblk m c 0 t) (iblk m c 1 t) (iblk m c 2 t)) (k0_pay18 (iblk m c 1 t)) (k0_pay19 (iblk m c 0 t) (iblk m c 2 t)) (k0_pay20 (iblk m c 1 t)) y : EReal) = REF5 (m ((c : Thread nD τ).loc main_arg0)) (m ((c : Thread nD τ).loc main_arg1)) (m ((c : Thread nD τ).loc main_arg2)) (m ((c : Thread nD τ).loc main_arg3)) (ix2 (place t (y 0)) (y 1)) := by
  rw [out_block, out_array]
  have h3 : (iblk m c 3 t : Vec Ideal S1024x1024 .bf16) = (m ((c : Thread nD τ).loc main_arg3) : FVec Ideal S1024x1024 .bf16) := by
    funext j
    blk_point [iblk, V, idx t]
  rw [h3]
  exact Fin.sum_fin_congr fun l => congrArg (fun x : EReal => x * (m ((c : Thread nD τ).loc main_arg3) : FVec Ideal S1024x1024 .bf16) (ix2 l (y 1))) (gated_row m c t (y 0) l)

/-- What the body computes of its blocks, with the loads of whole blocks read. -/
theorem loads_eq (o z : Vec Ideal S512x1024 .f32) (w : Vec Ideal S1x128 .f32) (v : Vec Ideal S1024x1024 .bf16) :
    k0_pay21 o z w v = k0_pay3 o z w ∧ k0_pay22 o z w v = k0_pay6 (k0_pay4 z) (k0_pay5 o w) (Scalar.ofBits .f32 0x00000000#32 : Ideal .f32) ∧ k0_pay23 o z w v = k0_pay7 o z w ∧ k0_pay24 o z w v = k0_pay11 (k0_pay8 z) (k0_pay9 o w) (k0_pay10 z) ∧ k0_pay25 o z w v = k0_pay12 o z w ∧ k0_pay26 o z w v = k0_pay16 (k0_pay13 z) (k0_pay14 o w) (k0_pay15 z) (Scalar.ofBits .f32 0x3F800000#32 : Ideal .f32) ∧ k0_pay27 o z w v = k0_pay17 o z w ∧ k0_pay28 o z w v = k0_pay18 z ∧ k0_pay29 o z w v = k0_pay19 o w ∧ k0_pay30 o z w v = k0_pay20 z := by
  have e0 : ∀ x : Vec Ideal S512x1024 .f32, View.ld x r0_0 = x := fun x => View.ld_unit_lit _ x (by decide)
  have e1 : ∀ x : Vec Ideal S1x128 .f32, View.ld x r0_1 = x := fun x => View.ld_unit_lit _ x (by decide)
  unfold k0_pay21 k0_pay22 k0_pay23 k0_pay24 k0_pay25 k0_pay26 k0_pay27 k0_pay28 k0_pay29 k0_pay30
  simp only [e0, e1, and_self]

/-- What one point stores of the gated rows is the reference's value at the index's place. -/
theorem point4 (c : Dev nD) (t : Fin cfg0.N) (y) : k0_pay1 (k0_pay3 (iblk m c 0 t) (iblk m c 1 t) (iblk m c 2 t)) (k0_pay6 (k0_pay4 (iblk m c 1 t)) (k0_pay5 (iblk m c 0 t) (iblk m c 2 t)) (Scalar.ofBits .f32 0x00000000#32 : Ideal .f32)) (k0_pay7 (iblk m c 0 t) (iblk m c 1 t) (iblk m c 2 t)) (k0_pay11 (k0_pay8 (iblk m c 1 t)) (k0_pay9 (iblk m c 0 t) (iblk m c 2 t)) (k0_pay10 (iblk m c 1 t))) (k0_pay12 (iblk m c 0 t) (iblk m c 1 t) (iblk m c 2 t)) (k0_pay16 (k0_pay13 (iblk m c 1 t)) (k0_pay14 (iblk m c 0 t) (iblk m c 2 t)) (k0_pay15 (iblk m c 1 t)) (Scalar.ofBits .f32 0x3F800000#32 : Ideal .f32)) (k0_pay17 (iblk m c 0 t) (iblk m c 1 t) (iblk m c 2 t)) (k0_pay18 (iblk m c 1 t)) (k0_pay19 (iblk m c 0 t) (iblk m c 2 t)) (k0_pay20 (iblk m c 1 t)) y = REF4 (m ((c : Thread nD τ).loc main_arg0)) (m ((c : Thread nD τ).loc main_arg1)) (m ((c : Thread nD τ).loc main_arg2)) (((cfg0.win 4).blk t).view.emb y) := by
  have he : (((cfg0.win 4).blk t).view.emb y : S4096x1024.Idx) = ix2 (place t (y 0)) (y 1) := by
    blk_ext [idx t, place]
  exact ((congrArg (k0_pay1 (k0_pay3 (iblk m c 0 t) (iblk m c 1 t) (iblk m c 2 t)) (k0_pay6 (k0_pay4 (iblk m c 1 t)) (k0_pay5 (iblk m c 0 t) (iblk m c 2 t)) (Scalar.ofBits .f32 0x00000000#32 : Ideal .f32)) (k0_pay7 (iblk m c 0 t) (iblk m c 1 t) (iblk m c 2 t)) (k0_pay11 (k0_pay8 (iblk m c 1 t)) (k0_pay9 (iblk m c 0 t) (iblk m c 2 t)) (k0_pay10 (iblk m c 1 t))) (k0_pay12 (iblk m c 0 t) (iblk m c 1 t) (iblk m c 2 t)) (k0_pay16 (k0_pay13 (iblk m c 1 t)) (k0_pay14 (iblk m c 0 t) (iblk m c 2 t)) (k0_pay15 (iblk m c 1 t)) (Scalar.ofBits .f32 0x3F800000#32 : Ideal .f32)) (k0_pay17 (iblk m c 0 t) (iblk m c 1 t) (iblk m c 2 t)) (k0_pay18 (iblk m c 1 t)) (k0_pay19 (iblk m c 0 t) (iblk m c 2 t)) (k0_pay20 (iblk m c 1 t))) (eq_ix2 y)).trans (gated_row m c t (y 0) (y 1))).trans (congrArg (REF4 (m ((c : Thread nD τ).loc main_arg0)) (m ((c : Thread nD τ).loc main_arg1)) (m ((c : Thread nD τ).loc main_arg2))) he.symm)

/-- The gated rows after the run are the reference's. -/
theorem final4 (c : Dev nD) : (dats m 0 c).arrAt 4 (cfgs 0).N = REF4 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  obtain ⟨l0, l1, l2, l3, l4, l5, l6, l7, l8, l9⟩ := loads_eq (iblk m c 0 t) (iblk m c 1 t) (iblk m c 2 t) (iblk m c 3 t)
  rw [l0, l1, l2, l3, l4, l5, l6, l7, l8, l9]
  exact point4 m c t y

/-- What one point stores of the products is the reference's value at the index's place. -/
theorem point5 (c : Dev nD) (t : Fin cfg0.N) (y) : k0_pay2 (iblk m c 3 t) (k0_pay3 (iblk m c 0 t) (iblk m c 1 t) (iblk m c 2 t)) (k0_pay6 (k0_pay4 (iblk m c 1 t)) (k0_pay5 (iblk m c 0 t) (iblk m c 2 t)) (Scalar.ofBits .f32 0x00000000#32 : Ideal .f32)) (k0_pay7 (iblk m c 0 t) (iblk m c 1 t) (iblk m c 2 t)) (k0_pay11 (k0_pay8 (iblk m c 1 t)) (k0_pay9 (iblk m c 0 t) (iblk m c 2 t)) (k0_pay10 (iblk m c 1 t))) (k0_pay12 (iblk m c 0 t) (iblk m c 1 t) (iblk m c 2 t)) (k0_pay16 (k0_pay13 (iblk m c 1 t)) (k0_pay14 (iblk m c 0 t) (iblk m c 2 t)) (k0_pay15 (iblk m c 1 t)) (Scalar.ofBits .f32 0x3F800000#32 : Ideal .f32)) (k0_pay17 (iblk m c 0 t) (iblk m c 1 t) (iblk m c 2 t)) (k0_pay18 (iblk m c 1 t)) (k0_pay19 (iblk m c 0 t) (iblk m c 2 t)) (k0_pay20 (iblk m c 1 t)) y = REF5 (m ((c : Thread nD τ).loc main_arg0)) (m ((c : Thread nD τ).loc main_arg1)) (m ((c : Thread nD τ).loc main_arg2)) (m ((c : Thread nD τ).loc main_arg3)) (((cfg0.win 5).blk t).view.emb y) := by
  have he : (((cfg0.win 5).blk t).view.emb y : S4096x1024.Idx) = ix2 (place t (y 0)) (y 1) := by
    blk_ext [idx t, place]
  exact (out_row m c t y).trans (congrArg (REF5 (m ((c : Thread nD τ).loc main_arg0)) (m ((c : Thread nD τ).loc main_arg1)) (m ((c : Thread nD τ).loc main_arg2)) (m ((c : Thread nD τ).loc main_arg3))) he.symm)

/-- The products after the run are the reference's. -/
theorem final5 (c : Dev nD) : (dats m 0 c).arrAt 5 (cfgs 0).N = REF5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  obtain ⟨l0, l1, l2, l3, l4, l5, l6, l7, l8, l9⟩ := loads_eq (iblk m c 0 t) (iblk m c 1 t) (iblk m c 2 t) (iblk m c 3 t)
  rw [l0, l1, l2, l3, l4, l5, l6, l7, l8, l9]
  exact point5 m c t y

end Cert.Kernel23Ideal.Value

end
-- ==== Proof.Norm.Grad.lean ====
/- The gradient of a normalised row over the real numbers: the kernels' closed form and the derivative's own sums. -/
module

public import proofs.«01_k».proof.Proof.Attn.Maths
public import Idealize.ShloMosaic.Lib.Pipeline.ValueKit

@[expose] public section

noncomputable section

open Idealize.ShloMosaic

namespace Cert.Norm

/-- The mean of a row of 1024 values. -/
def mean (z : Fin 1024 → EReal) : EReal := Ideal.div (∑ k, z k) (Scalar.ofBits (F := Ideal) .f32 0x44800000#32 : Ideal .f32)

/-- A value of the row with the mean taken off. -/
def spread (z : Fin 1024 → EReal) (j : Fin 1024) : EReal := z j - mean z

/-- The row's mean square about its mean, and the small constant. -/
def var (z : Fin 1024 → EReal) : EReal := mean (fun k => spread z k * spread z k) + (Scalar.ofBits (F := Ideal) .f32 0x3727C5AC#32 : Ideal .f32)

/-- One value of the normalised row. -/
def hat (z : Fin 1024 → EReal) (j : Fin 1024) : EReal := spread z j * Ideal.rsqrt (var z)

/-- The kernels' gradient by a value of the row, where `d` is the gradient by the normalised row. -/
def dnorm (z d : Fin 1024 → EReal) (j : Fin 1024) : EReal :=
  Ideal.rsqrt (var z) * (d j - mean d - hat z j * mean (fun k => d k * hat z k))

/-- What the derivative puts on the square of each value. -/
def dsq (z d : Fin 1024 → EReal) : EReal :=
  Ideal.div ((∑ k, spread z k * d k) * ((Scalar.ofBits (F := Ideal) .f32 0xBF000000#32 : Ideal .f32) * Ideal.div (Ideal.rsqrt (var z)) (var z))) (Scalar.ofBits (F := Ideal) .f32 0x44800000#32 : Ideal .f32)

/-- What the derivative puts on each value through its square. -/
def through (z d : Fin 1024 → EReal) (j : Fin 1024) : EReal := dsq z d * ((Scalar.ofBits (F := Ideal) .f32 0x40000000#32 : Ideal .f32) * spread z j)

/-- The derivative by a value of the row, summand by summand. -/
def dnormR (z d : Fin 1024 → EReal) (j : Fin 1024) : EReal :=
  d j * Ideal.rsqrt (var z) + through z d j
    + Ideal.div ((∑ k, -(d k * Ideal.rsqrt (var z))) + ∑ k, -through z d k) (Scalar.ofBits (F := Ideal) .f32 0x44800000#32 : Ideal .f32)

theorem c1024 : (Scalar.ofBits (F := Ideal) .f32 0x44800000#32 : Ideal .f32) = ((1024 : ℝ) : EReal) := by
  show Ideal.ofBits .f32 0x44800000#32 = _
  simp [Ideal.ofBits, Ideal.ieee]
  norm_num
  rw [← EReal.coe_mul]
  norm_num

theorem c2 : (Scalar.ofBits (F := Ideal) .f32 0x40000000#32 : Ideal .f32) = ((2 : ℝ) : EReal) := by
  show Ideal.ofBits .f32 0x40000000#32 = _
  simp [Ideal.ofBits, Ideal.ieee]
  rw [← EReal.coe_mul]
  norm_num

theorem chalf : (Scalar.ofBits (F := Ideal) .f32 0xBF000000#32 : Ideal .f32) = ((-(1 / 2) : ℝ) : EReal) := by
  show Ideal.ofBits .f32 0xBF000000#32 = _
  simp [Ideal.ofBits, Ideal.ieee]
  norm_num
  rw [← EReal.coe_mul]
  norm_num

theorem ceps : ∃ e : ℝ, 0 < e ∧ (Scalar.ofBits (F := Ideal) .f32 0x3727C5AC#32 : Ideal .f32) = (e : EReal) := by
  refine ⟨_, ?_, show Ideal.ofBits .f32 0x3727C5AC#32 = _ by simp [Ideal.ofBits, Ideal.ieee]; rfl⟩
  norm_num

theorem mean_coe (z : Fin 1024 → ℝ) : mean (fun k => (z k : EReal)) = (((∑ k, z k) * (1 / 1024) : ℝ) : EReal) := by
  unfold mean
  rw [c1024, Ideal.div_coe (by norm_num), ← Cert.Attn.coe_sum, ← EReal.coe_mul]

theorem sum_bot {f : Fin 1024 → EReal} (k : Fin 1024) (h : f k = ⊥) : ∑ i, f i = ⊥ := by
  rw [← Finset.add_sum_erase _ _ (Finset.mem_univ k), h, EReal.bot_add]

theorem sum_top {f : Fin 1024 → EReal} (k : Fin 1024) (h : f k = ⊤) (hb : ∀ i, f i ≠ ⊥) : ∑ i, f i = ⊤ := by
  rw [← Finset.add_sum_erase _ _ (Finset.mem_univ k), h]
  exact EReal.top_add_of_ne_bot (Finset.sum_induction f (fun x => x ≠ ⊥) (fun a b ha hb h => (EReal.add_eq_bot_iff.mp h).elim ha hb) EReal.zero_ne_bot fun i _ => hb i)

/-- The squares about the mean of a row that has an infinite value are all infinite. -/
theorem square_top (z : Fin 1024 → EReal) (k : Fin 1024) (h : z k = ⊥ ∨ z k = ⊤) (j : Fin 1024) : spread z j * spread z j = ⊤ := by
  have hp : ((0 : ℝ) : EReal) < ((1 / 1024 : ℝ) : EReal) := EReal.coe_lt_coe_iff.mpr (by norm_num)
  have hm : mean z = ⊥ ∨ (mean z = ⊤ ∧ ∀ i, z i ≠ ⊥) := by
    unfold mean
    rw [c1024, Ideal.div_coe (by norm_num)]
    by_cases hb : ∃ i, z i = ⊥
    · obtain ⟨i, hi⟩ := hb
      exact .inl (by rw [sum_bot i hi]; exact EReal.bot_mul_of_pos hp)
    · rw [not_exists] at hb
      exact .inr ⟨by rw [sum_top k (h.resolve_left (hb k)) hb]; exact EReal.top_mul_of_pos hp, hb⟩
  unfold spread
  rcases hm with hm | ⟨hm, hb⟩
  · rw [hm]
    by_cases hz : z j = ⊥
    · rw [hz, sub_eq_add_neg, EReal.bot_add, EReal.bot_mul_bot]
    · rw [sub_eq_add_neg, EReal.neg_bot, EReal.add_top_of_ne_bot hz, EReal.top_mul_top]
  · rw [hm, sub_eq_add_neg, EReal.neg_top, EReal.add_bot, EReal.bot_mul_bot]

/-- On a row that has an infinite value both forms are zero. -/
theorem dnorm_eq_inf (z d : Fin 1024 → EReal) (k : Fin 1024) (h : z k = ⊥ ∨ z k = ⊤) (j : Fin 1024) : dnorm z d j = dnormR z d j := by
  obtain ⟨e, he, hc⟩ := ceps
  have hv : var z = ⊤ := by
    unfold var mean
    rw [sum_top (f := fun i => spread z i * spread z i) 0 (square_top z k h 0) (fun i => by rw [square_top z k h i]; exact top_ne_bot),
      c1024, Ideal.div_coe (by norm_num), EReal.top_mul_of_pos (EReal.coe_lt_coe_iff.mpr (by norm_num)), hc]
    exact EReal.top_add_of_ne_bot (EReal.coe_ne_bot e)
  have hr : Ideal.rsqrt (⊤ : EReal) = 0 := rfl
  have h0 : Ideal.div 0 (⊤ : EReal) = 0 := by
    unfold Ideal.div
    rw [if_neg EReal.top_ne_zero, zero_mul]
  have hq : dsq z d = 0 := by
    unfold dsq
    rw [hv, hr, h0, mul_zero, mul_zero, c1024, Ideal.div_coe (by norm_num), zero_mul]
  unfold dnorm dnormR through
  simp only [hv, hr, hq, zero_mul, mul_zero, neg_zero, Finset.sum_const_zero, add_zero]
  rw [c1024, Ideal.div_coe (by norm_num), zero_mul, add_zero]

/-- On rows of real numbers the closed form is the derivative. -/
theorem dnorm_eq_real (z d : Fin 1024 → EReal) (hz : ∀ k, z k = ((z k).toReal : EReal)) (hd : ∀ k, d k = ((d k).toReal : EReal)) (j : Fin 1024) :
    dnorm z d j = dnormR z d j := by
  obtain ⟨Z, rfl⟩ : ∃ Z : Fin 1024 → ℝ, z = fun k => (Z k : EReal) := ⟨fun k => (z k).toReal, funext hz⟩
  obtain ⟨D, rfl⟩ : ∃ D : Fin 1024 → ℝ, d = fun k => (D k : EReal) := ⟨fun k => (d k).toReal, funext hd⟩
  clear hz hd
  obtain ⟨e, he, hc⟩ := ceps
  set M : ℝ := (∑ k, Z k) * (1 / 1024) with hM
  have hs : ∀ k, spread (fun k => (Z k : EReal)) k = ((Z k - M : ℝ) : EReal) := fun k => by
    unfold spread
    rw [mean_coe, ← EReal.coe_sub]
  set V : ℝ := (∑ k, (Z k - M) * (Z k - M)) * (1 / 1024) + e with hV
  have hVpos : 0 < V := by
    have : 0 ≤ ∑ k, (Z k - M) * (Z k - M) := Finset.sum_nonneg fun k _ => mul_self_nonneg _
    positivity
  have hv : var (fun k => (Z k : EReal)) = (V : EReal) := by
    unfold var
    simp only [hs, ← EReal.coe_mul]
    rw [mean_coe, hc, ← EReal.coe_add]
  set I : ℝ := (Real.sqrt V)⁻¹ with hI
  have hr : Ideal.rsqrt (V : EReal) = (I : EReal) := by
    rw [Ideal.rsqrt_coe, if_neg hVpos.le.not_gt, if_neg hVpos.ne']
  have hI2 : I * I = 1 / V := by
    rw [hI, ← mul_inv, Real.mul_self_sqrt hVpos.le, one_div]
  have h0 : ∑ k, (Z k - M) = 0 := by
    rw [Finset.sum_sub_distrib, Finset.sum_const, Finset.card_univ, Fintype.card_fin, nsmul_eq_mul, hM]
    push_cast
    ring
  have hh : ∀ k, hat (fun k => (Z k : EReal)) k = (((Z k - M) * I : ℝ) : EReal) := fun k => by
    unfold hat
    rw [hs, hv, hr, ← EReal.coe_mul]
  set T : ℝ := (∑ k, (Z k - M) * D k) * (-(1 / 2) * (I * (1 / V))) * (1 / 1024) with hT
  have hq : dsq (fun k => (Z k : EReal)) (fun k => (D k : EReal)) = (T : EReal) := by
    unfold dsq
    simp only [hs, ← EReal.coe_mul]
    rw [hv, hr, c1024, chalf, Ideal.div_coe hVpos.ne', Ideal.div_coe (by norm_num), ← Cert.Attn.coe_sum]
    simp only [← EReal.coe_mul]
    rfl
  have ht : ∀ k, through (fun k => (Z k : EReal)) (fun k => (D k : EReal)) k = ((T * (2 * (Z k - M)) : ℝ) : EReal) := fun k => by
    unfold through
    rw [hq, hs, c2, ← EReal.coe_mul, ← EReal.coe_mul]
  unfold dnorm dnormR
  simp only [hh, ht, hv, hr, mean_coe, ← EReal.coe_mul, ← EReal.coe_sub, ← EReal.coe_add, ← EReal.coe_neg, ← Cert.Attn.coe_sum]
  rw [c1024, Ideal.div_coe (by norm_num), ← EReal.coe_mul, ← EReal.coe_add, EReal.coe_eq_coe_iff]
  have e1 : ∑ k, D k * ((Z k - M) * I) = (∑ k, (Z k - M) * D k) * I := by
    rw [Finset.sum_mul]
    exact Finset.sum_congr rfl fun k _ => by ring
  have e2 : ∑ k, -(D k * I) = -((∑ k, D k) * I) := by
    rw [Finset.sum_neg_distrib, Finset.sum_mul]
  have e3 : ∑ k, -(T * (2 * (Z k - M))) = 0 := by
    have : ∀ k, -(T * (2 * (Z k - M))) = (-(T * 2)) * (Z k - M) := fun k => by ring
    simp only [this]
    rw [← Finset.mul_sum, h0, mul_zero]
  rw [e1, e2, e3, hT, ← hI2]
  ring

/-- The closed form is the derivative where the gradient that arrives is real. -/
theorem dnorm_eq (z d : Fin 1024 → EReal) (hd : ∀ k, d k = ((d k).toReal : EReal)) (j : Fin 1024) : dnorm z d j = dnormR z d j := by
  by_cases h : ∃ k, z k = ⊥ ∨ z k = ⊤
  · obtain ⟨k, hk⟩ := h
    exact dnorm_eq_inf z d k hk j
  · rw [not_exists] at h
    exact dnorm_eq_real z d (fun k => (EReal.coe_toReal (fun e => h k (.inr e)) (fun e => h k (.inl e))).symm) hd j

theorem real_add {x y : EReal} (hx : x = (x.toReal : EReal)) (hy : y = (y.toReal : EReal)) : x + y = ((x + y).toReal : EReal) := by
  obtain ⟨a, rfl⟩ : ∃ a : ℝ, x = a := ⟨_, hx⟩
  obtain ⟨b, rfl⟩ : ∃ b : ℝ, y = b := ⟨_, hy⟩
  rw [← EReal.coe_add, EReal.toReal_coe]

theorem real_mul {x y : EReal} (hx : x = (x.toReal : EReal)) (hy : y = (y.toReal : EReal)) : x * y = ((x * y).toReal : EReal) := by
  obtain ⟨a, rfl⟩ : ∃ a : ℝ, x = a := ⟨_, hx⟩
  obtain ⟨b, rfl⟩ : ∃ b : ℝ, y = b := ⟨_, hy⟩
  rw [← EReal.coe_mul, EReal.toReal_coe]

theorem real_sum {ι : Type} [Fintype ι] {f : ι → EReal} (h : ∀ k, f k = ((f k).toReal : EReal)) : ∑ k, f k = ((∑ k, f k).toReal : EReal) := by
  obtain ⟨F, rfl⟩ : ∃ F : ι → ℝ, f = fun k => (F k : EReal) := ⟨fun k => (f k).toReal, funext h⟩
  rw [← Cert.Attn.coe_sum, EReal.toReal_coe]

end Cert.Norm

end
-- ==== Proof.Norm.DMix.lean ====
/- The gradients through the first normalisation, the output weights and the mixed branches: the kernel and the reference. -/
module

public import proofs.«01_k».proof.Proof.Gen.Kernel24Ideal.Value
public import proofs.«01_k».proof.Proof.Gen.Reference24Ideal
public import proofs.«01_k».proof.Proof.Norm.Grad
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Norm

namespace Cert.Kernel24Ideal.Value

open Cert.Kernel24Ideal Cert.Kernel24Ideal.Gen

variable (m : (ℓ : Loc nD τ sig) → Buf (Elt Ideal) ℓ)

/-- Which block of its array each window holds at each point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![t.val, 0] ∧ win0_14.index t = ![t.val, 0] ∧ win0_15.index t = ![0, 0] ∧ win0_16.index t = ![0, 0] :=
  (by decide +kernel : ∀ t : Fin grid0.N, _)

/-- The row that is normalised: the step's row scaled, and the product's. -/
def zrow (x a : Fin 1024 → EReal) (k : Fin 1024) : EReal := (Scalar.ofBits (F := Ideal) .f32 0x3F9837F0#32 : Ideal .f32) * x k + a k

/-- The gradient by the normalised row: what arrives, and the gradient of the product with the weights `w`. -/
def dyrow (d p : Fin 1024 → EReal) (w : Fin 1024 → Fin 1024 → EReal) (k : Fin 1024) : EReal := d k + ∑ l, p l * w k l

/-- A row's product with the transpose of the weights `o`. -/
def dmrow (z : Fin 1024 → EReal) (o : Fin 1024 → Fin 1024 → EReal) (j : Fin 1024) : EReal := ∑ k, z k * o j k

/-- The sigmoid. -/
def sgm (g : EReal) : EReal := Ideal.div 1 (1 + Ideal.exp (-g))

/-- The kernel's rows less their means. -/
theorem cen_block (v0 v1 : Vec Ideal S512x1024 .f32) (y : S512x1024.Idx) :
    k0_pay5 v0 v1 y = spread (zrow (fun k => v0 (ix2 (y 0) k)) (fun k => v1 (ix2 (y 0) k))) (y 1) := by
  pointwise [k0_pay5, spread, mean, zrow]

/-- The kernel's reciprocal roots. -/
theorem root_block (v0 v1 : Vec Ideal S512x1024 .f32) (y : S512x1.Idx) :
    k0_pay8 (k0_pay6 v0 v1) (k0_pay7 (F := Ideal)) y = Ideal.rsqrt (var (zrow (fun k => v0 (ix2 (y 0) k)) (fun k => v1 (ix2 (y 0) k)))) := by
  pointwise [k0_pay8, k0_pay6, k0_pay7, cen_block, var, mean]

/-- The kernel's normalised rows. -/
theorem hat_block (v0 v1 : Vec Ideal S512x1024 .f32) (y : S512x1024.Idx) :
    k0_pay9 (k0_pay5 v0 v1) (k0_pay6 v0 v1) (k0_pay7 (F := Ideal)) y = hat (zrow (fun k => v0 (ix2 (y 0) k)) (fun k => v1 (ix2 (y 0) k))) (y 1) := by
  pointwise [k0_pay9, cen_block, root_block, hat]

/-- The kernel's gradient by the rows that are normalised. -/
theorem dz_block (v11 : Vec Ideal S1x1024 .f32) (v16 : FVec Ideal S512x1024 .f32) (v0 v1 : Vec Ideal S512x1024 .f32) (y : S512x1024.Idx) :
    k0_pay10 v11 v16 (k0_pay5 v0 v1) (k0_pay6 v0 v1) (k0_pay7 (F := Ideal)) y =
      dnorm (zrow (fun k => v0 (ix2 (y 0) k)) (fun k => v1 (ix2 (y 0) k))) (fun k => v16 (ix2 (y 0) k) * v11 (ix2 0 k)) (y 1) := by
  pointwise [k0_pay10, hat_block, root_block, dnorm, mean]

/-- The kernel's gradient by the normalised rows. -/
theorem dy_block (v2 : Vec Ideal S512x1024 .f32) (v3 : Vec Ideal S512x1024 .bf16) (v13 : Vec Ideal S1024x1024 .bf16) (y : S512x1024.Idx) :
    k0_pay4 v2 v3 v13 y = dyrow (fun k => v2 (ix2 (y 0) k)) (fun k => v3 (ix2 (y 0) k)) (fun k l => v13 (ix2 k l)) (y 1) := by
  pointwise [k0_pay4, dyrow]

/-- The kernel's gradient by the mixed branches. -/
theorem dm_block (v11 : Vec Ideal S1x1024 .f32) (v12 : Vec Ideal S1024x1024 .bf16) (v16 v25 : FVec Ideal S512x1024 .f32) (v30 v31 : FVec Ideal S512x1 .f32) (y : S512x1024.Idx) :
    k0_pay12 v11 v12 v16 v25 v30 v31 y = dmrow (fun k => k0_pay10 v11 v16 v25 v30 v31 (ix2 (y 0) k)) (fun j k => v12 (ix2 j k)) (y 1) := by
  have h : ∀ x : FVec Ideal S512x1024 .bf16, matmul (φ₂ := .bf16) dot_S512x1024_S1024x1024_S512x1024_1_1_0_0_n_n none x v12 (constant S512x1024 .f32 0x00000000#32) y = ∑ k : Fin 1024, HMul.hMul (α := EReal) (β := EReal) (γ := EReal) (x (ix2 (y 0) k)) (v12 (ix2 (y 1) k)) := by
    intro x
    pointwise []
  exact h _

/-- The sigmoids of the two halves of the gates. -/
theorem sig_block (v9 : Vec Ideal S512x2048 .bf16) (y : S512x1024.Idx) :
    k0_pay13 (k0_pay3 v9) y = sgm (v9 (ix2 (y 0) ⟨(y 1).val, Nat.lt_of_lt_of_le (y 1).isLt (by decide)⟩)) ∧
    k0_pay14 (k0_pay3 v9) y = sgm (v9 (ix2 (y 0) ⟨1024 + (y 1).val, Nat.add_lt_add_left (y 1).isLt 1024⟩)) := by
  constructor
  · pointwise [k0_pay13, k0_pay3, sgm]
    rw [zero_sub]
  · pointwise [k0_pay14, k0_pay3, sgm]
    rw [zero_sub]

/-- The reference's array that is normalised. -/
def SUMS (X0 X1 : FVec Ideal S4096x1024 .f32) : FVec Ideal Cert.Reference24Ideal.S4096x1024 .f32 := addf (mulf (broadcastInDim Cert.Reference24Ideal.S4096x1024 ![] Cert.Reference24Ideal.Gen.bcast_S_S4096x1024 (constant Cert.Reference24Ideal.S_ .f32 0x3F9837F0#32)) X0) X1

/-- The reference's gradient by the normalised rows. -/
def DY (X2 : FVec Ideal S4096x1024 .f32) (X3 : FVec Ideal S4096x1024 .bf16) (X9 : FVec Ideal S1024x1024 .bf16) : FVec Ideal Cert.Reference24Ideal.S4096x1024 .f32 := addf X2 (Host.dotGeneral Cert.Reference24Ideal.dot_S4096x1024_S1024x1024_S4096x1024_1_1_0_0_n_n none (extf .f32 X3 Cert.Reference24Ideal.Gen.bitsLt_bf16_f32) (extf .f32 X9 Cert.Reference24Ideal.Gen.bitsLt_bf16_f32))

/-- The rows less their means. -/
def CEN (Z : FVec Ideal Cert.Reference24Ideal.S4096x1024 .f32) : FVec Ideal Cert.Reference24Ideal.S4096x1024 .f32 := subf Z (broadcastInDim Cert.Reference24Ideal.S4096x1024 ![0, 1] Cert.Reference24Ideal.Gen.bcast_S4096x1_S4096x1024_0_1 (Host.divf (broadcastInDim Cert.Reference24Ideal.S4096x1 ![0] Cert.Reference24Ideal.Gen.bcast_S4096_S4096x1_0 (Host.reduceAdd Z (constant Cert.Reference24Ideal.S_ .f32 0x00000000#32) Cert.Reference24Ideal.Gen.reducesTo_S4096x1024_S4096_d1 Cert.Reference24Ideal.Gen.h_S_)) (broadcastInDim Cert.Reference24Ideal.S4096x1 ![] Cert.Reference24Ideal.Gen.bcast_S_S4096x1 (constant Cert.Reference24Ideal.S_ .f32 0x44800000#32))))

/-- The mean squares and the small constant. -/
def VAR (Z : FVec Ideal Cert.Reference24Ideal.S4096x1024 .f32) : FVec Ideal Cert.Reference24Ideal.S4096x1 .f32 := addf (Host.divf (broadcastInDim Cert.Reference24Ideal.S4096x1 ![0] Cert.Reference24Ideal.Gen.bcast_S4096_S4096x1_0 (Host.reduceAdd (mulf (CEN Z) (CEN Z)) (constant Cert.Reference24Ideal.S_ .f32 0x00000000#32) Cert.Reference24Ideal.Gen.reducesTo_S4096x1024_S4096_d1 Cert.Reference24Ideal.Gen.h_S_)) (broadcastInDim Cert.Reference24Ideal.S4096x1 ![] Cert.Reference24Ideal.Gen.bcast_S_S4096x1 (constant Cert.Reference24Ideal.S_ .f32 0x44800000#32))) (broadcastInDim Cert.Reference24Ideal.S4096x1 ![] Cert.Reference24Ideal.Gen.bcast_S_S4096x1 (constant Cert.Reference24Ideal.S_ .f32 0x3727C5AC#32))

/-- The normalised rows, before they are scaled. -/
def HAT (Z : FVec Ideal Cert.Reference24Ideal.S4096x1024 .f32) : FVec Ideal Cert.Reference24Ideal.S4096x1024 .f32 := mulf (CEN Z) (broadcastInDim Cert.Reference24Ideal.S4096x1024 ![0, 1] Cert.Reference24Ideal.Gen.bcast_S4096x1_S4096x1024_0_1 (Host.rsqrt (VAR Z)))

/-- What the derivative puts on the values through their squares. -/
def THRU (Z D : FVec Ideal Cert.Reference24Ideal.S4096x1024 .f32) : FVec Ideal Cert.Reference24Ideal.S4096x1024 .f32 := mulf (broadcastInDim Cert.Reference24Ideal.S4096x1024 ![0] Cert.Reference24Ideal.Gen.bcast_S4096_S4096x1024_0 (Host.reduceAdd (Host.divf (mulf (shapeCast Cert.Reference24Ideal.S4096x1 (Host.reduceAdd (mulf (CEN Z) D) (constant Cert.Reference24Ideal.S_ .f32 0x00000000#32) Cert.Reference24Ideal.Gen.reducesTo_S4096x1024_S4096_d1 Cert.Reference24Ideal.Gen.h_S_) Cert.Reference24Ideal.Gen.shapeCasts_S4096_S4096x1) (mulf (broadcastInDim Cert.Reference24Ideal.S4096x1 ![] Cert.Reference24Ideal.Gen.bcast_S_S4096x1 (constant Cert.Reference24Ideal.S_ .f32 0xBF000000#32)) (Host.divf (Host.rsqrt (VAR Z)) (VAR Z)))) (broadcastInDim Cert.Reference24Ideal.S4096x1 ![] Cert.Reference24Ideal.Gen.bcast_S_S4096x1 (constant Cert.Reference24Ideal.S_ .f32 0x44800000#32))) (constant Cert.Reference24Ideal.S_ .f32 0x00000000#32) Cert.Reference24Ideal.Gen.reducesTo_S4096x1_S4096_d1 Cert.Reference24Ideal.Gen.h_S_)) (mulf (broadcastInDim Cert.Reference24Ideal.S4096x1024 ![] Cert.Reference24Ideal.Gen.bcast_S_S4096x1024 (constant Cert.Reference24Ideal.S_ .f32 0x40000000#32)) (CEN Z))

/-- The reference's gradient by the rows that are normalised. -/
def DZ (Z D : FVec Ideal Cert.Reference24Ideal.S4096x1024 .f32) : FVec Ideal Cert.Reference24Ideal.S4096x1024 .f32 := addf (addf (mulf D (broadcastInDim Cert.Reference24Ideal.S4096x1024 ![0, 1] Cert.Reference24Ideal.Gen.bcast_S4096x1_S4096x1024_0_1 (Host.rsqrt (VAR Z)))) (THRU Z D)) (broadcastInDim Cert.Reference24Ideal.S4096x1024 ![0] Cert.Reference24Ideal.Gen.bcast_S4096_S4096x1024_0 (Host.reduceAdd (Host.divf (addf (shapeCast Cert.Reference24Ideal.S4096x1 (Host.reduceAdd (Host.negf (mulf D (broadcastInDim Cert.Reference24Ideal.S4096x1024 ![0, 1] Cert.Reference24Ideal.Gen.bcast_S4096x1_S4096x1024_0_1 (Host.rsqrt (VAR Z))))) (constant Cert.Reference24Ideal.S_ .f32 0x00000000#32) Cert.Reference24Ideal.Gen.reducesTo_S4096x1024_S4096_d1 Cert.Reference24Ideal.Gen.h_S_) Cert.Reference24Ideal.Gen.shapeCasts_S4096_S4096x1) (shapeCast Cert.Reference24Ideal.S4096x1 (Host.reduceAdd (Host.negf (THRU Z D)) (constant Cert.Reference24Ideal.S_ .f32 0x00000000#32) Cert.Reference24Ideal.Gen.reducesTo_S4096x1024_S4096_d1 Cert.Reference24Ideal.Gen.h_S_) Cert.Reference24Ideal.Gen.shapeCasts_S4096_S4096x1)) (broadcastInDim Cert.Reference24Ideal.S4096x1 ![] Cert.Reference24Ideal.Gen.bcast_S_S4096x1 (constant Cert.Reference24Ideal.S_ .f32 0x44800000#32))) (constant Cert.Reference24Ideal.S_ .f32 0x00000000#32) Cert.Reference24Ideal.Gen.reducesTo_S4096x1_S4096_d1 Cert.Reference24Ideal.Gen.h_S_))

/-- The reference's gradient by the scaled and summed rows, of the call's arguments. -/
def DROW (X0 X1 X2 : FVec Ideal S4096x1024 .f32) (X3 : FVec Ideal S4096x1024 .bf16) (X7 : FVec Ideal S1x1024 .f32) (X9 : FVec Ideal S1024x1024 .bf16) : FVec Ideal Cert.Reference24Ideal.S4096x1024 .f32 := DZ (SUMS X0 X1) (mulf (DY X2 X3 X9) (broadcastInDim Cert.Reference24Ideal.S4096x1024 ![0, 1] Cert.Reference24Ideal.Gen.bcast_S1x1024_S4096x1024_0_1 X7))

/-- The reference's gradient by the mixed branches, of the call's arguments. -/
def DMIX (X0 X1 X2 : FVec Ideal S4096x1024 .f32) (X3 : FVec Ideal S4096x1024 .bf16) (X7 : FVec Ideal S1x1024 .f32) (X8 X9 : FVec Ideal S1024x1024 .bf16) : FVec Ideal Cert.Reference24Ideal.S4096x1024 .f32 := (Host.dotGeneral Cert.Reference24Ideal.dot_S4096x1024_S1024x1024_S4096x1024_1_1_0_0_n_n none (DROW X0 X1 X2 X3 X7 X9) (extf .f32 X8 Cert.Reference24Ideal.Gen.bitsLt_bf16_f32))

/-- The sigmoids of the two halves of the gates. -/
def SIG0 (X6 : FVec Ideal S4096x2048 .bf16) : FVec Ideal Cert.Reference24Ideal.S4096x1024 .f32 := (Host.divf (broadcastInDim Cert.Reference24Ideal.S4096x1024 ![] Cert.Reference24Ideal.Gen.bcast_S_S4096x1024 (constant Cert.Reference24Ideal.S_ .f32 0x3F800000#32)) (addf (broadcastInDim Cert.Reference24Ideal.S4096x1024 ![] Cert.Reference24Ideal.Gen.bcast_S_S4096x1024 (constant Cert.Reference24Ideal.S_ .f32 0x3F800000#32)) (Host.exp (Host.negf (extractStridedSlice Cert.Reference24Ideal.S4096x1024 ![0, 0] (extf .f32 X6 Cert.Reference24Ideal.Gen.bitsLt_bf16_f32) Cert.Reference24Ideal.Gen.slices_S4096x2048_S4096x1024_0_0)))))
def SIG1 (X6 : FVec Ideal S4096x2048 .bf16) : FVec Ideal Cert.Reference24Ideal.S4096x1024 .f32 := (Host.divf (broadcastInDim Cert.Reference24Ideal.S4096x1024 ![] Cert.Reference24Ideal.Gen.bcast_S_S4096x1024 (constant Cert.Reference24Ideal.S_ .f32 0x3F800000#32)) (addf (broadcastInDim Cert.Reference24Ideal.S4096x1024 ![] Cert.Reference24Ideal.Gen.bcast_S_S4096x1024 (constant Cert.Reference24Ideal.S_ .f32 0x3F800000#32)) (Host.exp (Host.negf (extractStridedSlice Cert.Reference24Ideal.S4096x1024 ![0, 1024] (extf .f32 X6 Cert.Reference24Ideal.Gen.bitsLt_bf16_f32) Cert.Reference24Ideal.Gen.slices_S4096x2048_S4096x1024_0_1024)))))

theorem sums_array (X0 X1 : FVec Ideal S4096x1024 .f32) (i : S4096x1024.Idx) : SUMS X0 X1 i = zrow (fun k => X0 (ix2 (i 0) k)) (fun k => X1 (ix2 (i 0) k)) (i 1) := by
  pointwise [SUMS, zrow]

theorem dy_array (X2 : FVec Ideal S4096x1024 .f32) (X3 : FVec Ideal S4096x1024 .bf16) (X9 : FVec Ideal S1024x1024 .bf16) (i : S4096x1024.Idx) :
    DY X2 X3 X9 i = dyrow (fun k => X2 (ix2 (i 0) k)) (fun k => X3 (ix2 (i 0) k)) (fun k l => X9 (ix2 k l)) (i 1) := by
  pointwise [DY, dyrow]

theorem cen_array (Z : FVec Ideal Cert.Reference24Ideal.S4096x1024 .f32) (i : S4096x1024.Idx) : CEN Z i = spread (fun k => Z (ix2 (i 0) k)) (i 1) := by
  pointwise [CEN, spread, mean]

theorem var_array (Z : FVec Ideal Cert.Reference24Ideal.S4096x1024 .f32) (i : Cert.Reference24Ideal.S4096x1.Idx) : VAR Z i = var (fun k => Z (ix2 (i 0) k)) := by
  pointwise [VAR, cen_array, var, mean]

theorem hat_array (Z : FVec Ideal Cert.Reference24Ideal.S4096x1024 .f32) (i : S4096x1024.Idx) : HAT Z i = hat (fun k => Z (ix2 (i 0) k)) (i 1) := by
  pointwise [HAT, cen_array, var_array, hat]

theorem thru_array (Z D : FVec Ideal Cert.Reference24Ideal.S4096x1024 .f32) (i : S4096x1024.Idx) : THRU Z D i = through (fun k => Z (ix2 (i 0) k)) (fun k => D (ix2 (i 0) k)) (i 1) := by
  pointwise [THRU, cen_array, var_array, through, dsq, Fin.sum_univ_one]

theorem dz_array (Z D : FVec Ideal Cert.Reference24Ideal.S4096x1024 .f32) (i : S4096x1024.Idx) : DZ Z D i = dnormR (fun k => Z (ix2 (i 0) k)) (fun k => D (ix2 (i 0) k)) (i 1) := by
  pointwise [DZ, thru_array, var_array, dnormR, Fin.sum_univ_one]

theorem drow_array (X0 X1 X2 : FVec Ideal S4096x1024 .f32) (X3 : FVec Ideal S4096x1024 .bf16) (X7 : FVec Ideal S1x1024 .f32) (X9 : FVec Ideal S1024x1024 .bf16) (i : S4096x1024.Idx) :
    DROW X0 X1 X2 X3 X7 X9 i = dnormR (zrow (fun k => X0 (ix2 (i 0) k)) (fun k => X1 (ix2 (i 0) k)))
      (fun k => dyrow (fun k => X2 (ix2 (i 0) k)) (fun k => X3 (ix2 (i 0) k)) (fun k l => X9 (ix2 k l)) k * X7 (ix2 0 k)) (i 1) := by
  pointwise [DROW, dz_array, sums_array, dy_array]

theorem dmix_array (X0 X1 X2 : FVec Ideal S4096x1024 .f32) (X3 : FVec Ideal S4096x1024 .bf16) (X7 : FVec Ideal S1x1024 .f32) (X8 X9 : FVec Ideal S1024x1024 .bf16) (i : S4096x1024.Idx) :
    DMIX X0 X1 X2 X3 X7 X8 X9 i = dmrow (fun k => DROW X0 X1 X2 X3 X7 X9 (ix2 (i 0) k)) (fun j k => X8 (ix2 j k)) (i 1) := by
  pointwise [DMIX, dmrow]

theorem sig_array (X6 : FVec Ideal S4096x2048 .bf16) (i : S4096x1024.Idx) :
    SIG0 X6 i = sgm (X6 (ix2 (i 0) ⟨(i 1).val, Nat.lt_of_lt_of_le (i 1).isLt (by decide)⟩)) ∧
    SIG1 X6 i = sgm (X6 (ix2 (i 0) ⟨1024 + (i 1).val, Nat.add_lt_add_left (i 1).isLt 1024⟩)) := by
  constructor
  · pointwise [SIG0, sgm]
  · pointwise [SIG1, sgm]

/-- The row of the arrays that a point's block holds as its row `r`. -/
def place (t : Fin cfg0.N) (r : Fin 512) : Fin 4096 := ⟨t.val * 512 + r.val, by have h : t.val < 8 := t.isLt; have := r.isLt; omega⟩

section Point

variable (c : Dev nD) (t : Fin cfg0.N)

/-- The call's arguments. -/
abbrev A0 : FVec Ideal S4096x1024 .f32 := m ((c : Thread nD τ).loc main_arg0)
abbrev A1 : FVec Ideal S4096x1024 .f32 := m ((c : Thread nD τ).loc main_arg1)
abbrev A2 : FVec Ideal S4096x1024 .f32 := m ((c : Thread nD τ).loc main_arg2)
abbrev A3 : FVec Ideal S4096x1024 .bf16 := m ((c : Thread nD τ).loc main_arg3)
abbrev A4 : FVec Ideal S4096x1024 .bf16 := m ((c : Thread nD τ).loc main_arg4)
abbrev A5 : FVec Ideal S4096x1024 .bf16 := m ((c : Thread nD τ).loc main_arg5)
abbrev A6 : FVec Ideal S4096x2048 .bf16 := m ((c : Thread nD τ).loc main_arg6)
abbrev A7 : FVec Ideal S1x1024 .f32 := m ((c : Thread nD τ).loc main_arg7)
abbrev A8 : FVec Ideal S1024x1024 .bf16 := m ((c : Thread nD τ).loc main_arg8)
abbrev A9 : FVec Ideal S1024x1024 .bf16 := m ((c : Thread nD τ).loc main_arg9)

theorem read0 : (iblk m c 0 t : Vec Ideal S512x1024 .f32) = fun j => A0 m c (ix2 (place t (j 0)) (j 1)) := by
  funext j
  blk_point [iblk, V, idx t, place]

theorem read1 : (iblk m c 1 t : Vec Ideal S512x1024 .f32) = fun j => A1 m c (ix2 (place t (j 0)) (j 1)) := by
  funext j
  blk_point [iblk, V, idx t, place]

theorem read2 : (iblk m c 2 t : Vec Ideal S512x1024 .f32) = fun j => A2 m c (ix2 (place t (j 0)) (j 1)) := by
  funext j
  blk_point [iblk, V, idx t, place]

theorem read3 : (iblk m c 3 t : Vec Ideal S512x1024 .bf16) = fun j => A3 m c (ix2 (place t (j 0)) (j 1)) := by
  funext j
  blk_point [iblk, V, idx t, place]

theorem read4 : (iblk m c 4 t : Vec Ideal S512x1024 .bf16) = fun j => A4 m c (ix2 (place t (j 0)) (j 1)) := by
  funext j
  blk_point [iblk, V, idx t, place]

theorem read5 : (iblk m c 5 t : Vec Ideal S512x1024 .bf16) = fun j => A5 m c (ix2 (place t (j 0)) (j 1)) := by
  funext j
  blk_point [iblk, V, idx t, place]

theorem read6 : (iblk m c 6 t : Vec Ideal S512x2048 .bf16) = fun j => A6 m c (ix2 (place t (j 0)) (j 1)) := by
  funext j
  blk_point [iblk, V, idx t, place]

theorem read7 : (iblk m c 7 t : Vec Ideal S1x1024 .f32) = A7 m c := by
  funext j
  blk_point [iblk, V, idx t]

theorem read8 : (iblk m c 8 t : Vec Ideal S1024x1024 .bf16) = A8 m c := by
  funext j
  blk_point [iblk, V, idx t]

theorem read9 : (iblk m c 9 t : Vec Ideal S1024x1024 .bf16) = A9 m c := by
  funext j
  blk_point [iblk, V, idx t]

/-- The arguments that make up the gradient by the normalised rows are arrays of real numbers. -/
structure Reals : Prop where
  h2 : ∀ i, A2 m c i = ((A2 m c i).toReal : EReal)
  h3 : ∀ i, A3 m c i = ((A3 m c i).toReal : EReal)
  h7 : ∀ i, A7 m c i = ((A7 m c i).toReal : EReal)
  h9 : ∀ i, A9 m c i = ((A9 m c i).toReal : EReal)

/-- What a point computes of the gradient by the normalised rows, by the rows themselves, and by the mixed branches. -/
abbrev kdy : FVec Ideal S512x1024 .f32 := k0_pay4 (iblk m c 2 t) (iblk m c 3 t) (iblk m c 9 t)
abbrev kdz : FVec Ideal S512x1024 .f32 := k0_pay10 (iblk m c 7 t) (kdy m c t) (k0_pay5 (iblk m c 0 t) (iblk m c 1 t)) (k0_pay6 (iblk m c 0 t) (iblk m c 1 t)) (k0_pay7 (F := Ideal))
abbrev khat : FVec Ideal S512x1024 .f32 := k0_pay9 (k0_pay5 (iblk m c 0 t) (iblk m c 1 t)) (k0_pay6 (iblk m c 0 t) (iblk m c 1 t)) (k0_pay7 (F := Ideal))
abbrev kdm : FVec Ideal S512x1024 .f32 := k0_pay12 (iblk m c 7 t) (iblk m c 8 t) (kdy m c t) (k0_pay5 (iblk m c 0 t) (iblk m c 1 t)) (k0_pay6 (iblk m c 0 t) (iblk m c 1 t)) (k0_pay7 (F := Ideal))

/-- The reference's arrays, of the call's arguments. -/
abbrev RZ : FVec Ideal Cert.Reference24Ideal.S4096x1024 .f32 := DROW (A0 m c) (A1 m c) (A2 m c) (A3 m c) (A7 m c) (A9 m c)
abbrev RM : FVec Ideal Cert.Reference24Ideal.S4096x1024 .f32 := DMIX (A0 m c) (A1 m c) (A2 m c) (A3 m c) (A7 m c) (A8 m c) (A9 m c)

/-- A point's gradient by the normalised rows is the reference's in the block's rows. -/
theorem dy_row (y : S512x1024.Idx) : kdy m c t y = DY (A2 m c) (A3 m c) (A9 m c) (ix2 (place t (y 0)) (y 1)) := by
  refine (dy_block _ _ _ y).trans (Eq.trans ?_ (dy_array _ _ _ _).symm)
  rw [read2, read3, read9]
  rfl

/-- A point's normalised rows are the reference's. -/
theorem hat_row (y : S512x1024.Idx) : khat m c t y = HAT (SUMS (A0 m c) (A1 m c)) (ix2 (place t (y 0)) (y 1)) := by
  refine (hat_block _ _ y).trans (Eq.trans ?_ (hat_array _ _).symm)
  rw [read0, read1]
  exact congrArg (fun z => hat z (y 1)) (funext fun k => (sums_array (A0 m c) (A1 m c) (ix2 (place t (y 0)) k)).symm)

/-- A point's gradient by the rows that are normalised is the reference's, where the arguments that make up the arriving gradient are real. -/
theorem dz_row (H : Reals m c) (y : S512x1024.Idx) : kdz m c t y = RZ m c (ix2 (place t (y 0)) (y 1)) := by
  refine (dz_block _ _ _ _ y).trans (Eq.trans ?_ (drow_array _ _ _ _ _ _ _).symm)
  simp only [dy_block]
  rw [read0, read1, read2, read3, read7, read9]
  exact dnorm_eq _ _ (fun k => real_mul (real_add (H.h2 _) (real_sum fun l => real_mul (H.h3 _) (H.h9 _))) (H.h7 _)) _

/-- A point's gradient by the mixed branches is the reference's. -/
theorem dm_row (H : Reals m c) (y : S512x1024.Idx) : kdm m c t y = RM m c (ix2 (place t (y 0)) (y 1)) := by
  refine (dm_block _ _ _ _ _ _ y).trans (Eq.trans ?_ (dmix_array _ _ _ _ _ _ _ _).symm)
  rw [read8]
  exact congrArg (fun z => dmrow z (fun j k => A8 m c (ix2 j k)) (y 1)) (funext fun k => dz_row m c t H (ix2 (y 0) k))

/-- A point's sigmoids are the reference's. -/
theorem sig_row (y : S512x1024.Idx) : k0_pay13 (k0_pay3 (iblk m c 6 t)) y = SIG0 (A6 m c) (ix2 (place t (y 0)) (y 1)) ∧
    k0_pay14 (k0_pay3 (iblk m c 6 t)) y = SIG1 (A6 m c) (ix2 (place t (y 0)) (y 1)) := by
  rw [(sig_block _ y).1, (sig_block _ y).2, (sig_array _ _).1, (sig_array _ _).2, read6]
  exact ⟨rfl, rfl⟩

end Point

/-- The reference's results, of the call's arguments. -/
abbrev REF10 (X0 X1 X2 : FVec Ideal S4096x1024 .f32) (X3 : FVec Ideal S4096x1024 .bf16) (X7 : FVec Ideal S1x1024 .f32) (X9 : FVec Ideal S1024x1024 .bf16) : FVec Ideal Cert.Reference24Ideal.S4096x1024 .bf16 := truncf .bf16 (DROW X0 X1 X2 X3 X7 X9) Cert.Reference24Ideal.Gen.bitsLt_bf16_f32
abbrev REF11 (X0 X1 X2 : FVec Ideal S4096x1024 .f32) (X3 : FVec Ideal S4096x1024 .bf16) (X7 : FVec Ideal S1x1024 .f32) (X9 : FVec Ideal S1024x1024 .bf16) : FVec Ideal Cert.Reference24Ideal.S4096x1024 .f32 := mulf (broadcastInDim Cert.Reference24Ideal.S4096x1024 ![] Cert.Reference24Ideal.Gen.bcast_S_S4096x1024 (constant Cert.Reference24Ideal.S_ .f32 0x3F9837F0#32)) (DROW X0 X1 X2 X3 X7 X9)
abbrev GATES (M : FVec Ideal Cert.Reference24Ideal.S4096x1024 .f32) (X4 X5 : FVec Ideal S4096x1024 .bf16) (X6 : FVec Ideal S4096x2048 .bf16) : FVec Ideal Cert.Reference24Ideal.S4096x2048 .bf16 :=
  truncf .bf16 (concatenate Cert.Reference24Ideal.S4096x2048 1 [⟨Cert.Reference24Ideal.S4096x1024, mulf (mulf M (extf .f32 X4 Cert.Reference24Ideal.Gen.bitsLt_bf16_f32)) (mulf (SIG0 X6) (subf (broadcastInDim Cert.Reference24Ideal.S4096x1024 ![] Cert.Reference24Ideal.Gen.bcast_S_S4096x1024 (constant Cert.Reference24Ideal.S_ .f32 0x3F800000#32)) (SIG0 X6)))⟩, ⟨Cert.Reference24Ideal.S4096x1024, mulf (mulf M (extf .f32 X5 Cert.Reference24Ideal.Gen.bitsLt_bf16_f32)) (mulf (SIG1 X6) (subf (broadcastInDim Cert.Reference24Ideal.S4096x1024 ![] Cert.Reference24Ideal.Gen.bcast_S_S4096x1024 (constant Cert.Reference24Ideal.S_ .f32 0x3F800000#32)) (SIG1 X6)))⟩] Cert.Reference24Ideal.Gen.concatenates_S4096x1024_S4096x1024_S4096x2048_d1) Cert.Reference24Ideal.Gen.bitsLt_bf16_f32
abbrev REF12 (X0 X1 X2 : FVec Ideal S4096x1024 .f32) (X3 X4 X5 : FVec Ideal S4096x1024 .bf16) (X6 : FVec Ideal S4096x2048 .bf16) (X7 : FVec Ideal S1x1024 .f32) (X8 X9 : FVec Ideal S1024x1024 .bf16) : FVec Ideal Cert.Reference24Ideal.S4096x2048 .bf16 := GATES (DMIX X0 X1 X2 X3 X7 X8 X9) X4 X5 X6
abbrev REF13 (X0 X1 X2 : FVec Ideal S4096x1024 .f32) (X3 : FVec Ideal S4096x1024 .bf16) (X6 : FVec Ideal S4096x2048 .bf16) (X7 : FVec Ideal S1x1024 .f32) (X8 X9 : FVec Ideal S1024x1024 .bf16) : FVec Ideal Cert.Reference24Ideal.S4096x1024 .bf16 := truncf .bf16 (mulf (SIG0 X6) (DMIX X0 X1 X2 X3 X7 X8 X9)) Cert.Reference24Ideal.Gen.bitsLt_bf16_f32
abbrev REF14 (X0 X1 X2 : FVec Ideal S4096x1024 .f32) (X3 : FVec Ideal S4096x1024 .bf16) (X6 : FVec Ideal S4096x2048 .bf16) (X7 : FVec Ideal S1x1024 .f32) (X8 X9 : FVec Ideal S1024x1024 .bf16) : FVec Ideal Cert.Reference24Ideal.S4096x1024 .bf16 := truncf .bf16 (mulf (SIG1 X6) (DMIX X0 X1 X2 X3 X7 X8 X9)) Cert.Reference24Ideal.Gen.bitsLt_bf16_f32
abbrev REF15 (X0 X1 X2 : FVec Ideal S4096x1024 .f32) (X3 : FVec Ideal S4096x1024 .bf16) (X9 : FVec Ideal S1024x1024 .bf16) : FVec Ideal Cert.Reference24Ideal.S1x1024 .f32 := shapeCast Cert.Reference24Ideal.S1x1024 (Host.reduceAdd (mulf (HAT (SUMS X0 X1)) (DY X2 X3 X9)) (constant Cert.Reference24Ideal.S_ .f32 0x00000000#32) Cert.Reference24Ideal.Gen.reducesTo_S4096x1024_S1024_d0 Cert.Reference24Ideal.Gen.h_S_) Cert.Reference24Ideal.Gen.shapeCasts_S1024_S1x1024
abbrev REF16 (X2 : FVec Ideal S4096x1024 .f32) (X3 : FVec Ideal S4096x1024 .bf16) (X9 : FVec Ideal S1024x1024 .bf16) : FVec Ideal Cert.Reference24Ideal.S1x1024 .f32 := shapeCast Cert.Reference24Ideal.S1x1024 (Host.reduceAdd (DY X2 X3 X9) (constant Cert.Reference24Ideal.S_ .f32 0x00000000#32) Cert.Reference24Ideal.Gen.reducesTo_S4096x1024_S1024_d0 Cert.Reference24Ideal.Gen.h_S_) Cert.Reference24Ideal.Gen.shapeCasts_S1024_S1x1024

/-- The kernel's gradients by the gates, of any blocks. -/
theorem gates_block (v6 v8 : Vec Ideal S512x1024 .bf16) (v9 : Vec Ideal S512x2048 .bf16) (v11 : Vec Ideal S1x1024 .f32) (v12 : Vec Ideal S1024x1024 .bf16) (v16 v25 : FVec Ideal S512x1024 .f32) (v30 v31 : FVec Ideal S512x1 .f32) (y : S512x2048.Idx) :
    k0_pay18 (k0_pay14 (k0_pay3 v9)) (k0_pay15 (k0_pay1 v6) (k0_pay3 v9) v11 v12 v16 v25 v30 v31) (k0_pay16 (k0_pay2 v8) (k0_pay3 v9) v11 v12 v16 v25 v30 v31) (FloatOps.ofBits (F := Ideal) .f32 0x3F800000#32) y =
    if h : (y 1).val < 1024 then k0_pay12 v11 v12 v16 v25 v30 v31 (ix2 (y 0) ⟨(y 1).val, h⟩) * v6 (ix2 (y 0) ⟨(y 1).val, h⟩) * (k0_pay13 (k0_pay3 v9) (ix2 (y 0) ⟨(y 1).val, h⟩) * (1 - k0_pay13 (k0_pay3 v9) (ix2 (y 0) ⟨(y 1).val, h⟩)) : EReal)
    else k0_pay12 v11 v12 v16 v25 v30 v31 (ix2 (y 0) ⟨(y 1).val - 1024, by have : (y 1).val < 2048 := (y 1).isLt; omega⟩) * v8 (ix2 (y 0) ⟨(y 1).val - 1024, by have : (y 1).val < 2048 := (y 1).isLt; omega⟩) * (k0_pay14 (k0_pay3 v9) (ix2 (y 0) ⟨(y 1).val - 1024, by have : (y 1).val < 2048 := (y 1).isLt; omega⟩) * (1 - k0_pay14 (k0_pay3 v9) (ix2 (y 0) ⟨(y 1).val - 1024, by have : (y 1).val < 2048 := (y 1).isLt; omega⟩)) : EReal) := by
  pointwise [k0_pay18, k0_pay15, k0_pay16, k0_pay1, k0_pay2]
  exact dite_congr rfl (fun _ => mul_assoc _ _ _) fun _ => mul_assoc _ _ _

/-- The reference's gradients by the gates, at an index. -/
theorem gates_array (M : FVec Ideal Cert.Reference24Ideal.S4096x1024 .f32) (X4 X5 : FVec Ideal S4096x1024 .bf16) (X6 : FVec Ideal S4096x2048 .bf16) (i : S4096x2048.Idx) : GATES M X4 X5 X6 i =
    if h : (i 1).val < 1024 then M (ix2 (i 0) ⟨(i 1).val, h⟩) * X4 (ix2 (i 0) ⟨(i 1).val, h⟩) * (SIG0 X6 (ix2 (i 0) ⟨(i 1).val, h⟩) * (1 - SIG0 X6 (ix2 (i 0) ⟨(i 1).val, h⟩)) : EReal)
    else M (ix2 (i 0) ⟨(i 1).val - 1024, by have : (i 1).val < 2048 := (i 1).isLt; omega⟩) * X5 (ix2 (i 0) ⟨(i 1).val - 1024, by have : (i 1).val < 2048 := (i 1).isLt; omega⟩) * (SIG1 X6 (ix2 (i 0) ⟨(i 1).val - 1024, by have : (i 1).val < 2048 := (i 1).isLt; omega⟩) * (1 - SIG1 X6 (ix2 (i 0) ⟨(i 1).val - 1024, by have : (i 1).val < 2048 := (i 1).isLt; omega⟩)) : EReal) := by
  pointwise [GATES]

/-- One step of the two sums over the rows. -/
theorem scale_step (v16 v35 : FVec Ideal S512x1024 .f32) (acc : Vec Ideal S1x1024 .f32) (y : S1x1024.Idx) :
    k0_pay23 v16 v35 acc y = acc y + ∑ r : Fin 512, v16 (ix2 r (y 1)) * v35 (ix2 r (y 1)) := by
  pointwise [k0_pay23]

theorem shift_step (v16 : FVec Ideal S512x1024 .f32) (acc : Vec Ideal S1x1024 .f32) (y : S1x1024.Idx) :
    k0_pay24 v16 acc y = acc y + ∑ r : Fin 512, v16 (ix2 r (y 1)) := by
  pointwise [k0_pay24]

theorem zero_at (y : S1x1024.Idx) : k0_pay21 (F := Ideal) y = 0 ∧ k0_pay22 (F := Ideal) y = 0 := by
  constructor
  · pointwise [k0_pay21]
  · pointwise [k0_pay22]

/-- The reference's two sums. -/
theorem scale_array (X0 X1 X2 : FVec Ideal S4096x1024 .f32) (X3 : FVec Ideal S4096x1024 .bf16) (X9 : FVec Ideal S1024x1024 .bf16) (i : S1x1024.Idx) :
    REF15 X0 X1 X2 X3 X9 i = ∑ n : Fin 4096, DY X2 X3 X9 (ix2 n (i 1)) * HAT (SUMS X0 X1) (ix2 n (i 1)) := by
  pointwise [REF15]
  exact Fin.sum_fin_congr fun n => mul_comm _ _

theorem shift_array (X2 : FVec Ideal S4096x1024 .f32) (X3 : FVec Ideal S4096x1024 .bf16) (X9 : FVec Ideal S1024x1024 .bf16) (i : S1x1024.Idx) :
    REF16 X2 X3 X9 i = ∑ n : Fin 4096, DY X2 X3 X9 (ix2 n (i 1)) := by
  pointwise [REF16]

theorem gate_congr {a a' b b' s s' : EReal} (h1 : a = a') (h2 : b = b') (h3 : s = s') : a * b * (s * (1 - s)) = a' * b' * (s' * (1 - s')) := by
  rw [h1, h2, h3]

theorem side_congr {a a' s s' : EReal} (h1 : s = s') (h2 : a = a') : a * s = s' * a' := by
  rw [h1, h2, mul_comm]

/-- What one point stores of the gradient by the normalised sum, rounded is the reference's value at the index's place. -/
theorem point10 (c : Dev nD) (H : Reals m c) (t : Fin cfg0.N) (y) : k0_pay11 (iblk m c 7 t) (kdy m c t) (k0_pay5 (iblk m c 0 t) (iblk m c 1 t)) (k0_pay6 (iblk m c 0 t) (iblk m c 1 t)) (k0_pay7 (F := Ideal)) y = REF10 (A0 m c) (A1 m c) (A2 m c) (A3 m c) (A7 m c) (A9 m c) (((cfg0.win 10).blk t).view.emb y) := by
  have he : (((cfg0.win 10).blk t).view.emb y : S4096x1024.Idx) = ix2 (place t (y 0)) (y 1) := by
    blk_ext [idx t, place]
  exact (dz_row m c t H y).trans (congrArg (REF10 (A0 m c) (A1 m c) (A2 m c) (A3 m c) (A7 m c) (A9 m c)) he.symm)

/-- The gradient by the normalised sum, rounded after the run is the reference's, where the arguments that make up the arriving gradient are real. -/
theorem final10 (c : Dev nD) (H : Reals m c) : (dats m 0 c).arrAt 10 (cfgs 0).N = REF10 (A0 m c) (A1 m c) (A2 m c) (A3 m c) (A7 m c) (A9 m c) := by
  refine (dats m 0 c).arrAt_eq_of_covers 10 _ (by decide +kernel) fun t _ y => ?_
  blk_simp
  rw [after0_10]
  by_cases h0 : t.val % 8 = 0
  · rw [outsAt0_A m c t h0]
    frame_out
    exact point10 m c H t y
  · rw [outsAt0_B m c t h0]
    frame_out
    exact point10 m c H t y

/-- What one point stores of the gradient by the step's rows is the reference's value at the index's place. -/
theorem point11 (c : Dev nD) (H : Reals m c) (t : Fin cfg0.N) (y) : k0_pay17 (kdz m c t) y = REF11 (A0 m c) (A1 m c) (A2 m c) (A3 m c) (A7 m c) (A9 m c) (((cfg0.win 11).blk t).view.emb y) := by
  have he : (((cfg0.win 11).blk t).view.emb y : S4096x1024.Idx) = ix2 (place t (y 0)) (y 1) := by
    blk_ext [idx t, place]
  exact (congrArg (fun z : EReal => (FloatOps.ofBits (F := Ideal) .f32 0x3F9837F0#32 : Ideal .f32) * z) (dz_row m c t H y)).trans (congrArg (REF11 (A0 m c) (A1 m c) (A2 m c) (A3 m c) (A7 m c) (A9 m c)) he.symm)

/-- The gradient by the step's rows after the run is the reference's, where the arguments that make up the arriving gradient are real. -/
theorem final11 (c : Dev nD) (H : Reals m c) : (dats m 0 c).arrAt 11 (cfgs 0).N = REF11 (A0 m c) (A1 m c) (A2 m c) (A3 m c) (A7 m c) (A9 m c) := by
  refine (dats m 0 c).arrAt_eq_of_covers 11 _ (by decide +kernel) fun t _ y => ?_
  blk_simp
  rw [after0_11]
  by_cases h0 : t.val % 8 = 0
  · rw [outsAt0_A m c t h0]
    frame_out
    exact point11 m c H t y
  · rw [outsAt0_B m c t h0]
    frame_out
    exact point11 m c H t y

/-- What one point stores of the gradients by the gates is the reference's value at the index's place. -/
theorem point12 (c : Dev nD) (H : Reals m c) (t : Fin cfg0.N) (y) : k0_pay18 (k0_pay14 (k0_pay3 (iblk m c 6 t))) (k0_pay15 (k0_pay1 (iblk m c 4 t)) (k0_pay3 (iblk m c 6 t)) (iblk m c 7 t) (iblk m c 8 t) (kdy m c t) (k0_pay5 (iblk m c 0 t) (iblk m c 1 t)) (k0_pay6 (iblk m c 0 t) (iblk m c 1 t)) (k0_pay7 (F := Ideal))) (k0_pay16 (k0_pay2 (iblk m c 5 t)) (k0_pay3 (iblk m c 6 t)) (iblk m c 7 t) (iblk m c 8 t) (kdy m c t) (k0_pay5 (iblk m c 0 t) (iblk m c 1 t)) (k0_pay6 (iblk m c 0 t) (iblk m c 1 t)) (k0_pay7 (F := Ideal))) (FloatOps.ofBits (F := Ideal) .f32 0x3F800000#32) y = REF12 (A0 m c) (A1 m c) (A2 m c) (A3 m c) (A4 m c) (A5 m c) (A6 m c) (A7 m c) (A8 m c) (A9 m c) (((cfg0.win 12).blk t).view.emb y) := by
  have he : (((cfg0.win 12).blk t).view.emb y : S4096x2048.Idx) = ix2 (place t (y 0)) (y 1) := by
    blk_ext [idx t, place]
  refine (gates_block _ _ _ _ _ _ _ _ _ y).trans (Eq.trans ?_ ((gates_array (RM m c) (A4 m c) (A5 m c) (A6 m c) (ix2 (place t (y 0)) (y 1))).symm.trans (congrArg (REF12 (A0 m c) (A1 m c) (A2 m c) (A3 m c) (A4 m c) (A5 m c) (A6 m c) (A7 m c) (A8 m c) (A9 m c)) he.symm)))
  exact dite_congr rfl (fun h => gate_congr (dm_row m c t H _) (congrFun (read4 m c t) _) (sig_row m c t _).1) fun h => gate_congr (dm_row m c t H _) (congrFun (read5 m c t) _) (sig_row m c t _).2

/-- The gradients by the gates after the run are the reference's, where the arguments that make up the arriving gradient are real. -/
theorem final12 (c : Dev nD) (H : Reals m c) : (dats m 0 c).arrAt 12 (cfgs 0).N = REF12 (A0 m c) (A1 m c) (A2 m c) (A3 m c) (A4 m c) (A5 m c) (A6 m c) (A7 m c) (A8 m c) (A9 m c) := by
  refine (dats m 0 c).arrAt_eq_of_covers 12 _ (by decide +kernel) fun t _ y => ?_
  blk_simp
  rw [after0_12]
  by_cases h0 : t.val % 8 = 0
  · rw [outsAt0_A m c t h0]
    frame_out
    exact point12 m c H t y
  · rw [outsAt0_B m c t h0]
    frame_out
    exact point12 m c H t y

/-- What one point stores of the gradient by the recurrence branch is the reference's value at the index's place. -/
theorem point13 (c : Dev nD) (H : Reals m c) (t : Fin cfg0.N) (y) : k0_pay19 (kdm m c t) (k0_pay13 (k0_pay3 (iblk m c 6 t))) y = REF13 (A0 m c) (A1 m c) (A2 m c) (A3 m c) (A6 m c) (A7 m c) (A8 m c) (A9 m c) (((cfg0.win 13).blk t).view.emb y) := by
  have he : (((cfg0.win 13).blk t).view.emb y : S4096x1024.Idx) = ix2 (place t (y 0)) (y 1) := by
    blk_ext [idx t, place]
  exact (side_congr (sig_row m c t y).1 (dm_row m c t H y)).trans (congrArg (REF13 (A0 m c) (A1 m c) (A2 m c) (A3 m c) (A6 m c) (A7 m c) (A8 m c) (A9 m c)) he.symm)

/-- The gradient by the recurrence branch after the run is the reference's, where the arguments that make up the arriving gradient are real. -/
theorem final13 (c : Dev nD) (H : Reals m c) : (dats m 0 c).arrAt 13 (cfgs 0).N = REF13 (A0 m c) (A1 m c) (A2 m c) (A3 m c) (A6 m c) (A7 m c) (A8 m c) (A9 m c) := by
  refine (dats m 0 c).arrAt_eq_of_covers 13 _ (by decide +kernel) fun t _ y => ?_
  blk_simp
  rw [after0_13]
  by_cases h0 : t.val % 8 = 0
  · rw [outsAt0_A m c t h0]
    frame_out
    exact point13 m c H t y
  · rw [outsAt0_B m c t h0]
    frame_out
    exact point13 m c H t y

/-- What one point stores of the gradient by the attention branch is the reference's value at the index's place. -/
theorem point14 (c : Dev nD) (H : Reals m c) (t : Fin cfg0.N) (y) : k0_pay20 (kdm m c t) (k0_pay14 (k0_pay3 (iblk m c 6 t))) y = REF14 (A0 m c) (A1 m c) (A2 m c) (A3 m c) (A6 m c) (A7 m c) (A8 m c) (A9 m c) (((cfg0.win 14).blk t).view.emb y) := by
  have he : (((cfg0.win 14).blk t).view.emb y : S4096x1024.Idx) = ix2 (place t (y 0)) (y 1) := by
    blk_ext [idx t, place]
  exact (side_congr (sig_row m c t y).2 (dm_row m c t H y)).trans (congrArg (REF14 (A0 m c) (A1 m c) (A2 m c) (A3 m c) (A6 m c) (A7 m c) (A8 m c) (A9 m c)) he.symm)

/-- The gradient by the attention branch after the run is the reference's, where the arguments that make up the arriving gradient are real. -/
theorem final14 (c : Dev nD) (H : Reals m c) : (dats m 0 c).arrAt 14 (cfgs 0).N = REF14 (A0 m c) (A1 m c) (A2 m c) (A3 m c) (A6 m c) (A7 m c) (A8 m c) (A9 m c) := by
  refine (dats m 0 c).arrAt_eq_of_covers 14 _ (by decide +kernel) fun t _ y => ?_
  blk_simp
  rw [after0_14]
  by_cases h0 : t.val % 8 = 0
  · rw [outsAt0_A m c t h0]
    frame_out
    exact point14 m c H t y
  · rw [outsAt0_B m c t h0]
    frame_out
    exact point14 m c H t y

theorem first15 (c : Dev nD) (t : Fin cfg0.N) (h0 : t.val % 8 = 0) : (outsAt0 m c t.val t.isLt).2.2.2.2.2.1 = k0_pay23 (kdy m c t) (khat m c t) (k0_pay21 (F := Ideal)) := by
  rw [outsAt0_A m c t h0]
  frame_out

theorem next15 (c : Dev nD) (t : Fin cfg0.N) (h0 : ¬t.val % 8 = 0) : (outsAt0 m c t.val t.isLt).2.2.2.2.2.1 = k0_pay23 (kdy m c t) (khat m c t) (outsAt0 m c (t.val - 1) (Nat.lt_of_le_of_lt (Nat.sub_le _ _) t.isLt)).2.2.2.2.2.1 := by
  rw [outsAt0_B m c t h0]
  frame_out

/-- The gradient by the scale after the run is the reference's. -/
theorem final15 (c : Dev nD) : (dats m 0 c).arrAt 15 (cfgs 0).N = REF15 (A0 m c) (A1 m c) (A2 m c) (A3 m c) (A9 m c) := by
  refine (dats m 0 c).arrAt_eq_of_covers 15 _ (by decide +kernel) fun t hf y => ?_
  have h7 : t.val % 8 = 7 := (flush0_15 t).mp hf
  have he : (((cfg0.win 15).blk t).view.emb y : S1x1024.Idx) = ix2 (y 0) (y 1) := by
    blk_ext [idx t]
  blk_simp
  rw [after0_15,
    Pipeline.eq_sum_fin_of_reset_step_apply_of_flush (fun n h => (outsAt0 m c n h).2.2.2.2.2.1) 8 (fun _ => 0) _
      (fun t h j => by rw [first15 m c t h, scale_step, (zero_at _).1]) (fun t h j => by rw [next15 m c t h, scale_step])
      t h7 _, zero_add]
  refine Eq.trans ?_ ((scale_array (A0 m c) (A1 m c) (A2 m c) (A3 m c) (A9 m c) (ix2 (y 0) (y 1))).symm.trans (congrArg (REF15 (A0 m c) (A1 m c) (A2 m c) (A3 m c) (A9 m c)) he.symm))
  refine Fin.sum_mul_add_congr fun s k hl => ?_
  have hp : place ⟨_, Pipeline.run_point_lt_of_flush t h7 s⟩ k = ⟨s.val * 512 + k.val, hl⟩ := Fin.ext (by
    have h : t.val < 8 := t.isLt
    have hz : t.val / 8 = 0 := by omega
    show (8 * (t.val / 8) + s.val) * 512 + k.val = s.val * 512 + k.val
    rw [hz]
    omega)
  exact congrArg₂ (fun a b : EReal => a * b) ((dy_row m c ⟨_, Pipeline.run_point_lt_of_flush t h7 s⟩ (ix2 k (y 1))).trans (congrArg (fun n => DY (A2 m c) (A3 m c) (A9 m c) (ix2 n (y 1))) hp))
    ((hat_row m c ⟨_, Pipeline.run_point_lt_of_flush t h7 s⟩ (ix2 k (y 1))).trans (congrArg (fun n => HAT (SUMS (A0 m c) (A1 m c)) (ix2 n (y 1))) hp))

theorem first16 (c : Dev nD) (t : Fin cfg0.N) (h0 : t.val % 8 = 0) : (outsAt0 m c t.val t.isLt).2.2.2.2.2.2 = k0_pay24 (kdy m c t) (k0_pay22 (F := Ideal)) := by
  rw [outsAt0_A m c t h0]
  frame_out

theorem next16 (c : Dev nD) (t : Fin cfg0.N) (h0 : ¬t.val % 8 = 0) : (outsAt0 m c t.val t.isLt).2.2.2.2.2.2 = k0_pay24 (kdy m c t) (outsAt0 m c (t.val - 1) (Nat.lt_of_le_of_lt (Nat.sub_le _ _) t.isLt)).2.2.2.2.2.2 := by
  rw [outsAt0_B m c t h0]
  frame_out

/-- The gradient by the shift after the run is the reference's. -/
theorem final16 (c : Dev nD) : (dats m 0 c).arrAt 16 (cfgs 0).N = REF16 (A2 m c) (A3 m c) (A9 m c) := by
  refine (dats m 0 c).arrAt_eq_of_covers 16 _ (by decide +kernel) fun t hf y => ?_
  have h7 : t.val % 8 = 7 := (flush0_16 t).mp hf
  have he : (((cfg0.win 16).blk t).view.emb y : S1x1024.Idx) = ix2 (y 0) (y 1) := by
    blk_ext [idx t]
  blk_simp
  rw [after0_16,
    Pipeline.eq_sum_fin_of_reset_step_apply_of_flush (fun n h => (outsAt0 m c n h).2.2.2.2.2.2) 8 (fun _ => 0) _
      (fun t h j => by rw [first16 m c t h, shift_step, (zero_at _).2]) (fun t h j => by rw [next16 m c t h, shift_step])
      t h7 _, zero_add]
  refine Eq.trans ?_ ((shift_array (A2 m c) (A3 m c) (A9 m c) (ix2 (y 0) (y 1))).symm.trans (congrArg (REF16 (A2 m c) (A3 m c) (A9 m c)) he.symm))
  refine Fin.sum_mul_add_congr fun s k hl => ?_
  have hp : place ⟨_, Pipeline.run_point_lt_of_flush t h7 s⟩ k = ⟨s.val * 512 + k.val, hl⟩ := Fin.ext (by
    have h : t.val < 8 := t.isLt
    have hz : t.val / 8 = 0 := by omega
    show (8 * (t.val / 8) + s.val) * 512 + k.val = s.val * 512 + k.val
    rw [hz]
    omega)
  exact (dy_row m c ⟨_, Pipeline.run_point_lt_of_flush t h7 s⟩ (ix2 k (y 1))).trans (congrArg (fun n => DY (A2 m c) (A3 m c) (A9 m c) (ix2 n (y 1))) hp)

end Cert.Kernel24Ideal.Value

end
-- ==== Proof.Norm.Claims.lean ====
/- The three calls between the branches and the first normalisation, forward and backward: each call's value claim, and its reference's run. -/
module

public import proofs.«01_k».proof.Defs
public import proofs.«01_k».proof.Proof.Norm.Mix
public import proofs.«01_k».proof.Proof.Gen.Reference22Ideal.Run
public import proofs.«01_k».proof.Proof.Norm.GdrOut
public import proofs.«01_k».proof.Proof.Gen.Reference23Ideal.Run
public import proofs.«01_k».proof.Proof.Norm.DMix
public import proofs.«01_k».proof.Proof.Gen.Reference24Ideal.Run
public import proofs.«01_k».proof.Proof.Gen.Pre_finite24
public import proofs.«01_k».proof.Proof.Attn.Equal
public import Idealize.ShloMosaic.Adequacy
public import Idealize.ShloMosaic.Init

@[expose] public section

set_option maxRecDepth 16384

noncomputable section

namespace Cert.Proof

open Idealize.ShloMosaic Idealize.SL.Sem

/-- The mixed branches, their product and the normalised rows: the kernel and the reference compute the same. -/
theorem algebraic22 : algebraic_Kernel22Ideal_Reference22Ideal := by
  intro m g m' g' hp hm
  refine ⟨fun c => (Cert.Kernel22Ideal.Gen.dats m 0 c).arrAt 7 Cert.Kernel22Ideal.cfg0.N, fun c => (Cert.Kernel22Ideal.Gen.dats m 0 c).arrAt 8 Cert.Kernel22Ideal.cfg0.N, fun c => (Cert.Kernel22Ideal.Gen.dats m 0 c).arrAt 9 Cert.Kernel22Ideal.cfg0.N, fun c => (Cert.Kernel22Ideal.Gen.dats m 0 c).arrAt 10 Cert.Kernel22Ideal.cfg0.N, Cert.Kernel22Ideal.Value.run_blocks m g, ?_⟩
  refine (θ_run Cert.Reference22Ideal.defs _ _).mono (fun r h c => ?_) (Cert.Reference22Ideal.Value.run m' g')
  exact ⟨(h c).1.trans (by rw [(hm c).1, (hm c).2.1, (hm c).2.2.1]; exact (Cert.Kernel22Ideal.Value.final7 m c).symm),
    (h c).2.1.trans (by rw [(hm c).1, (hm c).2.1, (hm c).2.2.1, (hm c).2.2.2.2.1]; exact (Cert.Kernel22Ideal.Value.final8 m c).symm),
    (h c).2.2.1.trans (by unfold Cert.Reference22Ideal.Value.res_main_v46; rw [(hm c).1, (hm c).2.1, (hm c).2.2.1, (hm c).2.2.2.1, (hm c).2.2.2.2.1, (hm c).2.2.2.2.2.1, (hm c).2.2.2.2.2.2]; exact (Cert.Kernel22Ideal.Value.final9 m c).symm),
    (h c).2.2.2.1.trans (by unfold Cert.Reference22Ideal.Value.res_main_v48; rw [(hm c).1, (hm c).2.1, (hm c).2.2.1, (hm c).2.2.2.1, (hm c).2.2.2.2.1, (hm c).2.2.2.2.2.1, (hm c).2.2.2.2.2.2]; exact (Cert.Kernel22Ideal.Value.final10 m c).symm), (h c).2.2.2.2⟩

theorem reference22_frame : quiescent_Reference22Ideal := fun m ρ _ =>
  (θ_run Cert.Reference22Ideal.defs _ _).mono (fun r h => ⟨fun c => (h c).2.2.2.2, Idealize.ShloMosaic.sem_eq_zero_of_no_sems (by decide) r.2⟩) (Cert.Reference22Ideal.Value.run m ρ)

/-- The recurrence branch's gated rows and their product: the kernel and the reference compute the same. -/
theorem algebraic23 : algebraic_Kernel23Ideal_Reference23Ideal := by
  intro m g m' g' hp hm
  refine ⟨fun c => (Cert.Kernel23Ideal.Gen.dats m 0 c).arrAt 4 Cert.Kernel23Ideal.cfg0.N, fun c => (Cert.Kernel23Ideal.Gen.dats m 0 c).arrAt 5 Cert.Kernel23Ideal.cfg0.N, Cert.Kernel23Ideal.Value.run_blocks m g, ?_⟩
  refine (θ_run Cert.Reference23Ideal.defs _ _).mono (fun r h c => ?_) (Cert.Reference23Ideal.Value.run m' g')
  exact ⟨(h c).1.trans (by rw [(hm c).1, (hm c).2.1, (hm c).2.2.1]; exact (Cert.Kernel23Ideal.Value.final4 m c).symm),
    (h c).2.1.trans (by rw [(hm c).1, (hm c).2.1, (hm c).2.2.1, (hm c).2.2.2]; exact (Cert.Kernel23Ideal.Value.final5 m c).symm), (h c).2.2⟩

theorem reference23_frame : quiescent_Reference23Ideal := fun m ρ _ =>
  (θ_run Cert.Reference23Ideal.defs _ _).mono (fun r h => ⟨fun c => (h c).2.2, Idealize.ShloMosaic.sem_eq_zero_of_no_sems (by decide) r.2⟩) (Cert.Reference23Ideal.Value.run m ρ)

/-- The precondition of the normalisation's gradient says that what makes up the arriving gradient is real. -/
theorem reals_of_finite24 (x0 : FVec Ideal Cert.Kernel24Ideal.S4096x1024 .f32) (x1 : FVec Ideal Cert.Kernel24Ideal.S4096x1024 .f32) (x2 : FVec Ideal Cert.Kernel24Ideal.S4096x1024 .f32) (x3 : FVec Ideal Cert.Kernel24Ideal.S4096x1024 .bf16) (x4 : FVec Ideal Cert.Kernel24Ideal.S4096x1024 .bf16) (x5 : FVec Ideal Cert.Kernel24Ideal.S4096x1024 .bf16) (x6 : FVec Ideal Cert.Kernel24Ideal.S4096x2048 .bf16) (x7 : FVec Ideal Cert.Kernel24Ideal.S1x1024 .f32) (x8 : FVec Ideal Cert.Kernel24Ideal.S1024x1024 .bf16) (x9 : FVec Ideal Cert.Kernel24Ideal.S1024x1024 .bf16)
    (h : (Cert.Pre_finite24.fn (F := Ideal) x0 x1 x2 x3 x4 x5 x6 x7 x8 x9).1 = (fun _ => 1#1) ∧ (Cert.Pre_finite24.fn (F := Ideal) x0 x1 x2 x3 x4 x5 x6 x7 x8 x9).2.1 = (fun _ => 1#1) ∧ (Cert.Pre_finite24.fn (F := Ideal) x0 x1 x2 x3 x4 x5 x6 x7 x8 x9).2.2.1 = (fun _ => 1#1) ∧ (Cert.Pre_finite24.fn (F := Ideal) x0 x1 x2 x3 x4 x5 x6 x7 x8 x9).2.2.2 = (fun _ => 1#1)) :
    (∀ i, x2 i = ((x2 i).toReal : EReal)) ∧ (∀ i, x3 i = ((x3 i).toReal : EReal)) ∧ (∀ i, x7 i = ((x7 i).toReal : EReal)) ∧ (∀ i, x9 i = ((x9 i).toReal : EReal)) :=
  ⟨fun i => real_of_lt _ (congrFun h.1 i), fun i => real_of_lt _ (congrFun h.2.1 i), fun i => real_of_lt _ (congrFun h.2.2.1 i), fun i => real_of_lt _ (congrFun h.2.2.2 i)⟩

/-- The gradients through the first normalisation, the output weights and the mixed branches: the kernel and the reference compute the same. -/
theorem algebraic24 : algebraic_Kernel24Ideal_Reference24Ideal_pre_finite24 := by
  intro m g m' g' hp hm
  have R : ∀ c, Cert.Kernel24Ideal.Value.Reals m c := fun c =>
    have r := reals_of_finite24 _ _ _ _ _ _ _ _ _ _ (hp c)
    ⟨r.1, r.2.1, r.2.2.1, r.2.2.2⟩
  refine ⟨fun c => (Cert.Kernel24Ideal.Gen.dats m 0 c).arrAt 10 Cert.Kernel24Ideal.cfg0.N, fun c => (Cert.Kernel24Ideal.Gen.dats m 0 c).arrAt 11 Cert.Kernel24Ideal.cfg0.N, fun c => (Cert.Kernel24Ideal.Gen.dats m 0 c).arrAt 12 Cert.Kernel24Ideal.cfg0.N, fun c => (Cert.Kernel24Ideal.Gen.dats m 0 c).arrAt 13 Cert.Kernel24Ideal.cfg0.N, fun c => (Cert.Kernel24Ideal.Gen.dats m 0 c).arrAt 14 Cert.Kernel24Ideal.cfg0.N, fun c => (Cert.Kernel24Ideal.Gen.dats m 0 c).arrAt 15 Cert.Kernel24Ideal.cfg0.N, fun c => (Cert.Kernel24Ideal.Gen.dats m 0 c).arrAt 16 Cert.Kernel24Ideal.cfg0.N, Cert.Kernel24Ideal.Value.run_blocks m g, ?_⟩
  refine (θ_run Cert.Reference24Ideal.defs _ _).mono (fun r h c => ?_) (Cert.Reference24Ideal.Value.run m' g')
  exact ⟨(h c).1.trans (by unfold Cert.Reference24Ideal.Value.res_main_v106; rw [(hm c).1, (hm c).2.1, (hm c).2.2.1, (hm c).2.2.2.1, (hm c).2.2.2.2.2.2.2.1, (hm c).2.2.2.2.2.2.2.2.2]; exact (Cert.Kernel24Ideal.Value.final10 m c (R c)).symm),
    (h c).2.1.trans (by unfold Cert.Reference24Ideal.Value.res_main_v67; rw [(hm c).1, (hm c).2.1, (hm c).2.2.1, (hm c).2.2.2.1, (hm c).2.2.2.2.2.2.2.1, (hm c).2.2.2.2.2.2.2.2.2]; exact (Cert.Kernel24Ideal.Value.final11 m c (R c)).symm),
    (h c).2.2.1.trans (by unfold Cert.Reference24Ideal.Value.res_main_v105; rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1, (hm c).2.2.2.2.2.2.2.2.2]; exact (Cert.Kernel24Ideal.Value.final12 m c (R c)).symm),
    (h c).2.2.2.1.trans (by unfold Cert.Reference24Ideal.Value.res_main_v103; rw [(hm c).1, (hm c).2.1, (hm c).2.2.1, (hm c).2.2.2.1, (hm c).2.2.2.2.2.2.1, (hm c).2.2.2.2.2.2.2.1, (hm c).2.2.2.2.2.2.2.2.1, (hm c).2.2.2.2.2.2.2.2.2]; exact (Cert.Kernel24Ideal.Value.final13 m c (R c)).symm),
    (h c).2.2.2.2.1.trans (by unfold Cert.Reference24Ideal.Value.res_main_v104; rw [(hm c).1, (hm c).2.1, (hm c).2.2.1, (hm c).2.2.2.1, (hm c).2.2.2.2.2.2.1, (hm c).2.2.2.2.2.2.2.1, (hm c).2.2.2.2.2.2.2.2.1, (hm c).2.2.2.2.2.2.2.2.2]; exact (Cert.Kernel24Ideal.Value.final14 m c (R c)).symm),
    (h c).2.2.2.2.2.1.trans (by rw [(hm c).1, (hm c).2.1, (hm c).2.2.1, (hm c).2.2.2.1, (hm c).2.2.2.2.2.2.2.2.2]; exact (Cert.Kernel24Ideal.Value.final15 m c).symm),
    (h c).2.2.2.2.2.2.1.trans (by rw [(hm c).2.2.1, (hm c).2.2.2.1, (hm c).2.2.2.2.2.2.2.2.2]; exact (Cert.Kernel24Ideal.Value.final16 m c).symm), (h c).2.2.2.2.2.2.2⟩

theorem reference24_frame : quiescent_Reference24Ideal := fun m ρ _ =>
  (θ_run Cert.Reference24Ideal.defs _ _).mono (fun r h => ⟨fun c => (h c).2.2.2.2.2.2.2, Idealize.ShloMosaic.sem_eq_zero_of_no_sems (by decide) r.2⟩) (Cert.Reference24Ideal.Value.run m ρ)

end Cert.Proof

end
-- ==== Proof.lean ====
/- The proof of the certificate: the value claims of the two attention calls, and the assembly of all claims in the order of Defs. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Pre_finite3
public import proofs.«01_k».proof.Proof.Gen.Pre_finite24
public import proofs.«01_k».proof.Proof.Attn.Equal
public import proofs.«01_k».proof.Proof.Attn.Words
public import proofs.«01_k».proof.Proof.Fwd.Equal
public import proofs.«01_k».proof.Proof.Ffn.Claims
public import proofs.«01_k».proof.Proof.Prod.Claims
public import proofs.«01_k».proof.Proof.Norm.Claims
public import Idealize.ShloMosaic.Adequacy
public import Idealize.ShloMosaic.Init

@[expose] public section

noncomputable section

namespace Cert.Proof

open Idealize.ShloMosaic Idealize.SL.Sem Cert.Kernel

/-- The precondition says that the four arguments are arrays of real numbers. -/
theorem reals_of_finite (x0 x1 : FVec Ideal Cert.KernelIdeal.S4096x2048 .bf16) (x2 x3 : FVec Ideal Cert.KernelIdeal.S4096x1024 .bf16)
    (h : (Cert.Pre_finite.fn (F := Ideal) x0 x1 x2 x3).1 = (fun _ => 1#1) ∧ (Cert.Pre_finite.fn (F := Ideal) x0 x1 x2 x3).2.1 = (fun _ => 1#1)
      ∧ (Cert.Pre_finite.fn (F := Ideal) x0 x1 x2 x3).2.2.1 = (fun _ => 1#1) ∧ (Cert.Pre_finite.fn (F := Ideal) x0 x1 x2 x3).2.2.2 = (fun _ => 1#1)) :
    (∀ i, x0 i = ((x0 i).toReal : EReal)) ∧ (∀ i, x1 i = ((x1 i).toReal : EReal)) ∧ (∀ i, x2 i = ((x2 i).toReal : EReal)) ∧ (∀ i, x3 i = ((x3 i).toReal : EReal)) :=
  ⟨fun i => real_of_lt _ (congrFun h.1 i), fun i => real_of_lt _ (congrFun h.2.1 i), fun i => real_of_lt _ (congrFun h.2.2.1 i), fun i => real_of_lt _ (congrFun h.2.2.2 i)⟩

/-- The kernel and the reference compute the same three gradients, of real arguments. -/
theorem algebraic : algebraic_KernelIdeal_ReferenceIdeal_pre_finite := by
  intro m g m' g' hp hm
  have E : ∀ c, _ := fun c =>
    have R := reals_of_finite _ _ _ _ (hp c)
    equal_of m m' c _ _ _ _ _ _ _ _ rfl rfl rfl rfl (hm c).1 (hm c).2.1 (hm c).2.2.1 (hm c).2.2.2
      (fun n d => R.1 (ix2 n d)) (fun n d => R.2.1 (ix2 n d)) (fun n d => R.2.2.1 (ix2 n d)) (fun n d => R.2.2.2 (ix2 n d))
  refine ⟨Cert.KernelIdeal.Value.G7 m, Cert.KernelIdeal.Value.G8 m, Cert.KernelIdeal.Value.G9 m, Cert.KernelIdeal.Value.run m g, ?_⟩
  refine (θ_run Cert.ReferenceIdeal.defs _ _).mono (fun r h c => ?_) (Cert.ReferenceIdeal.Value.run m' g')
  exact ⟨(h c).1.trans (E c).1, (h c).2.1.trans (E c).2.1, (h c).2.2.1.trans (E c).2.2, (h c).2.2.2⟩

/-- The reference runs to its end, keeps its arguments and uses no semaphore. -/
theorem reference_frame : quiescent_ReferenceIdeal := fun m ρ _ =>
  (θ_run Cert.ReferenceIdeal.defs _ _).mono (fun r h => ⟨fun c => (h c).2.2.2, Idealize.ShloMosaic.sem_eq_zero_of_no_sems (by decide) r.2⟩) (Cert.ReferenceIdeal.Value.run m ρ)

/-- The forward call's precondition says that its queries and keys are arrays of real numbers. -/
theorem reals_of_finite2 (x0 x1 : FVec Ideal Cert.KernelIdeal.S4096x2048 .bf16) (x2 : FVec Ideal Cert.KernelIdeal.S4096x1024 .bf16)
    (h : (Cert.Pre_finite2.fn (F := Ideal) x0 x1 x2).1 = (fun _ => 1#1) ∧ (Cert.Pre_finite2.fn (F := Ideal) x0 x1 x2).2 = (fun _ => 1#1)) :
    (∀ i, x0 i = ((x0 i).toReal : EReal)) ∧ (∀ i, x1 i = ((x1 i).toReal : EReal)) :=
  ⟨fun i => real_of_lt _ (congrFun h.1 i), fun i => real_of_lt _ (congrFun h.2 i)⟩

/-- The forward kernel and its reference compute the same output and log-sums, where the queries and keys are real. -/
theorem algebraic2 : algebraic_Kernel2Ideal_Reference2Ideal_pre_finite2 := by
  intro m g m' g' hp hm
  have E : ∀ c, _ := fun c =>
    have R := reals_of_finite2 _ _ _ (hp c)
    equal2_of m m' c _ _ _ _ _ rfl rfl rfl (hm c).1 (hm c).2.1 (hm c).2.2
      (fun n d => R.1 (ix2 n d)) (fun n d => R.2 (ix2 n d))
  refine ⟨fun c => (Cert.Kernel2Ideal.Gen.dats m 0 c).arrAt 3 Cert.Kernel2Ideal.cfg0.N, fun c => (Cert.Kernel2Ideal.Gen.dats m 0 c).arrAt 4 Cert.Kernel2Ideal.cfg0.N,
    Cert.Kernel2Ideal.Value.run_blocks m g, ?_⟩
  refine (θ_run Cert.Reference2Ideal.defs _ _).mono (fun r h c => ?_) (Cert.Reference2Ideal.Attn.run_named m' g')
  exact ⟨(h c).1.trans (E c).1, (h c).2.1.trans (E c).2, (h c).2.2⟩

/-- The forward call's reference runs to its end, keeps its arguments and uses no semaphore. -/
theorem reference2_frame : quiescent_Reference2Ideal := fun m ρ _ =>
  (θ_run Cert.Reference2Ideal.defs _ _).mono (fun r h => ⟨fun c => (h c).2.2, Idealize.ShloMosaic.sem_eq_zero_of_no_sems (by decide) r.2⟩) (Cert.Reference2Ideal.Value.run m ρ)

/-- The certificate: of every call the frames of the kernel, of its ideal program and of its reference, what the ideal program keeps of the kernel, and the value. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Pre_finite.Gen.facts, Cert.Pre_finite2.Gen.facts, Cert.Pre_finite3.Gen.facts, Cert.Pre_finite24.Gen.facts,
    kernel_frame,
    fun m ρ _ => Cert.KernelIdeal.Gen.frame m ρ,
    fun m ρ _ => Cert.KernelIdeal.Gen.frame m ρ,
    reference_frame,
    fun m ρ _ => reference_frame m ρ trivial,
    fun m ρ _ => Cert.Kernel2.Gen.frame m ρ,
    fun m ρ _ => Cert.Kernel2Ideal.Gen.frame m ρ,
    fun m ρ _ => Cert.Kernel2Ideal.Gen.frame m ρ,
    reference2_frame,
    fun m ρ _ => reference2_frame m ρ trivial,
    fun m ρ _ => Cert.Kernel3.Gen.frame m ρ,
    fun m ρ _ => Cert.Kernel3Ideal.Gen.frame m ρ,
    fun m ρ _ => Cert.Kernel3Ideal.Gen.frame m ρ,
    reference3_frame,
    fun m ρ _ => reference3_frame m ρ trivial,
    fun m ρ _ => Cert.Kernel4.Gen.frame m ρ,
    fun m ρ _ => Cert.Kernel4Ideal.Gen.frame m ρ,
    reference4_frame,
    fun m ρ _ => Cert.Kernel5.Gen.frame m ρ,
    fun m ρ _ => Cert.Kernel5Ideal.Gen.frame m ρ,
    reference5_frame,
    fun m ρ _ => Cert.Kernel6.Gen.frame m ρ,
    fun m ρ _ => Cert.Kernel6Ideal.Gen.frame m ρ,
    reference6_frame,
    fun m ρ _ => Cert.Kernel7.Gen.frame m ρ,
    fun m ρ _ => Cert.Kernel7Ideal.Gen.frame m ρ,
    reference7_frame,
    fun m ρ _ => Cert.Kernel8.Gen.frame m ρ,
    fun m ρ _ => Cert.Kernel8Ideal.Gen.frame m ρ,
    reference8_frame,
    fun m ρ _ => Cert.Kernel9.Gen.frame m ρ,
    fun m ρ _ => Cert.Kernel9Ideal.Gen.frame m ρ,
    reference9_frame,
    fun m ρ _ => Cert.Kernel10.Gen.frame m ρ,
    fun m ρ _ => Cert.Kernel10Ideal.Gen.frame m ρ,
    reference10_frame,
    fun m ρ _ => Cert.Kernel11.Gen.frame m ρ,
    fun m ρ _ => Cert.Kernel11Ideal.Gen.frame m ρ,
    reference11_frame,
    fun m ρ _ => Cert.Kernel12.Gen.frame m ρ,
    fun m ρ _ => Cert.Kernel12Ideal.Gen.frame m ρ,
    reference12_frame,
    fun m ρ _ => Cert.Kernel13.Gen.frame m ρ,
    fun m ρ _ => Cert.Kernel13Ideal.Gen.frame m ρ,
    reference13_frame,
    fun m ρ _ => Cert.Kernel14.Gen.frame m ρ,
    fun m ρ _ => Cert.Kernel14Ideal.Gen.frame m ρ,
    reference14_frame,
    fun m ρ _ => Cert.Kernel15.Gen.frame m ρ,
    fun m ρ _ => Cert.Kernel15Ideal.Gen.frame m ρ,
    reference15_frame,
    fun m ρ _ => Cert.Kernel16.Gen.frame m ρ,
    fun m ρ _ => Cert.Kernel16Ideal.Gen.frame m ρ,
    reference16_frame,
    fun m ρ _ => Cert.Kernel17.Gen.frame m ρ,
    fun m ρ _ => Cert.Kernel17Ideal.Gen.frame m ρ,
    reference17_frame,
    fun m ρ _ => Cert.Kernel18.Gen.frame m ρ,
    fun m ρ _ => Cert.Kernel18Ideal.Gen.frame m ρ,
    reference18_frame,
    fun m ρ _ => Cert.Kernel19.Gen.frame m ρ,
    fun m ρ _ => Cert.Kernel19Ideal.Gen.frame m ρ,
    reference19_frame,
    fun m ρ _ => Cert.Kernel20.Gen.frame m ρ,
    fun m ρ _ => Cert.Kernel20Ideal.Gen.frame m ρ,
    reference20_frame,
    fun m ρ _ => Cert.Kernel21.Gen.frame m ρ,
    fun m ρ _ => Cert.Kernel21Ideal.Gen.frame m ρ,
    reference21_frame,
    fun m ρ _ => Cert.Kernel22.Gen.frame m ρ,
    fun m ρ _ => Cert.Kernel22Ideal.Gen.frame m ρ,
    reference22_frame,
    fun m ρ _ => Cert.Kernel23.Gen.frame m ρ,
    fun m ρ _ => Cert.Kernel23Ideal.Gen.frame m ρ,
    reference23_frame,
    fun m ρ _ => Cert.Kernel24.Gen.frame m ρ,
    fun m ρ _ => Cert.Kernel24Ideal.Gen.frame m ρ,
    fun m ρ _ => Cert.Kernel24Ideal.Gen.frame m ρ,
    reference24_frame,
    fun m ρ _ => reference24_frame m ρ trivial,
    IdealRules.named_const.statement Cert.KernelIdeal.κ "mask" .f32 0xF149F2CA#32 ⊥ rfl,
    algebraic,
    IdealRules.named_const.statement Cert.Kernel2Ideal.κ "mask" .f32 0xF149F2CA#32 ⊥ rfl,
    algebraic2,
    trivial,
    algebraic3,
    trivial,
    algebraic4,
    trivial,
    algebraic5,
    trivial,
    algebraic6,
    trivial,
    algebraic7,
    trivial,
    algebraic8,
    trivial,
    algebraic9,
    trivial,
    algebraic10,
    trivial,
    algebraic11,
    trivial,
    algebraic12,
    trivial,
    algebraic13,
    trivial,
    algebraic14,
    trivial,
    algebraic15,
    trivial,
    algebraic16,
    trivial,
    algebraic17,
    trivial,
    algebraic18,
    trivial,
    algebraic19,
    trivial,
    algebraic20,
    trivial,
    algebraic21,
    trivial,
    algebraic22,
    trivial,
    algebraic23,
    trivial,
    algebraic24⟩

end Cert.Proof

end
